-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_v36) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v45) = v2 c
          ∧ r.2.mem ((c.tc : Thread Cert.Reference8Ideal.nD Cert.Reference8Ideal.τ).loc Cert.Reference8Ideal.main_v46) = v3 c
          ∧ r.2.mem ((c.tc : Thread Cert.Reference8Ideal.nD Cert.Reference8Ideal.τ).loc Cert.Reference8Ideal.main_v47) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v84) = v0 c
          ∧ r.2.mem ((c.tc : Thread Cert.Reference9Ideal.nD Cert.Reference9Ideal.τ).loc Cert.Reference9Ideal.main_v85) = v1 c
          ∧ r.2.mem ((c.tc : Thread Cert.Reference9Ideal.nD Cert.Reference9Ideal.τ).loc Cert.Reference9Ideal.main_v88) = v2 c
          ∧ r.2.mem ((c.tc : Thread Cert.Reference9Ideal.nD Cert.Reference9Ideal.τ).loc Cert.Reference9Ideal.main_v91) = v3 c
          ∧ r.2.mem ((c.tc : Thread Cert.Reference9Ideal.nD Cert.Reference9Ideal.τ).loc Cert.Reference9Ideal.main_v92) = v4 c
          ∧ r.2.mem ((c.tc : Thread Cert.Reference9Ideal.nD Cert.Reference9Ideal.τ).loc Cert.Reference9Ideal.main_v93) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4x4096x256 : Shape := ⟨3, ![4, 4096, 256]⟩
abbrev S4x4096x128 : Shape := ⟨3, ![4, 4096, 128]⟩
abbrev S4096x512 : Shape := ⟨2, ![4096, 512]⟩
abbrev S_ : Shape := ⟨0, ![]⟩

class Facts : Prop where
  bitsLt_bf16_f32 : FTy.bits .bf16 < FTy.bits .f32
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v16 : IVec S_ 1) (main_v17 : FVec F S4096x512 .f32) : IVec S_ 1 :=
  let main_v18 : FVec F S4096x512 .f32 := Host.absf main_v17
  let main_cst_4 : FVec F S_ .f32 := constant S_ .f32 0x7F800000#32
  let main_v19 : FVec F S4096x512 .f32 := broadcastInDim S4096x512 ![] bcast_S_S4096x512 main_cst_4
  let main_v20 : IVec S4096x512 1 := cmpf .olt main_v18 main_v19
  let main_c_5 : IVec S_ 1 := constantI S_ 1 1#1
  let main_v21 : IVec S_ 1 := (fun x v => Host.reduce IntOp.andi x v reducesTo_S4096x512_S_d0_1 h_S_) main_v20 main_c_5
  let main_v22 : IVec S_ 1 := andi main_v16 main_v21
  main_v22

def fn {F : FTy → Type} [FloatOps F] (main_arg0 : FVec F S4x4096x256 .bf16) (main_arg1 : FVec F S4x4096x256 .bf16) (main_arg2 : FVec F S4x4096x128 .bf16) (main_arg3 : FVec F S4096x512 .bf16) : IVec S_ 1 :=
  let main_v0 : FVec F S4x4096x256 .f32 := (extf .f32 · bitsLt_bf16_f32) main_arg0
  let main_v1 : FVec F S4x4096x256 .f32 := Host.absf main_v0
  let main_cst : FVec F S_ .f32 := constant S_ .f32 0x7F800000#32
  let main_v2 : FVec F S4x4096x256 .f32 := broadcastInDim S4x4096x256 ![] bcast_S_S4x4096x256 main_cst
  let main_v3 : IVec S4x4096x256 1 := cmpf .olt main_v1 main_v2
  let main_c : IVec S_ 1 := constantI S_ 1 1#1
  let main_v4 : IVec S_ 1 := (fun x v => Host.reduce IntOp.andi x v reducesTo_S4x4096x256_S_d0_1_2 h_S_) main_v3 main_c
  let main_v5 : FVec F S4x4096x256 .f32 := (extf .f32 · bitsLt_bf16_f32) main_arg1
  let main_v6 : FVec F S4x4096x256 .f32 := Host.absf main_v5
  let main_cst_0 : FVec F S_ .f32 := constant S_ .f32 0x7F800000#32
  let main_v7 : FVec F S4x4096x256 .f32 := broadcastInDim S4x4096x256 ![] bcast_S_S4x4096x256 main_cst_0
  let main_v8 : IVec S4x4096x256 1 := cmpf .olt main_v6 main_v7
  let main_c_1 : IVec S_ 1 := constantI S_ 1 1#1
  let main_v9 : IVec S_ 1 := (fun x v => Host.reduce IntOp.andi x v reducesTo_S4x4096x256_S_d0_1_2 h_S_) main_v8 main_c_1
  let main_v10 : IVec S_ 1 := andi main_v4 main_v9
  let main_v11 : FVec F S4x4096x128 .f32 := (extf .f32 · bitsLt_bf16_f32) main_arg2
  let main_v12 : FVec F S4x4096x128 .f32 := Host.absf main_v11
  let main_cst_2 : FVec F S_ .f32 := constant S_ .f32 0x7F800000#32
  let main_v13 : FVec F S4x4096x128 .f32 := broadcastInDim S4x4096x128 ![] bcast_S_S4x4096x128 main_cst_2
  let main_v14 : IVec S4x4096x128 1 := cmpf .olt main_v12 main_v13
  let main_c_3 : IVec S_ 1 := constantI S_ 1 1#1
  let main_v15 : IVec S_ 1 := (fun x v => Host.reduce IntOp.andi x v reducesTo_S4x4096x128_S_d0_1_2 h_S_) main_v14 main_c_3
  let main_v16 : IVec S_ 1 := andi main_v10 main_v15
  let main_v17 : FVec F S4096x512 .f32 := (extf .f32 · bitsLt_bf16_f32) main_arg3
  fn_part1 (F := F) main_v16 main_v17
-- ==== Kernel.lean ====
abbrev S4x4096x256 : Shape := ⟨3, ![4, 4096, 256]⟩
abbrev S4x4096x128 : Shape := ⟨3, ![4, 4096, 128]⟩
abbrev S4096x512 : Shape := ⟨2, ![4096, 512]⟩
abbrev S36 : Shape := ⟨1, ![36]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4096x4x128 : Shape := ⟨3, ![4096, 4, 128]⟩
abbrev S2x512x256 : Shape := ⟨3, ![2, 512, 256]⟩
abbrev S1 : Shape := ⟨1, ![1]⟩
abbrev S2x512x128 : Shape := ⟨3, ![2, 512, 128]⟩
abbrev S512x256 : Shape := ⟨2, ![512, 256]⟩
abbrev S2x512x1 : Shape := ⟨3, ![2, 512, 1]⟩
abbrev S2x4096x256 : Shape := ⟨3, ![2, 4096, 256]⟩
abbrev S1x512x256 : Shape := ⟨3, ![1, 512, 256]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S1x512x128 : Shape := ⟨3, ![1, 512, 128]⟩

abbrev nBuf : Space → Nat
  | .hbm => 52
  | .vmem => 18
  | .smem => 2
  | _ => 0

abbrev bufTy : (tb : Table) → Fin (tcTables nBuf tb) → BufTy
  | .hbm, ⟨0, _⟩ => ⟨S4x4096x256, .bf16⟩
  | .hbm, ⟨1, _⟩ => ⟨S4x4096x256, .bf16⟩
  | .hbm, ⟨2, _⟩ => ⟨S4x4096x128, .bf16⟩
  | .hbm, ⟨3, _⟩ => ⟨S4096x512, .bf16⟩
  | .hbm, ⟨4, _⟩ => ⟨S4x4096x256, .f32⟩
  | .hbm, ⟨5, _⟩ => ⟨S4x4096x256, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S4x4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x128, .f32⟩
  | .hbm, ⟨36, _⟩ => ⟨S4x4096x128, .f32⟩
  | .hbm, ⟨37, _⟩ => ⟨S4x4096x128, .bf16⟩
  | .hbm, ⟨38, _⟩ => ⟨S4096x4x128, .bf16⟩
  | .hbm, ⟨39, _⟩ => ⟨S4x4096x128, .bf16⟩
  | .hbm, ⟨40, _⟩ => ⟨S4x4096x128, .f32⟩
  | .hbm, ⟨41, _⟩ => ⟨S4x4096x128, .f32⟩
  | .hbm, ⟨42, _⟩ => ⟨S4x4096x128, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .bf16⟩
  | .hbm, ⟨47, _⟩ => ⟨S4x4096x128, .bf16⟩
  | .hbm, ⟨48, _⟩ => ⟨S4x4096x256, .bf16⟩
  | .hbm, ⟨49, _⟩ => ⟨S4x4096x256, .f32⟩
  | .hbm, ⟨50, _⟩ => ⟨S4x4096x256, .f32⟩
  | .hbm, ⟨51, _⟩ => ⟨S4x4096x128, .f32⟩
  | .local _ .vmem, ⟨0, _⟩ => ⟨S2x512x256, .bf16⟩
  | .local _ .vmem, ⟨1, _⟩ => ⟨S2x512x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x512x128, .bf16⟩
  | .local _ .vmem, ⟨5, _⟩ => ⟨S2x512x128, .bf16⟩
  | .local _ .vmem, ⟨6, _⟩ => ⟨S512x256, .bf16⟩
  | .local _ .vmem, ⟨7, _⟩ => ⟨S512x256, .bf16⟩
  | .local _ .vmem, ⟨8, _⟩ => ⟨S2x512x1, .f32⟩
  | .local _ .vmem, ⟨9, _⟩ => ⟨S2x512x1, .f32⟩
  | .local _ .vmem, ⟨10, _⟩ => ⟨S2x512x1, .f32⟩
  | .local _ .vmem, ⟨11, _⟩ => ⟨S2x512x1, .f32⟩
  | .local _ .vmem, ⟨12, _⟩ => ⟨S2x4096x256, .f32⟩
  | .local _ .vmem, ⟨13, _⟩ => ⟨S2x4096x256, .f32⟩
  | .local _ .vmem, ⟨14, _⟩ => ⟨S2x512x256, .f32⟩
  | .local _ .vmem, ⟨15, _⟩ => ⟨S2x512x256, .f32⟩
  | .local _ .vmem, ⟨16, _⟩ => ⟨S2x512x128, .f32⟩
  | .local _ .vmem, ⟨17, _⟩ => ⟨S2x512x128, .f32⟩
  | .local _ .smem, ⟨0, _⟩ => ⟨S36, .i32⟩
  | .local _ .smem, ⟨1, _⟩ => ⟨S36, .i32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c512_i32 : BitVec 32 := 512#32
  let v52 : BitVec 32 := Scalar.muli v3 c512_i32
  v52
def k0_cond2 (v1 : BitVec 32) (v3 : BitVec 32) : BitVec 1 :=
  let v7 : BitVec 1 := Scalar.cmpi .sgt v3 v1
  let v8 : BitVec 32 := Scalar.extui v7
  let c0_i32_1 : BitVec 32 := 0#32
  let v9 : BitVec 1 := Scalar.cmpi .ne v8 c0_i32_1
  v9

def k0_off2 (v3 : BitVec 32) : Fin 3 → Nat :=
  let c0_36 : Index := 0#32
  let c512_i32 : BitVec 32 := 512#32
  let v52 : BitVec 32 := Scalar.muli v3 c512_i32
  let v53 : BitVec 32 := v52
  let v54 : Index := Scalar.indexCast v53
  let c0_37 : Index := 0#32
  ![0, v54.toNat, 0]
def k0_mult2 (v3 : BitVec 32) : BitVec 32 :=
  let c512_i32_74 : BitVec 32 := 512#32
  let v102 : BitVec 32 := Scalar.muli v3 c512_i32_74
  v102
def k0_off3 (v3 : BitVec 32) : Fin 3 → Nat :=
  let c1_75 : Index := 1#32
  let c512_i32_74 : BitVec 32 := 512#32
  let v102 : BitVec 32 := Scalar.muli v3 c512_i32_74
  let v103 : BitVec 32 := v102
  let v104 : Index := Scalar.indexCast v103
  let c0_76 : Index := 0#32
  ![1, v104.toNat, 0]
def k0_mult3 (v3 : BitVec 32) : BitVec 32 :=
  let c512_i32 : BitVec 32 := 512#32
  let v51 : BitVec 32 := Scalar.muli v3 c512_i32
  v51
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def k0_off4 (v3 : BitVec 32) : Fin 3 → Nat :=
  let c0_31 : Index := 0#32
  let c512_i32 : BitVec 32 := 512#32
  let v51 : BitVec 32 := Scalar.muli v3 c512_i32
  let v52 : BitVec 32 := v51
  let v53 : Index := Scalar.indexCast v52
  let c0_32 : Index := 0#32
  ![0, v53.toNat, 0]
def k0_mult4 (v3 : BitVec 32) : BitVec 32 :=
  let c512_i32_64 : BitVec 32 := 512#32
  let v100 : BitVec 32 := Scalar.muli v3 c512_i32_64
  v100
def k0_off5 (v3 : BitVec 32) : Fin 3 → Nat :=
  let c1_65 : Index := 1#32
  let c512_i32_64 : BitVec 32 := 512#32
  let v100 : BitVec 32 := Scalar.muli v3 c512_i32_64
  let v101 : BitVec 32 := v100
  let v102 : Index := Scalar.indexCast v101
  let c0_66 : Index := 0#32
  ![1, v102.toNat, 0]

def k0_chk1 (v1 : BitVec 32) (v3 : BitVec 32) : Prop :=
  (∀ (k0_h2 : k0_cond2 v1 v3 = 1#1), 512 ∣ (k0_mult1 v3).toNat) ∧
  (∀ (k0_h2 : k0_cond2 v1 v3 = 1#1), ∀ a, (k0_off2 v3) a + S1x512x256.size a ≤ S2x4096x256.size a) ∧
  (∀ (k0_h2 : k0_cond2 v1 v3 = 1#1), 512 ∣ (k0_mult2 v3).toNat) ∧
  (∀ (k0_h2 : k0_cond2 v1 v3 = 1#1), ∀ a, (k0_off3 v3) a + S1x512x256.size a ≤ S2x4096x256.size a) ∧
  (∀ (k0_h3 : k0_cond3 v1 v3 = 1#1), 512 ∣ (k0_mult3 v3).toNat) ∧
  (∀ (k0_h3 : k0_cond3 v1 v3 = 1#1), ∀ a, (k0_off4 v3) a + S1x512x256.size a ≤ S2x4096x256.size a) ∧
  (∀ (k0_h3 : k0_cond3 v1 v3 = 1#1), 512 ∣ (k0_mult4 v3).toNat) ∧
  (∀ (k0_h3 : k0_cond3 v1 v3 = 1#1), ∀ a, (k0_off5 v3) a + S1x512x256.size a ≤ S2x4096x256.size a)
theorem k0_mult1_dvd : ∀ (v1 : BitVec 32) (v3 : BitVec 32) (k0_hw1 : k0_chk1 v1 v3), ∀ (k0_h2 : k0_cond2 v1 v3 = 1#1), 512 ∣ (k0_mult1 v3).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v3) a + S1x512x256.size a ≤ S2x4096x256.size a := fun v1 v3 k0_hw1 k0_h2 => k0_hw1.2.1 k0_h2
theorem k0_mult2_dvd : ∀ (v1 : BitVec 32) (v3 : BitVec 32) (k0_hw1 : k0_chk1 v1 v3), ∀ (k0_h2 : k0_cond2 v1 v3 = 1#1), 512 ∣ (k0_mult2 v3).toNat := fun v1 v3 k0_hw1 k0_h2 => k0_hw1.2.2.1 k0_h2
theorem k0_off3_inb : ∀ (v1 : BitVec 32) (v3 : BitVec 32) (k0_hw1 : k0_chk1 v1 v3), ∀ (k0_h2 : k0_cond2 v1 v3 = 1#1), ∀ a, (k0_off3 v3) a + S1x512x256.size a ≤ S2x4096x256.size a := fun v1 v3 k0_hw1 k0_h2 => k0_hw1.2.2.2.1 k0_h2
theorem k0_mult3_dvd : ∀ (v1 : BitVec 32) (v3 : BitVec 32) (k0_hw1 : k0_chk1 v1 v3), ∀ (k0_h3 : k0_cond3 v1 v3 = 1#1), 512 ∣ (k0_mult3 v3).toNat := fun v1 v3 k0_hw1 k0_h3 => k0_hw1.2.2.2.2.1 k0_h3
theorem k0_off4_inb : ∀ (v1 : BitVec 32) (v3 : BitVec 32) (k0_hw1 : k0_chk1 v1 v3), ∀ (k0_h3 : k0_cond3 v1 v3 = 1#1), ∀ a, (k0_off4 v3) a + S1x512x256.size a ≤ S2x4096x256.size a := fun v1 v3 k0_hw1 k0_h3 => k0_hw1.2.2.2.2.2.1 k0_h3
theorem k0_mult4_dvd : ∀ (v1 : BitVec 32) (v3 : BitVec 32) (k0_hw1 : k0_chk1 v1 v3), ∀ (k0_h3 : k0_cond3 v1 v3 = 1#1), 512 ∣ (k0_mult4 v3).toNat := fun v1 v3 k0_hw1 k0_h3 => k0_hw1.2.2.2.2.2.2.1 k0_h3
theorem k0_off5_inb : ∀ (v1 : BitVec 32) (v3 : BitVec 32) (k0_hw1 : k0_chk1 v1 v3), ∀ (k0_h3 : k0_cond3 v1 v3 = 1#1), ∀ a, (k0_off5 v3) a + S1x512x256.size a ≤ S2x4096x256.size a := fun v1 v3 k0_hw1 k0_h3 => k0_hw1.2.2.2.2.2.2.2 k0_h3

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x256 : Shape := ⟨3, ![4, 4096, 256]⟩
abbrev S4x4096x128 : Shape := ⟨3, ![4, 4096, 128]⟩
abbrev S4096x512 : Shape := ⟨2, ![4096, 512]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4096x4x128 : Shape := ⟨3, ![4096, 4, 128]⟩

abbrev nBuf : Space → Nat
  | .hbm => 103
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4x4096x256, .bf16⟩
  | .hbm, ⟨2, _⟩ => ⟨S4x4096x128, .bf16⟩
  | .hbm, ⟨3, _⟩ => ⟨S4096x512, .bf16⟩
  | .hbm, ⟨4, _⟩ => ⟨S4x4096x256, .f32⟩
  | .hbm, ⟨5, _⟩ => ⟨S4x4096x256, .f32⟩
  | .hbm, ⟨6, _⟩ => ⟨S4x4096x128, .f32⟩
  | .hbm, ⟨7, _⟩ => ⟨S4x4096x4096, .f32⟩
  | .hbm, ⟨8, _⟩ => ⟨S4x4096x4096, .bf16⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x4096x4096, .i1⟩
  | .hbm, ⟨20, _⟩ => ⟨S_, .f32⟩
  | .hbm, ⟨21, _⟩ => ⟨S_, .f32⟩
  | .hbm, ⟨22, _⟩ => ⟨S4x4096x4096, .i1⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x4096, .f32⟩
  | .hbm, ⟨31, _⟩ => ⟨S4x4096x4096, .i1⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .i1⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S_, .f32⟩
  | .hbm, ⟨47, _⟩ => ⟨S4x4096, .f32⟩
  | .hbm, ⟨48, _⟩ => ⟨S_, .f32⟩
  | .hbm, ⟨49, _⟩ => ⟨S4x4096, .f32⟩
  | .hbm, ⟨50, _⟩ => ⟨S4x4096, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x4096, .bf16⟩
  | .hbm, ⟨66, _⟩ => ⟨S4x4096x4096, .f32⟩
  | .hbm, ⟨67, _⟩ => ⟨S4x128x4096, .f32⟩
  | .hbm, ⟨68, _⟩ => ⟨S4096x4x128, .f32⟩
  | .hbm, ⟨69, _⟩ => ⟨S4096x4x128, .bf16⟩
  | .hbm, ⟨70, _⟩ => ⟨S4096x512, .bf16⟩
  | .hbm, ⟨71, _⟩ => ⟨S4096x4x128, .bf16⟩
  | .hbm, ⟨72, _⟩ => ⟨S4096x4x128, .f32⟩
  | .hbm, ⟨73, _⟩ => ⟨S4x128x4096, .f32⟩
  | .hbm, ⟨74, _⟩ => ⟨S4x4096x4096, .f32⟩
  | .hbm, ⟨75, _⟩ => ⟨S4x128x4096, .f32⟩
  | .hbm, ⟨76, _⟩ => ⟨S4x4096x128, .f32⟩
  | .hbm, ⟨77, _⟩ => ⟨S4x4096x4096, .bf16⟩
  | .hbm, ⟨78, _⟩ => ⟨S4x4096x4096, .f32⟩
  | .hbm, ⟨79, _⟩ => ⟨S4x4096x4096, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096, .f32⟩
  | .hbm, ⟨84, _⟩ => ⟨S4x4096x1, .f32⟩
  | .hbm, ⟨85, _⟩ => ⟨S4x4096x1, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096, .f32⟩
  | .hbm, ⟨90, _⟩ => ⟨S4x4096x4096, .f32⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096x4096, .f32⟩
  | .hbm, ⟨95, _⟩ => ⟨S4x4096x4096, .f32⟩
  | .hbm, ⟨96, _⟩ => ⟨S_, .f32⟩
  | .hbm, ⟨97, _⟩ => ⟨S4x4096x4096, .f32⟩
  | .hbm, ⟨98, _⟩ => ⟨S4x4096x4096, .f32⟩
  | .hbm, ⟨99, _⟩ => ⟨S4x4096x4096, .bf16⟩
  | .hbm, ⟨100, _⟩ => ⟨S4x4096x4096, .f32⟩
  | .hbm, ⟨101, _⟩ => ⟨S4x4096x256, .f32⟩
  | .hbm, ⟨102, _⟩ => ⟨S4x4096x256, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Kernel2.lean ====
abbrev S4096x3072 : Shape := ⟨2, ![4096, 3072]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x3072 : Shape := ⟨2, ![4096, 3072]⟩
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S4096x2816, .bf16⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x3072 : Shape := ⟨2, ![4096, 3072]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x3072 : Shape := ⟨2, ![4096, 3072]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S4096x2816, .bf16⟩
  | .hbm, ⟨3, _⟩ => ⟨S4096x2816, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S2816x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S3x2816x1024 : Shape := ⟨3, ![3, 2816, 1024]⟩
abbrev S11x4096x256 : Shape := ⟨3, ![11, 4096, 256]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩
abbrev S512x256 : Shape := ⟨2, ![512, 256]⟩
abbrev S1x512x256 : Shape := ⟨3, ![1, 512, 256]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x2816x1024, .bf16⟩
  | .hbm, ⟨3, _⟩ => ⟨S4096x1024, .f32⟩
  | .hbm, ⟨4, _⟩ => ⟨S4096x1024, .bf16⟩
  | .hbm, ⟨5, _⟩ => ⟨S11x4096x256, .bf16⟩
  | .hbm, ⟨6, _⟩ => ⟨S11x4096x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S512x1024, .bf16⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c2_i32 : BitVec 32 := 2#32
  let c0_i32 : BitVec 32 := 0#32
  let v24 : BitVec 32 := Scalar.muli c2_i32 c0_i32
  let c256_i32 : BitVec 32 := 256#32
  let v25 : BitVec 32 := Scalar.muli v24 c256_i32
  v25
def k0_off1 (c0_i32 : BitVec 32) : Fin 3 → Nat :=
  let c0_16 : Index := 0#32
  let c2_i32 : BitVec 32 := 2#32
  let v24 : BitVec 32 := Scalar.muli c2_i32 c0_i32
  let c256_i32 : BitVec 32 := 256#32
  let v25 : BitVec 32 := Scalar.muli v24 c256_i32
  let v26 : BitVec 32 := v25
  let v28 : Index := Scalar.indexCast v26
  let c0_17 : Index := 0#32
  ![0, v28.toNat, 0]
def k0_off2 (c0_i32 : BitVec 32) : Fin 3 → Nat :=
  let c1 : Index := 1#32
  let c2_i32 : BitVec 32 := 2#32
  let v24 : BitVec 32 := Scalar.muli c2_i32 c0_i32
  let c256_i32 : BitVec 32 := 256#32
  let v25 : BitVec 32 := Scalar.muli v24 c256_i32
  let v26 : BitVec 32 := v25
  let v32 : Index := Scalar.indexCast v26
  let c0_19 : Index := 0#32
  ![1, v32.toNat, 0]
def k0_off3 (c0_i32 : BitVec 32) (c0_i32_21 : BitVec 32) : Fin 3 → Nat :=
  let c2_i32 : BitVec 32 := 2#32
  let v24 : BitVec 32 := Scalar.muli c2_i32 c0_i32
  let v38 : BitVec 32 := Scalar.addi v24 c0_i32_21
  let v39 : Index := Scalar.indexCast v38
  let c0_22 : Index := 0#32
  let c0_23 : Index := 0#32
  ![v39.toNat, 0, 0]
def k0_off4 (c0_i32 : BitVec 32) : Fin 3 → Nat :=
  let c2 : Index := 2#32
  let c2_i32 : BitVec 32 := 2#32
  let v24 : BitVec 32 := Scalar.muli c2_i32 c0_i32
  let c256_i32 : BitVec 32 := 256#32
  let v25 : BitVec 32 := Scalar.muli v24 c256_i32
  let v26 : BitVec 32 := v25
  let v68 : Index := Scalar.indexCast v26
  let c0_32 : Index := 0#32
  ![2, v68.toNat, 0]
def k0_mult2 : BitVec 32 :=
  let c2_i32_39 : BitVec 32 := 2#32
  let c1_i32_36 : BitVec 32 := 1#32
  let v77 : BitVec 32 := Scalar.muli c2_i32_39 c1_i32_36
  let c256_i32_40 : BitVec 32 := 256#32
  let v78 : BitVec 32 := Scalar.muli v77 c256_i32_40
  v78
def k0_mult3 : BitVec 32 :=
  let c2_i32_69 : BitVec 32 := 2#32
  let c2_i32_66 : BitVec 32 := 2#32
  let v130 : BitVec 32 := Scalar.muli c2_i32_69 c2_i32_66
  let c256_i32_70 : BitVec 32 := 256#32
  let v131 : BitVec 32 := Scalar.muli v130 c256_i32_70
  v131
def k0_mult4 : BitVec 32 :=
  let c2_i32_98 : BitVec 32 := 2#32
  let c3_i32 : BitVec 32 := 3#32
  let v183 : BitVec 32 := Scalar.muli c2_i32_98 c3_i32
  let c256_i32_99 : BitVec 32 := 256#32
  let v184 : BitVec 32 := Scalar.muli v183 c256_i32_99
  v184
def k0_mult5 : BitVec 32 :=
  let c2_i32_127 : BitVec 32 := 2#32
  let c4_i32 : BitVec 32 := 4#32
  let v236 : BitVec 32 := Scalar.muli c2_i32_127 c4_i32
  let c256_i32_128 : BitVec 32 := 256#32
  let v237 : BitVec 32 := Scalar.muli v236 c256_i32_128
  v237
def k0_mult6 : BitVec 32 :=
  let c2560_i32 : BitVec 32 := 2560#32
  c2560_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S11x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x1024 : Shape := ⟨2, ![4096, 1024]⟩
abbrev S1x1024 : Shape := ⟨2, ![1, 1024]⟩
abbrev S3x2816x1024 : Shape := ⟨3, ![3, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x11x256 : Shape := ⟨3, ![4096, 11, 256]⟩
abbrev S11x4096x256 : Shape := ⟨3, ![11, 4096, 256]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x2816x1024, .bf16⟩
  | .hbm, ⟨3, _⟩ => ⟨S1x2816x1024, .bf16⟩
  | .hbm, ⟨4, _⟩ => ⟨S2816x1024, .bf16⟩
  | .hbm, ⟨5, _⟩ => ⟨S2816x1024, .f32⟩
  | .hbm, ⟨6, _⟩ => ⟨S1024x2816, .f32⟩
  | .hbm, ⟨7, _⟩ => ⟨S1x2816x1024, .bf16⟩
  | .hbm, ⟨8, _⟩ => ⟨S2816x1024, .bf16⟩
  | .hbm, ⟨9, _⟩ => ⟨S2816x1024, .f32⟩
  | .hbm, ⟨10, _⟩ => ⟨S1024x2816, .f32⟩
  | .hbm, ⟨11, _⟩ => ⟨S1x2816x1024, .bf16⟩
  | .hbm, ⟨12, _⟩ => ⟨S2816x1024, .bf16⟩
  | .hbm, ⟨13, _⟩ => ⟨S2816x1024, .f32⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | .hbm, ⟨49, _⟩ => ⟨S4096x11x256, .f32⟩
  | .hbm, ⟨50, _⟩ => ⟨S11x4096x256, .f32⟩
  | .hbm, ⟨51, _⟩ => ⟨S11x4096x256, .bf16⟩
  | .hbm, ⟨52, _⟩ => ⟨S4096x11x256, .f32⟩
  | .hbm, ⟨53, _⟩ => ⟨S11x4096x256, .f32⟩
  | .hbm, ⟨54, _⟩ => ⟨S11x4096x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x512 : Shape := ⟨2, ![4096, 512]⟩
abbrev S4096x1024 : Shape := ⟨2, ![4096, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .f32⟩
  | .hbm, ⟨2, _⟩ => ⟨S4096x512, .f32⟩
  | .hbm, ⟨3, _⟩ => ⟨S_, .f32⟩
  | .hbm, ⟨4, _⟩ => ⟨S512x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S4x256x256 : Shape := ⟨3, ![4, 256, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S4x256x256, .bf16⟩
  | .hbm, ⟨7, _⟩ => ⟨S4x256x256, .bf16⟩
  | .hbm, ⟨8, _⟩ => ⟨S1024x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S4x256x256, .bf16⟩
  | .local _ .vmem, ⟨10, _⟩ => ⟨S4x256x256, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S4x256x256 : Shape := ⟨3, ![4, 256, 256]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S4x256x256, .bf16⟩
  | .hbm, ⟨7, _⟩ => ⟨S4x256x256, .bf16⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S1024x1024, .f32⟩
  | .hbm, ⟨12, _⟩ => ⟨S1024x1024, .f32⟩
  | .hbm, ⟨13, _⟩ => ⟨S4x256x256, .f32⟩
  | .hbm, ⟨14, _⟩ => ⟨S4x256x256, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x4x256, .f32⟩
  | .hbm, ⟨38, _⟩ => ⟨S4x4096x256, .f32⟩
  | .hbm, ⟨39, _⟩ => ⟨S_, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S4x4096x1, .f32⟩
  | .hbm, ⟨48, _⟩ => ⟨S4x4096x256, .f32⟩
  | .hbm, ⟨49, _⟩ => ⟨S4x4096x256, .f32⟩
  | .hbm, ⟨50, _⟩ => ⟨S4x4096x256, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S4x4096x256, .f32⟩
  | .hbm, ⟨55, _⟩ => ⟨S4x4096x256, .f32⟩
  | .hbm, ⟨56, _⟩ => ⟨S4x256x4096, .f32⟩
  | .hbm, ⟨57, _⟩ => ⟨S4096x4x256, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S4096x1024, .bf16⟩
  | .hbm, ⟨63, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S3x2816x1024 : Shape := ⟨3, ![3, 2816, 1024]⟩
abbrev S11x4096x256 : Shape := ⟨3, ![11, 4096, 256]⟩
abbrev S8x128 : Shape := ⟨2, ![8, 128]⟩
abbrev S512x1024 : Shape := ⟨2, ![512, 1024]⟩
abbrev S11x512x256 : Shape := ⟨3, ![11, 512, 256]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩
abbrev S512x256 : Shape := ⟨2, ![512, 256]⟩
abbrev S1x512x256 : Shape := ⟨3, ![1, 512, 256]⟩
abbrev S1x256x1024 : Shape := ⟨3, ![1, 256, 1024]⟩
abbrev S256x1024 : Shape := ⟨2, ![256, 1024]⟩
abbrev S1 : Shape := ⟨1, ![1]⟩
abbrev S1x1 : Shape := ⟨2, ![1, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x2816x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S11x4096x256, .bf16⟩
  | .hbm, ⟨8, _⟩ => ⟨S11x4096x256, .bf16⟩
  | .hbm, ⟨9, _⟩ => ⟨S8x128, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S11x512x256, .bf16⟩
  | .local _ .vmem, ⟨12, _⟩ => ⟨S11x512x256, .bf16⟩
  | .local _ .vmem, ⟨13, _⟩ => ⟨S11x512x256, .bf16⟩
  | .local _ .vmem, ⟨14, _⟩ => ⟨S11x512x256, .bf16⟩
  | .local _ .vmem, ⟨15, _⟩ => ⟨S8x128, .f32⟩
  | .local _ .vmem, ⟨16, _⟩ => ⟨S1x1024, .f32⟩
  | .local _ .vmem, ⟨17, _⟩ => ⟨S512x1024, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_mult1 : BitVec 32 :=
  let c2_i32 : BitVec 32 := 2#32
  let c0_i32 : BitVec 32 := 0#32
  let v24 : BitVec 32 := Scalar.muli c2_i32 c0_i32
  let c256_i32 : BitVec 32 := 256#32
  let v25 : BitVec 32 := Scalar.muli v24 c256_i32
  v25
def k0_off1 (c0_i32 : BitVec 32) : Fin 3 → Nat :=
  let c0_16 : Index := 0#32
  let c2_i32 : BitVec 32 := 2#32
  let v24 : BitVec 32 := Scalar.muli c2_i32 c0_i32
  let c256_i32 : BitVec 32 := 256#32
  let v25 : BitVec 32 := Scalar.muli v24 c256_i32
  let v26 : BitVec 32 := v25
  let v28 : Index := Scalar.indexCast v26
  let c0_17 : Index := 0#32
  ![0, v28.toNat, 0]
def k0_off2 (c0_i32 : BitVec 32) : Fin 3 → Nat :=
  let c1 : Index := 1#32
  let c2_i32 : BitVec 32 := 2#32
  let v24 : BitVec 32 := Scalar.muli c2_i32 c0_i32
  let c256_i32 : BitVec 32 := 256#32
  let v25 : BitVec 32 := Scalar.muli v24 c256_i32
  let v26 : BitVec 32 := v25
  let v32 : Index := Scalar.indexCast v26
  let c0_19 : Index := 0#32
  ![1, v32.toNat, 0]
def k0_off3 (c0_i32 : BitVec 32) (c0_i32_21 : BitVec 32) : Fin 3 → Nat :=
  let c2_i32 : BitVec 32 := 2#32
  let v24 : BitVec 32 := Scalar.muli c2_i32 c0_i32
  let v38 : BitVec 32 := Scalar.addi v24 c0_i32_21
  let v39 : Index := Scalar.indexCast v38
  let c0_22 : Index := 0#32
  let c0_23 : Index := 0#32
  ![v39.toNat, 0, 0]
def k0_off4 (c0_i32 : BitVec 32) : Fin 3 → Nat :=
  let c2 : Index := 2#32
  let c2_i32 : BitVec 32 := 2#32
  let v24 : BitVec 32 := Scalar.muli c2_i32 c0_i32
  let c256_i32 : BitVec 32 := 256#32
  let v25 : BitVec 32 := Scalar.muli v24 c256_i32
  let v26 : BitVec 32 := v25
  let v68 : Index := Scalar.indexCast v26
  let c0_32 : Index := 0#32
  ![2, v68.toNat, 0]
def k0_mult2 : BitVec 32 :=
  let c2_i32_39 : BitVec 32 := 2#32
  let c1_i32_36 : BitVec 32 := 1#32
  let v77 : BitVec 32 := Scalar.muli c2_i32_39 c1_i32_36
  let c256_i32_40 : BitVec 32 := 256#32
  let v78 : BitVec 32 := Scalar.muli v77 c256_i32_40
  v78
def k0_mult3 : BitVec 32 :=
  let c2_i32_69 : BitVec 32 := 2#32
  let c2_i32_66 : BitVec 32 := 2#32
  let v130 : BitVec 32 := Scalar.muli c2_i32_69 c2_i32_66
  let c256_i32_70 : BitVec 32 := 256#32
  let v131 : BitVec 32 := Scalar.muli v130 c256_i32_70
  v131
def k0_mult4 : BitVec 32 :=
  let c2_i32_98 : BitVec 32 := 2#32
  let c3_i32 : BitVec 32 := 3#32
  let v183 : BitVec 32 := Scalar.muli c2_i32_98 c3_i32
  let c256_i32_99 : BitVec 32 := 256#32
  let v184 : BitVec 32 := Scalar.muli v183 c256_i32_99
  v184
def k0_mult5 : BitVec 32 :=
  let c2_i32_127 : BitVec 32 := 2#32
  let c4_i32 : BitVec 32 := 4#32
  let v236 : BitVec 32 := Scalar.muli c2_i32_127 c4_i32
  let c256_i32_128 : BitVec 32 := 256#32
  let v237 : BitVec 32 := Scalar.muli v236 c256_i32_128
  v237
def k0_mult6 : BitVec 32 :=
  let c2560_i32 : BitVec 32 := 2560#32
  c2560_i32
def k0_cond1 (i : grid0.Coords) : BitVec 1 :=
  let arg0 : BitVec 32 := BitVec.ofNat 32 (i 0).val
  let c0_i32_196 : BitVec 32 := 0#32
  let v368 : BitVec 1 := Scalar.cmpi .eq arg0 c0_i32_196
  let v371 : BitVec 32 := Scalar.extui v368
  let c0_i32_197 : BitVec 32 := 0#32
  let v372 : BitVec 1 := Scalar.cmpi .ne v371 c0_i32_197
  v372

def k0_cond2 (i : grid0.Coords) : BitVec 1 :=
  let arg0 : BitVec 32 := BitVec.ofNat 32 (i 0).val
  let c0_i32_196 : BitVec 32 := 0#32
  let v368 : BitVec 1 := Scalar.cmpi .eq arg0 c0_i32_196
  let v_true : BitVec 1 := 1#1
  let v373 : BitVec 1 := Scalar.xori v368 v_true
  let v374 : BitVec 32 := Scalar.extui v373
  let c0_i32_198 : BitVec 32 := 0#32
  let v375 : BitVec 1 := Scalar.cmpi .ne v374 c0_i32_198
  v375

def k0_cond3 (i : grid0.Coords) : BitVec 1 :=
  let arg0 : BitVec 32 := BitVec.ofNat 32 (i 0).val
  let c0_i32_196 : BitVec 32 := 0#32
  let v368 : BitVec 1 := Scalar.cmpi .eq arg0 c0_i32_196
  let v376 : BitVec 32 := Scalar.extui v368
  let c0_i32_199 : BitVec 32 := 0#32
  let v377 : BitVec 1 := Scalar.cmpi .ne v376 c0_i32_199
  v377

def k0_cond4 (i : grid0.Coords) : BitVec 1 :=
  let arg0 : BitVec 32 := BitVec.ofNat 32 (i 0).val
  let c0_i32_196 : BitVec 32 := 0#32
  let v368 : BitVec 1 := Scalar.cmpi .eq arg0 c0_i32_196
  let true_200 : BitVec 1 := 1#1
  let v378 : BitVec 1 := Scalar.xori v368 true_200
  let v379 : BitVec 32 := Scalar.extui v378
  let c0_i32_201 : BitVec 32 := 0#32
  let v380 : BitVec 1 := Scalar.cmpi .ne v379 c0_i32_201
  v380

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S11x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S4096x1024 : Shape := ⟨2, ![4096, 1024]⟩
abbrev S1x1024 : Shape := ⟨2, ![1, 1024]⟩
abbrev S3x2816x1024 : Shape := ⟨3, ![3, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x11x256 : Shape := ⟨3, ![4096, 11, 256]⟩
abbrev S11x4096x256 : Shape := ⟨3, ![11, 4096, 256]⟩
abbrev S8x128 : Shape := ⟨2, ![8, 128]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S1x1024, .f32⟩
  | 2 => ⟨S3x2816x1024, .bf16⟩
  | 3 => ⟨S4096x1024, .f32⟩
  | 4 => ⟨S1x1024, .f32⟩
  | 5 => ⟨S1x2816x1024, .bf16⟩
  | 6 => ⟨S2816x1024, .bf16⟩
  | 7 => ⟨S2816x1024, .f32⟩
  | 8 => ⟨S1024x2816, .f32⟩
  | 9 => ⟨S1x2816x1024, .bf16⟩
  | 10 => ⟨S2816x1024, .bf16⟩
  | 11 => ⟨S2816x1024, .f32⟩
  | 12 => ⟨S1024x2816, .f32⟩
  | 13 => ⟨S1x2816x1024, .bf16⟩
  | 14 => ⟨S2816x1024, .bf16⟩
  | 15 => ⟨S2816x1024, .f32⟩
  | 16 => ⟨S1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x2816, .f32⟩
  | 34 => ⟨S4096x2816, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S4096x2816, .f32⟩
  | 44 => ⟨S4096x2816, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096, .f32⟩
  | 81 => ⟨S_, .f32⟩
  | 82 => ⟨S4096, .f32⟩
  | 83 => ⟨S4096, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S4096, .f32⟩
  | 92 => ⟨S_, .f32⟩
  | 93 => ⟨S4096, .f32⟩
  | 94 => ⟨S4096, .f32⟩
  | 95 => ⟨S4096x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S_, .f32⟩
  | 104 => ⟨S1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .bf16⟩
  | 121 => ⟨S4096x11x256, .f32⟩
  | 122 => ⟨S11x4096x256, .f32⟩
  | 123 => ⟨S11x4096x256, .bf16⟩
  | 124 => ⟨S4096x11x256, .f32⟩
  | 125 => ⟨S11x4096x256, .f32⟩
  | 126 => ⟨S11x4096x256, .bf16⟩
  | 127 => ⟨S8x128, .f32⟩
  | _ => ⟨S4096x1024, .f32⟩

abbrev hbmTy0_1 (i : Nat) : BufTy := match i % 128 with
  | 0 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_cst_13 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_cst_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Proof.KI.Sched.lean ====
/- The schedule of the pairs: the two tables, the blocks they lead to, and what the control decides at each point. -/
module

public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The tables the kernel is handed, whole. -/
abbrev tbM0_0 : Memref sig .tc .smem S36 .i32 := Memref.whole main_c
abbrev tbM0_1 : Memref sig .tc .smem S36 .i32 := Memref.whole main_c_0

/-- The first table: the key block of each pair. -/
def pinT_0 : S36.Idx → BitVec 32 := fun x => (([0#32, 0#32, 0#32, 0#32, 0#32, 0#32, 0#32, 0#32, 1#32, 1#32, 1#32, 1#32, 1#32, 1#32, 1#32, 2#32, 2#32, 2#32, 2#32, 2#32, 2#32, 3#32, 3#32, 3#32, 3#32, 3#32, 4#32, 4#32, 4#32, 4#32, 5#32, 5#32, 5#32, 6#32, 6#32, 7#32] : List (BitVec 32)).getD ((x 0).val) 0#32)

/-- The second table: the query block of each pair. -/
def pinT_1 : S36.Idx → BitVec 32 := fun x => (([0#32, 1#32, 2#32, 3#32, 4#32, 5#32, 6#32, 7#32, 1#32, 2#32, 3#32, 4#32, 5#32, 6#32, 7#32, 2#32, 3#32, 4#32, 5#32, 6#32, 7#32, 3#32, 4#32, 5#32, 6#32, 7#32, 4#32, 5#32, 6#32, 7#32, 5#32, 6#32, 7#32, 6#32, 7#32, 7#32] : List (BitVec 32)).getD ((x 0).val) 0#32)

set_option backward.proofsInPublic true in
/-- The tables' contents. -/
def pfN : pre0.Contents (Elt F) := fun | ⟨0, _⟩ => pinT_0 | ⟨1, _⟩ => pinT_1 | ⟨_ + 2, h⟩ => absurd h (by simp)

/-- What the first host operations put into the tables' buffers is these. -/
theorem lit0_eq : (fun i => lit0 (S36.rowMajor i)) = pinT_0 := by
  funext i; revert i; decide +kernel
theorem lit1_eq : (fun i => lit1 (S36.rowMajor i)) = pinT_1 := by
  funext i; revert i; decide +kernel

/-! ## Every block the tables lead to lies inside its array -/

theorem ok_inb_0 : ∀ i : grid0.Coords, ∀ a, (cc0_transform_0 k0_off1_inb numel1_S1 (pfN (F := Ideal)) i a + 1) * S2x512x256.size a ≤ S4x4096x256.size a := by decide +kernel
theorem ok_inb_1 : ∀ i : grid0.Coords, ∀ a, (cc0_transform_1 k0_off1_inb numel1_S1 (pfN (F := Ideal)) i a + 1) * S2x512x256.size a ≤ S4x4096x256.size a := by decide +kernel
theorem ok_inb_2 : ∀ i : grid0.Coords, ∀ a, (cc0_transform_2 k0_off1_inb numel1_S1 (pfN (F := Ideal)) i a + 1) * S2x512x128.size a ≤ S4x4096x256.size a := by decide +kernel
theorem ok_inb_3 : ∀ i : grid0.Coords, ∀ a, (cc0_transform_3 k0_off1_inb numel1_S1 (pfN (F := Ideal)) i a + 1) * S512x256.size a ≤ S4096x512.size a := by decide +kernel
theorem ok_inb_4 : ∀ i : grid0.Coords, ∀ a, (cc0_transform_4 k0_off1_inb numel1_S1 (pfN (F := Ideal)) i a + 1) * S2x512x1.size a ≤ S4x4096x1.size a := by decide +kernel
theorem ok_inb_5 : ∀ i : grid0.Coords, ∀ a, (cc0_transform_5 k0_off1_inb numel1_S1 (pfN (F := Ideal)) i a + 1) * S2x512x1.size a ≤ S4x4096x1.size a := by decide +kernel
theorem ok_inb_6 : ∀ i : grid0.Coords, ∀ a, (cc0_transform_7 k0_off1_inb numel1_S1 (pfN (F := Ideal)) i a + 1) * S2x512x256.size a ≤ S4x4096x256.size a := by decide +kernel
theorem ok_inb_7 : ∀ i : grid0.Coords, ∀ a, (cc0_transform_8 k0_off1_inb numel1_S1 (pfN (F := Ideal)) i a + 1) * S2x512x128.size a ≤ S4x4096x128.size a := by decide +kernel
theorem ok_pfN : ok0 (F := F) pfN := ⟨fun i => ⟨ok_inb_0 i, .inr (Affine.block_words_dvd (s := S4x4096x256) (p := EltTy.packing .bf16) (by decide) (by decide))⟩, fun i => ⟨ok_inb_1 i, .inr (Affine.block_words_dvd (s := S4x4096x256) (p := EltTy.packing .bf16) (by decide) (by decide))⟩, fun i => ⟨ok_inb_2 i, .inr (Affine.block_words_dvd (s := S4x4096x256) (p := EltTy.packing .bf16) (by decide) (by decide))⟩, fun i => ⟨ok_inb_3 i, .inr (Affine.block_words_dvd (s := S4096x512) (p := EltTy.packing .bf16) (by decide) (by decide))⟩, fun i => ⟨ok_inb_4 i, .inl rfl⟩, fun i => ⟨ok_inb_5 i, .inl rfl⟩, fun i => ⟨ok_inb_6 i, .inl rfl⟩, fun i => ⟨ok_inb_7 i, .inl rfl⟩⟩

/-- The admissible contents, the pipeline at them, as @main's one. -/
def adm : (pcfg0 (F := F)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

/-- Point `t`'s coordinates. -/
abbrev crd (t : Fin cfgA.N) : cfgA.grid.Coords := cfgA.grid.coords t

/-! ## Each window's current staging memref at a point -/

abbrev ms0 (t : Fin cfgA.N) : Memref sig .tc .vmem S2x512x256 .bf16 := spec0_0.stage (cfgA.slots t (0 : Fin 9))
abbrev hs0 (t : Fin cfgA.N) : (ms0 t).IsWhole := hstage0_0 ((cfgA.slots t (0 : Fin 9)).cast nbuf0_0)
abbrev ms1 (t : Fin cfgA.N) : Memref sig .tc .vmem S2x512x256 .bf16 := spec0_1.stage (cfgA.slots t (1 : Fin 9))
abbrev hs1 (t : Fin cfgA.N) : (ms1 t).IsWhole := hstage0_1 ((cfgA.slots t (1 : Fin 9)).cast nbuf0_1)
abbrev ms2 (t : Fin cfgA.N) : Memref sig .tc .vmem S2x512x128 .bf16 := spec0_2.stage (cfgA.slots t (2 : Fin 9))
abbrev hs2 (t : Fin cfgA.N) : (ms2 t).IsWhole := hstage0_2 ((cfgA.slots t (2 : Fin 9)).cast nbuf0_2)
abbrev ms3 (t : Fin cfgA.N) : Memref sig .tc .vmem S512x256 .bf16 := spec0_3.stage (cfgA.slots t (3 : Fin 9))
abbrev hs3 (t : Fin cfgA.N) : (ms3 t).IsWhole := hstage0_3 ((cfgA.slots t (3 : Fin 9)).cast nbuf0_3)
abbrev ms4 (t : Fin cfgA.N) : Memref sig .tc .vmem S2x512x1 .f32 := spec0_4.stage (cfgA.slots t (4 : Fin 9))
abbrev hs4 (t : Fin cfgA.N) : (ms4 t).IsWhole := hstage0_4 ((cfgA.slots t (4 : Fin 9)).cast nbuf0_4)
abbrev ms5 (t : Fin cfgA.N) : Memref sig .tc .vmem S2x512x1 .f32 := spec0_5.stage (cfgA.slots t (5 : Fin 9))
abbrev hs5 (t : Fin cfgA.N) : (ms5 t).IsWhole := hstage0_5 ((cfgA.slots t (5 : Fin 9)).cast nbuf0_5)
abbrev ms6 (t : Fin cfgA.N) : Memref sig .tc .vmem S2x4096x256 .f32 := spec0_6.stage (cfgA.slots t (6 : Fin 9))
abbrev hs6 (t : Fin cfgA.N) : (ms6 t).IsWhole := hstage0_6 ((cfgA.slots t (6 : Fin 9)).cast nbuf0_6)
abbrev ms7 (t : Fin cfgA.N) : Memref sig .tc .vmem S2x512x256 .f32 := spec0_7.stage (cfgA.slots t (7 : Fin 9))
abbrev hs7 (t : Fin cfgA.N) : (ms7 t).IsWhole := hstage0_7 ((cfgA.slots t (7 : Fin 9)).cast nbuf0_7)
abbrev ms8 (t : Fin cfgA.N) : Memref sig .tc .vmem S2x512x128 .f32 := spec0_8.stage (cfgA.slots t (8 : Fin 9))
abbrev hs8 (t : Fin cfgA.N) : (ms8 t).IsWhole := hstage0_8 ((cfgA.slots t (8 : Fin 9)).cast nbuf0_8)

/-! ## The words the body reads, and the control's decisions -/

/-- The key block's number, from a first table `T`, at coordinates `i`; the query block's, from a second. -/
abbrev wj (T : S36.Idx → Elt F .i32) (i : grid0.Coords) : BitVec 32 := View.readAt (Elt F) (tbM0_0).view (Rect.unit (s := S36) (k0_off1 i) S1.size (k0_off1_inb i)).toLoadRect T (Shape.Idx.first (numel1_S1.symm ▸ Nat.one_pos))
abbrev wi (T : S36.Idx → Elt F .i32) (i : grid0.Coords) : BitVec 32 := View.readAt (Elt F) (tbM0_1).view (Rect.unit (s := S36) (k0_off1 i) S1.size (k0_off1_inb i)).toLoadRect T (Shape.Idx.first (numel1_S1.symm ▸ Nat.one_pos))

/-- First pair of a head group; a pair below the diagonal. -/
abbrev P0 (t : Fin cfgA.N) : Prop := k0_cond1 (crd t) = 1#1
abbrev P1 (t : Fin cfgA.N) : Prop := k0_cond2 (wj (F := Ideal) pinT_0 (crd t)) (wi (F := Ideal) pinT_1 (crd t)) = 1#1

/-! ## Which outputs hold nothing before each position

Bit `n` of a mask says so of position `n + 1`; before the first position every output holds nothing. -/

set_option backward.proofsInPublic true in
def frMask6 : ℕ := 0x800000000800000000
set_option backward.proofsInPublic true in
def frMask7 : ℕ := 0xd22104080d22104080
def frTab6 : ℕ → Bool
  | 0 => true
  | n + 1 => frMask6.testBit n
def frTab7 : ℕ → Bool
  | 0 => true
  | n + 1 => frMask7.testBit n

/-- Every fact decided at point `t`. -/
abbrev FactsAt (t : Fin cfgA.N) : Prop :=
  (frTab6 (t.val + 1) = ((cfgA.win (6 : Fin 9)).flush t || (cfgA.idle (6 : Fin 9) (cfgA.grid.coords t) && frTab6 t.val)))
  ∧ (frTab7 (t.val + 1) = ((cfgA.win (7 : Fin 9)).flush t || (cfgA.idle (7 : Fin 9) (cfgA.grid.coords t) && frTab7 t.val)))
  ∧ (frTab7 (t.val + 1) = ((cfgA.win (8 : Fin 9)).flush t || (cfgA.idle (8 : Fin 9) (cfgA.grid.coords t) && frTab7 t.val)))
  ∧ (cfgA.idle (6 : Fin 9) (cfgA.grid.coords t) = false ∧ cfgA.idle (7 : Fin 9) (cfgA.grid.coords t) = false ∧ cfgA.idle (8 : Fin 9) (cfgA.grid.coords t) = false)
  ∧ k0_chk1 (wj (F := Ideal) pinT_0 (crd t)) (wi (F := Ideal) pinT_1 (crd t))
  ∧ (P1 t → ¬ P0 t ∧ ¬ k0_cond3 (wj (F := Ideal) pinT_0 (crd t)) (wi (F := Ideal) pinT_1 (crd t)) = 1#1 ∧ frTab6 t.val = false ∧ frTab7 t.val = false)
  ∧ (¬ P1 t → k0_cond3 (wj (F := Ideal) pinT_0 (crd t)) (wi (F := Ideal) pinT_1 (crd t)) = 1#1 ∧ frTab7 t.val = true)
  ∧ (¬ P0 t → frTab6 t.val = false)
  ∧ (P0 t → frTab6 t.val = true)

set_option synthInstance.maxSize 65536 in
instance FactsAt.dec (t : Fin cfgA.N) : Decidable (FactsAt t) :=
  @instDecidableAnd _ _ inferInstance (@instDecidableAnd _ _ inferInstance (@instDecidableAnd _ _ inferInstance
    (@instDecidableAnd _ _ inferInstance (@instDecidableAnd _ _ (k0_chk1.dec _ _) (@instDecidableAnd _ _ inferInstance
      (@instDecidableAnd _ _ inferInstance (@instDecidableAnd _ _ inferInstance inferInstance)))))))

end Cert.KernelIdeal.Hand

end
-- ==== Proof.KI.Facts.lean ====
/- The decided facts, at every point. -/
module

public import proofs.«01_k».proof.Proof.KI.Sched

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem facts_0 : ∀ t : Fin cfgA.N, 0 ≤ t.val → t.val < 9 → FactsAt t := by decide +kernel
theorem facts_1 : ∀ t : Fin cfgA.N, 9 ≤ t.val → t.val < 18 → FactsAt t := by decide +kernel
theorem facts_2 : ∀ t : Fin cfgA.N, 18 ≤ t.val → t.val < 27 → FactsAt t := by decide +kernel
theorem facts_3 : ∀ t : Fin cfgA.N, 27 ≤ t.val → t.val < 36 → FactsAt t := by decide +kernel
theorem facts_4 : ∀ t : Fin cfgA.N, 36 ≤ t.val → t.val < 45 → FactsAt t := by decide +kernel
theorem facts_5 : ∀ t : Fin cfgA.N, 45 ≤ t.val → t.val < 54 → FactsAt t := by decide +kernel
theorem facts_6 : ∀ t : Fin cfgA.N, 54 ≤ t.val → t.val < 63 → FactsAt t := by decide +kernel
theorem facts_7 : ∀ t : Fin cfgA.N, 63 ≤ t.val → t.val < 72 → FactsAt t := by decide +kernel
/-- The facts at every point. -/
theorem facts : ∀ t : Fin cfgA.N, FactsAt t := fun t => by
  have h0 : 0 ≤ t.val := Nat.zero_le _
  have hN : t.val < 72 := t.isLt
  rcases Nat.lt_or_ge t.val 9 with h1 | h1; · exact facts_0 t h0 h1
  rcases Nat.lt_or_ge t.val 18 with h2 | h2; · exact facts_1 t h1 h2
  rcases Nat.lt_or_ge t.val 27 with h3 | h3; · exact facts_2 t h2 h3
  rcases Nat.lt_or_ge t.val 36 with h4 | h4; · exact facts_3 t h3 h4
  rcases Nat.lt_or_ge t.val 45 with h5 | h5; · exact facts_4 t h4 h5
  rcases Nat.lt_or_ge t.val 54 with h6 | h6; · exact facts_5 t h5 h6
  rcases Nat.lt_or_ge t.val 63 with h7 | h7; · exact facts_6 t h6 h7
  exact facts_7 t h7 hN

end Cert.KernelIdeal.Hand

end
-- ==== Proof.KI.RunA.lean ====
/- The body run at the first pair of a head group, which zeroes the rows of the gradient of the queries. -/
module

public import proofs.«01_k».proof.Proof.Gen.KernelIdeal.Skeleton
public import proofs.«01_k».proof.Proof.KI.Sched

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
noncomputable def runA (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (hc : k0_chk1 (wj T0 i) (wi T1 i)) (h1 : k0_cond1 i = 1#1) (h2 : ¬ k0_cond2 (wj T0 i) (wi T1 i) = 1#1) (h3 : k0_cond3 (wj T0 i) (wi T1 i) = 1#1) :
    Σ' (out6 : List (View.Piece (Elt F) S2x4096x256 .f32)) (out7 : List (View.Piece (Elt F) S2x512x256 .f32)), { out8 : List (View.Piece (Elt F) S2x512x128 .f32) //
      ∀ (K : PUnit → sProp 𝕄),
        iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (tbM0_0.view.loc (c : Thread nD τ) ↦{fullShare.right} T0) ∗ (tbM0_1.view.loc (c : Thread nD τ) ↦{fullShare.right} T1) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (tbM0_0.view.loc (c : Thread nD τ) ↦{fullShare.right} T0) ∗ (tbM0_1.view.loc (c : Thread nD τ) ↦{fullShare.right} T1) ∗ (∃ f, arg10.view.loc (c : Thread nD τ) ↦[arg10.view.set]{fullShare} arg10.view.writes (Elt F) f out6) ∗ (∃ f, arg11.view.loc (c : Thread nD τ) ↦[arg11.view.set]{fullShare} arg11.view.writes (Elt F) f out7) ∗ (∃ f, arg12.view.loc (c : Thread nD τ) ↦[arg12.view.set]{fullShare} arg12.view.writes (Elt F) f out8)) -∗ K ⟨⟩))
          ⊢ wp frame (wpE (defs₀ (F := F)) Variants.none c none) Set.univ (cc0_attn_bwd i tbM0_0 (Memref.isWhole_whole _) tbM0_1 (Memref.isWhole_whole _) arg4 harg4 arg5 harg5 arg6 harg6 arg7 harg7 arg8 harg8 arg9 harg9 arg10 harg10 arg11 harg11 arg12 harg12) K } :=
  ⟨_, _, _, fun K => by
    rw [cc0_attn_bwd_eq_skeleton]; unfold cc0_attn_bwd_skel
    iintro ⟨H0, H1, H2, H3, H4, H5, HT0, HT1, ⟨%f6, HO6⟩, ⟨%f7, HO7⟩, ⟨%f8, HO8⟩, Hk⟩
    have hT0 : tbM0_0.IsWhole := Memref.isWhole_whole _
    have hT1 : tbM0_1.IsWhole := Memref.isWhole_whole _
    sl_exec! (disch := first | (guard_target = k0_cond1 _ = _; exact h1) | (guard_target = ¬(k0_cond2 _ _ = _); exact h2) | (guard_target = k0_cond3 _ _ = _; exact h3) | (guard_target = k0_chk1 _ _; exact hc))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    iexists _; iexact HO8⟩

end Cert.KernelIdeal.Hand

end
-- ==== Proof.KI.Step.lean ====
/- What each step leaves in the three gradients, in closed form. -/
module

public import proofs.«01_k».proof.Proof.Gen.KernelIdeal.Skeleton
public import proofs.«01_k».proof.Proof.KI.Sched

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Rows of query block `b` in head `h`. -/
abbrev rows (h : ℕ) (b : Fin 8) : Fin 3 → ℕ := ![h, 512 * b.val, 0]
theorem rows_inb_0 (b : Fin 8) : ∀ a, rows 0 b a + S1x512x256.size a ≤ S2x4096x256.size a := by revert b; decide
theorem rows_inb_1 (b : Fin 8) : ∀ a, rows 1 b a + S1x512x256.size a ≤ S2x4096x256.size a := by revert b; decide

/-! ## A head's part of each block -/

abbrev w256_0 {e : EltTy} (x : S2x512x256.Idx → Elt F e) : S1x512x256.Idx → Elt F e := VecWindow.window x ![0, 0, 0] S1x512x256.size inb_S2x512x256_S1x512x256_0_0_0
abbrev w256_1 {e : EltTy} (x : S2x512x256.Idx → Elt F e) : S1x512x256.Idx → Elt F e := VecWindow.window x ![1, 0, 0] S1x512x256.size inb_S2x512x256_S1x512x256_1_0_0
abbrev w128_0 {e : EltTy} (x : S2x512x128.Idx → Elt F e) : S1x512x128.Idx → Elt F e := VecWindow.window x ![0, 0, 0] S1x512x128.size inb_S2x512x128_S1x512x128_0_0_0
abbrev w128_1 {e : EltTy} (x : S2x512x128.Idx → Elt F e) : S1x512x128.Idx → Elt F e := VecWindow.window x ![1, 0, 0] S1x512x128.size inb_S2x512x128_S1x512x128_1_0_0
abbrev w1_0 {e : EltTy} (x : S2x512x1.Idx → Elt F e) : S1x512x1.Idx → Elt F e := VecWindow.window x ![0, 0, 0] S1x512x1.size inb_S2x512x1_S1x512x1_0_0_0
abbrev w1_1 {e : EltTy} (x : S2x512x1.Idx → Elt F e) : S1x512x1.Idx → Elt F e := VecWindow.window x ![1, 0, 0] S1x512x1.size inb_S2x512x1_S1x512x1_1_0_0
abbrev wdo_0 {e : EltTy} (x : S512x256.Idx → Elt F e) : S512x128.Idx → Elt F e := VecWindow.window x ![0, 0] S512x128.size inb_S512x256_S512x128_0_0
abbrev wdo_1 {e : EltTy} (x : S512x256.Idx → Elt F e) : S512x128.Idx → Elt F e := VecWindow.window x ![0, 128] S512x128.size inb_S512x256_S512x128_0_128

/-- Two heads' parts make a block. -/
abbrev two256 (z : S2x512x256.Idx → Elt F .f32) (a b : S1x512x256.Idx → Elt F .f32) : S2x512x256.Idx → Elt F .f32 :=
  VecWindow.put (VecWindow.put z ![0, 0, 0] S1x512x256.size a) ![1, 0, 0] S1x512x256.size b
abbrev two128 (z : S2x512x128.Idx → Elt F .f32) (a b : S1x512x128.Idx → Elt F .f32) : S2x512x128.Idx → Elt F .f32 :=
  VecWindow.put (VecWindow.put z ![0, 0, 0] S1x512x128.size a) ![1, 0, 0] S1x512x128.size b

theorem two256_base (z z' : S2x512x256.Idx → Elt F .f32) (a b : S1x512x256.Idx → Elt F .f32) : two256 z a b = two256 z' a b := by
  funext y
  unfold two256 VecWindow.put
  split
  · rfl
  · rename_i h1
    split
    · rfl
    · rename_i h0
      exfalso
      have b0 : (y 0).val < 2 := (y 0).isLt
      have b1 : (y 1).val < 512 := (y 1).isLt
      have b2 : (y 2).val < 256 := (y 2).isLt
      by_cases hy : (y 0).val = 0
      · exact h0 (fun a => by fin_cases a <;> simp <;> omega)
      · exact h1 (fun a => by fin_cases a <;> simp <;> omega)

theorem two128_base (z z' : S2x512x128.Idx → Elt F .f32) (a b : S1x512x128.Idx → Elt F .f32) : two128 z a b = two128 z' a b := by
  funext y
  unfold two128 VecWindow.put
  split
  · rfl
  · rename_i h1
    split
    · rfl
    · rename_i h0
      exfalso
      have b0 : (y 0).val < 2 := (y 0).isLt
      have b1 : (y 1).val < 512 := (y 1).isLt
      have b2 : (y 2).val < 128 := (y 2).isLt
      by_cases hy : (y 0).val = 0
      · exact h0 (fun a => by fin_cases a <;> simp <;> omega)
      · exact h1 (fun a => by fin_cases a <;> simp <;> omega)

/-- Two heads' rows put into the gradient of the queries. -/
abbrev twoRows (z : S2x4096x256.Idx → Elt F .f32) (n : Fin 8) (a b : S1x512x256.Idx → Elt F .f32) : S2x4096x256.Idx → Elt F .f32 :=
  VecWindow.put (VecWindow.put z (rows 0 n) S1x512x256.size a) (rows 1 n) S1x512x256.size b
abbrev wrow_0 (z : S2x4096x256.Idx → Elt F .f32) (n : Fin 8) : S1x512x256.Idx → Elt F .f32 := VecWindow.window z (rows 0 n) S1x512x256.size (rows_inb_0 n)
abbrev wrow_1 (z : S2x4096x256.Idx → Elt F .f32) (n : Fin 8) : S1x512x256.Idx → Elt F .f32 := VecWindow.window z (rows 1 n) S1x512x256.size (rows_inb_1 n)

/-! ## What a step leaves: below the diagonal, then on it -/

section
variable (x0 x1 : S2x512x256.Idx → Elt F .bf16) (x2 : S2x512x128.Idx → Elt F .bf16) (x3 : S512x256.Idx → Elt F .bf16) (x4 x5 : S2x512x1.Idx → Elt F .f32)

def belowV (old : S2x512x128.Idx → Elt F .f32) : S2x512x128.Idx → Elt F .f32 :=
  two128 old (k0_pay11 (w256_0 x0) (w256_0 x1) (wdo_0 x3) (w1_0 x4) (w128_0 old)) (k0_pay18 (wdo_1 x3) (k0_pay16 (w256_1 x0) (w256_1 x1) (w1_1 x4)) (w128_1 old))

def belowK (old : S2x512x256.Idx → Elt F .f32) : S2x512x256.Idx → Elt F .f32 :=
  two256 old (k0_pay12 (k0_pay7 (w256_0 x0)) (k0_pay10 (w256_0 x0) (w256_0 x1) (wdo_0 x3) (w1_0 x4) (w128_0 x2) (w1_0 x5)) (w256_0 old))
    (k0_pay19 (k0_pay14 (w256_1 x0)) (wdo_1 x3) (k0_pay16 (w256_1 x0) (w256_1 x1) (w1_1 x4)) (w128_1 x2) (w1_1 x5) (w256_1 old))

def belowQ (n : Fin 8) (old : S2x4096x256.Idx → Elt F .f32) : S2x4096x256.Idx → Elt F .f32 :=
  twoRows old n (k0_pay13 (k0_pay8 (w256_0 x1)) (k0_pay10 (w256_0 x0) (w256_0 x1) (wdo_0 x3) (w1_0 x4) (w128_0 x2) (w1_0 x5)) (wrow_0 old n))
    (k0_pay2 (k0_pay20 (wrow_1 old n)) (k0_pay21 (k0_pay15 (w256_1 x1)) (wdo_1 x3) (k0_pay16 (w256_1 x0) (w256_1 x1) (w1_1 x4)) (w128_1 x2) (w1_1 x5)))

def diagV (old : S2x512x128.Idx → Elt F .f32) : S2x512x128.Idx → Elt F .f32 :=
  two128 old (k0_pay26 (w256_0 x0) (w256_0 x1) (wdo_0 x3) (w1_0 x4)) (k0_pay4 (wdo_1 x3) (k0_pay31 (w256_1 x0) (w256_1 x1) (w1_1 x4)))

def diagK (old : S2x512x256.Idx → Elt F .f32) : S2x512x256.Idx → Elt F .f32 :=
  two256 old (k0_pay27 (k0_pay22 (w256_0 x0)) (k0_pay25 (w256_0 x0) (w256_0 x1) (wdo_0 x3) (w1_0 x4) (w128_0 x2) (w1_0 x5)))
    (k0_pay5 (k0_pay29 (w256_1 x0)) (wdo_1 x3) (k0_pay31 (w256_1 x0) (w256_1 x1) (w1_1 x4)) (w128_1 x2) (w1_1 x5))

def diagQ (n : Fin 8) (old : S2x4096x256.Idx → Elt F .f32) : S2x4096x256.Idx → Elt F .f32 :=
  twoRows old n (k0_pay28 (k0_pay23 (w256_0 x1)) (k0_pay25 (w256_0 x0) (w256_0 x1) (wdo_0 x3) (w1_0 x4) (w128_0 x2) (w1_0 x5)) (wrow_0 old n))
    (k0_pay6 (k0_pay30 (w256_1 x1)) (wdo_1 x3) (k0_pay31 (w256_1 x0) (w256_1 x1) (w1_1 x4)) (w128_1 x2) (w1_1 x5) (wrow_1 old n))

end

def zero7 : S2x512x256.Idx → Elt F .f32 := fun _ => FloatOps.ofBits (F := F) .f32 0#32
def zero8 : S2x512x128.Idx → Elt F .f32 := fun _ => FloatOps.ofBits (F := F) .f32 0#32

theorem put_congr {α : Type} {s : Shape} {x x' : s.Idx → α} {off size : Fin s.rank → ℕ} {w w' : ((a : Fin s.rank) → Fin (size a)) → α} (hx : x = x') (hw : w = w') :
    VecWindow.put x off size w = VecWindow.put x' off size w' := by rw [hx, hw]

end Cert.KernelIdeal.Hand

end
-- ==== Proof.KI.StepA.lean ====
/- The first pair of a head group leaves the closed forms of the gradients of values and keys. -/
module

public import proofs.«01_k».proof.Proof.KI.RunA
public import proofs.«01_k».proof.Proof.KI.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
theorem runA_8 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (hc : k0_chk1 (wj T0 i) (wi T1 i)) (h1 : k0_cond1 i = 1#1) (h2 : ¬ k0_cond2 (wj T0 i) (wi T1 i) = 1#1) (h3 : k0_cond3 (wj T0 i) (wi T1 i) = 1#1) (f : arg12.view.ty.Contents (Elt F)) :
    arg12.view.read (Elt F) (arg12.view.writes (Elt F) f (runA c i arg4 harg4 arg5 harg5 arg6 harg6 arg7 harg7 arg8 harg8 arg9 harg9 arg10 harg10 arg11 harg11 arg12 harg12 T0 T1 x0 x1 x2 x3 x4 x5  hc h1 h2 h3).2.2.1) = diagV x0 x1 x3 x4 zero8 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  rw [diagV, two128_base _ (arg12.view.read (Elt F) f)]
  unfold two128
  simp only [w256_0, w256_1, w128_0, w128_1, w1_0, w1_1, wdo_0, wdo_1]
  rw [← e00, ← e01, ← e10, ← e11, ← e30, ← e31, ← e40, ← e41]
  exact (View.read_writes_cons_put arg12.view f _ _ _ rfl).trans (put_congr (View.read_writes_cons_put arg12.view f _ _ [] rfl) rfl)

set_option maxHeartbeats 1000000 in
theorem runA_7 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (hc : k0_chk1 (wj T0 i) (wi T1 i)) (h1 : k0_cond1 i = 1#1) (h2 : ¬ k0_cond2 (wj T0 i) (wi T1 i) = 1#1) (h3 : k0_cond3 (wj T0 i) (wi T1 i) = 1#1) (f : arg11.view.ty.Contents (Elt F)) :
    arg11.view.read (Elt F) (arg11.view.writes (Elt F) f (runA c i arg4 harg4 arg5 harg5 arg6 harg6 arg7 harg7 arg8 harg8 arg9 harg9 arg10 harg10 arg11 harg11 arg12 harg12 T0 T1 x0 x1 x2 x3 x4 x5  hc h1 h2 h3).2.1) = diagK x0 x1 x2 x3 x4 x5 zero7 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e20 := View.readAt_rep_unit (Val := Elt F) arg6.view x2 (off := ![0, 0, 0]) (size := S1x512x128.size) inb_S2x512x128_S1x512x128_0_0_0 rfl inb_S2x512x128_S1x512x128_0_0_0
  have e21 := View.readAt_rep_unit (Val := Elt F) arg6.view x2 (off := ![1, 0, 0]) (size := S1x512x128.size) inb_S2x512x128_S1x512x128_1_0_0 rfl inb_S2x512x128_S1x512x128_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have e50 := View.readAt_rep_unit (Val := Elt F) arg9.view x5 (off := ![0, 0, 0]) (size := S1x512x1.size) inb_S2x512x1_S1x512x1_0_0_0 rfl inb_S2x512x1_S1x512x1_0_0_0
  have e51 := View.readAt_rep_unit (Val := Elt F) arg9.view x5 (off := ![1, 0, 0]) (size := S1x512x1.size) inb_S2x512x1_S1x512x1_1_0_0 rfl inb_S2x512x1_S1x512x1_1_0_0
  rw [diagK, two256_base _ (arg11.view.read (Elt F) f)]
  unfold two256
  simp only [w256_0, w256_1, w128_0, w128_1, w1_0, w1_1, wdo_0, wdo_1]
  rw [← e00, ← e01, ← e10, ← e11, ← e20, ← e21, ← e30, ← e31, ← e40, ← e41, ← e50, ← e51]
  exact (View.read_writes_cons_put arg11.view f _ _ _ rfl).trans (put_congr (View.read_writes_cons_put arg11.view f _ _ [] rfl) rfl)

end Cert.KernelIdeal.Hand

end
-- ==== Proof.KI.RunB.lean ====
/- The body run at a pair below the diagonal. -/
module

public import proofs.«01_k».proof.Proof.Gen.KernelIdeal.Skeleton
public import proofs.«01_k».proof.Proof.KI.Sched

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
noncomputable def runB (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (xo7 : S2x512x256.Idx → Elt F .f32) (xo8 : S2x512x128.Idx → Elt F .f32) (hc : k0_chk1 (wj T0 i) (wi T1 i)) (h1 : ¬ k0_cond1 i = 1#1) (h2 : k0_cond2 (wj T0 i) (wi T1 i) = 1#1) (h3 : ¬ k0_cond3 (wj T0 i) (wi T1 i) = 1#1) :
    Σ' (out6 : List (View.Piece (Elt F) S2x4096x256 .f32)) (out7 : List (View.Piece (Elt F) S2x512x256 .f32)), { out8 : List (View.Piece (Elt F) S2x512x128 .f32) //
      ∀ (K : PUnit → sProp 𝕄),
        iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (tbM0_0.view.loc (c : Thread nD τ) ↦{fullShare.right} T0) ∗ (tbM0_1.view.loc (c : Thread nD τ) ↦{fullShare.right} T1) ∗ (arg10.view.loc (c : Thread nD τ) ↦[arg10.view.set]{fullShare} arg10.view.rep xo6) ∗ (arg11.view.loc (c : Thread nD τ) ↦[arg11.view.set]{fullShare} arg11.view.rep xo7) ∗ (arg12.view.loc (c : Thread nD τ) ↦[arg12.view.set]{fullShare} arg12.view.rep xo8) ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (tbM0_0.view.loc (c : Thread nD τ) ↦{fullShare.right} T0) ∗ (tbM0_1.view.loc (c : Thread nD τ) ↦{fullShare.right} T1) ∗ (arg10.view.loc (c : Thread nD τ) ↦[arg10.view.set]{fullShare} arg10.view.writes (Elt F) (arg10.view.rep xo6) out6) ∗ (∃ f, arg11.view.loc (c : Thread nD τ) ↦[arg11.view.set]{fullShare} arg11.view.writes (Elt F) f out7) ∗ (∃ f, arg12.view.loc (c : Thread nD τ) ↦[arg12.view.set]{fullShare} arg12.view.writes (Elt F) f out8)) -∗ K ⟨⟩))
          ⊢ wp frame (wpE (defs₀ (F := F)) Variants.none c none) Set.univ (cc0_attn_bwd i tbM0_0 (Memref.isWhole_whole _) tbM0_1 (Memref.isWhole_whole _) arg4 harg4 arg5 harg5 arg6 harg6 arg7 harg7 arg8 harg8 arg9 harg9 arg10 harg10 arg11 harg11 arg12 harg12) K } :=
  ⟨_, _, _, fun K => by
    rw [cc0_attn_bwd_eq_skeleton]; unfold cc0_attn_bwd_skel
    iintro ⟨H0, H1, H2, H3, H4, H5, HT0, HT1, HO6, HO7, HO8, Hk⟩
    have hT0 : tbM0_0.IsWhole := Memref.isWhole_whole _
    have hT1 : tbM0_1.IsWhole := Memref.isWhole_whole _
    sl_exec! (disch := first | (guard_target = ¬(k0_cond1 _ = _); exact h1) | (guard_target = k0_cond2 _ _ = _; exact h2) | (guard_target = ¬(k0_cond3 _ _ = _); exact h3) | (guard_target = k0_chk1 _ _; exact hc))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexists _; iexact HO7
    iexists _; iexact HO8⟩

end Cert.KernelIdeal.Hand

end
-- ==== Proof.KI.StepB.lean ====
/- A pair below the diagonal leaves the closed forms of the gradients of values and keys. -/
module

public import proofs.«01_k».proof.Proof.KI.RunB
public import proofs.«01_k».proof.Proof.KI.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
theorem runB_8 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (xo7 : S2x512x256.Idx → Elt F .f32) (xo8 : S2x512x128.Idx → Elt F .f32) (hc : k0_chk1 (wj T0 i) (wi T1 i)) (h1 : ¬ k0_cond1 i = 1#1) (h2 : k0_cond2 (wj T0 i) (wi T1 i) = 1#1) (h3 : ¬ k0_cond3 (wj T0 i) (wi T1 i) = 1#1) (f : arg12.view.ty.Contents (Elt F)) :
    arg12.view.read (Elt F) (arg12.view.writes (Elt F) f (runB c i arg4 harg4 arg5 harg5 arg6 harg6 arg7 harg7 arg8 harg8 arg9 harg9 arg10 harg10 arg11 harg11 arg12 harg12 T0 T1 x0 x1 x2 x3 x4 x5 xo6 xo7 xo8 hc h1 h2 h3).2.2.1) = belowV x0 x1 x3 x4 xo8 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have f0 := View.readAt_rep_unit (Val := Elt F) arg12.view xo8 (off := ![0, 0, 0]) (size := S1x512x128.size) inb_S2x512x128_S1x512x128_0_0_0 rfl inb_S2x512x128_S1x512x128_0_0_0
  have f1 := View.readAt_rep_unit (Val := Elt F) arg12.view xo8 (off := ![1, 0, 0]) (size := S1x512x128.size) inb_S2x512x128_S1x512x128_1_0_0 rfl inb_S2x512x128_S1x512x128_1_0_0
  rw [belowV, two128_base _ (arg12.view.read (Elt F) f)]
  unfold two128
  simp only [w256_0, w256_1, w128_0, w128_1, w1_0, w1_1, wdo_0, wdo_1]
  rw [← e00, ← e01, ← e10, ← e11, ← e30, ← e31, ← e40, ← e41, ← f0, ← f1]
  exact (View.read_writes_cons_put arg12.view f _ _ _ rfl).trans (put_congr (View.read_writes_cons_put arg12.view f _ _ [] rfl) rfl)

set_option maxHeartbeats 1000000 in
theorem runB_7 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (xo7 : S2x512x256.Idx → Elt F .f32) (xo8 : S2x512x128.Idx → Elt F .f32) (hc : k0_chk1 (wj T0 i) (wi T1 i)) (h1 : ¬ k0_cond1 i = 1#1) (h2 : k0_cond2 (wj T0 i) (wi T1 i) = 1#1) (h3 : ¬ k0_cond3 (wj T0 i) (wi T1 i) = 1#1) (f : arg11.view.ty.Contents (Elt F)) :
    arg11.view.read (Elt F) (arg11.view.writes (Elt F) f (runB c i arg4 harg4 arg5 harg5 arg6 harg6 arg7 harg7 arg8 harg8 arg9 harg9 arg10 harg10 arg11 harg11 arg12 harg12 T0 T1 x0 x1 x2 x3 x4 x5 xo6 xo7 xo8 hc h1 h2 h3).2.1) = belowK x0 x1 x2 x3 x4 x5 xo7 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e20 := View.readAt_rep_unit (Val := Elt F) arg6.view x2 (off := ![0, 0, 0]) (size := S1x512x128.size) inb_S2x512x128_S1x512x128_0_0_0 rfl inb_S2x512x128_S1x512x128_0_0_0
  have e21 := View.readAt_rep_unit (Val := Elt F) arg6.view x2 (off := ![1, 0, 0]) (size := S1x512x128.size) inb_S2x512x128_S1x512x128_1_0_0 rfl inb_S2x512x128_S1x512x128_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have e50 := View.readAt_rep_unit (Val := Elt F) arg9.view x5 (off := ![0, 0, 0]) (size := S1x512x1.size) inb_S2x512x1_S1x512x1_0_0_0 rfl inb_S2x512x1_S1x512x1_0_0_0
  have e51 := View.readAt_rep_unit (Val := Elt F) arg9.view x5 (off := ![1, 0, 0]) (size := S1x512x1.size) inb_S2x512x1_S1x512x1_1_0_0 rfl inb_S2x512x1_S1x512x1_1_0_0
  have f0 := View.readAt_rep_unit (Val := Elt F) arg11.view xo7 (off := ![0, 0, 0]) (size := S1x512x256.size) inb_S2x512x256_S1x512x256_0_0_0 rfl inb_S2x512x256_S1x512x256_0_0_0
  have f1 := View.readAt_rep_unit (Val := Elt F) arg11.view xo7 (off := ![1, 0, 0]) (size := S1x512x256.size) inb_S2x512x256_S1x512x256_1_0_0 rfl inb_S2x512x256_S1x512x256_1_0_0
  rw [belowK, two256_base _ (arg11.view.read (Elt F) f)]
  unfold two256
  simp only [w256_0, w256_1, w128_0, w128_1, w1_0, w1_1, wdo_0, wdo_1]
  rw [← e00, ← e01, ← e10, ← e11, ← e20, ← e21, ← e30, ← e31, ← e40, ← e41, ← e50, ← e51, ← f0, ← f1]
  exact (View.read_writes_cons_put arg11.view f _ _ _ rfl).trans (put_congr (View.read_writes_cons_put arg11.view f _ _ [] rfl) rfl)

end Cert.KernelIdeal.Hand

end
-- ==== Proof.KI.RunC.lean ====
/- The body run at a later pair on the diagonal. -/
module

public import proofs.«01_k».proof.Proof.Gen.KernelIdeal.Skeleton
public import proofs.«01_k».proof.Proof.KI.Sched

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
noncomputable def runC (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (hc : k0_chk1 (wj T0 i) (wi T1 i)) (h1 : ¬ k0_cond1 i = 1#1) (h2 : ¬ k0_cond2 (wj T0 i) (wi T1 i) = 1#1) (h3 : k0_cond3 (wj T0 i) (wi T1 i) = 1#1) :
    Σ' (out6 : List (View.Piece (Elt F) S2x4096x256 .f32)) (out7 : List (View.Piece (Elt F) S2x512x256 .f32)), { out8 : List (View.Piece (Elt F) S2x512x128 .f32) //
      ∀ (K : PUnit → sProp 𝕄),
        iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (tbM0_0.view.loc (c : Thread nD τ) ↦{fullShare.right} T0) ∗ (tbM0_1.view.loc (c : Thread nD τ) ↦{fullShare.right} T1) ∗ (arg10.view.loc (c : Thread nD τ) ↦[arg10.view.set]{fullShare} arg10.view.rep xo6) ∗ (∃ f, arg11.view.loc (c : Thread nD τ) ↦[arg11.view.set]{fullShare} f) ∗ (∃ f, arg12.view.loc (c : Thread nD τ) ↦[arg12.view.set]{fullShare} f) ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5) ∗ (tbM0_0.view.loc (c : Thread nD τ) ↦{fullShare.right} T0) ∗ (tbM0_1.view.loc (c : Thread nD τ) ↦{fullShare.right} T1) ∗ (arg10.view.loc (c : Thread nD τ) ↦[arg10.view.set]{fullShare} arg10.view.writes (Elt F) (arg10.view.rep xo6) out6) ∗ (∃ f, arg11.view.loc (c : Thread nD τ) ↦[arg11.view.set]{fullShare} arg11.view.writes (Elt F) f out7) ∗ (∃ f, arg12.view.loc (c : Thread nD τ) ↦[arg12.view.set]{fullShare} arg12.view.writes (Elt F) f out8)) -∗ K ⟨⟩))
          ⊢ wp frame (wpE (defs₀ (F := F)) Variants.none c none) Set.univ (cc0_attn_bwd i tbM0_0 (Memref.isWhole_whole _) tbM0_1 (Memref.isWhole_whole _) arg4 harg4 arg5 harg5 arg6 harg6 arg7 harg7 arg8 harg8 arg9 harg9 arg10 harg10 arg11 harg11 arg12 harg12) K } :=
  ⟨_, _, _, fun K => by
    rw [cc0_attn_bwd_eq_skeleton]; unfold cc0_attn_bwd_skel
    iintro ⟨H0, H1, H2, H3, H4, H5, HT0, HT1, HO6, ⟨%f7, HO7⟩, ⟨%f8, HO8⟩, Hk⟩
    have hT0 : tbM0_0.IsWhole := Memref.isWhole_whole _
    have hT1 : tbM0_1.IsWhole := Memref.isWhole_whole _
    sl_exec! (disch := first | (guard_target = ¬(k0_cond1 _ = _); exact h1) | (guard_target = ¬(k0_cond2 _ _ = _); exact h2) | (guard_target = k0_cond3 _ _ = _; exact h3) | (guard_target = k0_chk1 _ _; exact hc))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexists _; iexact HO7
    iexists _; iexact HO8⟩

end Cert.KernelIdeal.Hand

end
-- ==== Proof.KI.StepC.lean ====
/- A later pair on the diagonal leaves the closed forms of the gradients of values and keys. -/
module

public import proofs.«01_k».proof.Proof.KI.RunC
public import proofs.«01_k».proof.Proof.KI.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 1000000 in
theorem runC_8 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (hc : k0_chk1 (wj T0 i) (wi T1 i)) (h1 : ¬ k0_cond1 i = 1#1) (h2 : ¬ k0_cond2 (wj T0 i) (wi T1 i) = 1#1) (h3 : k0_cond3 (wj T0 i) (wi T1 i) = 1#1) (f : arg12.view.ty.Contents (Elt F)) :
    arg12.view.read (Elt F) (arg12.view.writes (Elt F) f (runC c i arg4 harg4 arg5 harg5 arg6 harg6 arg7 harg7 arg8 harg8 arg9 harg9 arg10 harg10 arg11 harg11 arg12 harg12 T0 T1 x0 x1 x2 x3 x4 x5 xo6 hc h1 h2 h3).2.2.1) = diagV x0 x1 x3 x4 zero8 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  rw [diagV, two128_base _ (arg12.view.read (Elt F) f)]
  unfold two128
  simp only [w256_0, w256_1, w128_0, w128_1, w1_0, w1_1, wdo_0, wdo_1]
  rw [← e00, ← e01, ← e10, ← e11, ← e30, ← e31, ← e40, ← e41]
  exact (View.read_writes_cons_put arg12.view f _ _ _ rfl).trans (put_congr (View.read_writes_cons_put arg12.view f _ _ [] rfl) rfl)

set_option maxHeartbeats 1000000 in
theorem runC_7 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (hc : k0_chk1 (wj T0 i) (wi T1 i)) (h1 : ¬ k0_cond1 i = 1#1) (h2 : ¬ k0_cond2 (wj T0 i) (wi T1 i) = 1#1) (h3 : k0_cond3 (wj T0 i) (wi T1 i) = 1#1) (f : arg11.view.ty.Contents (Elt F)) :
    arg11.view.read (Elt F) (arg11.view.writes (Elt F) f (runC c i arg4 harg4 arg5 harg5 arg6 harg6 arg7 harg7 arg8 harg8 arg9 harg9 arg10 harg10 arg11 harg11 arg12 harg12 T0 T1 x0 x1 x2 x3 x4 x5 xo6 hc h1 h2 h3).2.1) = diagK x0 x1 x2 x3 x4 x5 zero7 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e20 := View.readAt_rep_unit (Val := Elt F) arg6.view x2 (off := ![0, 0, 0]) (size := S1x512x128.size) inb_S2x512x128_S1x512x128_0_0_0 rfl inb_S2x512x128_S1x512x128_0_0_0
  have e21 := View.readAt_rep_unit (Val := Elt F) arg6.view x2 (off := ![1, 0, 0]) (size := S1x512x128.size) inb_S2x512x128_S1x512x128_1_0_0 rfl inb_S2x512x128_S1x512x128_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have e50 := View.readAt_rep_unit (Val := Elt F) arg9.view x5 (off := ![0, 0, 0]) (size := S1x512x1.size) inb_S2x512x1_S1x512x1_0_0_0 rfl inb_S2x512x1_S1x512x1_0_0_0
  have e51 := View.readAt_rep_unit (Val := Elt F) arg9.view x5 (off := ![1, 0, 0]) (size := S1x512x1.size) inb_S2x512x1_S1x512x1_1_0_0 rfl inb_S2x512x1_S1x512x1_1_0_0
  rw [diagK, two256_base _ (arg11.view.read (Elt F) f)]
  unfold two256
  simp only [w256_0, w256_1, w128_0, w128_1, w1_0, w1_1, wdo_0, wdo_1]
  rw [← e00, ← e01, ← e10, ← e11, ← e20, ← e21, ← e30, ← e31, ← e40, ← e41, ← e50, ← e51]
  exact (View.read_writes_cons_put arg11.view f _ _ _ rfl).trans (put_congr (View.read_writes_cons_put arg11.view f _ _ [] rfl) rfl)

end Cert.KernelIdeal.Hand

end
-- ==== Proof.KI.RowsA.lean ====
/- The first pair of a head group leaves the closed form of the gradient of the queries. -/
module

public import proofs.«01_k».proof.Proof.KI.RunA
public import proofs.«01_k».proof.Proof.KI.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem loadA_0 (i : grid0.Coords) (arg10 : Memref sig .tc .vmem S2x4096x256 .f32) (T0 T1 : S36.Idx → Elt F .i32) (hc : k0_chk1 (wj T0 i) (wi T1 i)) (h1 : k0_cond1 i = 1#1) (h2 : ¬ k0_cond2 (wj T0 i) (wi T1 i) = 1#1) (h3 : k0_cond3 (wj T0 i) (wi T1 i) = 1#1) (n : Fin 8) (ha : k0_off4 (wi T1 i) = rows 0 n) :
    arg10.view.readAt (Elt F) (Rect.unit (s := S2x4096x256) (k0_off4 (wi T1 i)) S1x512x256.size (k0_off4_inb (wj T0 i) (wi T1 i) hc h3)).toLoadRect (arg10.view.writes (Elt F) arg10.view.junk [⟨Rect.unit (s := S2x4096x256) ![0, 0, 0] S2x4096x256.size inb_S2x4096x256_S2x4096x256_0_0_0, k0_pay1 (F := F)⟩]) = wrow_0 (k0_pay1 (F := F)) n := by
  rw [View.readAt_unit _ _ _ ha (rows_inb_0 n)]
  unfold wrow_0
  congr 1
  exact (View.read_writes_full arg10.view arg10.view.junk _ _ [])

theorem loadA_1 (i : grid0.Coords) (arg10 : Memref sig .tc .vmem S2x4096x256 .f32) (T0 T1 : S36.Idx → Elt F .i32) (hc : k0_chk1 (wj T0 i) (wi T1 i)) (h1 : k0_cond1 i = 1#1) (h2 : ¬ k0_cond2 (wj T0 i) (wi T1 i) = 1#1) (h3 : k0_cond3 (wj T0 i) (wi T1 i) = 1#1) (n : Fin 8) (ha : k0_off4 (wi T1 i) = rows 0 n) (hb : k0_off5 (wi T1 i) = rows 1 n) (W : S1x512x256.Idx → Elt F .f32) :
    arg10.view.readAt (Elt F) (Rect.unit (s := S2x4096x256) (k0_off5 (wi T1 i)) S1x512x256.size (k0_off5_inb (wj T0 i) (wi T1 i) hc h3)).toLoadRect (arg10.view.writes (Elt F) arg10.view.junk (⟨Rect.unit (s := S2x4096x256) (k0_off4 (wi T1 i)) S1x512x256.size (k0_off4_inb (wj T0 i) (wi T1 i) hc h3), W⟩ :: [⟨Rect.unit (s := S2x4096x256) ![0, 0, 0] S2x4096x256.size inb_S2x4096x256_S2x4096x256_0_0_0, k0_pay1 (F := F)⟩])) = wrow_1 (k0_pay1 (F := F)) n := by
  rw [View.readAt_unit _ _ _ hb (rows_inb_1 n), View.read_writes_cons_put _ _ _ _ _ ha, VecWindow.window_put_of_disjoint _ _ _ _ _ _ _ 0 (Or.inr (Nat.le_refl 1))]
  unfold wrow_1
  congr 1
  exact (View.read_writes_full arg10.view arg10.view.junk _ _ [])

set_option maxHeartbeats 1000000 in
theorem runA_6 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (hc : k0_chk1 (wj T0 i) (wi T1 i)) (h1 : k0_cond1 i = 1#1) (h2 : ¬ k0_cond2 (wj T0 i) (wi T1 i) = 1#1) (h3 : k0_cond3 (wj T0 i) (wi T1 i) = 1#1) (n : Fin 8) (ha : k0_off4 (wi T1 i) = rows 0 n) (hb : k0_off5 (wi T1 i) = rows 1 n) (f : arg10.view.ty.Contents (Elt F)) :
    arg10.view.read (Elt F) (arg10.view.writes (Elt F) f (runA c i arg4 harg4 arg5 harg5 arg6 harg6 arg7 harg7 arg8 harg8 arg9 harg9 arg10 harg10 arg11 harg11 arg12 harg12 T0 T1 x0 x1 x2 x3 x4 x5  hc h1 h2 h3).1) = diagQ x0 x1 x2 x3 x4 x5 n (k0_pay1 (F := F)) := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e20 := View.readAt_rep_unit (Val := Elt F) arg6.view x2 (off := ![0, 0, 0]) (size := S1x512x128.size) inb_S2x512x128_S1x512x128_0_0_0 rfl inb_S2x512x128_S1x512x128_0_0_0
  have e21 := View.readAt_rep_unit (Val := Elt F) arg6.view x2 (off := ![1, 0, 0]) (size := S1x512x128.size) inb_S2x512x128_S1x512x128_1_0_0 rfl inb_S2x512x128_S1x512x128_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have e50 := View.readAt_rep_unit (Val := Elt F) arg9.view x5 (off := ![0, 0, 0]) (size := S1x512x1.size) inb_S2x512x1_S1x512x1_0_0_0 rfl inb_S2x512x1_S1x512x1_0_0_0
  have e51 := View.readAt_rep_unit (Val := Elt F) arg9.view x5 (off := ![1, 0, 0]) (size := S1x512x1.size) inb_S2x512x1_S1x512x1_1_0_0 rfl inb_S2x512x1_S1x512x1_1_0_0
  have g0 := loadA_0 i arg10 T0 T1 hc h1 h2 h3 n ha
  have g1 := loadA_1 i arg10 T0 T1 hc h1 h2 h3 n ha hb
  rw [diagQ]
  unfold twoRows
  simp only [w256_0, w256_1, w128_0, w128_1, w1_0, w1_1, wdo_0, wdo_1]
  rw [← e00, ← e01, ← e10, ← e11, ← e20, ← e21, ← e30, ← e31, ← e40, ← e41, ← e50, ← e51, ← g0]
  refine (View.read_writes_cons_put arg10.view f _ _ _ hb).trans (put_congr ((View.read_writes_cons_put arg10.view f _ _ [⟨Rect.unit (s := S2x4096x256) ![0, 0, 0] S2x4096x256.size inb_S2x4096x256_S2x4096x256_0_0_0, k0_pay1 (F := F)⟩] ha).trans (put_congr ((View.read_writes_full arg10.view f _ _ [])) rfl)) ?_)
  exact congrArg (fun z => k0_pay6 (k0_pay30 _) _ (k0_pay31 _ _ _) _ _ z) (g1 _)

end Cert.KernelIdeal.Hand

end
-- ==== Proof.KI.RowsB.lean ====
/- A pair below the diagonal leaves the closed form of the gradient of the queries. -/
module

public import proofs.«01_k».proof.Proof.KI.RunB
public import proofs.«01_k».proof.Proof.KI.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem loadB_0 (i : grid0.Coords) (arg10 : Memref sig .tc .vmem S2x4096x256 .f32) (T0 T1 : S36.Idx → Elt F .i32) (hc : k0_chk1 (wj T0 i) (wi T1 i)) (h1 : ¬ k0_cond1 i = 1#1) (h2 : k0_cond2 (wj T0 i) (wi T1 i) = 1#1) (h3 : ¬ k0_cond3 (wj T0 i) (wi T1 i) = 1#1) (xo6 : S2x4096x256.Idx → Elt F .f32) (n : Fin 8) (ha : k0_off2 (wi T1 i) = rows 0 n) :
    arg10.view.readAt (Elt F) (Rect.unit (s := S2x4096x256) (k0_off2 (wi T1 i)) S1x512x256.size (k0_off2_inb (wj T0 i) (wi T1 i) hc h2)).toLoadRect (arg10.view.rep xo6) = wrow_0 xo6 n := by
  rw [View.readAt_unit _ _ _ ha (rows_inb_0 n)]
  unfold wrow_0
  congr 1
  exact View.read_rep arg10.view xo6

theorem loadB_1 (i : grid0.Coords) (arg10 : Memref sig .tc .vmem S2x4096x256 .f32) (T0 T1 : S36.Idx → Elt F .i32) (hc : k0_chk1 (wj T0 i) (wi T1 i)) (h1 : ¬ k0_cond1 i = 1#1) (h2 : k0_cond2 (wj T0 i) (wi T1 i) = 1#1) (h3 : ¬ k0_cond3 (wj T0 i) (wi T1 i) = 1#1) (xo6 : S2x4096x256.Idx → Elt F .f32) (n : Fin 8) (ha : k0_off2 (wi T1 i) = rows 0 n) (hb : k0_off3 (wi T1 i) = rows 1 n) (W : S1x512x256.Idx → Elt F .f32) :
    arg10.view.readAt (Elt F) (Rect.unit (s := S2x4096x256) (k0_off3 (wi T1 i)) S1x512x256.size (k0_off3_inb (wj T0 i) (wi T1 i) hc h2)).toLoadRect (arg10.view.writes (Elt F) (arg10.view.rep xo6) (⟨Rect.unit (s := S2x4096x256) (k0_off2 (wi T1 i)) S1x512x256.size (k0_off2_inb (wj T0 i) (wi T1 i) hc h2), W⟩ :: [])) = wrow_1 xo6 n := by
  rw [View.readAt_unit _ _ _ hb (rows_inb_1 n), View.read_writes_cons_put _ _ _ _ _ ha, VecWindow.window_put_of_disjoint _ _ _ _ _ _ _ 0 (Or.inr (Nat.le_refl 1))]
  unfold wrow_1
  congr 1
  exact (by rw [View.writes_nil, View.read_rep])

set_option maxHeartbeats 1000000 in
theorem runB_6 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (xo7 : S2x512x256.Idx → Elt F .f32) (xo8 : S2x512x128.Idx → Elt F .f32) (hc : k0_chk1 (wj T0 i) (wi T1 i)) (h1 : ¬ k0_cond1 i = 1#1) (h2 : k0_cond2 (wj T0 i) (wi T1 i) = 1#1) (h3 : ¬ k0_cond3 (wj T0 i) (wi T1 i) = 1#1) (n : Fin 8) (ha : k0_off2 (wi T1 i) = rows 0 n) (hb : k0_off3 (wi T1 i) = rows 1 n) :
    arg10.view.read (Elt F) (arg10.view.writes (Elt F) (arg10.view.rep xo6) (runB c i arg4 harg4 arg5 harg5 arg6 harg6 arg7 harg7 arg8 harg8 arg9 harg9 arg10 harg10 arg11 harg11 arg12 harg12 T0 T1 x0 x1 x2 x3 x4 x5 xo6 xo7 xo8 hc h1 h2 h3).1) = belowQ x0 x1 x2 x3 x4 x5 n xo6 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e20 := View.readAt_rep_unit (Val := Elt F) arg6.view x2 (off := ![0, 0, 0]) (size := S1x512x128.size) inb_S2x512x128_S1x512x128_0_0_0 rfl inb_S2x512x128_S1x512x128_0_0_0
  have e21 := View.readAt_rep_unit (Val := Elt F) arg6.view x2 (off := ![1, 0, 0]) (size := S1x512x128.size) inb_S2x512x128_S1x512x128_1_0_0 rfl inb_S2x512x128_S1x512x128_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have e50 := View.readAt_rep_unit (Val := Elt F) arg9.view x5 (off := ![0, 0, 0]) (size := S1x512x1.size) inb_S2x512x1_S1x512x1_0_0_0 rfl inb_S2x512x1_S1x512x1_0_0_0
  have e51 := View.readAt_rep_unit (Val := Elt F) arg9.view x5 (off := ![1, 0, 0]) (size := S1x512x1.size) inb_S2x512x1_S1x512x1_1_0_0 rfl inb_S2x512x1_S1x512x1_1_0_0
  have g0 := loadB_0 i arg10 T0 T1 hc h1 h2 h3 xo6 n ha
  have g1 := loadB_1 i arg10 T0 T1 hc h1 h2 h3 xo6 n ha hb
  rw [belowQ]
  unfold twoRows
  simp only [w256_0, w256_1, w128_0, w128_1, w1_0, w1_1, wdo_0, wdo_1]
  rw [← e00, ← e01, ← e10, ← e11, ← e20, ← e21, ← e30, ← e31, ← e40, ← e41, ← e50, ← e51, ← g0]
  refine (View.read_writes_cons_put arg10.view (arg10.view.rep xo6) _ _ _ hb).trans (put_congr ((View.read_writes_cons_put arg10.view (arg10.view.rep xo6) _ _ [] ha).trans (put_congr ((by rw [View.writes_nil, View.read_rep])) rfl)) ?_)
  exact congrArg (fun z => k0_pay2 (k0_pay20 z) (k0_pay21 (k0_pay15 _) _ (k0_pay16 _ _ _) _ _)) (g1 _)

end Cert.KernelIdeal.Hand

end
-- ==== Proof.KI.RowsC.lean ====
/- A later pair on the diagonal leaves the closed form of the gradient of the queries. -/
module

public import proofs.«01_k».proof.Proof.KI.RunC
public import proofs.«01_k».proof.Proof.KI.Step

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem loadC_0 (i : grid0.Coords) (arg10 : Memref sig .tc .vmem S2x4096x256 .f32) (T0 T1 : S36.Idx → Elt F .i32) (hc : k0_chk1 (wj T0 i) (wi T1 i)) (h1 : ¬ k0_cond1 i = 1#1) (h2 : ¬ k0_cond2 (wj T0 i) (wi T1 i) = 1#1) (h3 : k0_cond3 (wj T0 i) (wi T1 i) = 1#1) (xo6 : S2x4096x256.Idx → Elt F .f32) (n : Fin 8) (ha : k0_off4 (wi T1 i) = rows 0 n) :
    arg10.view.readAt (Elt F) (Rect.unit (s := S2x4096x256) (k0_off4 (wi T1 i)) S1x512x256.size (k0_off4_inb (wj T0 i) (wi T1 i) hc h3)).toLoadRect (arg10.view.rep xo6) = wrow_0 xo6 n := by
  rw [View.readAt_unit _ _ _ ha (rows_inb_0 n)]
  unfold wrow_0
  congr 1
  exact View.read_rep arg10.view xo6

theorem loadC_1 (i : grid0.Coords) (arg10 : Memref sig .tc .vmem S2x4096x256 .f32) (T0 T1 : S36.Idx → Elt F .i32) (hc : k0_chk1 (wj T0 i) (wi T1 i)) (h1 : ¬ k0_cond1 i = 1#1) (h2 : ¬ k0_cond2 (wj T0 i) (wi T1 i) = 1#1) (h3 : k0_cond3 (wj T0 i) (wi T1 i) = 1#1) (xo6 : S2x4096x256.Idx → Elt F .f32) (n : Fin 8) (ha : k0_off4 (wi T1 i) = rows 0 n) (hb : k0_off5 (wi T1 i) = rows 1 n) (W : S1x512x256.Idx → Elt F .f32) :
    arg10.view.readAt (Elt F) (Rect.unit (s := S2x4096x256) (k0_off5 (wi T1 i)) S1x512x256.size (k0_off5_inb (wj T0 i) (wi T1 i) hc h3)).toLoadRect (arg10.view.writes (Elt F) (arg10.view.rep xo6) (⟨Rect.unit (s := S2x4096x256) (k0_off4 (wi T1 i)) S1x512x256.size (k0_off4_inb (wj T0 i) (wi T1 i) hc h3), W⟩ :: [])) = wrow_1 xo6 n := by
  rw [View.readAt_unit _ _ _ hb (rows_inb_1 n), View.read_writes_cons_put _ _ _ _ _ ha, VecWindow.window_put_of_disjoint _ _ _ _ _ _ _ 0 (Or.inr (Nat.le_refl 1))]
  unfold wrow_1
  congr 1
  exact (by rw [View.writes_nil, View.read_rep])

set_option maxHeartbeats 1000000 in
theorem runC_6 (c : Dev nD) (i : grid0.Coords) (arg4 : Memref sig .tc .vmem S2x512x256 .bf16) (harg4 : arg4.IsWhole) (arg5 : Memref sig .tc .vmem S2x512x256 .bf16) (harg5 : arg5.IsWhole) (arg6 : Memref sig .tc .vmem S2x512x128 .bf16) (harg6 : arg6.IsWhole) (arg7 : Memref sig .tc .vmem S512x256 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x4096x256 .f32) (harg10 : arg10.IsWhole) (arg11 : Memref sig .tc .vmem S2x512x256 .f32) (harg11 : arg11.IsWhole) (arg12 : Memref sig .tc .vmem S2x512x128 .f32) (harg12 : arg12.IsWhole) (T0 T1 : S36.Idx → Elt F .i32) (x0 : S2x512x256.Idx → Elt F .bf16) (x1 : S2x512x256.Idx → Elt F .bf16) (x2 : S2x512x128.Idx → Elt F .bf16) (x3 : S512x256.Idx → Elt F .bf16) (x4 : S2x512x1.Idx → Elt F .f32) (x5 : S2x512x1.Idx → Elt F .f32) (xo6 : S2x4096x256.Idx → Elt F .f32) (hc : k0_chk1 (wj T0 i) (wi T1 i)) (h1 : ¬ k0_cond1 i = 1#1) (h2 : ¬ k0_cond2 (wj T0 i) (wi T1 i) = 1#1) (h3 : k0_cond3 (wj T0 i) (wi T1 i) = 1#1) (n : Fin 8) (ha : k0_off4 (wi T1 i) = rows 0 n) (hb : k0_off5 (wi T1 i) = rows 1 n) :
    arg10.view.read (Elt F) (arg10.view.writes (Elt F) (arg10.view.rep xo6) (runC c i arg4 harg4 arg5 harg5 arg6 harg6 arg7 harg7 arg8 harg8 arg9 harg9 arg10 harg10 arg11 harg11 arg12 harg12 T0 T1 x0 x1 x2 x3 x4 x5 xo6 hc h1 h2 h3).1) = diagQ x0 x1 x2 x3 x4 x5 n xo6 := by
  have e00 := View.readAt_rep_unit (Val := Elt F) arg4.view x0 (off := ![0, 0, 0]) (size := S1x512x256.size) inb_S2x512x256_S1x512x256_0_0_0 rfl inb_S2x512x256_S1x512x256_0_0_0
  have e01 := View.readAt_rep_unit (Val := Elt F) arg4.view x0 (off := ![1, 0, 0]) (size := S1x512x256.size) inb_S2x512x256_S1x512x256_1_0_0 rfl inb_S2x512x256_S1x512x256_1_0_0
  have e10 := View.readAt_rep_unit (Val := Elt F) arg5.view x1 (off := ![0, 0, 0]) (size := S1x512x256.size) inb_S2x512x256_S1x512x256_0_0_0 rfl inb_S2x512x256_S1x512x256_0_0_0
  have e11 := View.readAt_rep_unit (Val := Elt F) arg5.view x1 (off := ![1, 0, 0]) (size := S1x512x256.size) inb_S2x512x256_S1x512x256_1_0_0 rfl inb_S2x512x256_S1x512x256_1_0_0
  have e20 := View.readAt_rep_unit (Val := Elt F) arg6.view x2 (off := ![0, 0, 0]) (size := S1x512x128.size) inb_S2x512x128_S1x512x128_0_0_0 rfl inb_S2x512x128_S1x512x128_0_0_0
  have e21 := View.readAt_rep_unit (Val := Elt F) arg6.view x2 (off := ![1, 0, 0]) (size := S1x512x128.size) inb_S2x512x128_S1x512x128_1_0_0 rfl inb_S2x512x128_S1x512x128_1_0_0
  have e30 := View.readAt_rep_unit (Val := Elt F) arg7.view x3 (off := ![0, 0]) (size := S512x128.size) inb_S512x256_S512x128_0_0 rfl inb_S512x256_S512x128_0_0
  have e31 := View.readAt_rep_unit (Val := Elt F) arg7.view x3 (off := ![0, 128]) (size := S512x128.size) inb_S512x256_S512x128_0_128 rfl inb_S512x256_S512x128_0_128
  have e40 := View.readAt_rep_unit (Val := Elt F) arg8.view x4 (off := ![0, 0, 0]) (size := S1x512x1.size) inb_S2x512x1_S1x512x1_0_0_0 rfl inb_S2x512x1_S1x512x1_0_0_0
  have e41 := View.readAt_rep_unit (Val := Elt F) arg8.view x4 (off := ![1, 0, 0]) (size := S1x512x1.size) inb_S2x512x1_S1x512x1_1_0_0 rfl inb_S2x512x1_S1x512x1_1_0_0
  have e50 := View.readAt_rep_unit (Val := Elt F) arg9.view x5 (off := ![0, 0, 0]) (size := S1x512x1.size) inb_S2x512x1_S1x512x1_0_0_0 rfl inb_S2x512x1_S1x512x1_0_0_0
  have e51 := View.readAt_rep_unit (Val := Elt F) arg9.view x5 (off := ![1, 0, 0]) (size := S1x512x1.size) inb_S2x512x1_S1x512x1_1_0_0 rfl inb_S2x512x1_S1x512x1_1_0_0
  have g0 := loadC_0 i arg10 T0 T1 hc h1 h2 h3 xo6 n ha
  have g1 := loadC_1 i arg10 T0 T1 hc h1 h2 h3 xo6 n ha hb
  rw [diagQ]
  unfold twoRows
  simp only [w256_0, w256_1, w128_0, w128_1, w1_0, w1_1, wdo_0, wdo_1]
  rw [← e00, ← e01, ← e10, ← e11, ← e20, ← e21, ← e30, ← e31, ← e40, ← e41, ← e50, ← e51, ← g0]
  refine (View.read_writes_cons_put arg10.view (arg10.view.rep xo6) _ _ _ hb).trans (put_congr ((View.read_writes_cons_put arg10.view (arg10.view.rep xo6) _ _ [] ha).trans (put_congr ((by rw [View.writes_nil, View.read_rep])) rfl)) ?_)
  exact congrArg (fun z => k0_pay6 (k0_pay30 _) _ (k0_pay31 _ _ _) _ _ z) (g1 _)

end Cert.KernelIdeal.Hand

end
-- ==== Proof.KI.Frame.lean ====
/- The run of the whole program: the host operations, then the pipeline over the pairs of blocks. -/
module

public import proofs.«01_k».proof.Proof.KI.Facts
public import proofs.«01_k».proof.Proof.KI.StepA
public import proofs.«01_k».proof.Proof.KI.StepB
public import proofs.«01_k».proof.Proof.KI.StepC
public import proofs.«01_k».proof.Proof.KI.RowsA
public import proofs.«01_k».proof.Proof.KI.RowsB
public import proofs.«01_k».proof.Proof.KI.RowsC
public import proofs.«01_k».proof.Proof.Gen.KernelIdeal.Launch
public import proofs.«01_k».proof.Proof.Gen.KernelIdeal.Skeleton
public import Idealize.ShloMosaic.Lib.Pipeline.Frame

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem some_of_owns {sp : Space} {b : Shape} {e : EltTy} (c : Dev nD) (M : Memref sig .tc sp b e) (x : b.Idx → Elt F e) :
    owns (c : Thread nD τ) M fullShare x ⊢ (iprop(∃ f, M.view.loc (c : Thread nD τ) ↦[M.view.set]{fullShare} f) : sProp 𝕄) := by
  unfold owns
  iintro ⟨%f, -, H⟩
  iexists f; iexact H

variable (m : (ℓ : Loc nD τ sig) → Buf (Elt F) ℓ)

/-- What the buffers hold where the pipeline is entered: the host operations' results over the launch contents `m`. -/
def entryV (c : Dev nD) (b : Ref sig .tc) : Buf (Elt F) ((c.tc : Thread nD τ).loc b) :=
  StableHlo.after ([hostOps0 (F := F), hostOps0_1, hostOps0_2].flatten) (fun b => m (c, b)) b

/-- Window `w`'s block at point `t`, of the array it is cut from. -/
def iblk (c : Dev nD) (w : Fin cfgA.W) (t : Fin cfgA.N) : ((cfgA.win w).xblock (crd t)).Idx → Elt F (cfgA.win w).elt :=
  ((cfgA.win w).blk t).view.read (Elt F) (entryV m c (cfgA.win w).arr.view.ref)

/-- The number of the block of queries at point `t`. -/
def qi (t : Fin cfgA.N) : Fin 8 := ⟨(wi (F := Ideal) pinT_1 (crd t)).toNat % 8, Nat.mod_lt _ (by decide)⟩

/-- The rows of the gradient of the queries the body adds to at point `t` are block `qi t`'s. -/
theorem rows_qi : ∀ t : Fin cfgA.N, k0_off2 (wi (F := Ideal) pinT_1 (crd t)) = rows 0 (qi t) ∧ k0_off3 (wi (F := Ideal) pinT_1 (crd t)) = rows 1 (qi t)
    ∧ k0_off4 (wi (F := Ideal) pinT_1 (crd t)) = rows 0 (qi t) ∧ k0_off5 (wi (F := Ideal) pinT_1 (crd t)) = rows 1 (qi t) := by decide +kernel

/-! ## What the three outputs' buffers hold after each point -/

/-- One point's step: the first pair of a head group begins all three; a pair below the diagonal adds to all three; a
    later pair on the diagonal adds to the gradient of the queries and begins the other two. -/
def step (c : Dev nD) (t : Fin cfgA.N) (prev : (S2x4096x256.Idx → Elt F .f32) × (S2x512x256.Idx → Elt F .f32) × (S2x512x128.Idx → Elt F .f32)) : (S2x4096x256.Idx → Elt F .f32) × (S2x512x256.Idx → Elt F .f32) × (S2x512x128.Idx → Elt F .f32) :=
  if P0 t then
    (diagQ (iblk m c (0 : Fin 9) t) (iblk m c (1 : Fin 9) t) (iblk m c (2 : Fin 9) t) (iblk m c (3 : Fin 9) t) (iblk m c (4 : Fin 9) t) (iblk m c (5 : Fin 9) t) (qi t) (k0_pay1 (F := F)), diagK (iblk m c (0 : Fin 9) t) (iblk m c (1 : Fin 9) t) (iblk m c (2 : Fin 9) t) (iblk m c (3 : Fin 9) t) (iblk m c (4 : Fin 9) t) (iblk m c (5 : Fin 9) t) zero7, diagV (iblk m c (0 : Fin 9) t) (iblk m c (1 : Fin 9) t) (iblk m c (3 : Fin 9) t) (iblk m c (4 : Fin 9) t) zero8)
  else if P1 t then
    (belowQ (iblk m c (0 : Fin 9) t) (iblk m c (1 : Fin 9) t) (iblk m c (2 : Fin 9) t) (iblk m c (3 : Fin 9) t) (iblk m c (4 : Fin 9) t) (iblk m c (5 : Fin 9) t) (qi t) prev.1, belowK (iblk m c (0 : Fin 9) t) (iblk m c (1 : Fin 9) t) (iblk m c (2 : Fin 9) t) (iblk m c (3 : Fin 9) t) (iblk m c (4 : Fin 9) t) (iblk m c (5 : Fin 9) t) prev.2.1, belowV (iblk m c (0 : Fin 9) t) (iblk m c (1 : Fin 9) t) (iblk m c (3 : Fin 9) t) (iblk m c (4 : Fin 9) t) prev.2.2)
  else
    (diagQ (iblk m c (0 : Fin 9) t) (iblk m c (1 : Fin 9) t) (iblk m c (2 : Fin 9) t) (iblk m c (3 : Fin 9) t) (iblk m c (4 : Fin 9) t) (iblk m c (5 : Fin 9) t) (qi t) prev.1, diagK (iblk m c (0 : Fin 9) t) (iblk m c (1 : Fin 9) t) (iblk m c (2 : Fin 9) t) (iblk m c (3 : Fin 9) t) (iblk m c (4 : Fin 9) t) (iblk m c (5 : Fin 9) t) zero7, diagV (iblk m c (0 : Fin 9) t) (iblk m c (1 : Fin 9) t) (iblk m c (3 : Fin 9) t) (iblk m c (4 : Fin 9) t) zero8)

/-- After the first `n + 1` points. -/
def traj (c : Dev nD) : (n : ℕ) → n < cfgA.N → (S2x4096x256.Idx → Elt F .f32) × (S2x512x256.Idx → Elt F .f32) × (S2x512x128.Idx → Elt F .f32)
  | 0, h => step m c ⟨0, h⟩ (k0_pay1 (F := F), zero7, zero8)
  | n + 1, h => step m c ⟨n + 1, h⟩ (traj c n (Nat.lt_of_succ_lt h))

/-- Before point `t` (anything before the first). -/
def prev (c : Dev nD) (t : Fin cfgA.N) : (S2x4096x256.Idx → Elt F .f32) × (S2x512x256.Idx → Elt F .f32) × (S2x512x128.Idx → Elt F .f32) :=
  if h : t.val = 0 then (k0_pay1 (F := F), zero7, zero8) else traj m c (t.val - 1) (by omega)

theorem traj_eq (c : Dev nD) (t : Fin cfgA.N) : traj m c t.val t.isLt = step m c t (prev m c t) := by
  obtain ⟨n, hn⟩ := t
  cases n with
  | zero => rfl
  | succ n => unfold prev; simp only [Nat.add_one_ne_zero, dif_neg, not_false_eq_true]; rfl

/-! ## The pipeline's proof data -/

def dats (_ : Fin 1) (c : Dev nD) : Dat τ (Elt F) Unit ℕ (UR sig nD τ) ℕ cfgA c where
  A w := entryV m c (cfgA.win w).arr.view.ref
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => (traj m c t.val t.isLt).1
    | ⟨7, _⟩ => (traj m c t.val t.isLt).2.1
    | ⟨8, _⟩ => (traj m c t.val t.isLt).2.2
  Φ _ := iprop(Pipeline.ΦA spec0 c ∗ Pipeline.ΦT pre0 (pfN) c)
  q _ := fullShare
  owed _ := 0

theorem after_0 (c : Dev nD) (t : Fin cfgA.N) : (dats m 0 c).after (0 : Fin 9) t = iblk m c (0 : Fin 9) t := rfl
theorem after_1 (c : Dev nD) (t : Fin cfgA.N) : (dats m 0 c).after (1 : Fin 9) t = iblk m c (1 : Fin 9) t := rfl
theorem after_2 (c : Dev nD) (t : Fin cfgA.N) : (dats m 0 c).after (2 : Fin 9) t = iblk m c (2 : Fin 9) t := rfl
theorem after_3 (c : Dev nD) (t : Fin cfgA.N) : (dats m 0 c).after (3 : Fin 9) t = iblk m c (3 : Fin 9) t := rfl
theorem after_4 (c : Dev nD) (t : Fin cfgA.N) : (dats m 0 c).after (4 : Fin 9) t = iblk m c (4 : Fin 9) t := rfl
theorem after_5 (c : Dev nD) (t : Fin cfgA.N) : (dats m 0 c).after (5 : Fin 9) t = iblk m c (5 : Fin 9) t := rfl
theorem after_6 (c : Dev nD) (t : Fin cfgA.N) : (dats m 0 c).after (6 : Fin 9) t = (traj m c t.val t.isLt).1 := rfl
theorem after_7 (c : Dev nD) (t : Fin cfgA.N) : (dats m 0 c).after (7 : Fin 9) t = (traj m c t.val t.isLt).2.1 := rfl
theorem after_8 (c : Dev nD) (t : Fin cfgA.N) : (dats m 0 c).after (8 : Fin 9) t = (traj m c t.val t.isLt).2.2 := rfl

/-! ## What each window's staging buffer holds when the body runs -/

theorem before_0 (c : Dev nD) (t : Fin cfgA.N) (d) : (dats m 0 c).before (0 : Fin 9) t d = iblk m c (0 : Fin 9) t :=
  ((dats m 0 c).before_in_eq_fetched (0 : Fin 9) rfl (fun _ => rfl) (fun _ _ _ => rfl) (fun t => by rw [after_0]; unfold Dat.blockOf iblk; rfl) t d).trans
    (by unfold Dat.fetched Dat.blockOf iblk; rfl)

theorem before_1 (c : Dev nD) (t : Fin cfgA.N) (d) : (dats m 0 c).before (1 : Fin 9) t d = iblk m c (1 : Fin 9) t :=
  ((dats m 0 c).before_in_eq_fetched (1 : Fin 9) rfl (fun _ => rfl) (fun _ _ _ => rfl) (fun t => by rw [after_1]; unfold Dat.blockOf iblk; rfl) t d).trans
    (by unfold Dat.fetched Dat.blockOf iblk; rfl)

theorem before_2 (c : Dev nD) (t : Fin cfgA.N) (d) : (dats m 0 c).before (2 : Fin 9) t d = iblk m c (2 : Fin 9) t :=
  ((dats m 0 c).before_in_eq_fetched (2 : Fin 9) rfl (fun _ => rfl) (fun _ _ _ => rfl) (fun t => by rw [after_2]; unfold Dat.blockOf iblk; rfl) t d).trans
    (by unfold Dat.fetched Dat.blockOf iblk; rfl)

theorem before_3 (c : Dev nD) (t : Fin cfgA.N) (d) : (dats m 0 c).before (3 : Fin 9) t d = iblk m c (3 : Fin 9) t :=
  ((dats m 0 c).before_in_eq_fetched (3 : Fin 9) rfl (fun _ => rfl) (fun _ _ _ => rfl) (fun t => by rw [after_3]; unfold Dat.blockOf iblk; rfl) t d).trans
    (by unfold Dat.fetched Dat.blockOf iblk; rfl)

theorem before_4 (c : Dev nD) (t : Fin cfgA.N) (d) : (dats m 0 c).before (4 : Fin 9) t d = iblk m c (4 : Fin 9) t :=
  ((dats m 0 c).before_in_eq_fetched (4 : Fin 9) rfl (fun _ => rfl) (fun _ _ _ => rfl) (fun t => by rw [after_4]; unfold Dat.blockOf iblk; rfl) t d).trans
    (by unfold Dat.fetched Dat.blockOf iblk; rfl)

theorem before_5 (c : Dev nD) (t : Fin cfgA.N) (d) : (dats m 0 c).before (5 : Fin 9) t d = iblk m c (5 : Fin 9) t :=
  ((dats m 0 c).before_in_eq_fetched (5 : Fin 9) rfl (fun _ => rfl) (fun _ _ _ => rfl) (fun t => by rw [after_5]; unfold Dat.blockOf iblk; rfl) t d).trans
    (by unfold Dat.fetched Dat.blockOf iblk; rfl)

theorem fresh_6 (t : Fin cfgA.N) : cfgA.fresh (6 : Fin 9) t.val = frTab6 t.val :=
  Pipeline.Cfg.fresh_tab cfgA (6 : Fin 9) frTab6 rfl (fun t => facts t |>.1) t.val (Nat.le_of_lt t.isLt)

theorem before_6 (c : Dev nD) (t : Fin cfgA.N) (d) :
    (dats m 0 c).before (6 : Fin 9) t d = if frTab6 t.val then d else (prev m c t).1 := by
  rw [(dats m 0 c).before_out_traj (6 : Fin 9) rfl (fun _ _ => rfl)
    (fun t ht hi hf => absurd hi (by rw [(facts t).2.2.2.1.1]; decide)) t.val t rfl d, ← fresh_6]
  by_cases hf : cfgA.fresh (6 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_6]; unfold prev; rw [dif_neg h0]

theorem fresh_7 (t : Fin cfgA.N) : cfgA.fresh (7 : Fin 9) t.val = frTab7 t.val :=
  Pipeline.Cfg.fresh_tab cfgA (7 : Fin 9) frTab7 rfl (fun t => facts t |>.2.1) t.val (Nat.le_of_lt t.isLt)

theorem before_7 (c : Dev nD) (t : Fin cfgA.N) (d) :
    (dats m 0 c).before (7 : Fin 9) t d = if frTab7 t.val then d else (prev m c t).2.1 := by
  rw [(dats m 0 c).before_out_traj (7 : Fin 9) rfl (fun _ _ => rfl)
    (fun t ht hi hf => absurd hi (by rw [(facts t).2.2.2.1.2.1]; decide)) t.val t rfl d, ← fresh_7]
  by_cases hf : cfgA.fresh (7 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_7]; unfold prev; rw [dif_neg h0]

theorem fresh_8 (t : Fin cfgA.N) : cfgA.fresh (8 : Fin 9) t.val = frTab7 t.val :=
  Pipeline.Cfg.fresh_tab cfgA (8 : Fin 9) frTab7 rfl (fun t => facts t |>.2.2.1) t.val (Nat.le_of_lt t.isLt)

theorem before_8 (c : Dev nD) (t : Fin cfgA.N) (d) :
    (dats m 0 c).before (8 : Fin 9) t d = if frTab7 t.val then d else (prev m c t).2.2 := by
  rw [(dats m 0 c).before_out_traj (8 : Fin 9) rfl (fun _ _ => rfl)
    (fun t ht hi hf => absurd hi (by rw [(facts t).2.2.2.1.2.2]; decide)) t.val t rfl d, ← fresh_8]
  by_cases hf : cfgA.fresh (8 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after_8]; unfold prev; rw [dif_neg h0]

/-! ## The body at a point -/

theorem prefHeld_eq (c : Dev nD) : (Pipeline.ΦT pre0 pfN c : sProp 𝕄)
    = iprop((tbM0_0.view.loc (c : Thread nD τ) ↦{fullShare.right} pinT_0) ∗ (tbM0_1.view.loc (c : Thread nD τ) ↦{fullShare.right} pinT_1)) := by
  unfold Pipeline.ΦT Pipeline.prefHeld
  rw [show (Finset.univ : Finset (Fin 2)) = insert 0 {1} from by decide, bigSep_insert (by decide), bigSep_singleton]
  rfl

theorem phi_eq (c : Dev nD) (t) : (dats m 0 c).Φ t = iprop(Pipeline.ΦA spec0 c
      ∗ (tbM0_0.view.loc (c : Thread nD τ) ↦{fullShare.right} pinT_0) ∗ (tbM0_1.view.loc (c : Thread nD τ) ↦{fullShare.right} pinT_1)) := by
  rw [← prefHeld_eq]; rfl

abbrev bodyAt (t : Fin cfgA.N) : Prog (TpuEff nD τ sig (Elt F) Λ₀ .tc) PUnit :=
  cc0_attn_bwd (crd t) tbM0_0 (Memref.isWhole_whole _) tbM0_1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)

set_option maxHeartbeats 2000000 in
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  obtain ⟨-, -, -, ⟨i6, i7, i8⟩, hc', hB, hAC, hn0, h0⟩ := facts t
  have hc : k0_chk1 (wj (F := F) pinT_0 (crd t)) (wi (F := F) pinT_1 (crd t)) := hc'
  obtain ⟨ra, rb, rc, rd⟩ : k0_off2 (wi (F := F) pinT_1 (crd t)) = rows 0 (qi t) ∧ k0_off3 (wi (F := F) pinT_1 (crd t)) = rows 1 (qi t) ∧ k0_off4 (wi (F := F) pinT_1 (crd t)) = rows 0 (qi t) ∧ k0_off5 (wi (F := F) pinT_1 (crd t)) = rows 1 (qi t) := rows_qi t
  rewrite [i6, i7]
  simp only [before_0, before_1, before_2, before_3, before_4, before_5, before_6, before_7, before_8, after_0, after_1, after_2, after_3, after_4, after_5, after_6, after_7, after_8]
  rewrite [show (dats m 0 c).owesAt () t.succ = (dats m 0 c).owesAt () t.castSucc from rfl,
    phi_eq, phi_eq, traj_eq]
  unfold step
  by_cases q0 : P0 t
  · have q1 : ¬ P1 t := fun h => (hB h).1 q0
    obtain ⟨q2, fr7⟩ := hAC q1
    have fr6 := h0 q0
    have p1 : ¬ k0_cond2 (wj (F := F) pinT_0 (crd t)) (wi (F := F) pinT_1 (crd t)) = 1#1 := q1
    have p2 : k0_cond3 (wj (F := F) pinT_0 (crd t)) (wi (F := F) pinT_1 (crd t)) = 1#1 := q2
    simp only [fr6, fr7, ↓reduceIte, if_pos q0]
    iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) pinT_0 pinT_1 (iblk m c (0 : Fin 9) t) (iblk m c (1 : Fin 9) t) (iblk m c (2 : Fin 9) t) (iblk m c (3 : Fin 9) t) (iblk m c (4 : Fin 9) t) (iblk m c (5 : Fin 9) t) hc q0 p1 p2).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iapply (some_of_owns c (ms6 t) _); iexact H6
    isplitl [H7]; · iapply (some_of_owns c (ms7 t) _); iexact H7
    isplitl [H8]; · iapply (some_of_owns c (ms8 t) _); iexact H8
    iintro ⟨H0, H1, H2, H3, H4, H5, HT0, HT1, ⟨%e6, H6⟩, ⟨%e7, H7⟩, ⟨%e8, H8⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]
    · unfold owns; iexists _; isplitr; swap
      · iexact H6
      · ipureintro; exact runA_6 _ _ _ _ _ _ _ _ _ _ _ _ _ _ _ _ _ _ _ _ _ _ _ _ _ _ _ _ _ _ _ _ (qi t) rc rd e6
    isplitl [H7]
    · unfold owns; iexists _; isplitr; swap
      · iexact H7
      · ipureintro; exact runA_7 _ _ _ _ _ _ _ _ _ _ _ _ _ _ _ _ _ _ _ _ _ _ _ _ _ _ _ _ _ _ _ _ e7
    unfold owns; iexists _; isplitr; swap
    · iexact H8
    · ipureintro; exact runA_8 _ _ _ _ _ _ _ _ _ _ _ _ _ _ _ _ _ _ _ _ _ _ _ _ _ _ _ _ _ _ _ _ e8
  · have fr6 := hn0 q0
    by_cases q1 : P1 t
    · obtain ⟨-, q2, -, fr7⟩ := hB q1
      have p1 : k0_cond2 (wj (F := F) pinT_0 (crd t)) (wi (F := F) pinT_1 (crd t)) = 1#1 := q1
      have p2 : ¬ k0_cond3 (wj (F := F) pinT_0 (crd t)) (wi (F := F) pinT_1 (crd t)) = 1#1 := q2
      simp only [fr6, fr7, Bool.false_eq_true, ↓reduceIte, if_neg q0, if_pos q1]
      iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (prev m c t).1 (prev m c t).2.1 (prev m c t).2.2 hc q0 p1 p2).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iapply rep_of_owns; iexact H6
      isplitl [H7]; · iapply rep_of_owns; iexact H7
      isplitl [H8]; · iapply rep_of_owns; iexact H8
      iintro ⟨H0, H1, H2, H3, H4, H5, HT0, HT1, H6, ⟨%e7, H7⟩, ⟨%e8, H8⟩⟩
      isplitl [HA HT0 HT1]
      · isplitl [HA]; · iexact HA
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]
      · unfold owns; iexists _; isplitr; swap
        · iexact H6
        · ipureintro; exact runB_6 _ _ _ _ _ _ _ _ _ _ _ _ _ _ _ _ _ _ _ _ _ _ _ _ _ _ _ _ _ _ _ _ _ _ _ (qi t) ra rb
      isplitl [H7]
      · unfold owns; iexists _; isplitr; swap
        · iexact H7
        · ipureintro; exact runB_7 _ _ _ _ _ _ _ _ _ _ _ _ _ _ _ _ _ _ _ _ _ _ _ _ _ _ _ _ _ _ _ _ _ _ _ e7
      unfold owns; iexists _; isplitr; swap
      · iexact H8
      · ipureintro; exact runB_8 _ _ _ _ _ _ _ _ _ _ _ _ _ _ _ _ _ _ _ _ _ _ _ _ _ _ _ _ _ _ _ _ _ _ _ e8
    · obtain ⟨q2, fr7⟩ := hAC q1
      have p1 : ¬ k0_cond2 (wj (F := F) pinT_0 (crd t)) (wi (F := F) pinT_1 (crd t)) = 1#1 := q1
      have p2 : k0_cond3 (wj (F := F) pinT_0 (crd t)) (wi (F := F) pinT_1 (crd t)) = 1#1 := q2
      simp only [fr6, fr7, Bool.false_eq_true, ↓reduceIte, if_neg q0, if_neg q1]
      iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) pinT_0 pinT_1 (iblk m c (0 : Fin 9) t) (iblk m c (1 : Fin 9) t) (iblk m c (2 : Fin 9) t) (iblk m c (3 : Fin 9) t) (iblk m c (4 : Fin 9) t) (iblk m c (5 : Fin 9) t) (prev m c t).1 hc q0 p1 p2).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iapply rep_of_owns; iexact H6
      isplitl [H7]; · iapply (some_of_owns c (ms7 t) _); iexact H7
      isplitl [H8]; · iapply (some_of_owns c (ms8 t) _); iexact H8
      iintro ⟨H0, H1, H2, H3, H4, H5, HT0, HT1, H6, ⟨%e7, H7⟩, ⟨%e8, H8⟩⟩
      isplitl [HA HT0 HT1]
      · isplitl [HA]; · iexact HA
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]
      · unfold owns; iexists _; isplitr; swap
        · iexact H6
        · ipureintro; exact runC_6 _ _ _ _ _ _ _ _ _ _ _ _ _ _ _ _ _ _ _ _ _ _ _ _ _ _ _ _ _ _ _ _ _ (qi t) rc rd
      isplitl [H7]
      · unfold owns; iexists _; isplitr; swap
        · iexact H7
        · ipureintro; exact runC_7 _ _ _ _ _ _ _ _ _ _ _ _ _ _ _ _ _ _ _ _ _ _ _ _ _ _ _ _ _ _ _ _ _ e7
      unfold owns; iexists _; isplitr; swap
      · iexact H8
      · ipureintro; exact runC_8 _ _ _ _ _ _ _ _ _ _ _ _ _ _ _ _ _ _ _ _ _ _ _ _ _ _ _ _ _ _ _ _ _ e8

theorem body_obligation (c : Dev nD) : BodyObligation (dats m 0 c) (defs₀ (F := F)) Variants.none () Set.univ := fun t => by
  rw [bigSep_W0]; exact sound_body m c t

theorem share_eq (c : Dev nD) (w) : (dats m 0 c).share w = fullShare := by unfold Dat.share; split <;> rfl

/-! ## The run -/

theorem entryV_c (c : Dev nD) : entryV m c main_c = pinT_0 := lit0_eq
theorem entryV_c_0 (c : Dev nD) : entryV m c main_c_0 = pinT_1 := lit1_eq

/-- Every run ends, with every array of the pipeline at what the proof data says, every other buffer as it was where the
    pipeline was entered, and every counter at zero. -/
theorem run (ρ : Dev nD → PrngReg) :
    θ_run (defs (F := F)) (onTc (τ := τ) (main (F := F))) ⟨m, fun _ => 0, ρ⟩
      (fun r => Pipeline.FramePost pcs (dats m) 0 (entryV m) r ∧ r.2.sem = fun _ => 0) :=
  Pipeline.θ_run_frameP (pcfgs (F := F)) (fun _ => adm) (dats m) 0 (launch0 (F := F)) (defs₀ (F := F)) Variants.none m ρ (main (F := F))
    (fun c => (body_obligation m c).loose) (share_eq m) (fun _ _ => rfl) (entryV m)
    (Pipeline.hmainP_prefixes (pcfgs (F := F)) 0 (defs₀ (F := F)) Variants.none m (main (F := F))
      [hostOps0, hostOps0_1, hostOps0_2] ⟨hostOps0_sub, hostOps0_1_sub, hostOps0_2_sub⟩
      ⟨by repeat' constructor, by repeat' constructor, by repeat' constructor⟩ main_chain)
    (fun _ _ => rfl)
    (fun c k => match k with | ⟨0, _⟩ => entryV_c m c | ⟨1, _⟩ => entryV_c_0 m c | ⟨_ + 2, h⟩ => absurd h (by simp))
    (fun _ _ => rfl) (Q' := fun r => Pipeline.FramePost pcs (dats m) 0 (entryV m) r ∧ r.2.sem = fun _ => 0) (fun _ h => h)

end Cert.KernelIdeal.Hand

end
-- ==== Proof.KI.Args.lean ====
/- The run leaves the arguments unchanged. -/
module

public import proofs.«01_k».proof.Proof.KI.Frame
public import Idealize.ShloMosaic.Lib.StableHlo.Run
public import Idealize.ShloMosaic.Lib.Pipeline.Cells

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

open Idealize.ShloMosaic.StableHlo in
/-- An argument is what it was at the launch where the pipeline is entered: no host operation writes it. -/
theorem entryV_arg (m : (ℓ : Loc nD τ sig) → Buf (Elt F) ℓ) (c : Dev nD) :
    entryV m c main_arg0 = m ((c.tc : Thread nD τ).loc main_arg0) ∧ entryV m c main_arg1 = m ((c.tc : Thread nD τ).loc main_arg1)
      ∧ entryV m c main_arg2 = m ((c.tc : Thread nD τ).loc main_arg2) ∧ entryV m c main_arg3 = m ((c.tc : Thread nD τ).loc main_arg3) := by
  refine ⟨?_, ?_, ?_, ?_⟩ <;>
    (unfold entryV
     simp only [hostOps0, hostOps0_1, hostOps0_2, List.flatten_cons, List.flatten_nil, List.append_nil, List.cons_append, List.nil_append, TRef.unary, TRef.ternary]
     after_results_simp <;> rfl)

/-- After the run the arguments are unchanged. -/
theorem args (m : (ℓ : Loc nD τ sig) → Buf (Elt F) ℓ) (r : PUnit × MemSt nD τ sig (Elt F)) (h : Pipeline.FramePost pcs (dats m) 0 (entryV m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  obtain ⟨e0, e1, e2, e3⟩ := entryV_arg m c
  refine ⟨?_, ?_, ?_, ?_⟩
  · exact ((h c).1 (0 : Fin 9)).trans (((dats m 0 c).arrAt_in (0 : Fin 9) rfl _).trans e0)
  · exact ((h c).1 (1 : Fin 9)).trans (((dats m 0 c).arrAt_in (1 : Fin 9) rfl _).trans e1)
  · exact ((h c).2 main_arg2 (Pipeline.mem_restRefs_of main_arg2 rfl (by decide))).trans e2
  · exact ((h c).1 (3 : Fin 9)).trans (((dats m 0 c).arrAt_in (3 : Fin 9) rfl _).trans e3)

/-- The program runs, leaves its arguments unchanged and every counter at zero. -/
theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => args m r h.1 c, h.2⟩) (run m ρ)

end Cert.KernelIdeal.Hand

end
-- ==== Proof.Val.Base.lean ====
/- Finite extended reals: what the kernel's and the reference's arithmetic does to values that are
   real numbers, and the constants the two programs print. -/
module

public import Idealize.ShloMosaic.PureOps.Ideal
public import Idealize.ShloMosaic.Lib.Pointwise
public import Mathlib.Data.EReal.Operations

@[expose] public section

noncomputable section

namespace Cert.Val

open Idealize.ShloMosaic

/-! ## Real values -/

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp ((r : ℝ) : EReal) = ((Real.exp r : ℝ) : EReal) := rfl

theorem div_coe (a b : ℝ) (h : b ≠ 0) :
    Ideal.div ((a : ℝ) : EReal) ((b : ℝ) : EReal) = ((a / b : ℝ) : EReal) := by
  have hb : ((b : ℝ) : EReal) ≠ 0 := by simpa using h
  unfold Ideal.div
  rw [if_neg hb, div_eq_mul_inv, EReal.coe_mul, EReal.coe_inv]

theorem log_coe (r : ℝ) (h : 0 < r) :
    Ideal.log ((r : ℝ) : EReal) = ((Real.log r : ℝ) : EReal) := by
  show (if r ≤ 0 then (⊥ : EReal) else ((Real.log r : ℝ) : EReal)) = _
  rw [if_neg (not_le.mpr h)]

/-! ## Constants -/

/-- The scale on the logits, as printed. -/
abbrev scale : ℝ := (2 : ℝ) ^ (-27 : ℤ) * 9686330

theorem lit_scale : Ideal.ofBits .f32 0x3D93CD3A#32 = ((scale : ℝ) : EReal) := by
  simp [Ideal.ofBits, Ideal.ieee, -EReal.coe_mul]
  norm_num
theorem lit_zero : Ideal.ofBits .f32 0x00000000#32 = 0 := by
  simp [Ideal.ofBits, Ideal.ieee]
theorem lit_one : Ideal.ofBits .f32 0x3F800000#32 = ((1 : ℝ) : EReal) := by
  simp [Ideal.ofBits, Ideal.ieee, -EReal.coe_mul]
  norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

/-! ## The causal comparison, as printed on 32-bit numbers -/

theorem cmpi_sle (c r : ℕ) (hc : c < 4096) (hr : r < 4096) :
    IntOp.cmpi .sle (BitVec.ofNat 32 c) (BitVec.ofNat 32 r) = if c ≤ r then 1#1 else 0#1 := by
  have e1 : (BitVec.ofNat 32 c).toInt = c := by
    rw [BitVec.toInt_ofNat']; unfold Int.bmod; dsimp only; split <;> omega
  have e2 : (BitVec.ofNat 32 r).toInt = r := by
    rw [BitVec.toInt_ofNat']; unfold Int.bmod; dsimp only; split <;> omega
  simp only [IntOp.cmpi, BitVec.sle, e1, e2, Int.ofNat_le]
  by_cases h : c ≤ r <;> simp [h]

end Cert.Val

end
-- ==== Proof.Val.Pay.lean ====
/- The attention gradients' body on one head's blocks of real numbers: each value it stores is the
   real number the gradient of one pair of blocks adds. -/
module

public import proofs.«01_k».proof.Proof.Val.Base
public import proofs.«01_k».proof.Proof.Gen.KernelIdeal.Skeleton
public import Idealize.ShloMosaic.PureOps.IdealRules

@[expose] public section

noncomputable section

namespace Cert.Val

open Cert.KernelIdeal Cert.KernelIdeal.Gen
open Idealize.ShloMosaic

/-! ## One pair of blocks over the reals

`dg` says that the pair lies on the diagonal, where the entries above it are masked. -/

/-- The probabilities from the saved log-sum-exp `L`. -/
def bP (dg : Bool) (q k : Fin 512 → Fin 256 → ℝ) (L : Fin 512 → ℝ) (r c : Fin 512) : ℝ :=
  if dg = false ∨ c.val ≤ r.val then Real.exp ((∑ d, q r d * k c d) * scale - L r) else 0
/-- The gradient of the logits, times their scale. -/
def bS (dg : Bool) (q k : Fin 512 → Fin 256 → ℝ) (v w : Fin 512 → Fin 128 → ℝ) (L D : Fin 512 → ℝ) (r c : Fin 512) : ℝ :=
  bP dg q k L r c * ((∑ d, w r d * v c d) - D r) * scale
/-- What the pair adds to the gradient of the values. -/
def bV (dg : Bool) (q k : Fin 512 → Fin 256 → ℝ) (w : Fin 512 → Fin 128 → ℝ) (L : Fin 512 → ℝ) (c : Fin 512) (d : Fin 128) : ℝ :=
  ∑ r, bP dg q k L r c * w r d
/-- What the pair adds to the gradient of the keys. -/
def bK (dg : Bool) (q k : Fin 512 → Fin 256 → ℝ) (v w : Fin 512 → Fin 128 → ℝ) (L D : Fin 512 → ℝ) (c : Fin 512) (d : Fin 256) : ℝ :=
  ∑ r, bS dg q k v w L D r c * q r d
/-- What the pair adds to the gradient of the queries. -/
def bQ (dg : Bool) (q k : Fin 512 → Fin 256 → ℝ) (v w : Fin 512 → Fin 128 → ℝ) (L D : Fin 512 → ℝ) (r : Fin 512) (d : Fin 256) : ℝ :=
  ∑ c, bS dg q k v w L D r c * k c d

/-- The masked entry: the named constant is `-∞` and its exponential is zero. -/
theorem exp_masked (c r : Fin 512) (s l : ℝ) :
    Ideal.exp (Scalar.select (IntOp.cmpi CmpIPredicate.sle (BitVec.ofNat 32 c.val) (BitVec.ofNat 32 r.val))
      ((s : ℝ) : EReal) (Named.named (F := Ideal) κ "mask" (φ := .f32) 0xF149F2CA#32) - ((l : ℝ) : EReal))
      = ((if true = false ∨ c.val ≤ r.val then Real.exp (s - l) else 0 : ℝ) : EReal) := by
  have hm : Named.named (F := Ideal) κ "mask" (φ := .f32) 0xF149F2CA#32 = ⊥ := IdealRules.named_const.ideal_named_scalar _ _ _ _ rfl
  rw [cmpi_sle c.val r.val (by omega) (by omega), hm]
  by_cases h : c.val ≤ r.val
  · simp only [h, if_true, or_true, Scalar.select]
    rw [← exp_coe, EReal.coe_sub]; rfl
  · simp [h, Scalar.select]

section
variable (q k : Fin 512 → Fin 256 → ℝ) (v w : Fin 512 → Fin 128 → ℝ) (L D : Fin 512 → ℝ)
variable (x0 x1 : S1x512x256.Idx → Elt Ideal .bf16) (x2 : S1x512x128.Idx → Elt Ideal .bf16) (x3 : S512x128.Idx → Elt Ideal .bf16) (x4 x5 : S1x512x1.Idx → Elt Ideal .f32)
variable (h0 : ∀ r d, x0 (ix3 0 r d) = ((q r d : ℝ) : EReal)) (h1 : ∀ r d, x1 (ix3 0 r d) = ((k r d : ℝ) : EReal)) (h2 : ∀ r d, x2 (ix3 0 r d) = ((v r d : ℝ) : EReal))
  (h3 : ∀ r d, x3 (ix2 r d) = ((w r d : ℝ) : EReal)) (h4 : ∀ r, x4 (ix3 0 r 0) = ((L r : ℝ) : EReal)) (h5 : ∀ r, x5 (ix3 0 r 0) = ((D r : ℝ) : EReal))

include h0 h1 h4 in
theorem pay9_val (r c : Fin 512) : k0_pay9 (F := Ideal) x0 x1 x4 (ix2 r c) = ((bP false q k L r c : ℝ) : EReal) := by
  have e : k0_pay9 (F := Ideal) x0 x1 x4 (ix2 r c) = Ideal.exp (((∑ x, x0 (ix3 0 r x) * x1 (ix3 0 c x)) * Ideal.ofBits FTy.f32 1033096506#32) - x4 (ix3 0 r 0)) := by
    pointwise [k0_pay9, k0_pay7, k0_pay8]
  rw [e]
  simp only [h0, h1, h4, lit_scale, ← EReal.coe_mul, coe_sum, ← EReal.coe_sub, exp_coe]
  rw [bP, if_pos (Or.inl rfl)]
include h0 h1 h4 in
theorem pay16_val (r c : Fin 512) : k0_pay16 (F := Ideal) x0 x1 x4 (ix2 r c) = ((bP false q k L r c : ℝ) : EReal) := by
  have e : k0_pay16 (F := Ideal) x0 x1 x4 (ix2 r c) = Ideal.exp (((∑ x, x0 (ix3 0 r x) * x1 (ix3 0 c x)) * Ideal.ofBits FTy.f32 1033096506#32) - x4 (ix3 0 r 0)) := by
    pointwise [k0_pay16, k0_pay14, k0_pay15]
  rw [e]
  simp only [h0, h1, h4, lit_scale, ← EReal.coe_mul, coe_sum, ← EReal.coe_sub, exp_coe]
  rw [bP, if_pos (Or.inl rfl)]
include h0 h1 h4 in
theorem pay24_val (r c : Fin 512) : k0_pay24 (F := Ideal) x0 x1 x4 (ix2 r c) = ((bP true q k L r c : ℝ) : EReal) := by
  have e : k0_pay24 (F := Ideal) x0 x1 x4 (ix2 r c) = Ideal.exp ((Scalar.select (IntOp.cmpi CmpIPredicate.sle (BitVec.ofNat 32 c.val) (BitVec.ofNat 32 r.val))
          ((∑ x, x0 (ix3 0 r x) * x1 (ix3 0 c x)) * Ideal.ofBits FTy.f32 1033096506#32) (Named.named (F := Ideal) κ "mask" (φ := .f32) 0xF149F2CA#32)) - x4 (ix3 0 r 0)) := by
    pointwise [k0_pay24, k0_pay22, k0_pay23]
  rw [e]
  simp only [h0, h1, h4, lit_scale, ← EReal.coe_mul, coe_sum, exp_masked]
  rfl
include h0 h1 h4 in
theorem pay31_val (r c : Fin 512) : k0_pay31 (F := Ideal) x0 x1 x4 (ix2 r c) = ((bP true q k L r c : ℝ) : EReal) := by
  have e : k0_pay31 (F := Ideal) x0 x1 x4 (ix2 r c) = Ideal.exp ((Scalar.select (IntOp.cmpi CmpIPredicate.sle (BitVec.ofNat 32 c.val) (BitVec.ofNat 32 r.val))
          ((∑ x, x0 (ix3 0 r x) * x1 (ix3 0 c x)) * Ideal.ofBits FTy.f32 1033096506#32) (Named.named (F := Ideal) κ "mask" (φ := .f32) 0xF149F2CA#32)) - x4 (ix3 0 r 0)) := by
    pointwise [k0_pay31, k0_pay29, k0_pay30]
  rw [e]
  simp only [h0, h1, h4, lit_scale, ← EReal.coe_mul, coe_sum, exp_masked]
  rfl
include h0 h1 h2 h3 h4 h5 in
theorem pay10_val (r c : Fin 512) : k0_pay10 (F := Ideal) x0 x1 x3 x4 x2 x5 (ix2 r c) = ((bS false q k v w L D r c : ℝ) : EReal) := by
  have e : k0_pay10 (F := Ideal) x0 x1 x3 x4 x2 x5 (ix2 r c) = k0_pay9 (F := Ideal) x0 x1 x4 (ix2 r c) * ((∑ x, x3 (ix2 r x) * x2 (ix3 0 c x)) - x5 (ix3 0 r 0)) * Ideal.ofBits FTy.f32 1033096506#32 := by
    pointwise [k0_pay10]
  rw [e, pay9_val q k L x0 x1 x4 h0 h1 h4]
  simp only [h2, h3, h5, lit_scale, ← EReal.coe_mul, coe_sum, ← EReal.coe_sub]
  rfl
include h0 h1 h2 h3 h4 h5 in
theorem pay25_val (r c : Fin 512) : k0_pay25 (F := Ideal) x0 x1 x3 x4 x2 x5 (ix2 r c) = ((bS true q k v w L D r c : ℝ) : EReal) := by
  have e : k0_pay25 (F := Ideal) x0 x1 x3 x4 x2 x5 (ix2 r c) = k0_pay24 (F := Ideal) x0 x1 x4 (ix2 r c) * ((∑ x, x3 (ix2 r x) * x2 (ix3 0 c x)) - x5 (ix3 0 r 0)) * Ideal.ofBits FTy.f32 1033096506#32 := by
    pointwise [k0_pay25]
  rw [e, pay24_val q k L x0 x1 x4 h0 h1 h4]
  simp only [h2, h3, h5, lit_scale, ← EReal.coe_mul, coe_sum, ← EReal.coe_sub]
  rfl
include h0 h1 h2 h3 h4 h5 in
theorem pay17_val (r c : Fin 512) : k0_pay17 (F := Ideal) x3 (k0_pay16 x0 x1 x4) x2 x5 (ix2 r c) = ((bS false q k v w L D r c : ℝ) : EReal) := by
  have e : k0_pay17 (F := Ideal) x3 (k0_pay16 x0 x1 x4) x2 x5 (ix2 r c) = k0_pay16 (F := Ideal) x0 x1 x4 (ix2 r c) * ((∑ x, x3 (ix2 r x) * x2 (ix3 0 c x)) - x5 (ix3 0 r 0)) * Ideal.ofBits FTy.f32 1033096506#32 := by
    pointwise [k0_pay17]
  rw [e, pay16_val q k L x0 x1 x4 h0 h1 h4]
  simp only [h2, h3, h5, lit_scale, ← EReal.coe_mul, coe_sum, ← EReal.coe_sub]
  rfl
include h0 h1 h2 h3 h4 h5 in
theorem pay3_val (r c : Fin 512) : k0_pay3 (F := Ideal) x3 (k0_pay31 x0 x1 x4) x2 x5 (ix2 r c) = ((bS true q k v w L D r c : ℝ) : EReal) := by
  have e : k0_pay3 (F := Ideal) x3 (k0_pay31 x0 x1 x4) x2 x5 (ix2 r c) = k0_pay31 (F := Ideal) x0 x1 x4 (ix2 r c) * ((∑ x, x3 (ix2 r x) * x2 (ix3 0 c x)) - x5 (ix3 0 r 0)) * Ideal.ofBits FTy.f32 1033096506#32 := by
    pointwise [k0_pay3]
  rw [e, pay31_val q k L x0 x1 x4 h0 h1 h4]
  simp only [h2, h3, h5, lit_scale, ← EReal.coe_mul, coe_sum, ← EReal.coe_sub]
  rfl
include h0 h1 h3 h4 in
theorem pay11_val (o : S1x512x128.Idx → Elt Ideal .f32) (O : Fin 512 → Fin 128 → ℝ) (ho : ∀ r d, o (ix3 0 r d) = ((O r d : ℝ) : EReal)) (u : Fin 1) (c : Fin 512) (d : Fin 128) : k0_pay11 (F := Ideal) x0 x1 x3 x4 o (ix3 u c d) = ((O c d + bV false q k w L c d : ℝ) : EReal) := by
  have e : k0_pay11 (F := Ideal) x0 x1 x3 x4 o (ix3 u c d) = o (ix3 0 c d) + ∑ x, k0_pay9 (F := Ideal) x0 x1 x4 (ix2 x c) * x3 (ix2 x d) := by
    pointwise [k0_pay11]
  rw [e]
  simp only [pay9_val q k L x0 x1 x4 h0 h1 h4, h3, ho, ← EReal.coe_mul, coe_sum, ← EReal.coe_add]
  rfl
include h0 h1 h3 h4 in
theorem pay18_val (o : S1x512x128.Idx → Elt Ideal .f32) (O : Fin 512 → Fin 128 → ℝ) (ho : ∀ r d, o (ix3 0 r d) = ((O r d : ℝ) : EReal)) (u : Fin 1) (c : Fin 512) (d : Fin 128) : k0_pay18 (F := Ideal) x3 (k0_pay16 x0 x1 x4) o (ix3 u c d) = ((O c d + bV false q k w L c d : ℝ) : EReal) := by
  have e : k0_pay18 (F := Ideal) x3 (k0_pay16 x0 x1 x4) o (ix3 u c d) = o (ix3 0 c d) + ∑ x, k0_pay16 (F := Ideal) x0 x1 x4 (ix2 x c) * x3 (ix2 x d) := by
    pointwise [k0_pay18]
  rw [e]
  simp only [pay16_val q k L x0 x1 x4 h0 h1 h4, h3, ho, ← EReal.coe_mul, coe_sum, ← EReal.coe_add]
  rfl
include h0 h1 h3 h4 in
theorem pay26_val (u : Fin 1) (c : Fin 512) (d : Fin 128) : k0_pay26 (F := Ideal) x0 x1 x3 x4 (ix3 u c d) = ((bV true q k w L c d : ℝ) : EReal) := by
  have e : k0_pay26 (F := Ideal) x0 x1 x3 x4 (ix3 u c d) = ∑ x, k0_pay24 (F := Ideal) x0 x1 x4 (ix2 x c) * x3 (ix2 x d) := by
    pointwise [k0_pay26]
  rw [e]
  simp only [pay24_val q k L x0 x1 x4 h0 h1 h4, h3, ← EReal.coe_mul, coe_sum]
  rfl
include h0 h1 h3 h4 in
theorem pay4_val (u : Fin 1) (c : Fin 512) (d : Fin 128) : k0_pay4 (F := Ideal) x3 (k0_pay31 x0 x1 x4) (ix3 u c d) = ((bV true q k w L c d : ℝ) : EReal) := by
  have e : k0_pay4 (F := Ideal) x3 (k0_pay31 x0 x1 x4) (ix3 u c d) = ∑ x, k0_pay31 (F := Ideal) x0 x1 x4 (ix2 x c) * x3 (ix2 x d) := by
    pointwise [k0_pay4]
  rw [e]
  simp only [pay31_val q k L x0 x1 x4 h0 h1 h4, h3, ← EReal.coe_mul, coe_sum]
  rfl
include h0 h1 h2 h3 h4 h5 in
theorem pay12_val (o : S1x512x256.Idx → Elt Ideal .f32) (O : Fin 512 → Fin 256 → ℝ) (ho : ∀ r d, o (ix3 0 r d) = ((O r d : ℝ) : EReal)) (u : Fin 1) (c : Fin 512) (d : Fin 256) : k0_pay12 (F := Ideal) (k0_pay7 x0) (k0_pay10 x0 x1 x3 x4 x2 x5) o (ix3 u c d) = ((O c d + bK false q k v w L D c d : ℝ) : EReal) := by
  have e : k0_pay12 (F := Ideal) (k0_pay7 x0) (k0_pay10 x0 x1 x3 x4 x2 x5) o (ix3 u c d) = o (ix3 0 c d) + ∑ x, k0_pay10 (F := Ideal) x0 x1 x3 x4 x2 x5 (ix2 x c) * x0 (ix3 0 x d) := by
    pointwise [k0_pay12, k0_pay7]
  rw [e]
  simp only [pay10_val q k v w L D x0 x1 x2 x3 x4 x5 h0 h1 h2 h3 h4 h5, h0, ho, ← EReal.coe_mul, coe_sum, ← EReal.coe_add]
  rfl
include h0 h1 h2 h3 h4 h5 in
theorem pay19_val (o : S1x512x256.Idx → Elt Ideal .f32) (O : Fin 512 → Fin 256 → ℝ) (ho : ∀ r d, o (ix3 0 r d) = ((O r d : ℝ) : EReal)) (u : Fin 1) (c : Fin 512) (d : Fin 256) : k0_pay19 (F := Ideal) (k0_pay14 x0) x3 (k0_pay16 x0 x1 x4) x2 x5 o (ix3 u c d) = ((O c d + bK false q k v w L D c d : ℝ) : EReal) := by
  have e : k0_pay19 (F := Ideal) (k0_pay14 x0) x3 (k0_pay16 x0 x1 x4) x2 x5 o (ix3 u c d) = o (ix3 0 c d) + ∑ x, k0_pay17 (F := Ideal) x3 (k0_pay16 x0 x1 x4) x2 x5 (ix2 x c) * x0 (ix3 0 x d) := by
    pointwise [k0_pay19, k0_pay14]
  rw [e]
  simp only [pay17_val q k v w L D x0 x1 x2 x3 x4 x5 h0 h1 h2 h3 h4 h5, h0, ho, ← EReal.coe_mul, coe_sum, ← EReal.coe_add]
  rfl
include h0 h1 h2 h3 h4 h5 in
theorem pay27_val (u : Fin 1) (c : Fin 512) (d : Fin 256) : k0_pay27 (F := Ideal) (k0_pay22 x0) (k0_pay25 x0 x1 x3 x4 x2 x5) (ix3 u c d) = ((bK true q k v w L D c d : ℝ) : EReal) := by
  have e : k0_pay27 (F := Ideal) (k0_pay22 x0) (k0_pay25 x0 x1 x3 x4 x2 x5) (ix3 u c d) = ∑ x, k0_pay25 (F := Ideal) x0 x1 x3 x4 x2 x5 (ix2 x c) * x0 (ix3 0 x d) := by
    pointwise [k0_pay27, k0_pay22]
  rw [e]
  simp only [pay25_val q k v w L D x0 x1 x2 x3 x4 x5 h0 h1 h2 h3 h4 h5, h0, ← EReal.coe_mul, coe_sum]
  rfl
include h0 h1 h2 h3 h4 h5 in
theorem pay5_val (u : Fin 1) (c : Fin 512) (d : Fin 256) : k0_pay5 (F := Ideal) (k0_pay29 x0) x3 (k0_pay31 x0 x1 x4) x2 x5 (ix3 u c d) = ((bK true q k v w L D c d : ℝ) : EReal) := by
  have e : k0_pay5 (F := Ideal) (k0_pay29 x0) x3 (k0_pay31 x0 x1 x4) x2 x5 (ix3 u c d) = ∑ x, k0_pay3 (F := Ideal) x3 (k0_pay31 x0 x1 x4) x2 x5 (ix2 x c) * x0 (ix3 0 x d) := by
    pointwise [k0_pay5, k0_pay29]
  rw [e]
  simp only [pay3_val q k v w L D x0 x1 x2 x3 x4 x5 h0 h1 h2 h3 h4 h5, h0, ← EReal.coe_mul, coe_sum]
  rfl
include h0 h1 h2 h3 h4 h5 in
theorem pay13_val (o : S1x512x256.Idx → Elt Ideal .f32) (O : Fin 512 → Fin 256 → ℝ) (ho : ∀ r d, o (ix3 0 r d) = ((O r d : ℝ) : EReal)) (u : Fin 1) (r : Fin 512) (d : Fin 256) : k0_pay13 (F := Ideal) (k0_pay8 x1) (k0_pay10 x0 x1 x3 x4 x2 x5) o (ix3 u r d) = ((O r d + bQ false q k v w L D r d : ℝ) : EReal) := by
  have e : k0_pay13 (F := Ideal) (k0_pay8 x1) (k0_pay10 x0 x1 x3 x4 x2 x5) o (ix3 u r d) = o (ix3 0 r d) + ∑ x, k0_pay10 (F := Ideal) x0 x1 x3 x4 x2 x5 (ix2 r x) * x1 (ix3 0 x d) := by
    pointwise [k0_pay13, k0_pay8]
  rw [e]
  simp only [pay10_val q k v w L D x0 x1 x2 x3 x4 x5 h0 h1 h2 h3 h4 h5, h1, ho, ← EReal.coe_mul, coe_sum, ← EReal.coe_add]
  rfl
include h0 h1 h2 h3 h4 h5 in
theorem pay2_val (o : S1x512x256.Idx → Elt Ideal .f32) (O : Fin 512 → Fin 256 → ℝ) (ho : ∀ r d, o (ix3 0 r d) = ((O r d : ℝ) : EReal)) (u : Fin 1) (r : Fin 512) (d : Fin 256) : k0_pay2 (F := Ideal) (k0_pay20 o) (k0_pay21 (k0_pay15 x1) x3 (k0_pay16 x0 x1 x4) x2 x5) (ix3 u r d) = ((O r d + bQ false q k v w L D r d : ℝ) : EReal) := by
  have e : k0_pay2 (F := Ideal) (k0_pay20 o) (k0_pay21 (k0_pay15 x1) x3 (k0_pay16 x0 x1 x4) x2 x5) (ix3 u r d) = o (ix3 0 r d) + ∑ x, k0_pay17 (F := Ideal) x3 (k0_pay16 x0 x1 x4) x2 x5 (ix2 r x) * x1 (ix3 0 x d) := by
    pointwise [k0_pay2, k0_pay20, k0_pay21, k0_pay15]
  rw [e]
  simp only [pay17_val q k v w L D x0 x1 x2 x3 x4 x5 h0 h1 h2 h3 h4 h5, h1, ho, ← EReal.coe_mul, coe_sum, ← EReal.coe_add]
  rfl
include h0 h1 h2 h3 h4 h5 in
theorem pay28_val (o : S1x512x256.Idx → Elt Ideal .f32) (O : Fin 512 → Fin 256 → ℝ) (ho : ∀ r d, o (ix3 0 r d) = ((O r d : ℝ) : EReal)) (u : Fin 1) (r : Fin 512) (d : Fin 256) : k0_pay28 (F := Ideal) (k0_pay23 x1) (k0_pay25 x0 x1 x3 x4 x2 x5) o (ix3 u r d) = ((O r d + bQ true q k v w L D r d : ℝ) : EReal) := by
  have e : k0_pay28 (F := Ideal) (k0_pay23 x1) (k0_pay25 x0 x1 x3 x4 x2 x5) o (ix3 u r d) = o (ix3 0 r d) + ∑ x, k0_pay25 (F := Ideal) x0 x1 x3 x4 x2 x5 (ix2 r x) * x1 (ix3 0 x d) := by
    pointwise [k0_pay28, k0_pay23]
  rw [e]
  simp only [pay25_val q k v w L D x0 x1 x2 x3 x4 x5 h0 h1 h2 h3 h4 h5, h1, ho, ← EReal.coe_mul, coe_sum, ← EReal.coe_add]
  rfl
include h0 h1 h2 h3 h4 h5 in
theorem pay6_val (o : S1x512x256.Idx → Elt Ideal .f32) (O : Fin 512 → Fin 256 → ℝ) (ho : ∀ r d, o (ix3 0 r d) = ((O r d : ℝ) : EReal)) (u : Fin 1) (r : Fin 512) (d : Fin 256) : k0_pay6 (F := Ideal) (k0_pay30 x1) x3 (k0_pay31 x0 x1 x4) x2 x5 o (ix3 u r d) = ((O r d + bQ true q k v w L D r d : ℝ) : EReal) := by
  have e : k0_pay6 (F := Ideal) (k0_pay30 x1) x3 (k0_pay31 x0 x1 x4) x2 x5 o (ix3 u r d) = o (ix3 0 r d) + ∑ x, k0_pay3 (F := Ideal) x3 (k0_pay31 x0 x1 x4) x2 x5 (ix2 r x) * x1 (ix3 0 x d) := by
    pointwise [k0_pay6, k0_pay30]
  rw [e]
  simp only [pay3_val q k v w L D x0 x1 x2 x3 x4 x5 h0 h1 h2 h3 h4 h5, h1, ho, ← EReal.coe_mul, coe_sum, ← EReal.coe_add]
  rfl
end

end Cert.Val

end
-- ==== Proof.Val.Math.lean ====
/- The attention gradients over the reals, and their sums over the pairs of blocks. -/
module

public import proofs.«01_k».proof.Proof.Val.Pay

@[expose] public section

noncomputable section

namespace Cert.Val

/-- Row `r` of block `b` in a sequence of eight blocks. -/
def row (b : Fin 8) (r : Fin 512) : Fin 4096 := ⟨512 * b.val + r.val, by omega⟩
/-- Column `d` of head `h` in a pair of heads. -/
def col (h : Fin 2) (d : Fin 128) : Fin 256 := ⟨128 * h.val + d.val, by omega⟩
/-- Head `h` of head group `g`. -/
def hd (g h : Fin 2) : Fin 4 := ⟨2 * g.val + h.val, by omega⟩
/-- Column `d` of head `h` in four heads. -/
def col4 (h : Fin 4) (d : Fin 128) : Fin 512 := ⟨128 * h.val + d.val, by omega⟩

theorem row_surj (i : Fin 4096) : ∃ b r, row b r = i :=
  ⟨⟨i.val / 512, by omega⟩, ⟨i.val % 512, by omega⟩, Fin.ext (by show 512 * (i.val / 512) + i.val % 512 = i.val; omega)⟩
theorem hd_surj (h : Fin 4) : ∃ g l, hd g l = h :=
  ⟨⟨h.val / 2, by omega⟩, ⟨h.val % 2, by omega⟩, Fin.ext (by show 2 * (h.val / 2) + h.val % 2 = h.val; omega)⟩

/-- A sum over the sequence is the sum over its blocks. -/
theorem sum_rows (f : Fin 4096 → ℝ) : ∑ i, f i = ∑ b, ∑ r, f (row b r) := by
  rw [← Finset.sum_product']
  symm
  refine Finset.sum_bij' (fun x _ => row x.1 x.2) (fun i _ => (⟨i.val / 512, by omega⟩, ⟨i.val % 512, by omega⟩)) ?_ ?_ ?_ ?_ ?_
  · intro x _; exact Finset.mem_univ _
  · intro i _; exact Finset.mem_univ _
  · rintro ⟨b, r⟩ _
    refine Prod.ext (Fin.ext ?_) (Fin.ext ?_)
    · show (512 * b.val + r.val) / 512 = b.val; omega
    · show (512 * b.val + r.val) % 512 = r.val; omega
  · intro i _
    exact Fin.ext (by show 512 * (i.val / 512) + i.val % 512 = i.val; omega)
  · intro x _; rfl

section
variable (q k : Fin 4 → Fin 4096 → Fin 256 → ℝ) (v w : Fin 4 → Fin 4096 → Fin 128 → ℝ) (L D : Fin 4 → Fin 4096 → ℝ)

/-! ## The gradients -/

/-- The probabilities, from the rows' log-sum-exp `L`. -/
def gP (h : Fin 4) (i j : Fin 4096) : ℝ :=
  if j.val ≤ i.val then Real.exp ((∑ d, q h i d * k h j d) * scale - L h i) else 0
/-- The gradient of the logits times their scale, from the rows' sums `D`. -/
def gS (h : Fin 4) (i j : Fin 4096) : ℝ :=
  gP q k L h i j * ((∑ d, w h i d * v h j d) - D h i) * scale
/-- The gradients of the values, the keys and the queries. -/
def gV (h : Fin 4) (j : Fin 4096) (d : Fin 128) : ℝ := ∑ i, gP q k L h i j * w h i d
def gK (h : Fin 4) (j : Fin 4096) (d : Fin 256) : ℝ := ∑ i, gS q k v w L D h i j * q h i d
def gQ (h : Fin 4) (i : Fin 4096) (d : Fin 256) : ℝ := ∑ j, gS q k v w L D h i j * k h j d

/-! ## A pair of blocks' part -/

def pV (h : Fin 4) (kb qb : Fin 8) (c : Fin 512) (d : Fin 128) : ℝ := ∑ r, gP q k L h (row qb r) (row kb c) * w h (row qb r) d
def pK (h : Fin 4) (kb qb : Fin 8) (c : Fin 512) (d : Fin 256) : ℝ := ∑ r, gS q k v w L D h (row qb r) (row kb c) * q h (row qb r) d
def pQ (h : Fin 4) (kb qb : Fin 8) (r : Fin 512) (d : Fin 256) : ℝ := ∑ c, gS q k v w L D h (row qb r) (row kb c) * k h (row kb c) d

section
variable (h : Fin 4) (dg : Bool) (kb qb : Fin 8) (hp : if dg = true then kb = qb else kb.val < qb.val)

include hp in
theorem bP_eq (r c : Fin 512) :
    bP dg (fun r d => q h (row qb r) d) (fun r d => k h (row kb r) d) (fun r => L h (row qb r)) r c = gP q k L h (row qb r) (row kb c) := by
  have hr := r.isLt
  have hc := c.isLt
  have e : (dg = false ∨ c.val ≤ r.val) ↔ (row kb c).val ≤ (row qb r).val := by
    show _ ↔ 512 * kb.val + c.val ≤ 512 * qb.val + r.val
    cases dg
    · simp at hp ⊢; omega
    · simp at hp ⊢; subst hp; omega
  unfold bP gP
  by_cases hh : dg = false ∨ c.val ≤ r.val
  · rw [if_pos hh, if_pos (e.mp hh)]
  · rw [if_neg hh, if_neg (fun x => hh (e.mpr x))]

include hp in
theorem bS_eq (r c : Fin 512) :
    bS dg (fun r d => q h (row qb r) d) (fun r d => k h (row kb r) d) (fun r d => v h (row kb r) d) (fun r d => w h (row qb r) d)
      (fun r => L h (row qb r)) (fun r => D h (row qb r)) r c = gS q k v w L D h (row qb r) (row kb c) := by
  unfold bS gS
  rw [bP_eq q k L h dg kb qb hp]

include hp in
theorem bV_eq (c : Fin 512) (d : Fin 128) :
    bV dg (fun r d => q h (row qb r) d) (fun r d => k h (row kb r) d) (fun r d => w h (row qb r) d)
      (fun r => L h (row qb r)) c d = pV q k w L h kb qb c d := by
  unfold bV pV
  simp only [bP_eq q k L h dg kb qb hp]

include hp in
theorem bK_eq (c : Fin 512) (d : Fin 256) :
    bK dg (fun r d => q h (row qb r) d) (fun r d => k h (row kb r) d) (fun r d => v h (row kb r) d) (fun r d => w h (row qb r) d)
      (fun r => L h (row qb r)) (fun r => D h (row qb r)) c d = pK q k v w L D h kb qb c d := by
  unfold bK pK
  simp only [bS_eq q k v w L D h dg kb qb hp]

include hp in
theorem bQ_eq (r : Fin 512) (d : Fin 256) :
    bQ dg (fun r d => q h (row qb r) d) (fun r d => k h (row kb r) d) (fun r d => v h (row kb r) d) (fun r d => w h (row qb r) d)
      (fun r => L h (row qb r)) (fun r => D h (row qb r)) r d = pQ q k v w L D h kb qb r d := by
  unfold bQ pQ
  simp only [bS_eq q k v w L D h dg kb qb hp]
end

/-! ## The pairs together -/

theorem gP_above (h : Fin 4) (kb qb : Fin 8) (r c : Fin 512) (hlt : ¬ kb.val ≤ qb.val) : gP q k L h (row qb r) (row kb c) = 0 := by
  have hr := r.isLt
  exact if_neg (by show ¬ 512 * kb.val + c.val ≤ 512 * qb.val + r.val; omega)

theorem gV_eq (h : Fin 4) (kb : Fin 8) (c : Fin 512) (d : Fin 128) :
    (∑ qb : Fin 8, if kb.val ≤ qb.val then pV q k w L h kb qb c d else 0) = gV q k w L h (row kb c) d := by
  unfold gV
  rw [sum_rows]
  refine Finset.sum_congr rfl fun qb _ => ?_
  split
  · rfl
  · rename_i hlt
    exact (Finset.sum_eq_zero fun r _ => by rw [gP_above q k L h kb qb r c hlt, zero_mul]).symm

theorem gK_eq (h : Fin 4) (kb : Fin 8) (c : Fin 512) (d : Fin 256) :
    (∑ qb : Fin 8, if kb.val ≤ qb.val then pK q k v w L D h kb qb c d else 0) = gK q k v w L D h (row kb c) d := by
  unfold gK
  rw [sum_rows]
  refine Finset.sum_congr rfl fun qb _ => ?_
  split
  · rfl
  · rename_i hlt
    exact (Finset.sum_eq_zero fun r _ => by unfold gS; rw [gP_above q k L h kb qb r c hlt, zero_mul, zero_mul, zero_mul]).symm

theorem gQ_eq (h : Fin 4) (qb : Fin 8) (r : Fin 512) (d : Fin 256) :
    (∑ kb : Fin 8, if kb.val ≤ qb.val then pQ q k v w L D h kb qb r d else 0) = gQ q k v w L D h (row qb r) d := by
  unfold gQ
  rw [sum_rows]
  refine Finset.sum_congr rfl fun kb _ => ?_
  split
  · rfl
  · rename_i hlt
    exact (Finset.sum_eq_zero fun c _ => by unfold gS; rw [gP_above q k L h kb qb r c hlt, zero_mul, zero_mul, zero_mul]).symm

end

end Cert.Val

end
-- ==== Proof.Val.StepVal.lean ====
/- One step of the attention gradients' body on blocks of real numbers: what each of its three
   accumulators holds afterwards. -/
module

public import proofs.«01_k».proof.Proof.Val.Math
public import proofs.«01_k».proof.Proof.KI.Step

@[expose] public section

noncomputable section

namespace Cert.Val

open Cert.KernelIdeal Cert.KernelIdeal.Gen Cert.KernelIdeal.Hand
open Idealize.ShloMosaic

/-! ## The parts of the blocks -/

theorem w256_0_at {e : EltTy} (x : S2x512x256.Idx → Elt Ideal e) (r : Fin 512) (d : Fin 256) : w256_0 x (ix3 0 r d) = x (ix3 0 r d) := by
  unfold w256_0 VecWindow.window
  refine congrArg x (funext fun a => Fin.ext ?_)
  fin_cases a <;> simp [Rect.unit, Rect.emb, ix3, ix2, col]
theorem w256_1_at {e : EltTy} (x : S2x512x256.Idx → Elt Ideal e) (r : Fin 512) (d : Fin 256) : w256_1 x (ix3 0 r d) = x (ix3 1 r d) := by
  unfold w256_1 VecWindow.window
  refine congrArg x (funext fun a => Fin.ext ?_)
  fin_cases a <;> simp [Rect.unit, Rect.emb, ix3, ix2, col]
theorem w128_0_at {e : EltTy} (x : S2x512x128.Idx → Elt Ideal e) (r : Fin 512) (d : Fin 128) : w128_0 x (ix3 0 r d) = x (ix3 0 r d) := by
  unfold w128_0 VecWindow.window
  refine congrArg x (funext fun a => Fin.ext ?_)
  fin_cases a <;> simp [Rect.unit, Rect.emb, ix3, ix2, col]
theorem w128_1_at {e : EltTy} (x : S2x512x128.Idx → Elt Ideal e) (r : Fin 512) (d : Fin 128) : w128_1 x (ix3 0 r d) = x (ix3 1 r d) := by
  unfold w128_1 VecWindow.window
  refine congrArg x (funext fun a => Fin.ext ?_)
  fin_cases a <;> simp [Rect.unit, Rect.emb, ix3, ix2, col]
theorem w1_0_at {e : EltTy} (x : S2x512x1.Idx → Elt Ideal e) (r : Fin 512) (d : Fin 1) : w1_0 x (ix3 0 r d) = x (ix3 0 r d) := by
  unfold w1_0 VecWindow.window
  refine congrArg x (funext fun a => Fin.ext ?_)
  fin_cases a <;> simp [Rect.unit, Rect.emb, ix3, ix2, col]
theorem w1_1_at {e : EltTy} (x : S2x512x1.Idx → Elt Ideal e) (r : Fin 512) (d : Fin 1) : w1_1 x (ix3 0 r d) = x (ix3 1 r d) := by
  unfold w1_1 VecWindow.window
  refine congrArg x (funext fun a => Fin.ext ?_)
  fin_cases a <;> simp [Rect.unit, Rect.emb, ix3, ix2, col]
theorem wdo_0_at {e : EltTy} (x : S512x256.Idx → Elt Ideal e) (r : Fin 512) (d : Fin 128) : wdo_0 x (ix2 r d) = x (ix2 r (col 0 d)) := by
  unfold wdo_0 VecWindow.window
  refine congrArg x (funext fun a => Fin.ext ?_)
  fin_cases a <;> simp [Rect.unit, Rect.emb, ix3, ix2, col]
theorem wdo_1_at {e : EltTy} (x : S512x256.Idx → Elt Ideal e) (r : Fin 512) (d : Fin 128) : wdo_1 x (ix2 r d) = x (ix2 r (col 1 d)) := by
  unfold wdo_1 VecWindow.window
  refine congrArg x (funext fun a => Fin.ext ?_)
  fin_cases a <;> simp [Rect.unit, Rect.emb, ix3, ix2, col]
theorem wrow_0_at (z : S2x4096x256.Idx → Elt Ideal .f32) (n : Fin 8) (r : Fin 512) (d : Fin 256) : wrow_0 z n (ix3 0 r d) = z (ix3 0 (row n r) d) := by
  unfold wrow_0 VecWindow.window
  refine congrArg z (funext fun a => Fin.ext ?_)
  fin_cases a <;> simp [Rect.unit, Rect.emb, ix3, row]
theorem wrow_1_at (z : S2x4096x256.Idx → Elt Ideal .f32) (n : Fin 8) (r : Fin 512) (d : Fin 256) : wrow_1 z n (ix3 0 r d) = z (ix3 1 (row n r) d) := by
  unfold wrow_1 VecWindow.window
  refine congrArg z (funext fun a => Fin.ext ?_)
  fin_cases a <;> simp [Rect.unit, Rect.emb, ix3, row]
theorem two256_at (z : S2x512x256.Idx → Elt Ideal .f32) (a b : S1x512x256.Idx → Elt Ideal .f32) (h : Fin 2) (r : Fin 512) (d : Fin 256) :
    two256 z a b (ix3 h r d) = if h = 0 then a (ix3 0 r d) else b (ix3 0 r d) := by
  unfold two256 VecWindow.put
  have hr := r.isLt
  have hd := d.isLt
  split
  · rename_i h1
    have e : ¬ h = 0 := fun h0 => by subst h0; have := (h1 0).1; simp [ix3] at this
    rw [if_neg e]
    refine congrArg b (funext fun a => Fin.ext ?_)
    rw [Rect.unitLocal_val]
    have hh : h.val = 1 := by omega
    fin_cases a <;> simp [ix3, hh]
  · rename_i h1
    have e : h = 0 := by
      by_contra hn
      have hh : h.val = 1 := by omega
      exact h1 (fun a => by fin_cases a <;> simp [ix3, hh])
    subst e
    rw [if_pos rfl, dif_pos (fun a => by fin_cases a <;> simp [ix3])]
    refine congrArg a (funext fun a => Fin.ext ?_)
    rw [Rect.unitLocal_val]
    fin_cases a <;> simp [ix3]
theorem two128_at (z : S2x512x128.Idx → Elt Ideal .f32) (a b : S1x512x128.Idx → Elt Ideal .f32) (h : Fin 2) (r : Fin 512) (d : Fin 128) :
    two128 z a b (ix3 h r d) = if h = 0 then a (ix3 0 r d) else b (ix3 0 r d) := by
  unfold two128 VecWindow.put
  have hr := r.isLt
  have hd := d.isLt
  split
  · rename_i h1
    have e : ¬ h = 0 := fun h0 => by subst h0; have := (h1 0).1; simp [ix3] at this
    rw [if_neg e]
    refine congrArg b (funext fun a => Fin.ext ?_)
    rw [Rect.unitLocal_val]
    have hh : h.val = 1 := by omega
    fin_cases a <;> simp [ix3, hh]
  · rename_i h1
    have e : h = 0 := by
      by_contra hn
      have hh : h.val = 1 := by omega
      exact h1 (fun a => by fin_cases a <;> simp [ix3, hh])
    subst e
    rw [if_pos rfl, dif_pos (fun a => by fin_cases a <;> simp [ix3])]
    refine congrArg a (funext fun a => Fin.ext ?_)
    rw [Rect.unitLocal_val]
    fin_cases a <;> simp [ix3]
theorem twoRows_at (z : S2x4096x256.Idx → Elt Ideal .f32) (n : Fin 8) (a b : S1x512x256.Idx → Elt Ideal .f32) (h : Fin 2) (n' : Fin 8) (r : Fin 512) (d : Fin 256) :
    twoRows z n a b (ix3 h (row n' r) d) = if n' = n then (if h = 0 then a (ix3 0 r d) else b (ix3 0 r d)) else z (ix3 h (row n' r) d) := by
  unfold twoRows VecWindow.put
  have hr := r.isLt
  have hd := d.isLt
  by_cases hn : n' = n
  · subst hn
    rw [if_pos rfl]
    by_cases e : h = 0
    · subst e
      rw [dif_neg (fun h1 => by have := (h1 0).1; simp [ix3, rows] at this), if_pos rfl, dif_pos (fun a => by fin_cases a <;> simp [ix3, rows, row])]
      refine congrArg a (funext fun a => Fin.ext ?_)
      rw [Rect.unitLocal_val]
      fin_cases a <;> simp [ix3, rows, row]
    · have hh : h.val = 1 := by omega
      rw [dif_pos (fun a => by fin_cases a <;> simp [ix3, rows, row, hh]), if_neg e]
      refine congrArg b (funext fun a => Fin.ext ?_)
      rw [Rect.unitLocal_val]
      fin_cases a <;> simp [ix3, rows, row, hh]
  · have hv : n'.val ≠ n.val := fun e => hn (Fin.ext e)
    rw [if_neg hn, dif_neg (fun h1 => by have := h1 1; simp [ix3, rows, row] at this; omega),
      dif_neg (fun h1 => by have := h1 1; simp [ix3, rows, row] at this; omega)]

/-! ## The steps -/

section
variable (q k : Fin 2 → Fin 512 → Fin 256 → ℝ) (v w : Fin 2 → Fin 512 → Fin 128 → ℝ) (L D : Fin 2 → Fin 512 → ℝ)
variable (x0 x1 : S2x512x256.Idx → Elt Ideal .bf16) (x2 : S2x512x128.Idx → Elt Ideal .bf16) (x3 : S512x256.Idx → Elt Ideal .bf16) (x4 x5 : S2x512x1.Idx → Elt Ideal .f32)
variable (h0 : ∀ h r d, x0 (ix3 h r d) = ((q h r d : ℝ) : EReal)) (h1 : ∀ h r d, x1 (ix3 h r d) = ((k h r d : ℝ) : EReal)) (h2 : ∀ h r d, x2 (ix3 h r d) = ((v h r d : ℝ) : EReal))
  (h3 : ∀ h r d, x3 (ix2 r (col h d)) = ((w h r d : ℝ) : EReal)) (h4 : ∀ h r, x4 (ix3 h r 0) = ((L h r : ℝ) : EReal)) (h5 : ∀ h r, x5 (ix3 h r 0) = ((D h r : ℝ) : EReal))

include h0 h1 h3 h4 in
theorem belowV_val (old : S2x512x128.Idx → Elt Ideal .f32) (O : Fin 2 → Fin 512 → Fin 128 → ℝ) (ho : ∀ h r d, old (ix3 h r d) = ((O h r d : ℝ) : EReal)) (h : Fin 2) (c : Fin 512) (d : Fin 128) :
    belowV x0 x1 x3 x4 old (ix3 h c d) = ((O h c d + bV false (q h) (k h) (w h) (L h) c d : ℝ) : EReal) := by
  unfold belowV
  rw [two128_at]
  fin_cases h
  · exact pay11_val (q 0) (k 0) (w 0) (L 0) (w256_0 x0) (w256_0 x1) (wdo_0 x3) (w1_0 x4) (fun r d => (w256_0_at x0 r d).trans (h0 0 r d)) (fun r d => (w256_0_at x1 r d).trans (h1 0 r d)) (fun r d => (wdo_0_at x3 r d).trans (h3 0 r d)) (fun r => (w1_0_at x4 r 0).trans (h4 0 r)) (w128_0 old) (O 0) (fun r d => (w128_0_at old r d).trans (ho 0 r d)) 0 c d
  · exact pay18_val (q 1) (k 1) (w 1) (L 1) (w256_1 x0) (w256_1 x1) (wdo_1 x3) (w1_1 x4) (fun r d => (w256_1_at x0 r d).trans (h0 1 r d)) (fun r d => (w256_1_at x1 r d).trans (h1 1 r d)) (fun r d => (wdo_1_at x3 r d).trans (h3 1 r d)) (fun r => (w1_1_at x4 r 0).trans (h4 1 r)) (w128_1 old) (O 1) (fun r d => (w128_1_at old r d).trans (ho 1 r d)) 0 c d
include h0 h1 h3 h4 in
theorem diagV_val (old : S2x512x128.Idx → Elt Ideal .f32) (h : Fin 2) (c : Fin 512) (d : Fin 128) :
    diagV x0 x1 x3 x4 old (ix3 h c d) = ((bV true (q h) (k h) (w h) (L h) c d : ℝ) : EReal) := by
  unfold diagV
  rw [two128_at]
  fin_cases h
  · exact pay26_val (q 0) (k 0) (w 0) (L 0) (w256_0 x0) (w256_0 x1) (wdo_0 x3) (w1_0 x4) (fun r d => (w256_0_at x0 r d).trans (h0 0 r d)) (fun r d => (w256_0_at x1 r d).trans (h1 0 r d)) (fun r d => (wdo_0_at x3 r d).trans (h3 0 r d)) (fun r => (w1_0_at x4 r 0).trans (h4 0 r)) 0 c d
  · exact pay4_val (q 1) (k 1) (w 1) (L 1) (w256_1 x0) (w256_1 x1) (wdo_1 x3) (w1_1 x4) (fun r d => (w256_1_at x0 r d).trans (h0 1 r d)) (fun r d => (w256_1_at x1 r d).trans (h1 1 r d)) (fun r d => (wdo_1_at x3 r d).trans (h3 1 r d)) (fun r => (w1_1_at x4 r 0).trans (h4 1 r)) 0 c d
include h0 h1 h2 h3 h4 h5 in
theorem belowK_val (old : S2x512x256.Idx → Elt Ideal .f32) (O : Fin 2 → Fin 512 → Fin 256 → ℝ) (ho : ∀ h r d, old (ix3 h r d) = ((O h r d : ℝ) : EReal)) (h : Fin 2) (c : Fin 512) (d : Fin 256) :
    belowK x0 x1 x2 x3 x4 x5 old (ix3 h c d) = ((O h c d + bK false (q h) (k h) (v h) (w h) (L h) (D h) c d : ℝ) : EReal) := by
  unfold belowK
  rw [two256_at]
  fin_cases h
  · exact pay12_val (q 0) (k 0) (v 0) (w 0) (L 0) (D 0) (w256_0 x0) (w256_0 x1) (w128_0 x2) (wdo_0 x3) (w1_0 x4) (w1_0 x5) (fun r d => (w256_0_at x0 r d).trans (h0 0 r d)) (fun r d => (w256_0_at x1 r d).trans (h1 0 r d)) (fun r d => (w128_0_at x2 r d).trans (h2 0 r d)) (fun r d => (wdo_0_at x3 r d).trans (h3 0 r d)) (fun r => (w1_0_at x4 r 0).trans (h4 0 r)) (fun r => (w1_0_at x5 r 0).trans (h5 0 r)) (w256_0 old) (O 0) (fun r d => (w256_0_at old r d).trans (ho 0 r d)) 0 c d
  · exact pay19_val (q 1) (k 1) (v 1) (w 1) (L 1) (D 1) (w256_1 x0) (w256_1 x1) (w128_1 x2) (wdo_1 x3) (w1_1 x4) (w1_1 x5) (fun r d => (w256_1_at x0 r d).trans (h0 1 r d)) (fun r d => (w256_1_at x1 r d).trans (h1 1 r d)) (fun r d => (w128_1_at x2 r d).trans (h2 1 r d)) (fun r d => (wdo_1_at x3 r d).trans (h3 1 r d)) (fun r => (w1_1_at x4 r 0).trans (h4 1 r)) (fun r => (w1_1_at x5 r 0).trans (h5 1 r)) (w256_1 old) (O 1) (fun r d => (w256_1_at old r d).trans (ho 1 r d)) 0 c d
include h0 h1 h2 h3 h4 h5 in
theorem diagK_val (old : S2x512x256.Idx → Elt Ideal .f32) (h : Fin 2) (c : Fin 512) (d : Fin 256) :
    diagK x0 x1 x2 x3 x4 x5 old (ix3 h c d) = ((bK true (q h) (k h) (v h) (w h) (L h) (D h) c d : ℝ) : EReal) := by
  unfold diagK
  rw [two256_at]
  fin_cases h
  · exact pay27_val (q 0) (k 0) (v 0) (w 0) (L 0) (D 0) (w256_0 x0) (w256_0 x1) (w128_0 x2) (wdo_0 x3) (w1_0 x4) (w1_0 x5) (fun r d => (w256_0_at x0 r d).trans (h0 0 r d)) (fun r d => (w256_0_at x1 r d).trans (h1 0 r d)) (fun r d => (w128_0_at x2 r d).trans (h2 0 r d)) (fun r d => (wdo_0_at x3 r d).trans (h3 0 r d)) (fun r => (w1_0_at x4 r 0).trans (h4 0 r)) (fun r => (w1_0_at x5 r 0).trans (h5 0 r)) 0 c d
  · exact pay5_val (q 1) (k 1) (v 1) (w 1) (L 1) (D 1) (w256_1 x0) (w256_1 x1) (w128_1 x2) (wdo_1 x3) (w1_1 x4) (w1_1 x5) (fun r d => (w256_1_at x0 r d).trans (h0 1 r d)) (fun r d => (w256_1_at x1 r d).trans (h1 1 r d)) (fun r d => (w128_1_at x2 r d).trans (h2 1 r d)) (fun r d => (wdo_1_at x3 r d).trans (h3 1 r d)) (fun r => (w1_1_at x4 r 0).trans (h4 1 r)) (fun r => (w1_1_at x5 r 0).trans (h5 1 r)) 0 c d
include h0 h1 h2 h3 h4 h5 in
theorem belowQ_val (n : Fin 8) (old : S2x4096x256.Idx → Elt Ideal .f32) (O : Fin 2 → Fin 8 → Fin 512 → Fin 256 → ℝ) (ho : ∀ h b r d, old (ix3 h (row b r) d) = ((O h b r d : ℝ) : EReal)) (h : Fin 2) (b : Fin 8) (r : Fin 512) (d : Fin 256) :
    belowQ x0 x1 x2 x3 x4 x5 n old (ix3 h (row b r) d) = ((O h b r d + (if b = n then bQ false (q h) (k h) (v h) (w h) (L h) (D h) r d else 0) : ℝ) : EReal) := by
  unfold belowQ
  rw [twoRows_at]
  by_cases hb : b = n
  · subst hb
    rw [if_pos rfl, if_pos rfl]
    fin_cases h
    · exact pay13_val (q 0) (k 0) (v 0) (w 0) (L 0) (D 0) (w256_0 x0) (w256_0 x1) (w128_0 x2) (wdo_0 x3) (w1_0 x4) (w1_0 x5) (fun r d => (w256_0_at x0 r d).trans (h0 0 r d)) (fun r d => (w256_0_at x1 r d).trans (h1 0 r d)) (fun r d => (w128_0_at x2 r d).trans (h2 0 r d)) (fun r d => (wdo_0_at x3 r d).trans (h3 0 r d)) (fun r => (w1_0_at x4 r 0).trans (h4 0 r)) (fun r => (w1_0_at x5 r 0).trans (h5 0 r)) (wrow_0 old b) (O 0 b) (fun r d => (wrow_0_at old b r d).trans (ho 0 b r d)) 0 r d
    · exact pay2_val (q 1) (k 1) (v 1) (w 1) (L 1) (D 1) (w256_1 x0) (w256_1 x1) (w128_1 x2) (wdo_1 x3) (w1_1 x4) (w1_1 x5) (fun r d => (w256_1_at x0 r d).trans (h0 1 r d)) (fun r d => (w256_1_at x1 r d).trans (h1 1 r d)) (fun r d => (w128_1_at x2 r d).trans (h2 1 r d)) (fun r d => (wdo_1_at x3 r d).trans (h3 1 r d)) (fun r => (w1_1_at x4 r 0).trans (h4 1 r)) (fun r => (w1_1_at x5 r 0).trans (h5 1 r)) (wrow_1 old b) (O 1 b) (fun r d => (wrow_1_at old b r d).trans (ho 1 b r d)) 0 r d
  · rw [if_neg hb, if_neg hb, add_zero]
    exact ho h b r d
include h0 h1 h2 h3 h4 h5 in
theorem diagQ_val (n : Fin 8) (old : S2x4096x256.Idx → Elt Ideal .f32) (O : Fin 2 → Fin 8 → Fin 512 → Fin 256 → ℝ) (ho : ∀ h b r d, old (ix3 h (row b r) d) = ((O h b r d : ℝ) : EReal)) (h : Fin 2) (b : Fin 8) (r : Fin 512) (d : Fin 256) :
    diagQ x0 x1 x2 x3 x4 x5 n old (ix3 h (row b r) d) = ((O h b r d + (if b = n then bQ true (q h) (k h) (v h) (w h) (L h) (D h) r d else 0) : ℝ) : EReal) := by
  unfold diagQ
  rw [twoRows_at]
  by_cases hb : b = n
  · subst hb
    rw [if_pos rfl, if_pos rfl]
    fin_cases h
    · exact pay28_val (q 0) (k 0) (v 0) (w 0) (L 0) (D 0) (w256_0 x0) (w256_0 x1) (w128_0 x2) (wdo_0 x3) (w1_0 x4) (w1_0 x5) (fun r d => (w256_0_at x0 r d).trans (h0 0 r d)) (fun r d => (w256_0_at x1 r d).trans (h1 0 r d)) (fun r d => (w128_0_at x2 r d).trans (h2 0 r d)) (fun r d => (wdo_0_at x3 r d).trans (h3 0 r d)) (fun r => (w1_0_at x4 r 0).trans (h4 0 r)) (fun r => (w1_0_at x5 r 0).trans (h5 0 r)) (wrow_0 old b) (O 0 b) (fun r d => (wrow_0_at old b r d).trans (ho 0 b r d)) 0 r d
    · exact pay6_val (q 1) (k 1) (v 1) (w 1) (L 1) (D 1) (w256_1 x0) (w256_1 x1) (w128_1 x2) (wdo_1 x3) (w1_1 x4) (w1_1 x5) (fun r d => (w256_1_at x0 r d).trans (h0 1 r d)) (fun r d => (w256_1_at x1 r d).trans (h1 1 r d)) (fun r d => (w128_1_at x2 r d).trans (h2 1 r d)) (fun r d => (wdo_1_at x3 r d).trans (h3 1 r d)) (fun r => (w1_1_at x4 r 0).trans (h4 1 r)) (fun r => (w1_1_at x5 r 0).trans (h5 1 r)) (wrow_1 old b) (O 1 b) (fun r d => (wrow_1_at old b r d).trans (ho 1 b r d)) 0 r d
  · rw [if_neg hb, if_neg hb, add_zero]
    exact ho h b r d
end

end Cert.Val

end
-- ==== Proof.Val.Order.lean ====
/- The order in which the attention gradients' pipeline goes through the pairs of blocks, and the blocks' places in
   their arrays. -/
module

public import proofs.«01_k».proof.Proof.Val.StepVal
public import proofs.«01_k».proof.Proof.KI.Frame
public import Idealize.ShloMosaic.Lib.Pipeline.Value

@[expose] public section

set_option maxRecDepth 16384

noncomputable section

namespace Cert.Val

open Cert.KernelIdeal Cert.KernelIdeal.Gen Cert.KernelIdeal.Hand
open Idealize.ShloMosaic Idealize.ShloMosaic.TcCoe
open Idealize.ShloMosaic.Pipeline (Dat Cfg Window)

/-- The head group at a point, and the key block's number. -/
def gt (t : Fin cfgA.N) : Fin 2 := ⟨t.val / 36 % 2, Nat.mod_lt _ (by decide)⟩
def kj (t : Fin cfgA.N) : Fin 8 := ⟨(wj (F := Ideal) pinT_0 (crd t)).toNat % 8, Nat.mod_lt _ (by decide)⟩
/-! ## The order of the points -/

/-- A head group's first point is at the first pair of blocks. -/
theorem ord_first : ∀ t : Fin cfgA.N, P0 t → kj t = 0 ∧ qi t = 0 := by decide +kernel
/-- A pair below the diagonal follows the pair one query block before it. -/
theorem ord_below : ∀ t : Fin cfgA.N, P1 t → ∃ h : t.val - 1 < cfgA.N, t.val ≠ 0 ∧ gt ⟨t.val - 1, h⟩ = gt t ∧ kj ⟨t.val - 1, h⟩ = kj t
    ∧ (qi t).val = (qi ⟨t.val - 1, h⟩).val + 1 ∧ (kj t).val < (qi t).val := by decide +kernel
/-- A later pair on the diagonal follows the last pair of the key block before it. -/
theorem ord_diag : ∀ t : Fin cfgA.N, ¬ P0 t → ¬ P1 t → ∃ h : t.val - 1 < cfgA.N, t.val ≠ 0 ∧ gt ⟨t.val - 1, h⟩ = gt t ∧ (kj t).val = (kj ⟨t.val - 1, h⟩).val + 1
    ∧ qi ⟨t.val - 1, h⟩ = 7 ∧ qi t = kj t := by decide +kernel
theorem ord_le : ∀ t : Fin cfgA.N, (kj t).val ≤ (qi t).val := by decide +kernel
/-- When an output is written back, all its pairs are done; and each of its blocks is written back. -/
theorem ord_flush : ∀ t : Fin cfgA.N, ((cfgA.win (6 : Fin 9)).flush t = true → kj t = 7 ∧ qi t = 7)
    ∧ ((cfgA.win (7 : Fin 9)).flush t = true → qi t = 7) ∧ ((cfgA.win (8 : Fin 9)).flush t = true → qi t = 7) := by decide +kernel
theorem ord_cover6 : ∀ g : Fin 2, ∃ t : Fin cfgA.N, (cfgA.win (6 : Fin 9)).flush t = true ∧ gt t = g := by decide +kernel
theorem ord_cover7 : ∀ g : Fin 2, ∀ b : Fin 8, ∃ t : Fin cfgA.N, (cfgA.win (7 : Fin 9)).flush t = true ∧ gt t = g ∧ kj t = b := by decide +kernel
theorem ord_cover8 : ∀ g : Fin 2, ∀ b : Fin 8, ∃ t : Fin cfgA.N, (cfgA.win (8 : Fin 9)).flush t = true ∧ gt t = g ∧ kj t = b := by decide +kernel

/-! ## The blocks' places in their arrays -/

theorem index_0 : ∀ t : Fin cfgA.N, ∀ a : Fin 3, (cfgA.win (0 : Fin 9)).index t a = (![(gt t).val, (qi t).val, 0] : Fin 3 → ℕ) a := by decide +kernel
theorem index_1 : ∀ t : Fin cfgA.N, ∀ a : Fin 3, (cfgA.win (1 : Fin 9)).index t a = (![(gt t).val, (kj t).val, 0] : Fin 3 → ℕ) a := by decide +kernel
theorem index_2 : ∀ t : Fin cfgA.N, ∀ a : Fin 3, (cfgA.win (2 : Fin 9)).index t a = (![(gt t).val, (kj t).val, 0] : Fin 3 → ℕ) a := by decide +kernel
theorem index_3 : ∀ t : Fin cfgA.N, ∀ a : Fin 2, (cfgA.win (3 : Fin 9)).index t a = (![(qi t).val, (gt t).val] : Fin 2 → ℕ) a := by decide +kernel
theorem index_4 : ∀ t : Fin cfgA.N, ∀ a : Fin 3, (cfgA.win (4 : Fin 9)).index t a = (![(gt t).val, (qi t).val, 0] : Fin 3 → ℕ) a := by decide +kernel
theorem index_5 : ∀ t : Fin cfgA.N, ∀ a : Fin 3, (cfgA.win (5 : Fin 9)).index t a = (![(gt t).val, (qi t).val, 0] : Fin 3 → ℕ) a := by decide +kernel
theorem index_6 : ∀ t : Fin cfgA.N, ∀ a : Fin 3, (cfgA.win (6 : Fin 9)).index t a = (![(gt t).val, 0, 0] : Fin 3 → ℕ) a := by decide +kernel
theorem index_7 : ∀ t : Fin cfgA.N, ∀ a : Fin 3, (cfgA.win (7 : Fin 9)).index t a = (![(gt t).val, (kj t).val, 0] : Fin 3 → ℕ) a := by decide +kernel
theorem index_8 : ∀ t : Fin cfgA.N, ∀ a : Fin 3, (cfgA.win (8 : Fin 9)).index t a = (![(gt t).val, (kj t).val, 0] : Fin 3 → ℕ) a := by decide +kernel

end Cert.Val

end
-- ==== Proof.Val.Blocks.lean ====
/- The blocks of the attention gradients' pipeline: which part of its array each window reads at a point. -/
module

public import proofs.«01_k».proof.Proof.Val.Order
public import Idealize.ShloMosaic.Lib.Pipeline.Value

@[expose] public section

set_option maxRecDepth 16384

noncomputable section

namespace Cert.Val

open Cert.KernelIdeal Cert.KernelIdeal.Gen Cert.KernelIdeal.Hand
open Idealize.ShloMosaic Idealize.ShloMosaic.TcCoe
open Idealize.ShloMosaic.Pipeline (Dat Cfg Window)

theorem hd_val (g h : Fin 2) : (hd g h).val = 2 * g.val + h.val := rfl

/-! ## A block of any contents -/

section
variable (t : Fin cfgA.N)

theorem rd_0 (f : S4x4096x256.Idx → Elt Ideal .bf16) (h : Fin 2) (r : Fin 512) (d : Fin 256) :
    ((cfgA.win (0 : Fin 9)).blk t).view.read (Elt Ideal) f (ix3 h r d) = f (ix3 (hd (gt t) h) (row (qi t) r) d) := by
  show f (((cfgA.win (0 : Fin 9)).rect t).emb (ix3 h r d)) = _
  refine congrArg f (funext fun a => Fin.ext ?_)
  refine (Window.rect_emb_val (cfgA.win (0 : Fin 9)) t _ a).trans ?_
  rw [index_0]
  revert a
  show ∀ a : Fin 3, _
  intro a
  fin_cases a
  · show (gt t).val * 2 + h.val = 2 * (gt t).val + h.val; omega
  · show (qi t).val * 512 + r.val = 512 * (qi t).val + r.val; omega
  · show 0 * 256 + d.val = d.val; omega
theorem rd_1 (f : S4x4096x256.Idx → Elt Ideal .bf16) (h : Fin 2) (r : Fin 512) (d : Fin 256) :
    ((cfgA.win (1 : Fin 9)).blk t).view.read (Elt Ideal) f (ix3 h r d) = f (ix3 (hd (gt t) h) (row (kj t) r) d) := by
  show f (((cfgA.win (1 : Fin 9)).rect t).emb (ix3 h r d)) = _
  refine congrArg f (funext fun a => Fin.ext ?_)
  refine (Window.rect_emb_val (cfgA.win (1 : Fin 9)) t _ a).trans ?_
  rw [index_1]
  revert a
  show ∀ a : Fin 3, _
  intro a
  fin_cases a
  · show (gt t).val * 2 + h.val = 2 * (gt t).val + h.val; omega
  · show (kj t).val * 512 + r.val = 512 * (kj t).val + r.val; omega
  · show 0 * 256 + d.val = d.val; omega
theorem rd_2 (f : S4x4096x256.Idx → Elt Ideal .bf16) (h : Fin 2) (r : Fin 512) (d : Fin 128) :
    ((cfgA.win (2 : Fin 9)).blk t).view.read (Elt Ideal) f (ix3 h r d) = f (ix3 (hd (gt t) h) (row (kj t) r) ⟨d.val, by omega⟩) := by
  show f (((cfgA.win (2 : Fin 9)).rect t).emb (ix3 h r d)) = _
  refine congrArg f (funext fun a => Fin.ext ?_)
  refine (Window.rect_emb_val (cfgA.win (2 : Fin 9)) t _ a).trans ?_
  rw [index_2]
  revert a
  show ∀ a : Fin 3, _
  intro a
  fin_cases a
  · show (gt t).val * 2 + h.val = 2 * (gt t).val + h.val; omega
  · show (kj t).val * 512 + r.val = 512 * (kj t).val + r.val; omega
  · show 0 * 128 + d.val = d.val; omega
theorem rd_3 (f : S4096x512.Idx → Elt Ideal .bf16) (h : Fin 2) (r : Fin 512) (d : Fin 128) :
    ((cfgA.win (3 : Fin 9)).blk t).view.read (Elt Ideal) f (ix2 r (col h d)) = f (ix2 (row (qi t) r) (col4 (hd (gt t) h) d)) := by
  show f (((cfgA.win (3 : Fin 9)).rect t).emb (ix2 r (col h d))) = _
  refine congrArg f (funext fun a => Fin.ext ?_)
  refine (Window.rect_emb_val (cfgA.win (3 : Fin 9)) t _ a).trans ?_
  rw [index_3]
  revert a
  show ∀ a : Fin 2, _
  intro a
  fin_cases a
  · show (qi t).val * 512 + r.val = 512 * (qi t).val + r.val; omega
  · show (gt t).val * 256 + (128 * h.val + d.val) = 128 * (2 * (gt t).val + h.val) + d.val; omega
theorem rd_4 (f : S4x4096x1.Idx → Elt Ideal .f32) (h : Fin 2) (r : Fin 512) (d : Fin 1) :
    ((cfgA.win (4 : Fin 9)).blk t).view.read (Elt Ideal) f (ix3 h r d) = f (ix3 (hd (gt t) h) (row (qi t) r) d) := by
  show f (((cfgA.win (4 : Fin 9)).rect t).emb (ix3 h r d)) = _
  refine congrArg f (funext fun a => Fin.ext ?_)
  refine (Window.rect_emb_val (cfgA.win (4 : Fin 9)) t _ a).trans ?_
  rw [index_4]
  revert a
  show ∀ a : Fin 3, _
  intro a
  fin_cases a
  · show (gt t).val * 2 + h.val = 2 * (gt t).val + h.val; omega
  · show (qi t).val * 512 + r.val = 512 * (qi t).val + r.val; omega
  · show 0 * 1 + d.val = d.val; omega
theorem rd_5 (f : S4x4096x1.Idx → Elt Ideal .f32) (h : Fin 2) (r : Fin 512) (d : Fin 1) :
    ((cfgA.win (5 : Fin 9)).blk t).view.read (Elt Ideal) f (ix3 h r d) = f (ix3 (hd (gt t) h) (row (qi t) r) d) := by
  show f (((cfgA.win (5 : Fin 9)).rect t).emb (ix3 h r d)) = _
  refine congrArg f (funext fun a => Fin.ext ?_)
  refine (Window.rect_emb_val (cfgA.win (5 : Fin 9)) t _ a).trans ?_
  rw [index_5]
  revert a
  show ∀ a : Fin 3, _
  intro a
  fin_cases a
  · show (gt t).val * 2 + h.val = 2 * (gt t).val + h.val; omega
  · show (qi t).val * 512 + r.val = 512 * (qi t).val + r.val; omega
  · show 0 * 1 + d.val = d.val; omega
theorem em_6 (h : Fin 2) (r : Fin 4096) (d : Fin 256) : ((cfgA.win (6 : Fin 9)).blk t).view.emb (ix3 h r d) = (ix3 (hd (gt t) h) r d : S4x4096x256.Idx) := by
  show ((cfgA.win (6 : Fin 9)).rect t).emb (ix3 h r d) = _
  refine funext fun a => Fin.ext ?_
  refine (Window.rect_emb_val (cfgA.win (6 : Fin 9)) t _ a).trans ?_
  rw [index_6]
  revert a
  show ∀ a : Fin 3, _
  intro a
  fin_cases a
  · show (gt t).val * 2 + h.val = 2 * (gt t).val + h.val; omega
  · show 0 * 4096 + r.val = r.val; omega
  · show 0 * 256 + d.val = d.val; omega
theorem rd_6 (f : S4x4096x256.Idx → Elt Ideal .f32) (h : Fin 2) (r : Fin 4096) (d : Fin 256) :
    ((cfgA.win (6 : Fin 9)).blk t).view.read (Elt Ideal) f (ix3 h r d) = f (ix3 (hd (gt t) h) r d) :=
  congrArg f (em_6 t h r d)
theorem em_7 (h : Fin 2) (r : Fin 512) (d : Fin 256) : ((cfgA.win (7 : Fin 9)).blk t).view.emb (ix3 h r d) = (ix3 (hd (gt t) h) (row (kj t) r) d : S4x4096x256.Idx) := by
  show ((cfgA.win (7 : Fin 9)).rect t).emb (ix3 h r d) = _
  refine funext fun a => Fin.ext ?_
  refine (Window.rect_emb_val (cfgA.win (7 : Fin 9)) t _ a).trans ?_
  rw [index_7]
  revert a
  show ∀ a : Fin 3, _
  intro a
  fin_cases a
  · show (gt t).val * 2 + h.val = 2 * (gt t).val + h.val; omega
  · show (kj t).val * 512 + r.val = 512 * (kj t).val + r.val; omega
  · show 0 * 256 + d.val = d.val; omega
theorem rd_7 (f : S4x4096x256.Idx → Elt Ideal .f32) (h : Fin 2) (r : Fin 512) (d : Fin 256) :
    ((cfgA.win (7 : Fin 9)).blk t).view.read (Elt Ideal) f (ix3 h r d) = f (ix3 (hd (gt t) h) (row (kj t) r) d) :=
  congrArg f (em_7 t h r d)
theorem em_8 (h : Fin 2) (r : Fin 512) (d : Fin 128) : ((cfgA.win (8 : Fin 9)).blk t).view.emb (ix3 h r d) = (ix3 (hd (gt t) h) (row (kj t) r) d : S4x4096x128.Idx) := by
  show ((cfgA.win (8 : Fin 9)).rect t).emb (ix3 h r d) = _
  refine funext fun a => Fin.ext ?_
  refine (Window.rect_emb_val (cfgA.win (8 : Fin 9)) t _ a).trans ?_
  rw [index_8]
  revert a
  show ∀ a : Fin 3, _
  intro a
  fin_cases a
  · show (gt t).val * 2 + h.val = 2 * (gt t).val + h.val; omega
  · show (kj t).val * 512 + r.val = 512 * (kj t).val + r.val; omega
  · show 0 * 128 + d.val = d.val; omega
theorem rd_8 (f : S4x4096x128.Idx → Elt Ideal .f32) (h : Fin 2) (r : Fin 512) (d : Fin 128) :
    ((cfgA.win (8 : Fin 9)).blk t).view.read (Elt Ideal) f (ix3 h r d) = f (ix3 (hd (gt t) h) (row (kj t) r) d) :=
  congrArg f (em_8 t h r d)
end

/-! ## The blocks the body reads -/

section
variable (m : (ℓ : Loc nD τ sig) → Buf (Elt Ideal) ℓ) (c : Dev nD) (t : Fin cfgA.N)

theorem blk_0 (f : S4x4096x256.Idx → Elt Ideal .bf16) (hf : entryV m c main_arg0 = f) (h : Fin 2) (r : Fin 512) (d : Fin 256) :
    iblk m c (0 : Fin 9) t (ix3 h r d) = f (ix3 (hd (gt t) h) (row (qi t) r) d) := by
  subst hf
  exact rd_0 t (entryV m c main_arg0) h r d
theorem blk_1 (f : S4x4096x256.Idx → Elt Ideal .bf16) (hf : entryV m c main_arg1 = f) (h : Fin 2) (r : Fin 512) (d : Fin 256) :
    iblk m c (1 : Fin 9) t (ix3 h r d) = f (ix3 (hd (gt t) h) (row (kj t) r) d) := by
  subst hf
  exact rd_1 t (entryV m c main_arg1) h r d
theorem blk_2 (f : S4x4096x256.Idx → Elt Ideal .bf16) (hf : entryV m c main_v35 = f) (h : Fin 2) (r : Fin 512) (d : Fin 128) :
    iblk m c (2 : Fin 9) t (ix3 h r d) = f (ix3 (hd (gt t) h) (row (kj t) r) ⟨d.val, by omega⟩) := by
  subst hf
  exact rd_2 t (entryV m c main_v35) h r d
theorem blk_3 (f : S4096x512.Idx → Elt Ideal .bf16) (hf : entryV m c main_arg3 = f) (h : Fin 2) (r : Fin 512) (d : Fin 128) :
    iblk m c (3 : Fin 9) t (ix2 r (col h d)) = f (ix2 (row (qi t) r) (col4 (hd (gt t) h) d)) := by
  subst hf
  exact rd_3 t (entryV m c main_arg3) h r d
theorem blk_4 (f : S4x4096x1.Idx → Elt Ideal .f32) (hf : entryV m c main_v21 = f) (h : Fin 2) (r : Fin 512) (d : Fin 1) :
    iblk m c (4 : Fin 9) t (ix3 h r d) = f (ix3 (hd (gt t) h) (row (qi t) r) d) := by
  subst hf
  exact rd_4 t (entryV m c main_v21) h r d
theorem blk_5 (f : S4x4096x1.Idx → Elt Ideal .f32) (hf : entryV m c main_v33 = f) (h : Fin 2) (r : Fin 512) (d : Fin 1) :
    iblk m c (5 : Fin 9) t (ix3 h r d) = f (ix3 (hd (gt t) h) (row (qi t) r) d) := by
  subst hf
  exact rd_5 t (entryV m c main_v33) h r d
end

end Cert.Val

end
-- ==== Proof.Val.Traj.lean ====
/- What the three accumulators hold after each point of the attention gradients' pipeline, where the arrays it reads
   hold real numbers: the sums over the pairs of blocks done so far. -/
module

public import proofs.«01_k».proof.Proof.Val.Blocks

@[expose] public section

set_option maxRecDepth 16384

noncomputable section

namespace Cert.Val

open Cert.KernelIdeal Cert.KernelIdeal.Gen Cert.KernelIdeal.Hand
open Idealize.ShloMosaic Idealize.ShloMosaic.TcCoe
open Idealize.ShloMosaic.Pipeline (Dat Cfg Window)

/-- The pairs done after point `t`, in its head group. -/
abbrev done (t : Fin cfgA.N) (kb b : Fin 8) : Prop := kb.val ≤ b.val ∧ (kb.val < (kj t).val ∨ (kb = kj t ∧ b.val ≤ (qi t).val))

section
variable (m : (ℓ : Loc nD τ sig) → Buf (Elt Ideal) ℓ) (c : Dev nD)
variable (q k : Fin 4 → Fin 4096 → Fin 256 → ℝ) (v w : Fin 4 → Fin 4096 → Fin 128 → ℝ) (L D : Fin 4 → Fin 4096 → ℝ)

/-- The arrays the pipeline reads hold these real numbers. -/
structure Reads : Prop where
  q : ∃ f : S4x4096x256.Idx → Elt Ideal .bf16, entryV m c main_arg0 = f ∧ ∀ h i d, f (ix3 h i d) = ((q h i d : ℝ) : EReal)
  k : ∃ f : S4x4096x256.Idx → Elt Ideal .bf16, entryV m c main_arg1 = f ∧ ∀ h i d, f (ix3 h i d) = ((k h i d : ℝ) : EReal)
  v : ∃ f : S4x4096x256.Idx → Elt Ideal .bf16, entryV m c main_v35 = f ∧ ∀ h i (d : Fin 128), f (ix3 h i ⟨d.val, by omega⟩) = ((v h i d : ℝ) : EReal)
  w : ∃ f : S4096x512.Idx → Elt Ideal .bf16, entryV m c main_arg3 = f ∧ ∀ h i d, f (ix2 i (col4 h d)) = ((w h i d : ℝ) : EReal)
  L : ∃ f : S4x4096x1.Idx → Elt Ideal .f32, entryV m c main_v21 = f ∧ ∀ h i, f (ix3 h i 0) = ((L h i : ℝ) : EReal)
  D : ∃ f : S4x4096x1.Idx → Elt Ideal .f32, entryV m c main_v33 = f ∧ ∀ h i, f (ix3 h i 0) = ((D h i : ℝ) : EReal)

/-- What the accumulators hold after point `t`. -/
structure After (t : Fin cfgA.N) (x : (S2x4096x256.Idx → Elt Ideal .f32) × (S2x512x256.Idx → Elt Ideal .f32) × (S2x512x128.Idx → Elt Ideal .f32)) : Prop where
  Q : ∀ h b r d, x.1 (ix3 h (row b r) d) = ((∑ kb : Fin 8, if done t kb b then pQ q k v w L D (hd (gt t) h) kb b r d else 0 : ℝ) : EReal)
  K : ∀ h r d, x.2.1 (ix3 h r d) = ((∑ qb : Fin 8, if (kj t).val ≤ qb.val ∧ qb.val ≤ (qi t).val then pK q k v w L D (hd (gt t) h) (kj t) qb r d else 0 : ℝ) : EReal)
  V : ∀ h r d, x.2.2 (ix3 h r d) = ((∑ qb : Fin 8, if (kj t).val ≤ qb.val ∧ qb.val ≤ (qi t).val then pV q k w L (hd (gt t) h) (kj t) qb r d else 0 : ℝ) : EReal)

/-! ## Sums with one more pair -/

theorem sum_one (p : Fin 8 → Prop) [DecidablePred p] (a : Fin 8) (f : Fin 8 → ℝ) (hp : ∀ b, p b ↔ b = a) :
    (∑ b, if p b then f b else 0) = f a := by
  simp only [hp, Finset.sum_ite_eq', Finset.mem_univ, if_true]

theorem sum_more (p p' : Fin 8 → Prop) [DecidablePred p] [DecidablePred p'] (a : Fin 8) (f : Fin 8 → ℝ) (hp : ∀ b, p b ↔ p' b ∨ b = a) (ha : ¬ p' a) :
    (∑ b, if p b then f b else 0) = (∑ b, if p' b then f b else 0) + f a := by
  have e : f a = ∑ b, if b = a then f b else 0 := by simp
  rw [e, ← Finset.sum_add_distrib]
  refine Finset.sum_congr rfl fun b _ => ?_
  by_cases hb : b = a
  · subst hb; rw [if_pos ((hp b).mpr (Or.inr rfl)), if_neg ha, if_pos rfl, zero_add]
  · rw [if_neg hb, add_zero]
    by_cases h' : p' b
    · rw [if_pos h', if_pos ((hp b).mpr (Or.inl h'))]
    · rw [if_neg h', if_neg (fun x => ((hp b).mp x).elim h' hb)]

theorem sum_same (p p' : Fin 8 → Prop) [DecidablePred p] [DecidablePred p'] (f : Fin 8 → ℝ) (hp : ∀ b, p b ↔ p' b) :
    (∑ b, if p b then f b else 0) = (∑ b, if p' b then f b else 0) := by
  refine Finset.sum_congr rfl fun b _ => ?_
  by_cases h' : p' b
  · rw [if_pos h', if_pos ((hp b).mpr h')]
  · rw [if_neg h', if_neg (fun x => h' ((hp b).mp x))]

/-! ## The steps -/

variable (R : Reads m c q k v w L D)

/-- A pair on the diagonal adds its part to the queries' gradient and begins the other two. -/
theorem diag_all (R : Reads m c q k v w L D) (t : Fin cfgA.N) (heq : kj t = qi t) (old : S2x4096x256.Idx → Elt Ideal .f32) (old7 : S2x512x256.Idx → Elt Ideal .f32) (old8 : S2x512x128.Idx → Elt Ideal .f32)
    (O : Fin 2 → Fin 8 → Fin 512 → Fin 256 → ℝ) (ho : ∀ h b r d, old (ix3 h (row b r) d) = ((O h b r d : ℝ) : EReal)) :
    (∀ h b r d, diagQ (iblk m c (0 : Fin 9) t) (iblk m c (1 : Fin 9) t) (iblk m c (2 : Fin 9) t) (iblk m c (3 : Fin 9) t) (iblk m c (4 : Fin 9) t) (iblk m c (5 : Fin 9) t) (qi t) old (ix3 h (row b r) d)
        = ((O h b r d + (if b = qi t then pQ q k v w L D (hd (gt t) h) (kj t) b r d else 0) : ℝ) : EReal))
    ∧ (∀ h r d, diagK (iblk m c (0 : Fin 9) t) (iblk m c (1 : Fin 9) t) (iblk m c (2 : Fin 9) t) (iblk m c (3 : Fin 9) t) (iblk m c (4 : Fin 9) t) (iblk m c (5 : Fin 9) t) old7 (ix3 h r d)
        = ((pK q k v w L D (hd (gt t) h) (kj t) (qi t) r d : ℝ) : EReal))
    ∧ (∀ h r d, diagV (iblk m c (0 : Fin 9) t) (iblk m c (1 : Fin 9) t) (iblk m c (3 : Fin 9) t) (iblk m c (4 : Fin 9) t) old8 (ix3 h r d)
        = ((pV q k w L (hd (gt t) h) (kj t) (qi t) r d : ℝ) : EReal)) := by
  obtain ⟨⟨f0, e0, h0⟩, ⟨f1, e1, h1⟩, ⟨f2, e2, h2⟩, ⟨f3, e3, h3⟩, ⟨f4, e4, h4⟩, ⟨f5, e5, h5⟩⟩ := R
  have g0 := fun h r d => (blk_0 m c t f0 e0 h r d).trans (h0 _ _ _)
  have g1 := fun h r d => (blk_1 m c t f1 e1 h r d).trans (h1 _ _ _)
  have g2 := fun h r d => (blk_2 m c t f2 e2 h r d).trans (h2 _ _ _)
  have g3 := fun h r d => (blk_3 m c t f3 e3 h r d).trans (h3 _ _ _)
  have g4 := fun h r => (blk_4 m c t f4 e4 h r 0).trans (h4 _ _)
  have g5 := fun h r => (blk_5 m c t f5 e5 h r 0).trans (h5 _ _)
  have hp : if true = true then kj t = qi t else (kj t).val < (qi t).val := by rw [if_pos rfl]; exact heq
  refine ⟨fun h b r d => ?_, fun h r d => ?_, fun h r d => ?_⟩
  · refine (diagQ_val (fun h r d => q (hd (gt t) h) (row (qi t) r) d) (fun h r d => k (hd (gt t) h) (row (kj t) r) d) (fun h r d => v (hd (gt t) h) (row (kj t) r) d)
      (fun h r d => w (hd (gt t) h) (row (qi t) r) d) (fun h r => L (hd (gt t) h) (row (qi t) r)) (fun h r => D (hd (gt t) h) (row (qi t) r)) _ _ _ _ _ _ g0 g1 g2 g3 g4 g5 (qi t) old O ho h b r d).trans ?_
    by_cases hb : b = qi t
    · rw [if_pos hb, if_pos hb, hb]; exact congrArg (fun z : ℝ => ((O h (qi t) r d + z : ℝ) : EReal)) (bQ_eq q k v w L D (hd (gt t) h) true (kj t) (qi t) hp r d)
    · rw [if_neg hb, if_neg hb]
  · refine (diagK_val (fun h r d => q (hd (gt t) h) (row (qi t) r) d) (fun h r d => k (hd (gt t) h) (row (kj t) r) d) (fun h r d => v (hd (gt t) h) (row (kj t) r) d)
      (fun h r d => w (hd (gt t) h) (row (qi t) r) d) (fun h r => L (hd (gt t) h) (row (qi t) r)) (fun h r => D (hd (gt t) h) (row (qi t) r)) _ _ _ _ _ _ g0 g1 g2 g3 g4 g5 old7 h r d).trans ?_
    exact congrArg (fun z : ℝ => ((z : ℝ) : EReal)) (bK_eq q k v w L D (hd (gt t) h) true (kj t) (qi t) hp r d)
  · refine (diagV_val (fun h r d => q (hd (gt t) h) (row (qi t) r) d) (fun h r d => k (hd (gt t) h) (row (kj t) r) d)
      (fun h r d => w (hd (gt t) h) (row (qi t) r) d) (fun h r => L (hd (gt t) h) (row (qi t) r)) _ _ _ _ g0 g1 g3 g4 old8 h r d).trans ?_
    exact congrArg (fun z : ℝ => ((z : ℝ) : EReal)) (bV_eq q k w L (hd (gt t) h) true (kj t) (qi t) hp r d)

/-- A pair below the diagonal adds its part to all three. -/
theorem below_all (R : Reads m c q k v w L D) (t : Fin cfgA.N) (hlt : (kj t).val < (qi t).val) (old : S2x4096x256.Idx → Elt Ideal .f32) (old7 : S2x512x256.Idx → Elt Ideal .f32) (old8 : S2x512x128.Idx → Elt Ideal .f32)
    (O : Fin 2 → Fin 8 → Fin 512 → Fin 256 → ℝ) (ho : ∀ h b r d, old (ix3 h (row b r) d) = ((O h b r d : ℝ) : EReal))
    (O7 : Fin 2 → Fin 512 → Fin 256 → ℝ) (ho7 : ∀ h r d, old7 (ix3 h r d) = ((O7 h r d : ℝ) : EReal))
    (O8 : Fin 2 → Fin 512 → Fin 128 → ℝ) (ho8 : ∀ h r d, old8 (ix3 h r d) = ((O8 h r d : ℝ) : EReal)) :
    (∀ h b r d, belowQ (iblk m c (0 : Fin 9) t) (iblk m c (1 : Fin 9) t) (iblk m c (2 : Fin 9) t) (iblk m c (3 : Fin 9) t) (iblk m c (4 : Fin 9) t) (iblk m c (5 : Fin 9) t) (qi t) old (ix3 h (row b r) d)
        = ((O h b r d + (if b = qi t then pQ q k v w L D (hd (gt t) h) (kj t) b r d else 0) : ℝ) : EReal))
    ∧ (∀ h r d, belowK (iblk m c (0 : Fin 9) t) (iblk m c (1 : Fin 9) t) (iblk m c (2 : Fin 9) t) (iblk m c (3 : Fin 9) t) (iblk m c (4 : Fin 9) t) (iblk m c (5 : Fin 9) t) old7 (ix3 h r d)
        = ((O7 h r d + pK q k v w L D (hd (gt t) h) (kj t) (qi t) r d : ℝ) : EReal))
    ∧ (∀ h r d, belowV (iblk m c (0 : Fin 9) t) (iblk m c (1 : Fin 9) t) (iblk m c (3 : Fin 9) t) (iblk m c (4 : Fin 9) t) old8 (ix3 h r d)
        = ((O8 h r d + pV q k w L (hd (gt t) h) (kj t) (qi t) r d : ℝ) : EReal)) := by
  obtain ⟨⟨f0, e0, h0⟩, ⟨f1, e1, h1⟩, ⟨f2, e2, h2⟩, ⟨f3, e3, h3⟩, ⟨f4, e4, h4⟩, ⟨f5, e5, h5⟩⟩ := R
  have g0 := fun h r d => (blk_0 m c t f0 e0 h r d).trans (h0 _ _ _)
  have g1 := fun h r d => (blk_1 m c t f1 e1 h r d).trans (h1 _ _ _)
  have g2 := fun h r d => (blk_2 m c t f2 e2 h r d).trans (h2 _ _ _)
  have g3 := fun h r d => (blk_3 m c t f3 e3 h r d).trans (h3 _ _ _)
  have g4 := fun h r => (blk_4 m c t f4 e4 h r 0).trans (h4 _ _)
  have g5 := fun h r => (blk_5 m c t f5 e5 h r 0).trans (h5 _ _)
  have hp : if false = true then kj t = qi t else (kj t).val < (qi t).val := by rw [if_neg Bool.false_ne_true]; exact hlt
  refine ⟨fun h b r d => ?_, fun h r d => ?_, fun h r d => ?_⟩
  · refine (belowQ_val (fun h r d => q (hd (gt t) h) (row (qi t) r) d) (fun h r d => k (hd (gt t) h) (row (kj t) r) d) (fun h r d => v (hd (gt t) h) (row (kj t) r) d)
      (fun h r d => w (hd (gt t) h) (row (qi t) r) d) (fun h r => L (hd (gt t) h) (row (qi t) r)) (fun h r => D (hd (gt t) h) (row (qi t) r)) _ _ _ _ _ _ g0 g1 g2 g3 g4 g5 (qi t) old O ho h b r d).trans ?_
    by_cases hb : b = qi t
    · rw [if_pos hb, if_pos hb, hb]; exact congrArg (fun z : ℝ => ((O h (qi t) r d + z : ℝ) : EReal)) (bQ_eq q k v w L D (hd (gt t) h) false (kj t) (qi t) hp r d)
    · rw [if_neg hb, if_neg hb]
  · refine (belowK_val (fun h r d => q (hd (gt t) h) (row (qi t) r) d) (fun h r d => k (hd (gt t) h) (row (kj t) r) d) (fun h r d => v (hd (gt t) h) (row (kj t) r) d)
      (fun h r d => w (hd (gt t) h) (row (qi t) r) d) (fun h r => L (hd (gt t) h) (row (qi t) r)) (fun h r => D (hd (gt t) h) (row (qi t) r)) _ _ _ _ _ _ g0 g1 g2 g3 g4 g5 old7 O7 ho7 h r d).trans ?_
    exact congrArg (fun z : ℝ => ((O7 h r d + z : ℝ) : EReal)) (bK_eq q k v w L D (hd (gt t) h) false (kj t) (qi t) hp r d)
  · refine (belowV_val (fun h r d => q (hd (gt t) h) (row (qi t) r) d) (fun h r d => k (hd (gt t) h) (row (kj t) r) d)
      (fun h r d => w (hd (gt t) h) (row (qi t) r) d) (fun h r => L (hd (gt t) h) (row (qi t) r)) _ _ _ _ g0 g1 g3 g4 old8 O8 ho8 h r d).trans ?_
    exact congrArg (fun z : ℝ => ((O8 h r d + z : ℝ) : EReal)) (bV_eq q k w L (hd (gt t) h) false (kj t) (qi t) hp r d)

/-- One point's step carries the invariant from the point before. -/
theorem step_after (R : Reads m c q k v w L D) (t : Fin cfgA.N) (x : (S2x4096x256.Idx → Elt Ideal .f32) × (S2x512x256.Idx → Elt Ideal .f32) × (S2x512x128.Idx → Elt Ideal .f32))
    (hx : ¬ P0 t → ∀ h : t.val - 1 < cfgA.N, After q k v w L D ⟨t.val - 1, h⟩ x) : After q k v w L D t (step m c t x) := by
  unfold step
  split
  · rename_i p0
    obtain ⟨ek, eq⟩ := ord_first t p0
    obtain ⟨a, b, c'⟩ := diag_all m c q k v w L D R t (ek.trans eq.symm) (k0_pay1 (F := Ideal)) zero7 zero8 (fun _ _ _ _ => 0)
      (fun _ _ _ _ => lit_zero.trans EReal.coe_zero.symm)
    refine ⟨fun h n r d => (a h n r d).trans ?_, fun h r d => (b h r d).trans ?_, fun h r d => (c' h r d).trans ?_⟩
    · rw [zero_add]
      by_cases hn : n = qi t
      · rw [if_pos hn]
        exact congrArg _ (sum_one _ (kj t) (fun kb => pQ q k v w L D (hd (gt t) h) kb n r d) (fun kb => by
          subst hn
          simp only [done, ek, eq]
          constructor
          · rintro ⟨h1, h2 | h2⟩
            · exact absurd h2 (Nat.not_lt_zero _)
            · exact h2.1
          · rintro rfl; exact ⟨le_refl _, Or.inr ⟨rfl, le_refl _⟩⟩)).symm
      · rw [if_neg hn]
        refine congrArg _ (Finset.sum_eq_zero fun kb _ => if_neg ?_).symm
        rintro ⟨h1, h2 | h2⟩
        · rw [ek] at h2; exact absurd h2 (Nat.not_lt_zero _)
        · apply hn; rw [eq] at h2 ⊢; exact Fin.ext (Nat.le_zero.mp h2.2)
    · exact congrArg _ (sum_one _ (qi t) (fun qb => pK q k v w L D (hd (gt t) h) (kj t) qb r d) (fun qb => by
        rw [ek, eq, Fin.ext_iff]; show 0 ≤ qb.val ∧ qb.val ≤ 0 ↔ qb.val = 0; omega)).symm
    · exact congrArg _ (sum_one _ (qi t) (fun qb => pV q k w L (hd (gt t) h) (kj t) qb r d) (fun qb => by
        rw [ek, eq, Fin.ext_iff]; show 0 ≤ qb.val ∧ qb.val ≤ 0 ↔ qb.val = 0; omega)).symm
  · rename_i p0
    split
    · rename_i p1
      obtain ⟨hl, hne, eg, ek, eq, hlt⟩ := ord_below t p1
      obtain ⟨iQ, iK, iV⟩ := hx p0 hl
      rw [eg] at iQ iK iV
      rw [ek] at iK iV
      obtain ⟨a, b, c'⟩ := below_all m c q k v w L D R t hlt x.1 x.2.1 x.2.2 _ iQ _ iK _ iV
      refine ⟨fun h n r d => (a h n r d).trans ?_, fun h r d => (b h r d).trans ?_, fun h r d => (c' h r d).trans ?_⟩
      · by_cases hn : n = qi t
        · rw [if_pos hn]
          refine congrArg _ (sum_more _ _ (kj t) (fun kb => pQ q k v w L D (hd (gt t) h) kb n r d) (fun kb => ?_) ?_).symm
          · subst hn
            simp only [done, ek, Fin.ext_iff]; omega
          · subst hn
            simp only [done, ek, Fin.ext_iff]; omega
        · rw [if_neg hn, add_zero]
          refine congrArg _ (sum_same _ _ _ (fun kb => ?_)).symm
          have hn' : n.val ≠ (qi t).val := fun e => hn (Fin.ext e)
          simp only [done, ek, Fin.ext_iff]; omega
      · refine congrArg _ (sum_more _ _ (qi t) (fun qb => pK q k v w L D (hd (gt t) h) (kj t) qb r d) (fun qb => ?_) ?_).symm
        · rw [Fin.ext_iff]; omega
        · omega
      · refine congrArg _ (sum_more _ _ (qi t) (fun qb => pV q k w L (hd (gt t) h) (kj t) qb r d) (fun qb => ?_) ?_).symm
        · rw [Fin.ext_iff]; omega
        · omega
    · rename_i p1
      obtain ⟨hl, hne, eg, ek, eq, ee⟩ := ord_diag t p0 p1
      obtain ⟨iQ, iK, iV⟩ := hx p0 hl
      rw [eg] at iQ
      obtain ⟨a, b, c'⟩ := diag_all m c q k v w L D R t ee.symm x.1 zero7 zero8 _ iQ
      have hq7 : (qi ⟨t.val - 1, hl⟩).val = 7 := by rw [eq]; rfl
      have he : (qi t).val = (kj t).val := by rw [ee]
      refine ⟨fun h n r d => (a h n r d).trans ?_, fun h r d => (b h r d).trans ?_, fun h r d => (c' h r d).trans ?_⟩
      · by_cases hn : n = qi t
        · rw [if_pos hn]
          refine congrArg _ (sum_more _ _ (kj t) (fun kb => pQ q k v w L D (hd (gt t) h) kb n r d) (fun kb => ?_) ?_).symm
          · subst hn
            simp only [done, Fin.ext_iff]; omega
          · subst hn
            simp only [done, Fin.ext_iff]; omega
        · rw [if_neg hn, add_zero]
          refine congrArg _ (sum_same _ _ _ (fun kb => ?_)).symm
          have hn' : n.val ≠ (qi t).val := fun e => hn (Fin.ext e)
          simp only [done, Fin.ext_iff]; omega
      · refine congrArg _ (sum_one _ (qi t) (fun qb => pK q k v w L D (hd (gt t) h) (kj t) qb r d) (fun qb => ?_)).symm
        rw [Fin.ext_iff]; omega
      · refine congrArg _ (sum_one _ (qi t) (fun qb => pV q k w L (hd (gt t) h) (kj t) qb r d) (fun qb => ?_)).symm
        rw [Fin.ext_iff]; omega

/-- The first point is a head group's first. -/
theorem first_P0 : ∀ t : Fin cfgA.N, t.val = 0 → P0 t := by decide +kernel

theorem traj_after (R : Reads m c q k v w L D) : ∀ (n : ℕ) (hn : n < cfgA.N), After q k v w L D ⟨n, hn⟩ (traj m c n hn)
  | 0, hn => step_after m c q k v w L D R ⟨0, hn⟩ _ (fun h0 => absurd (first_P0 ⟨0, hn⟩ rfl) h0)
  | n + 1, hn => step_after m c q k v w L D R ⟨n + 1, hn⟩ _ (fun _ _ => traj_after R n (Nat.lt_of_succ_lt hn))

end

end Cert.Val

end
-- ==== Proof.Val.Arrays.lean ====
/- The three gradients the attention gradients' pipeline leaves, where the arrays it reads hold real numbers. -/
module

public import proofs.«01_k».proof.Proof.Val.Traj

@[expose] public section

set_option maxRecDepth 16384

noncomputable section

namespace Cert.Val

open Cert.KernelIdeal Cert.KernelIdeal.Gen Cert.KernelIdeal.Hand
open Idealize.ShloMosaic Idealize.ShloMosaic.TcCoe
open Idealize.ShloMosaic.Pipeline (Dat Cfg Window)

section
variable (m : (ℓ : Loc nD τ sig) → Buf (Elt Ideal) ℓ) (c : Dev nD)
variable (q k : Fin 4 → Fin 4096 → Fin 256 → ℝ) (v w : Fin 4 → Fin 4096 → Fin 128 → ℝ) (L D : Fin 4 → Fin 4096 → ℝ)

theorem ex3 {a b c : ℕ} (y : (⟨3, ![a, b, c]⟩ : Shape).Idx) : ∃ (h : Fin a) (r : Fin b) (d : Fin c), y = ix3 h r d :=
  ⟨y 0, y 1, y 2, funext fun x => by fin_cases x <;> rfl⟩

/-- The gradient of the queries. -/
def arrQ : S4x4096x256.Idx → Elt Ideal .f32 := fun i => ((gQ q k v w L D (i 0) (i 1) (i 2) : ℝ) : EReal)

theorem arrAt_6 (R : Reads m c q k v w L D) : (dats m 0 c).arrAt (6 : Fin 9) cfgA.N = arrQ q k v w L D := by
  refine (dats m 0 c).arrAt_eq_of_cover (6 : Fin 9) (arrQ q k v w L D) (fun t hf => ?_) (fun i => ?_)
  · have hq := (ord_flush t).1 hf
    obtain ⟨iQ, iK, iV⟩ := traj_after m c q k v w L D R t.val t.isLt
    funext y
    obtain ⟨h, r, d, rfl⟩ := ex3 (a := 2) (b := 4096) (c := 256) y
    refine Eq.trans ?_ (rd_6 t (arrQ q k v w L D) h r d).symm
    show (traj m c t.val t.isLt).1 (ix3 h r d) = _
    obtain ⟨b, r, rfl⟩ := row_surj r
    refine (iQ h b r d).trans (congrArg (fun z : ℝ => (z : EReal)) ?_)
    refine Eq.trans (sum_same _ _ _ fun kb => ?_) (gQ_eq q k v w L D (hd (gt t) h) b r d)
    have e7 : (7 : Fin 8).val = 7 := rfl
    have hk : (kj t).val = 7 := congrArg Fin.val hq.1
    have hi : (qi t).val = 7 := congrArg Fin.val hq.2
    have hb := b.isLt
    have hkb := kb.isLt
    have e1 : kj (⟨t.val, t.isLt⟩ : Fin cfgA.N) = kj t := rfl
    have e2 : qi (⟨t.val, t.isLt⟩ : Fin cfgA.N) = qi t := rfl
    simp only [done, Fin.ext_iff]; omega
  · obtain ⟨h, r, d, rfl⟩ := ex3 (a := 4) (b := 4096) (c := 256) i
    obtain ⟨g, l, rfl⟩ := hd_surj h
    obtain ⟨t, hf, hg⟩ := ord_cover6 g
    exact ⟨t, hf, Finset.mem_map.mpr ⟨ix3 l r d, Finset.mem_univ _, (em_6 t l r d).trans (by rw [hg])⟩⟩

/-- The gradient of the keys. -/
def arrK : S4x4096x256.Idx → Elt Ideal .f32 := fun i => ((gK q k v w L D (i 0) (i 1) (i 2) : ℝ) : EReal)

theorem arrAt_7 (R : Reads m c q k v w L D) : (dats m 0 c).arrAt (7 : Fin 9) cfgA.N = arrK q k v w L D := by
  refine (dats m 0 c).arrAt_eq_of_cover (7 : Fin 9) (arrK q k v w L D) (fun t hf => ?_) (fun i => ?_)
  · have hq := (ord_flush t).2.1 hf
    obtain ⟨iQ, iK, iV⟩ := traj_after m c q k v w L D R t.val t.isLt
    funext y
    obtain ⟨h, r, d, rfl⟩ := ex3 (a := 2) (b := 512) (c := 256) y
    refine Eq.trans ?_ (rd_7 t (arrK q k v w L D) h r d).symm
    show (traj m c t.val t.isLt).2.1 (ix3 h r d) = _
    refine (iK h r d).trans (congrArg (fun z : ℝ => (z : EReal)) ?_)
    refine Eq.trans (sum_same _ _ _ fun qb => ?_) (gK_eq q k v w L D (hd (gt t) h) (kj t) r d)
    have hi : (qi t).val = 7 := congrArg Fin.val hq
    have hb := qb.isLt
    have e1 : kj (⟨t.val, t.isLt⟩ : Fin cfgA.N) = kj t := rfl
    have e2 : qi (⟨t.val, t.isLt⟩ : Fin cfgA.N) = qi t := rfl
    omega
  · obtain ⟨h, r, d, rfl⟩ := ex3 (a := 4) (b := 4096) (c := 256) i
    obtain ⟨g, l, rfl⟩ := hd_surj h
    obtain ⟨b, r, rfl⟩ := row_surj r
    obtain ⟨t, hf, hg, hb⟩ := ord_cover7 g b
    exact ⟨t, hf, Finset.mem_map.mpr ⟨ix3 l r d, Finset.mem_univ _, (em_7 t l r d).trans (by rw [hg, hb])⟩⟩

/-- The gradient of the values. -/
def arrV : S4x4096x128.Idx → Elt Ideal .f32 := fun i => ((gV q k w L (i 0) (i 1) (i 2) : ℝ) : EReal)

theorem arrAt_8 (R : Reads m c q k v w L D) : (dats m 0 c).arrAt (8 : Fin 9) cfgA.N = arrV q k w L := by
  refine (dats m 0 c).arrAt_eq_of_cover (8 : Fin 9) (arrV q k w L) (fun t hf => ?_) (fun i => ?_)
  · have hq := (ord_flush t).2.2 hf
    obtain ⟨iQ, iK, iV⟩ := traj_after m c q k v w L D R t.val t.isLt
    funext y
    obtain ⟨h, r, d, rfl⟩ := ex3 (a := 2) (b := 512) (c := 128) y
    refine Eq.trans ?_ (rd_8 t (arrV q k w L) h r d).symm
    show (traj m c t.val t.isLt).2.2 (ix3 h r d) = _
    refine (iV h r d).trans (congrArg (fun z : ℝ => (z : EReal)) ?_)
    refine Eq.trans (sum_same _ _ _ fun qb => ?_) (gV_eq q k w L (hd (gt t) h) (kj t) r d)
    have hi : (qi t).val = 7 := congrArg Fin.val hq
    have hb := qb.isLt
    have e1 : kj (⟨t.val, t.isLt⟩ : Fin cfgA.N) = kj t := rfl
    have e2 : qi (⟨t.val, t.isLt⟩ : Fin cfgA.N) = qi t := rfl
    omega
  · obtain ⟨h, r, d, rfl⟩ := ex3 (a := 4) (b := 4096) (c := 128) i
    obtain ⟨g, l, rfl⟩ := hd_surj h
    obtain ⟨b, r, rfl⟩ := row_surj r
    obtain ⟨t, hf, hg, hb⟩ := ord_cover8 g b
    exact ⟨t, hf, Finset.mem_map.mpr ⟨ix3 l r d, Finset.mem_univ _, (em_8 t l r d).trans (by rw [hg, hb])⟩⟩

end

end Cert.Val

end
-- ==== Proof.Val.Soft.lean ====
/- The softmax of the attention over the reals: the kernel's form of the gradients, from the rows' saved log-sum-exp
   and sums, and the textbook's. -/
module

public import proofs.«01_k».proof.Proof.Val.Math

@[expose] public section

noncomputable section

namespace Cert.Val

open Idealize.ShloMosaic

section
variable (q k : Fin 4 → Fin 4096 → Fin 256 → ℝ) (v w : Fin 4 → Fin 4096 → Fin 128 → ℝ) (M : Fin 4 → Fin 4096 → ℝ)

/-- The logits. -/
def sco (h : Fin 4) (i j : Fin 4096) : ℝ := (∑ d, q h i d * k h j d) * scale
/-- Their exponentials over a row's number `M`, and the rows' sums. -/
def sE (h : Fin 4) (i j : Fin 4096) : ℝ := if j.val ≤ i.val then Real.exp (sco q k h i j - M h i) else 0
def sL (h : Fin 4) (i : Fin 4096) : ℝ := ∑ j, sE q k M h i j
/-- The probabilities. -/
def sP (h : Fin 4) (i j : Fin 4096) : ℝ := sE q k (fun _ _ => 0) h i j / sL q k (fun _ _ => 0) h i
/-- The gradient of the probabilities, and its mean under them. -/
def sG (h : Fin 4) (i j : Fin 4096) : ℝ := ∑ d, w h i d * v h j d
def sD (h : Fin 4) (i : Fin 4096) : ℝ := ∑ j, sP q k h i j * sG v w h i j
/-- The gradient of the logits, times their scale. -/
def sS (h : Fin 4) (i j : Fin 4096) : ℝ := sP q k h i j * (sG v w h i j - sD q k v w h i) * scale

theorem sE_nonneg (h : Fin 4) (i j : Fin 4096) : 0 ≤ sE q k M h i j := by
  unfold sE; split
  · exact (Real.exp_pos _).le
  · exact le_refl _
theorem sL_pos (h : Fin 4) (i : Fin 4096) : 0 < sL q k M h i := by
  refine Finset.sum_pos' (fun j _ => sE_nonneg q k M h i j) ⟨i, Finset.mem_univ _, ?_⟩
  unfold sE; rw [if_pos (le_refl _)]; exact Real.exp_pos _

theorem sE_eq (h : Fin 4) (i j : Fin 4096) : sE q k M h i j = sE q k (fun _ _ => 0) h i j * Real.exp (-M h i) := by
  unfold sE; split
  · rw [← Real.exp_add, sub_zero, sub_eq_add_neg]
  · rw [zero_mul]
theorem sL_eq (h : Fin 4) (i : Fin 4096) : sL q k M h i = sL q k (fun _ _ => 0) h i * Real.exp (-M h i) := by
  unfold sL; rw [Finset.sum_mul]; exact Finset.sum_congr rfl fun j _ => sE_eq q k M h i j

/-- The probabilities do not depend on the rows' numbers. -/
theorem sP_eq (h : Fin 4) (i j : Fin 4096) : sE q k M h i j / sL q k M h i = sP q k h i j := by
  rw [sE_eq, sL_eq, mul_div_mul_right _ _ (Real.exp_pos _).ne']; rfl

/-- From the log-sum-exp they are the same. -/
theorem gP_soft (h : Fin 4) (i j : Fin 4096) : gP q k (fun h i => M h i + Real.log (sL q k M h i)) h i j = sP q k h i j := by
  rw [← sP_eq q k M]
  unfold gP sE
  split
  · rw [show (∑ d, q h i d * k h j d) * scale - (M h i + Real.log (sL q k M h i)) = (sco q k h i j - M h i) - Real.log (sL q k M h i) by unfold sco; ring,
      Real.exp_sub, Real.exp_log (sL_pos q k M h i)]
  · rw [zero_div]

theorem gS_soft (h : Fin 4) (i j : Fin 4096) : gS q k v w (fun h i => M h i + Real.log (sL q k M h i)) (sD q k v w) h i j = sS q k v w h i j := by
  unfold gS; rw [gP_soft]; rfl

theorem gV_soft (h : Fin 4) (j : Fin 4096) (d : Fin 128) :
    gV q k w (fun h i => M h i + Real.log (sL q k M h i)) h j d = ∑ i, w h i d * sP q k h i j := by
  unfold gV; exact Finset.sum_congr rfl fun i _ => by rw [gP_soft, mul_comm]
theorem gK_soft (h : Fin 4) (j : Fin 4096) (d : Fin 256) :
    gK q k v w (fun h i => M h i + Real.log (sL q k M h i)) (sD q k v w) h j d = ∑ i, sS q k v w h i j * q h i d := by
  unfold gK; exact Finset.sum_congr rfl fun i _ => by rw [gS_soft]
theorem gQ_soft (h : Fin 4) (i : Fin 4096) (d : Fin 256) :
    gQ q k v w (fun h i => M h i + Real.log (sL q k M h i)) (sD q k v w) h i d = ∑ j, sS q k v w h i j * k h j d := by
  unfold gQ; exact Finset.sum_congr rfl fun i _ => by rw [gS_soft]

/-- The rows' sums from the output: the product with the output's gradient. -/
theorem sD_out (h : Fin 4) (i : Fin 4096) :
    (∑ d, (∑ j, sE q k M h i j / sL q k M h i * v h j d) * w h i d) = sD q k v w h i := by
  unfold sD sG
  simp only [sP_eq, Finset.sum_mul, Finset.mul_sum]
  rw [Finset.sum_comm]
  exact Finset.sum_congr rfl fun j _ => Finset.sum_congr rfl fun d _ => by ring

/-- The gradient of the logits through the quotient's two derivatives. -/
theorem sS_quot (h : Fin 4) (i j : Fin 4096) :
    (sG v w h i j / sL q k M h i + -(∑ j', sG v w h i j' * (1 / (sL q k M h i * sL q k M h i)) * sE q k M h i j')) * sE q k M h i j * scale = sS q k v w h i j := by
  have hL := (sL_pos q k M h i).ne'
  have e : (∑ j', sG v w h i j' * (1 / (sL q k M h i * sL q k M h i)) * sE q k M h i j') = sD q k v w h i / sL q k M h i := by
    unfold sD
    rw [Finset.sum_div]
    refine Finset.sum_congr rfl fun j' _ => ?_
    rw [← sP_eq q k M]
    field_simp
  rw [e]
  unfold sS
  rw [← sP_eq q k M]
  field_simp
  ring

end

/-! ## A maximum along the last of three axes -/

theorem reduce_max {n0 n1 n2 : ℕ} (x : FVec Ideal ⟨3, ![n0, n1, n2]⟩ .f32) (lit : BitVec 32) (h : (⟨3, ![n0, n1, n2]⟩ : Shape).ReducesTo [2] ⟨2, ![n0, n1]⟩)
    (hu : 0 < (⟨0, ![]⟩ : Shape).numel) (i : Fin n0) (j : Fin n1) :
    Host.reduce FloatOps.maximumf x (constant (F := Ideal) ⟨0, ![]⟩ .f32 lit) h hu (ix2 i j)
      = (Finset.univ : Finset (Fin n2)).fold max (Ideal.ofBits .f32 lit) (fun k => x (ix3 i j k)) := by
  pointwise []

theorem reduce_sum {n0 n1 n2 : ℕ} (x : FVec Ideal ⟨3, ![n0, n1, n2]⟩ .f32) (h : (⟨3, ![n0, n1, n2]⟩ : Shape).ReducesTo [2] ⟨2, ![n0, n1]⟩)
    (hu : 0 < (⟨0, ![]⟩ : Shape).numel) (i : Fin n0) (j : Fin n1) :
    Host.reduceAdd x (constant (F := Ideal) ⟨0, ![]⟩ .f32 0x00000000#32) h hu (ix2 i j) = ∑ k, x (ix3 i j k) := by
  pointwise []

theorem add_log {s : Shape} (x y : FVec Ideal s .f32) (i : s.Idx) : addf x (Host.log y) i = x i + Ideal.log (y i) := rfl

theorem beside_one {α : Type} {n0 n1 : ℕ} (y : (⟨2, ![n0, n1]⟩ : Shape).Idx → α) (hb : (⟨2, ![n0, n1]⟩ : Shape).BroadcastsInDim ⟨3, ![n0, n1, 1]⟩ ![0, 1]) (i : Fin n0) (j : Fin n1) :
    broadcastInDim ⟨3, ![n0, n1, 1]⟩ ![0, 1] hb y (ix3 i j 0) = y (ix2 i j) := by
  unfold broadcastInDim
  refine congrArg y (funext fun a => Fin.ext ?_)
  have hi := i.isLt
  have hj := j.isLt
  match a with
  | ⟨0, _⟩ =>
    split
    · rename_i h1
      have h1' : n0 = 1 := h1
      show 0 = i.val
      omega
    · rfl
  | ⟨1, _⟩ =>
    split
    · rename_i h1
      have h1' : n1 = 1 := h1
      show 0 = j.val
      omega
    · rfl

/-! ## A row's maximum is a real number -/

theorem max_real {n : ℕ} (i : Fin n) (f : Fin n → ℝ) :
    ∃ r : ℝ, (Finset.univ : Finset (Fin n)).fold max (⊥ : EReal) (fun j => if j.val ≤ i.val then ((f j : ℝ) : EReal) else ⊥) = ((r : ℝ) : EReal) := by
  have hne_bot : (Finset.univ : Finset (Fin n)).fold max (⊥ : EReal) (fun j => if j.val ≤ i.val then ((f j : ℝ) : EReal) else ⊥) ≠ ⊥ := by
    intro e
    have h1 : ((f i : ℝ) : EReal) ≤ (Finset.univ : Finset (Fin n)).fold max (⊥ : EReal) (fun j => if j.val ≤ i.val then ((f j : ℝ) : EReal) else ⊥) :=
      (Finset.le_fold_max _).mpr (Or.inr ⟨i, Finset.mem_univ _, by rw [if_pos (le_refl _)]⟩)
    rw [e] at h1
    exact EReal.coe_ne_bot _ (le_bot_iff.mp h1)
  have hne_top : (Finset.univ : Finset (Fin n)).fold max (⊥ : EReal) (fun j => if j.val ≤ i.val then ((f j : ℝ) : EReal) else ⊥) ≠ ⊤ := by
    refine ne_of_lt ((Finset.fold_max_lt _).mpr ⟨bot_lt_top, fun j _ => ?_⟩)
    split
    · exact EReal.coe_lt_top _
    · exact bot_lt_top
  exact ⟨_, (EReal.coe_toReal hne_top hne_bot).symm⟩

/-- So is the reduction of a masked array. -/
theorem reduce_max_real {n0 n : ℕ} (x : FVec Ideal ⟨3, ![n0, n, n]⟩ .f32) (lit : BitVec 32) (hl : Ideal.ofBits .f32 lit = ⊥)
    (h : (⟨3, ![n0, n, n]⟩ : Shape).ReducesTo [2] ⟨2, ![n0, n]⟩) (hu : 0 < (⟨0, ![]⟩ : Shape).numel) (i : Fin n0) (j : Fin n) (f : Fin n → ℝ)
    (hx : ∀ k, x (ix3 i j k) = if k.val ≤ j.val then ((f k : ℝ) : EReal) else ⊥) :
    ∃ r : ℝ, Host.reduce FloatOps.maximumf x (constant (F := Ideal) ⟨0, ![]⟩ .f32 lit) h hu (ix2 i j) = ((r : ℝ) : EReal) := by
  obtain ⟨r, hr⟩ := max_real j f
  refine ⟨r, ?_⟩
  rw [reduce_max, hl, ← hr]
  simp only [hx]

end Cert.Val

end
-- ==== Proof.Val.Host.lean ====
/- What the arrays the attention gradients' pipeline reads hold: the rows' log-sum-exp and sums the host saves, and the
   values beside a block of ones. -/
module

public import proofs.«01_k».proof.Proof.Val.Traj
public import proofs.«01_k».proof.Proof.Val.Soft
public import proofs.«01_k».proof.Proof.KI.Args
public import Idealize.ShloMosaic.Lib.StableHlo.Run

@[expose] public section

set_option maxRecDepth 16384

noncomputable section

namespace Cert.Val

open Cert.KernelIdeal Cert.KernelIdeal.Gen Cert.KernelIdeal.Hand
open Idealize.ShloMosaic Idealize.ShloMosaic.TcCoe

/-! ## The host operations' results, stage by stage -/

section
variable (a0 a1 : S4x4096x256.Idx → Elt Ideal .bf16) (a2 : S4x4096x128.Idx → Elt Ideal .bf16) (a3 : S4096x512.Idx → Elt Ideal .bf16)

def kMask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))
/-- The masked logits. -/
def kS : FVec Ideal S4x4096x4096 .f32 :=
  select (broadcastInDim S4x4096x4096 ![0, 1, 2] bcast_S1x4096x4096_S4x4096x4096_0_1_2 (broadcastInDim S1x4096x4096 ![1, 2] bcast_S4096x4096_S1x4096x4096_1_2 kMask))
    (mulf (Host.dotGeneral dot_S4x4096x256_S4x4096x256_S4x4096x4096_2_2_1_1_0_0 none (extf .f32 a0 bitsLt_bf16_f32) (extf .f32 a1 bitsLt_bf16_f32))
      (broadcastInDim S4x4096x4096 ![] bcast_S_S4x4096x4096 (constant (F := Ideal) S_ .f32 0x3D93CD3A#32)))
    (broadcastInDim S4x4096x4096 ![] bcast_S_S4x4096x4096 (constant (F := Ideal) S_ .f32 0xFF800000#32))
/-- The rows' maxima. -/
def kM : FVec Ideal S4x4096 .f32 :=
  Host.reduce FloatOps.maximumf (kS a0 a1) (constant (F := Ideal) S_ .f32 0xFF800000#32) reducesTo_S4x4096x4096_S4x4096_d2 h_S_
/-- The exponentials over them. -/
def kE : FVec Ideal S4x4096x4096 .f32 :=
  Host.exp (subf (kS a0 a1) (broadcastInDim S4x4096x4096 ![0, 1, 2] bcast_S4x4096x1_S4x4096x4096_0_1_2 (broadcastInDim S4x4096x1 ![0, 1] bcast_S4x4096_S4x4096x1_0_1 (kM a0 a1))))
/-- The rows' sums. -/
def kZ : FVec Ideal S4x4096x1 .f32 :=
  broadcastInDim S4x4096x1 ![0, 1] bcast_S4x4096_S4x4096x1_0_1
    (Host.reduceAdd (kE a0 a1) (constant (F := Ideal) S_ .f32 0x00000000#32) reducesTo_S4x4096x4096_S4x4096_d2 h_S_)
/-- The rows' log-sum-exp. -/
def kL : FVec Ideal S4x4096x1 .f32 :=
  addf (broadcastInDim S4x4096x1 ![0, 1] bcast_S4x4096_S4x4096x1_0_1 (kM a0 a1)) (Host.log (kZ a0 a1))
/-- The output. -/
def kO : FVec Ideal S4x4096x128 .bf16 :=
  truncf .bf16 (Host.dotGeneral dot_S4x4096x4096_S4x4096x128_S4x4096x128_2_1_1_2_0_0 none
    (Host.divf (kE a0 a1) (broadcastInDim S4x4096x4096 ![0, 1, 2] bcast_S4x4096x1_S4x4096x4096_0_1_2 (kZ a0 a1))) (extf .f32 a2 bitsLt_bf16_f32)) bitsLt_bf16_f32
/-- The output's gradient, head by head. -/
def kW : FVec Ideal S4x4096x128 .bf16 :=
  transpose S4x4096x128 [1, 0, 2] (shapeCast S4096x4x128 a3 shapeCasts_S4096x512_S4096x4x128) transposes_S4096x4x128_S4x4096x128_1_0_2
/-- The rows' sums of their product. -/
def kD : FVec Ideal S4x4096x1 .f32 :=
  broadcastInDim S4x4096x1 ![0, 1] bcast_S4x4096_S4x4096x1_0_1
    (Host.reduceAdd (mulf (extf .f32 (kO a0 a1 a2) bitsLt_bf16_f32) (extf .f32 (kW a3) bitsLt_bf16_f32)) (constant (F := Ideal) S_ .f32 0x00000000#32) reducesTo_S4x4096x128_S4x4096_d2 h_S_)
/-- The values beside a block of ones. -/
def kV : FVec Ideal S4x4096x256 .bf16 :=
  concatenate S4x4096x256 2 [⟨S4x4096x128, a2⟩, ⟨S4x4096x128, broadcastInDim S4x4096x128 ![] bcast_S_S4x4096x128 (constant (F := Ideal) S_ .bf16 0x3F80#16)⟩] concatenates_S4x4096x128_S4x4096x128_S4x4096x256_d2

end

section
variable (m : (ℓ : Loc nD τ sig) → Buf (Elt Ideal) ℓ) (c : Dev nD)

open Idealize.ShloMosaic.StableHlo in
theorem entry_L : entryV m c main_v21 = kL (m ((c.tc : Thread nD τ).loc main_arg0)) (m ((c.tc : Thread nD τ).loc main_arg1)) := by
  unfold entryV
  simp only [hostOps0, hostOps0_1, hostOps0_2, List.flatten_cons, List.flatten_nil, List.append_nil, List.cons_append, List.nil_append, TRef.unary, TRef.ternary]
  after_results_simp <;> rfl

open Idealize.ShloMosaic.StableHlo in
theorem entry_D : entryV m c main_v33 = kD (m ((c.tc : Thread nD τ).loc main_arg0)) (m ((c.tc : Thread nD τ).loc main_arg1)) (m ((c.tc : Thread nD τ).loc main_arg2)) (m ((c.tc : Thread nD τ).loc main_arg3)) := by
  unfold entryV
  simp only [hostOps0, hostOps0_1, hostOps0_2, List.flatten_cons, List.flatten_nil, List.append_nil, List.cons_append, List.nil_append, TRef.unary, TRef.ternary]
  after_results_simp <;> rfl

open Idealize.ShloMosaic.StableHlo in
theorem entry_V : entryV m c main_v35 = kV (m ((c.tc : Thread nD τ).loc main_arg2)) := by
  unfold entryV
  simp only [hostOps0, hostOps0_1, hostOps0_2, List.flatten_cons, List.flatten_nil, List.append_nil, List.cons_append, List.nil_append, TRef.unary, TRef.ternary]
  after_results_simp <;> rfl
end

end Cert.Val

end
-- ==== Proof.Val.HostVal.lean ====
/- The arrays the attention gradients' pipeline reads, where the arguments are real numbers. -/
module

public import proofs.«01_k».proof.Proof.Val.Host

@[expose] public section

set_option maxRecDepth 16384

noncomputable section

namespace Cert.Val

open Cert.KernelIdeal Cert.KernelIdeal.Gen Cert.KernelIdeal.Hand
open Idealize.ShloMosaic Idealize.ShloMosaic.TcCoe

section
variable (q k : Fin 4 → Fin 4096 → Fin 256 → ℝ) (v w : Fin 4 → Fin 4096 → Fin 128 → ℝ)
variable (a0 a1 : S4x4096x256.Idx → Elt Ideal .bf16) (a2 : S4x4096x128.Idx → Elt Ideal .bf16) (a3 : S4096x512.Idx → Elt Ideal .bf16)
variable (h0 : ∀ h i d, a0 (ix3 h i d) = ((q h i d : ℝ) : EReal)) (h1 : ∀ h i d, a1 (ix3 h i d) = ((k h i d : ℝ) : EReal)) (h2 : ∀ h i d, a2 (ix3 h i d) = ((v h i d : ℝ) : EReal))
  (h3 : ∀ h i d, a3 (ix2 i (col4 h d)) = ((w h i d : ℝ) : EReal))

include h0 h1 in
theorem kS_val (h : Fin 4) (i j : Fin 4096) : kS a0 a1 (ix3 h i j) = if j.val ≤ i.val then ((sco q k h i j : ℝ) : EReal) else ⊥ := by
  have e : kS a0 a1 (ix3 h i j) = Scalar.select (IntOp.cmpi .sle (BitVec.ofNat 32 j.val) (BitVec.ofNat 32 i.val))
      ((∑ d, a0 (ix3 h i d) * a1 (ix3 h j d)) * Ideal.ofBits .f32 0x3D93CD3A#32) (Ideal.ofBits .f32 0xFF800000#32) := by
    pointwise [kS, kMask]
  rw [e, cmpi_sle _ _ j.isLt i.isLt, lit_bot]
  simp only [h0, h1, lit_scale, ← EReal.coe_mul, coe_sum]
  by_cases hj : j.val ≤ i.val
  · simp only [hj, if_true]; rfl
  · simp only [hj, if_false]; rfl

include h0 h1 in
theorem kM_val : ∃ M : Fin 4 → Fin 4096 → ℝ, ∀ h i, kM a0 a1 (ix2 h i) = ((M h i : ℝ) : EReal) := by
  have key : ∀ h i, ∃ r : ℝ, kM a0 a1 (ix2 h i) = ((r : ℝ) : EReal) := fun h i =>
    reduce_max_real (n0 := 4) (n := 4096) (kS a0 a1) 0xFF800000#32 lit_bot reducesTo_S4x4096x4096_S4x4096_d2 h_S_ h i
      (fun j => sco q k h i j) (kS_val q k a0 a1 h0 h1 h i)
  exact ⟨fun h i => (key h i).choose, fun h i => (key h i).choose_spec⟩

section
variable (M : Fin 4 → Fin 4096 → ℝ) (hM : ∀ h i, kM a0 a1 (ix2 h i) = ((M h i : ℝ) : EReal))

include h0 h1 hM in
theorem kE_val (h : Fin 4) (i j : Fin 4096) : kE a0 a1 (ix3 h i j) = ((sE q k M h i j : ℝ) : EReal) := by
  have e : kE a0 a1 (ix3 h i j) = Ideal.exp (kS a0 a1 (ix3 h i j) - kM a0 a1 (ix2 h i)) := by
    pointwise [kE]
  rw [e, kS_val q k a0 a1 h0 h1, hM]
  unfold sE
  split
  · rw [← EReal.coe_sub, exp_coe]
  · rw [EReal.bot_sub]; rfl

include h0 h1 hM in
theorem kZ_val (h : Fin 4) (i : Fin 4096) : kZ a0 a1 (ix3 h i 0) = ((sL q k M h i : ℝ) : EReal) := by
  have e : kZ a0 a1 (ix3 h i 0) = ∑ j, kE a0 a1 (ix3 h i j) :=
    (beside_one _ bcast_S4x4096_S4x4096x1_0_1 h i).trans (reduce_sum (kE a0 a1) reducesTo_S4x4096x4096_S4x4096_d2 h_S_ h i)
  rw [e]
  simp only [kE_val q k a0 a1 h0 h1 M hM, coe_sum]
  rfl

include h0 h1 hM in
theorem kL_val (h : Fin 4) (i : Fin 4096) : kL a0 a1 (ix3 h i 0) = ((M h i + Real.log (sL q k M h i) : ℝ) : EReal) := by
  have eM := (beside_one (kM a0 a1) bcast_S4x4096_S4x4096x1_0_1 h i).trans (hM h i)
  have eZ := kZ_val q k a0 a1 h0 h1 M hM h i
  unfold kL
  generalize kZ a0 a1 = Z at eZ ⊢
  generalize broadcastInDim S4x4096x1 ![0, 1] bcast_S4x4096_S4x4096x1_0_1 (kM a0 a1) = B at eM ⊢
  refine (add_log B Z (ix3 h i 0)).trans ?_
  rw [eM, eZ, log_coe _ (sL_pos q k M h i), EReal.coe_add]

include h3 in
theorem kW_val (h : Fin 4) (i : Fin 4096) (d : Fin 128) : kW a3 (ix3 h i d) = ((w h i d : ℝ) : EReal) := by
  have e : kW a3 (ix3 h i d) = a3 (ix2 i ⟨h.val * 128 + d.val, by omega⟩) := by
    pointwise [kW]
  rw [e, ← h3]
  exact congrArg (fun z => a3 (ix2 i z)) (Fin.ext (by show h.val * 128 + d.val = 128 * h.val + d.val; omega))

include h0 h1 h2 hM in
theorem kO_val (h : Fin 4) (i : Fin 4096) (d : Fin 128) :
    kO a0 a1 a2 (ix3 h i d) = ((∑ j, sE q k M h i j / sL q k M h i * v h j d : ℝ) : EReal) := by
  have e : kO a0 a1 a2 (ix3 h i d) = ∑ j, Ideal.div (kE a0 a1 (ix3 h i j)) (kZ a0 a1 (ix3 h i 0)) * a2 (ix3 h j d) := by
    pointwise [kO]
  rw [e, ← coe_sum]
  refine Finset.sum_congr rfl fun j _ => ?_
  rw [kE_val q k a0 a1 h0 h1 M hM, kZ_val q k a0 a1 h0 h1 M hM, h2, div_coe _ _ (sL_pos q k M h i).ne', EReal.coe_mul]

include h0 h1 h2 h3 hM in
theorem kD_val (h : Fin 4) (i : Fin 4096) : kD a0 a1 a2 a3 (ix3 h i 0) = ((sD q k v w h i : ℝ) : EReal) := by
  have e : kD a0 a1 a2 a3 (ix3 h i 0) = ∑ d, kO a0 a1 a2 (ix3 h i d) * kW a3 (ix3 h i d) :=
    (beside_one _ bcast_S4x4096_S4x4096x1_0_1 h i).trans (reduce_sum (mulf (extf .f32 (kO a0 a1 a2) bitsLt_bf16_f32) (extf .f32 (kW a3) bitsLt_bf16_f32)) reducesTo_S4x4096x128_S4x4096_d2 h_S_ h i)
  rw [e, ← sD_out q k v w M h i, ← coe_sum]
  refine Finset.sum_congr rfl fun d _ => ?_
  rw [kO_val q k v a0 a1 a2 h0 h1 h2 M hM, kW_val w a3 h3, EReal.coe_mul]
end

include h2 in
theorem kV_val (h : Fin 4) (i : Fin 4096) (d : Fin 128) : kV a2 (ix3 h i ⟨d.val, by omega⟩) = ((v h i d : ℝ) : EReal) := by
  rw [← h2]
  have hd := d.isLt
  pointwise [kV]
end

section
variable (m : (ℓ : Loc nD τ sig) → Buf (Elt Ideal) ℓ) (c : Dev nD)
variable (q k : Fin 4 → Fin 4096 → Fin 256 → ℝ) (v w : Fin 4 → Fin 4096 → Fin 128 → ℝ)
variable (a0 a1 : S4x4096x256.Idx → Elt Ideal .bf16) (a2 : S4x4096x128.Idx → Elt Ideal .bf16) (a3 : S4096x512.Idx → Elt Ideal .bf16)
variable (e0 : m ((c.tc : Thread nD τ).loc main_arg0) = a0) (e1 : m ((c.tc : Thread nD τ).loc main_arg1) = a1) (e2 : m ((c.tc : Thread nD τ).loc main_arg2) = a2) (e3 : m ((c.tc : Thread nD τ).loc main_arg3) = a3)
variable (h0 : ∀ h i d, a0 (ix3 h i d) = ((q h i d : ℝ) : EReal)) (h1 : ∀ h i d, a1 (ix3 h i d) = ((k h i d : ℝ) : EReal)) (h2 : ∀ h i d, a2 (ix3 h i d) = ((v h i d : ℝ) : EReal))
  (h3 : ∀ h i d, a3 (ix2 i (col4 h d)) = ((w h i d : ℝ) : EReal))

include e0 e1 e2 e3 h0 h1 h2 h3 in
/-- The pipeline reads real numbers, the saved log-sum-exp and sums among them. -/
theorem reads : ∃ M : Fin 4 → Fin 4096 → ℝ, Reads m c q k v w (fun h i => M h i + Real.log (sL q k M h i)) (sD q k v w) := by
  obtain ⟨M, hM⟩ := kM_val q k a0 a1 h0 h1
  obtain ⟨n0, n1, n2, n3⟩ := entryV_arg m c
  refine ⟨M, ⟨a0, n0.trans e0, h0⟩, ⟨a1, n1.trans e1, h1⟩, ⟨kV a2, (entry_V m c).trans (by rw [e2]), kV_val v a2 h2⟩, ⟨a3, n3.trans e3, h3⟩,
    ⟨kL a0 a1, (entry_L m c).trans (by rw [e0, e1]), kL_val q k a0 a1 h0 h1 M hM⟩,
    ⟨kD a0 a1 a2 a3, (entry_D m c).trans (by rw [e0, e1, e2, e3]), kD_val q k v w a0 a1 a2 a3 h0 h1 h2 h3 M hM⟩⟩
end

end Cert.Val

end
-- ==== Proof.Val.Ref.lean ====
/- What the reference computes on real numbers, stage by stage: the gradients through the softmax's derivative. -/
module

public import proofs.«01_k».proof.Proof.Val.Soft
public import proofs.«01_k».proof.Proof.Gen.ReferenceIdeal.Read
public import proofs.«01_k».proof.Proof.Gen.ReferenceIdeal.Run

@[expose] public section

set_option maxRecDepth 16384

noncomputable section

namespace Cert.Val

open Cert.ReferenceIdeal Cert.ReferenceIdeal.Read Cert.ReferenceIdeal.Gen
open Idealize.ShloMosaic

section
variable (q k : Fin 4 → Fin 4096 → Fin 256 → ℝ) (v w : Fin 4 → Fin 4096 → Fin 128 → ℝ)
variable (x0 x1 : (⟨S4x4096x256, .bf16⟩ : BufTy).Contents (Elt Ideal)) (x2 : (⟨S4x4096x128, .bf16⟩ : BufTy).Contents (Elt Ideal)) (x3 : (⟨S4096x512, .bf16⟩ : BufTy).Contents (Elt Ideal))
variable (h0 : ∀ h i d, x0 (ix3 h i d) = ((q h i d : ℝ) : EReal)) (h1 : ∀ h i d, x1 (ix3 h i d) = ((k h i d : ℝ) : EReal)) (h2 : ∀ h i d, x2 (ix3 h i d) = ((v h i d : ℝ) : EReal))
  (h3 : ∀ h i d, x3 (ix2 i (col4 h d)) = ((w h i d : ℝ) : EReal))

/-- The mask. -/
theorem ref_mask (h : Fin 4) (i j : Fin 4096) : val_main_v15_1 (F := Ideal) (ix3 h i j) = if j.val ≤ i.val then 1#1 else 0#1 := by
  have e : val_main_v15_1 (F := Ideal) (ix3 h i j) = IntOp.cmpi .sle (BitVec.ofNat 32 j.val) (BitVec.ofNat 32 i.val) := by
    pointwise [val_main_v15_1, val_main_v14, val_main_v13, val_main_v11, val_main_v12, val_main_v9, val_main_v10, val_main_v8]
  rw [e, cmpi_sle _ _ j.isLt i.isLt]

include h0 h1 in
/-- The masked logits. -/
theorem ref_logits (h : Fin 4) (i j : Fin 4096) :
    val_main_v15_0 (F := Ideal) x0 x1 (ix3 h i j) = if j.val ≤ i.val then ((sco q k h i j : ℝ) : EReal) else ⊥ := by
  have e7 : val_main_v7 (F := Ideal) x0 x1 (ix3 h i j) = (∑ d, x0 (ix3 h i d) * x1 (ix3 h j d)) * Ideal.ofBits .f32 0x3D93CD3A#32 := by
    pointwise [val_main_v7, val_main_v6, val_main_v5, val_main_v4, val_main_v3, val_main_v0, val_main_v1, val_main_cst]
  have e : val_main_v15_0 (F := Ideal) x0 x1 (ix3 h i j) = Scalar.select (val_main_v15_1 (F := Ideal) (ix3 h i j)) (val_main_v7 (F := Ideal) x0 x1 (ix3 h i j)) (Ideal.ofBits .f32 0xFF800000#32) := by
    rw [val_main_v15_0_apply, val_main_call0_v2_apply, val_main_call0_v0_apply, val_main_cst_0_apply]
    rfl
  rw [e, e7, ref_mask, lit_bot]
  simp only [h0, h1, lit_scale, ← EReal.coe_mul, coe_sum]
  by_cases hj : j.val ≤ i.val
  · simp only [hj, if_true]; rfl
  · simp only [hj, if_false]; rfl

include h0 h1 in
/-- The rows' maxima are real numbers. -/
theorem ref_max : ∃ M : Fin 4 → Fin 4096 → ℝ, ∀ h i, val_main_v23 (F := Ideal) x0 x1 (ix2 h i) = ((M h i : ℝ) : EReal) := by
  have key : ∀ h i, ∃ r : ℝ, val_main_v23 (F := Ideal) x0 x1 (ix2 h i) = ((r : ℝ) : EReal) := by
    intro h i
    have e16 : ∃ r : ℝ, val_main_v16 (F := Ideal) x0 x1 (ix2 h i) = ((r : ℝ) : EReal) :=
      reduce_max_real (n0 := 4) (n := 4096) (val_main_v15_0 (F := Ideal) x0 x1) 0xFF800000#32 lit_bot reducesTo_S4x4096x4096_S4x4096_d2 h_S_ h i
        (fun j => sco q k h i j) (ref_logits q k x0 x1 h0 h1 h i)
    obtain ⟨r, hr⟩ := e16
    refine ⟨r, ?_⟩
    rw [val_main_v23_apply, val_main_v22_apply, val_main_cst_3_apply, hr]
    show max (Ideal.ofBits .f32 0xFF800000#32) _ = _
    rw [lit_bot]
    exact max_eq_right bot_le
  exact ⟨fun h i => (key h i).choose, fun h i => (key h i).choose_spec⟩

section
variable (M : Fin 4 → Fin 4096 → ℝ) (hM : ∀ h i, val_main_v23 (F := Ideal) x0 x1 (ix2 h i) = ((M h i : ℝ) : EReal))

include h0 h1 hM in
/-- The exponentials over the maxima. -/
theorem ref_exp (h : Fin 4) (i j : Fin 4096) : val_main_v36 (F := Ideal) x0 x1 (ix3 h i j) = ((sE q k M h i j : ℝ) : EReal) := by
  have e : val_main_v36 (F := Ideal) x0 x1 (ix3 h i j) = Ideal.exp (val_main_v15_0 (F := Ideal) x0 x1 (ix3 h i j) - val_main_v23 (F := Ideal) x0 x1 (ix2 h i)) := by
    pointwise [val_main_v36, val_main_v35, val_main_v34, val_main_v33]
  rw [e, ref_logits q k x0 x1 h0 h1, hM]
  unfold sE
  split
  · rw [← EReal.coe_sub, exp_coe]
  · rw [EReal.bot_sub]; rfl

include h0 h1 hM in
/-- The rows' sums. -/
theorem ref_sum (h : Fin 4) (i : Fin 4096) : val_main_v38 (F := Ideal) x0 x1 (ix3 h i 0) = ((sL q k M h i : ℝ) : EReal) := by
  have e : val_main_v38 (F := Ideal) x0 x1 (ix3 h i 0) = ∑ j, val_main_v36 (F := Ideal) x0 x1 (ix3 h i j) := by
    pointwise [val_main_v38, val_main_v37, val_main_cst_9]
  rw [e]
  simp only [ref_exp q k x0 x1 h0 h1 M hM, coe_sum]
  rfl

include h3 in
/-- The output's gradient, head by head. -/
theorem ref_out (h : Fin 4) (d : Fin 128) (i : Fin 4096) : val_main_v52 (F := Ideal) x3 (ix3 h d i) = ((w h i d : ℝ) : EReal) := by
  have e : val_main_v52 (F := Ideal) x3 (ix3 h d i) = x3 (ix2 i ⟨h.val * 128 + d.val, by omega⟩) := by
    pointwise [val_main_v52, val_main_v51, val_main_v50]
  rw [e, ← h3]
  exact congrArg (fun z => x3 (ix2 i z)) (Fin.ext (by show h.val * 128 + d.val = 128 * h.val + d.val; omega))

include h2 h3 in
/-- The gradient of the probabilities. -/
theorem ref_dp (h : Fin 4) (i j : Fin 4096) : val_main_v57 (F := Ideal) x2 x3 (ix3 h i j) = ((sG v w h i j : ℝ) : EReal) := by
  have e : val_main_v57 (F := Ideal) x2 x3 (ix3 h i j) = ∑ d, val_main_v52 (F := Ideal) x3 (ix3 h d i) * x2 (ix3 h j d) := by
    pointwise [val_main_v57, val_main_v56, val_main_v53, val_main_v2]
  rw [e]
  simp only [ref_out w x3 h3, h2, ← EReal.coe_mul, coe_sum]
  rfl

include h0 h1 h3 in
/-- The gradient of the values. -/
theorem ref_dv (h : Fin 4) (j : Fin 4096) (d : Fin 128) :
    val_main_v55 (F := Ideal) x0 x1 x3 (ix3 h j d) = ((∑ i, w h i d * sP q k h i j : ℝ) : EReal) := by
  obtain ⟨M, hM⟩ := ref_max q k x0 x1 h0 h1
  have e : val_main_v55 (F := Ideal) x0 x1 x3 (ix3 h j d)
      = ∑ i, val_main_v52 (F := Ideal) x3 (ix3 h d i) * Ideal.div (val_main_v36 (F := Ideal) x0 x1 (ix3 h i j)) (val_main_v38 (F := Ideal) x0 x1 (ix3 h i 0)) := by
    pointwise [val_main_v55, val_main_v54, val_main_v45, val_main_v44, val_main_v40, val_main_v39]
  rw [e, ← coe_sum]
  refine Finset.sum_congr rfl fun i _ => ?_
  rw [ref_out w x3 h3, ref_exp q k x0 x1 h0 h1 M hM, ref_sum q k x0 x1 h0 h1 M hM, div_coe _ _ (sL_pos q k M h i).ne', sP_eq, EReal.coe_mul]

include h0 h1 h2 h3 in
/-- The gradient of the logits, times their scale. -/
theorem ref_ds (h : Fin 4) (i j : Fin 4096) : val_main_v74 (F := Ideal) x0 x1 x2 x3 (ix3 h i j) = ((sS q k v w h i j : ℝ) : EReal) := by
  obtain ⟨M, hM⟩ := ref_max q k x0 x1 h0 h1
  have e68 : val_main_v68 (F := Ideal) x0 x1 x2 x3 (ix3 h i j)
      = Ideal.div (val_main_v57 (F := Ideal) x2 x3 (ix3 h i j)) (val_main_v38 (F := Ideal) x0 x1 (ix3 h i 0))
        + ∑ _x : Fin 1, -∑ x, val_main_v57 (F := Ideal) x2 x3 (ix3 h i x)
            * Ideal.div 1 (val_main_v38 (F := Ideal) x0 x1 (ix3 h i 0) * val_main_v38 (F := Ideal) x0 x1 (ix3 h i 0)) * val_main_v36 (F := Ideal) x0 x1 (ix3 h i x) := by
    pointwise [val_main_v68, val_main_v67, val_main_v66, val_main_v65, val_main_v64, val_main_v63, val_main_v62, val_main_v61, val_main_v60, val_main_v59, val_main_v58, val_main_cst_11, val_main_cst_12, val_main_v43, val_main_v42, val_main_v41, val_main_cst_10]
  have e : val_main_v74 (F := Ideal) x0 x1 x2 x3 (ix3 h i j)
      = Scalar.select (val_main_v15_1 (F := Ideal) (ix3 h i j)) (val_main_v68 (F := Ideal) x0 x1 x2 x3 (ix3 h i j) * val_main_v36 (F := Ideal) x0 x1 (ix3 h i j)) 0 * Ideal.ofBits .f32 0x3D93CD3A#32 := by
    pointwise [val_main_v74, val_main_v73, val_main_v72, val_main_v71, val_main_v70, val_main_v69, val_main_cst_13, val_main_call1_v0, val_main_call1_cst]
  have hL := sL_pos q k M h i
  rw [e, e68, ref_mask]
  simp only [ref_dp v w x2 x3 h2 h3, ref_exp q k x0 x1 h0 h1 M hM, ref_sum q k x0 x1 h0 h1 M hM, lit_scale, Finset.univ_unique, Finset.sum_singleton]
  rw [← EReal.coe_one, div_coe _ _ hL.ne', ← EReal.coe_mul, div_coe _ _ (mul_pos hL hL).ne']
  simp only [← EReal.coe_mul, coe_sum, ← EReal.coe_neg, ← EReal.coe_add]
  by_cases hj : j.val ≤ i.val
  · simp only [hj, if_true, Scalar.select]
    rw [← sS_quot q k v w M h i j]
    exact (EReal.coe_mul _ _).symm
  · have hz : sP q k h i j = 0 := by rw [← sP_eq q k M]; unfold sE; rw [if_neg hj, zero_div]
    have hs : sS q k v w h i j = 0 := by unfold sS; rw [hz, zero_mul, zero_mul]
    rw [hs]
    simp [hj, Scalar.select]

include h0 h1 h2 h3 in
/-- The gradients of the keys and of the queries. -/
theorem ref_dk (h : Fin 4) (j : Fin 4096) (d : Fin 256) :
    val_main_v75 (F := Ideal) x0 x1 x2 x3 (ix3 h j d) = ((∑ i, sS q k v w h i j * q h i d : ℝ) : EReal) := by
  have e : val_main_v75 (F := Ideal) x0 x1 x2 x3 (ix3 h j d) = ∑ i, val_main_v74 (F := Ideal) x0 x1 x2 x3 (ix3 h i j) * x0 (ix3 h i d) := by
    pointwise [val_main_v75, val_main_v0]
  rw [e]
  simp only [ref_ds q k v w x0 x1 x2 x3 h0 h1 h2 h3, h0, ← EReal.coe_mul, coe_sum]

include h0 h1 h2 h3 in
theorem ref_dq (h : Fin 4) (i : Fin 4096) (d : Fin 256) :
    val_main_v76 (F := Ideal) x0 x1 x2 x3 (ix3 h i d) = ((∑ j, sS q k v w h i j * k h j d : ℝ) : EReal) := by
  have e : val_main_v76 (F := Ideal) x0 x1 x2 x3 (ix3 h i d) = ∑ j, val_main_v74 (F := Ideal) x0 x1 x2 x3 (ix3 h i j) * x1 (ix3 h j d) := by
    pointwise [val_main_v76, val_main_v1]
  rw [e]
  simp only [ref_ds q k v w x0 x1 x2 x3 h0 h1 h2 h3, h1, ← EReal.coe_mul, coe_sum]
end
end

/-- The reference's results, from its arguments. -/
theorem ref_results (m : (ℓ : Loc nD τ sig) → Buf (Elt Ideal) ℓ) (c : Dev nD)
    (x0 x1 : (⟨S4x4096x256, .bf16⟩ : BufTy).Contents (Elt Ideal)) (x2 : (⟨S4x4096x128, .bf16⟩ : BufTy).Contents (Elt Ideal)) (x3 : (⟨S4096x512, .bf16⟩ : BufTy).Contents (Elt Ideal))
    (e0 : m ((c.tc : Thread nD τ).loc main_arg0) = x0) (e1 : m ((c.tc : Thread nD τ).loc main_arg1) = x1) (e2 : m ((c.tc : Thread nD τ).loc main_arg2) = x2) (e3 : m ((c.tc : Thread nD τ).loc main_arg3) = x3) :
    Cert.ReferenceIdeal.Value.res_main_v76 m c = val_main_v76 (F := Ideal) x0 x1 x2 x3 ∧ Cert.ReferenceIdeal.Value.res_main_v75 m c = val_main_v75 (F := Ideal) x0 x1 x2 x3
      ∧ Cert.ReferenceIdeal.Value.res_main_v55 m c = val_main_v55 (F := Ideal) x0 x1 x3 := by
  subst e0 e1 e2 e3
  exact ⟨val_main_v76_eq m c, val_main_v75_eq m c, val_main_v55_eq m c⟩

end Cert.Val

end
-- ==== Proof.Val.Equal.lean ====
/- On arguments of real numbers the pipeline leaves what the reference computes. -/
module

public import proofs.«01_k».proof.Proof.Val.Arrays
public import proofs.«01_k».proof.Proof.Val.HostVal
public import proofs.«01_k».proof.Proof.Val.Ref

@[expose] public section

set_option maxRecDepth 16384

noncomputable section

namespace Cert.Val

open Cert.KernelIdeal Cert.KernelIdeal.Gen Cert.KernelIdeal.Hand
open Idealize.ShloMosaic Idealize.ShloMosaic.TcCoe

variable (m : (ℓ : Loc nD τ sig) → Buf (Elt Ideal) ℓ) (c : Dev nD)
variable (a0 a1 : S4x4096x256.Idx → Elt Ideal .bf16) (a2 : S4x4096x128.Idx → Elt Ideal .bf16) (a3 : S4096x512.Idx → Elt Ideal .bf16)
variable (e0 : m ((c.tc : Thread nD τ).loc main_arg0) = a0) (e1 : m ((c.tc : Thread nD τ).loc main_arg1) = a1) (e2 : m ((c.tc : Thread nD τ).loc main_arg2) = a2) (e3 : m ((c.tc : Thread nD τ).loc main_arg3) = a3)
variable (r0 : ∀ i, a0 i = (((a0 i : EReal).toReal : ℝ) : EReal)) (r1 : ∀ i, a1 i = (((a1 i : EReal).toReal : ℝ) : EReal))
  (r2 : ∀ i, a2 i = (((a2 i : EReal).toReal : ℝ) : EReal)) (r3 : ∀ i, a3 i = (((a3 i : EReal).toReal : ℝ) : EReal))

include e0 e1 e2 e3 r0 r1 r2 r3 in
theorem equal :
    (dats m 0 c).arrAt (6 : Fin 9) cfgA.N = Cert.ReferenceIdeal.Read.val_main_v76 (F := Ideal) a0 a1 a2 a3
      ∧ (dats m 0 c).arrAt (7 : Fin 9) cfgA.N = Cert.ReferenceIdeal.Read.val_main_v75 (F := Ideal) a0 a1 a2 a3
      ∧ (dats m 0 c).arrAt (8 : Fin 9) cfgA.N = Cert.ReferenceIdeal.Read.val_main_v55 (F := Ideal) a0 a1 a3 := by
  let q : Fin 4 → Fin 4096 → Fin 256 → ℝ := fun h i d => (a0 (ix3 h i d) : EReal).toReal
  let k : Fin 4 → Fin 4096 → Fin 256 → ℝ := fun h i d => (a1 (ix3 h i d) : EReal).toReal
  let v : Fin 4 → Fin 4096 → Fin 128 → ℝ := fun h i d => (a2 (ix3 h i d) : EReal).toReal
  let w : Fin 4 → Fin 4096 → Fin 128 → ℝ := fun h i d => (a3 (ix2 i (col4 h d)) : EReal).toReal
  have h0 : ∀ h i d, a0 (ix3 h i d) = ((q h i d : ℝ) : EReal) := fun h i d => r0 _
  have h1 : ∀ h i d, a1 (ix3 h i d) = ((k h i d : ℝ) : EReal) := fun h i d => r1 _
  have h2 : ∀ h i d, a2 (ix3 h i d) = ((v h i d : ℝ) : EReal) := fun h i d => r2 _
  have h3 : ∀ h i d, a3 (ix2 i (col4 h d)) = ((w h i d : ℝ) : EReal) := fun h i d => r3 _
  clear_value q k v w
  obtain ⟨M, R⟩ := reads m c q k v w a0 a1 a2 a3 e0 e1 e2 e3 h0 h1 h2 h3
  refine ⟨(arrAt_6 m c q k v w _ _ R).trans (funext fun i => ?_), (arrAt_7 m c q k v w _ _ R).trans (funext fun i => ?_), (arrAt_8 m c q k v w _ _ R).trans (funext fun i => ?_)⟩
  · obtain ⟨h, i, d, rfl⟩ := ex3 (a := 4) (b := 4096) (c := 256) i
    exact (congrArg (fun z : ℝ => (z : EReal)) (gQ_soft q k v w M h i d)).trans (ref_dq q k v w a0 a1 a2 a3 h0 h1 h2 h3 h i d).symm
  · obtain ⟨h, i, d, rfl⟩ := ex3 (a := 4) (b := 4096) (c := 256) i
    exact (congrArg (fun z : ℝ => (z : EReal)) (gK_soft q k v w M h i d)).trans (ref_dk q k v w a0 a1 a2 a3 h0 h1 h2 h3 h i d).symm
  · obtain ⟨h, i, d, rfl⟩ := ex3 (a := 4) (b := 4096) (c := 128) i
    exact (congrArg (fun z : ℝ => (z : EReal)) (gV_soft q k w M h i d)).trans (ref_dv q k w a0 a1 a3 h0 h1 h3 h i d).symm

end Cert.Val

end
-- ==== Proof.Val.Pre.lean ====
/- The precondition: where it holds the arguments are arrays of real numbers. -/
module

public import proofs.«01_k».proof.Proof.Val.Soft
public import proofs.«01_k».proof.Pre_finite
public import Idealize.ShloMosaic.Lib.ReduceAll

@[expose] public section

set_option maxRecDepth 16384

noncomputable section

namespace Cert.Val

open Idealize.ShloMosaic

/-- The shape relations the precondition states. -/
theorem pre_facts : Cert.Pre_finite.Facts where
  bitsLt_bf16_f32 := by decide
  bcast_S_S4x4096x256 := by decide
  reducesTo_S4x4096x256_S_d0_1_2 := by decide
  h_S_ := by decide
  bcast_S_S4x4096x128 := by decide
  reducesTo_S4x4096x128_S_d0_1_2 := by decide
  bcast_S_S4096x512 := by decide
  reducesTo_S4096x512_S_d0_1 := by decide

/-- A number under infinity in absolute value is a real number. -/
theorem real_of_lt (a t : EReal) (ht : t = ⊤) (h : FloatOps.cmpf (F := Ideal) (φ := .f32) .olt (max a (-a)) t = 1#1) : a = ((a.toReal : ℝ) : EReal) := by
  subst ht
  have hlt : max a (-a) < ⊤ := by
    by_contra hc
    have h0 : FloatOps.cmpf (F := Ideal) (φ := .f32) .olt (max a (-a)) (⊤ : EReal) = 0#1 := by
      show Ideal.cmp .olt (max a (-a)) (⊤ : EReal) = 0#1
      simp [Ideal.cmp, hc]
    rw [h0] at h
    exact absurd h (by decide)
  refine (EReal.coe_toReal (fun e => ?_) (fun e => ?_)).symm
  · rw [e] at hlt
    exact absurd hlt (by simp)
  · rw [e] at hlt
    exact absurd hlt (by simp)

/-- An array whose elements are all under infinity in absolute value is an array of real numbers. -/
theorem all_real {s t : Shape} {axes : List (Fin s.rank)} [Subsingleton t.Idx] (x : FVec Ideal s .bf16) (hb : FTy.bits .bf16 < FTy.bits .f32)
    (y : FVec Ideal s .f32) (hy : ∀ i, y i = ⊤) (init : (⟨0, ![]⟩ : Shape).Idx → BitVec 1) (hr : s.ReducesTo axes t) (hu : 0 < (⟨0, ![]⟩ : Shape).numel) (j : t.Idx)
    (e : Host.reduce IntOp.andi (cmpf .olt (Host.absf (extf .f32 x hb)) y) init hr hu j = 1#1) (i : s.Idx) : x i = (((x i : EReal).toReal : ℝ) : EReal) :=
  real_of_lt (x i) (y i) (hy i) (Host.reduce_andi_all _ _ _ _ j e i)

theorem and_one {c d : BitVec 1} (h : IntOp.andi c d = 1#1) : c = 1#1 ∧ d = 1#1 := by
  revert c d
  decide

instance : Subsingleton Cert.Pre_finite.S_.Idx := ⟨fun a b => funext fun z => z.elim0⟩

section
variable [Cert.Pre_finite.Facts]
variable (x0 x1 : FVec Ideal Cert.Pre_finite.S4x4096x256 .bf16) (x2 : FVec Ideal Cert.Pre_finite.S4x4096x128 .bf16) (x3 : FVec Ideal Cert.Pre_finite.S4096x512 .bf16)

theorem pre_real (e : Cert.Pre_finite.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have e0 := congrFun e ix0
  unfold Cert.Pre_finite.fn Cert.Pre_finite.fn_part1 at e0
  dsimp only at e0
  obtain ⟨e1, e3⟩ := and_one e0
  obtain ⟨e1, e2⟩ := and_one e1
  obtain ⟨ea, eb⟩ := and_one e1
  exact ⟨all_real x0 _ _ (fun _ => lit_top) _ _ _ _ ea, all_real x1 _ _ (fun _ => lit_top) _ _ _ _ eb,
    all_real x2 _ _ (fun _ => lit_top) _ _ _ _ e2, all_real x3 _ _ (fun _ => lit_top) _ _ _ _ e3⟩
end

end Cert.Val

end
-- ==== Proof.Val.Dw.lean ====
/- Sums over rows, block by block. -/
module

public import Mathlib.Data.EReal.Operations
public import Mathlib.Algebra.BigOperators.Fin
public import Mathlib.Data.Fintype.BigOperators

@[expose] public section

noncomputable section

namespace Cert.Val

/-- Four sums of 1024 rows each are the sum of the 4096. -/
theorem rows_sum (f : Fin 4096 → EReal) (g : ℕ → Fin 1024 → EReal)
    (h : ∀ (k : ℕ) (x : Fin 1024) (hk : k < 4), g k x = f ⟨1024 * k + x.val, by omega⟩) :
    ∑ k ∈ Finset.range 4, ∑ x : Fin 1024, g k x = ∑ r : Fin 4096, f r := by
  rw [Finset.sum_range, ← Equiv.sum_comp (finProdFinEquiv (m := 4) (n := 1024)), Fintype.sum_prod_type]
  refine Finset.sum_congr rfl fun k _ => Finset.sum_congr rfl fun x _ => ?_
  rw [h k.val x k.isLt]
  congr 1
  apply Fin.ext
  show 1024 * k.val + x.val = x.val + 1024 * k.val
  omega

/-- A real factor goes into a finite sum of extended reals where it is positive. -/
theorem sum_mul_pos {ι : Type*} (s : Finset ι) (f : ι → EReal) (a : ℝ) (h : 0 < a) :
    (∑ i ∈ s, f i) * (a : EReal) = ∑ i ∈ s, f i * (a : EReal) := by
  classical
  induction s using Finset.induction_on with
  | empty => simp
  | insert b s hb ih =>
    rw [Finset.sum_insert hb, Finset.sum_insert hb, EReal.right_distrib_of_nonneg_of_ne_top (by exact_mod_cast h.le) (EReal.coe_ne_top a), ih]

end Cert.Val

end
-- ==== Proof.Val.Dw2.lean ====
/- The weight gradient of a projection into the hidden layer at the real arithmetic: the block products added over a run's
   four points are the product over all rows, as the reference has it. -/
module

public import proofs.«01_k».proof.Proof.Gen.Kernel2Ideal.Value
public import proofs.«01_k».proof.Proof.Gen.Reference2Ideal.Read
public import proofs.«01_k».proof.Proof.Val.Dw
public import Idealize.ShloMosaic.Lib.Pipeline.ValueKit
public import Idealize.ShloMosaic.Lib.Pointwise

@[expose] public section

set_option maxRecDepth 16384

noncomputable section

namespace Cert.Kernel2Ideal.Dw

open Cert.Kernel2Ideal Cert.Kernel2Ideal.Gen
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-! ## What the body leaves, case by case -/

section
variable {F : FTy → Type} [FloatOps F]
variable (c : Dev nD) (i : grid0.Coords) (a2 : Memref sig .tc .vmem S1024x1408 .bf16) (h2 : a2.IsWhole) (a3 : Memref sig .tc .vmem S1024x1024 .bf16) (h3 : a3.IsWhole)
  (a4 : Memref sig .tc .vmem S1408x1024 .bf16) (h4 : a4.IsWhole) (a5 : Memref sig .tc .vmem S1408x1024 .f32) (h5 : a5.IsWhole)
  (x0 : Vec F S1024x1408 .bf16) (x1 : Vec F S1024x1024 .bf16) (xs : Vec F S1408x1024 .f32)

/-- The first block of a run: its product. -/
theorem sout_A (hc0 : cond0_0 i) (hc1 : ¬cond0_1 i) (hc2 : ¬cond0_2 i) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  simp only [View.readAt_eq_ld, h2.read_unread, h3.read_unread, View.ld_unit_zero (S := S1024x1408) hz, View.ld_unit_zero (S := S1024x1024) hz]

/-- A middle block: its product added. -/
theorem sout_B (hc0 : ¬cond0_0 i) (hc1 : cond0_1 i) (hc2 : ¬cond0_2 i) :
    sout0_B_0 c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  simp only [View.readAt_eq_ld, h2.read_unread, h3.read_unread, h5.read_unread, View.ld_unit_zero (S := S1024x1408) hz, View.ld_unit_zero (S := S1024x1024) hz,
    View.ld_unit_zero (S := S1408x1024) hz]

/-- The last block: its product added … -/
theorem sout_C (hc0 : ¬cond0_0 i) (hc1 : cond0_1 i) (hc2 : cond0_2 i) :
    sout0_C_0 c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz]
  simp only [View.readAt_eq_ld, h2.read_unread, h3.read_unread, h5.read_unread, View.ld_unit_zero (S := S1024x1408) hz, View.ld_unit_zero (S := S1024x1024) hz,
    View.ld_unit_zero (S := S1408x1024) hz]

/-- … and the sum written out. -/
theorem out_C (hc0 : ¬cond0_0 i) (hc1 : cond0_1 i) (hc2 : cond0_2 i) :
    out0_C_2 c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S1408x1024) _ hz]
  simp only [View.readAt_eq_ld, h2.read_unread, h3.read_unread, h5.read_unread, View.ld_unit_zero (S := S1024x1408) hz, View.ld_unit_zero (S := S1024x1024) hz,
    View.ld_unit_zero (S := S1408x1024) hz]

end

/-! ## The payloads at an index -/

theorem pay1_at (x0 : Vec Ideal S1024x1408 .bf16) (x1 : Vec Ideal S1024x1024 .bf16) (r : Fin 1408) (d : Fin 1024) :
    k0_pay1 (F := Ideal) x0 x1 (ix2 r d) = (∑ x : Fin 1024, x0 (ix2 x r) * x1 (ix2 x d) : EReal) := by
  pointwise [k0_pay1]

theorem pay2_at (x0 : Vec Ideal S1024x1408 .bf16) (x1 : Vec Ideal S1024x1024 .bf16) (j : S1408x1024.Idx) :
    k0_pay2 (F := Ideal) x0 x1 j = k0_pay1 (F := Ideal) x0 x1 j := by
  unfold k0_pay2; rw [shapeCast_self]

theorem pay3_at (x0 : Vec Ideal S1024x1408 .bf16) (x1 : Vec Ideal S1024x1024 .bf16) (xs : Vec Ideal S1408x1024 .f32) (j : S1408x1024.Idx) :
    k0_pay3 (F := Ideal) x0 x1 xs j = (xs j + k0_pay1 (F := Ideal) x0 x1 j : EReal) := by
  unfold k0_pay3; rw [shapeCast_self]; rfl

theorem pay4_at (xs : Vec Ideal S1408x1024 .f32) (j : S1408x1024.Idx) : k0_pay4 (F := Ideal) xs j = xs j := rfl

/-! ## The blocks -/

section
variable (m : (ℓ : Loc nD τ sig) → Buf (Elt Ideal) ℓ) (c : Dev nD)

/-- The window's block numbers: the run's columns, the point's rows. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem X_at (t : Fin cfg0.N) (x : Fin 1024) (r : Fin 1408) (p : Fin 4096) (q : Fin 3072) (hp : p.val = 1024 * (t.val % 4) + x.val)
    (hq : q.val = 1408 * (t.val / 4) + r.val) :
    X0_0 m c t (ix2 x r) = m ((c : Thread nD τ).loc main_arg0) (ix2 p q) := by
  unfold X0_0 Pipeline.Window.fill
  rw [dif_pos (moved0_0 t _)]
  unfold iblk
  rw [View.read_apply]
  obtain ⟨e0, e1⟩ := idx0 t
  show m ((c : Thread nD τ).loc main_arg0) _ = _
  congr 1
  funext a
  apply Fin.ext
  match a with
  | ⟨0, _⟩ => show win0_0.index t (0 : Fin 2) * 1024 + 1 * x.val = p.val; rw [e0, hp]; omega
  | ⟨1, _⟩ => show win0_0.index t (1 : Fin 2) * 1408 + 1 * r.val = q.val; rw [e1, hq]; omega

theorem Y_at (t : Fin cfg0.N) (x d : Fin 1024) (p : Fin 4096) (hp : p.val = 1024 * (t.val % 4) + x.val) :
    iblk m c 1 t (ix2 x d) = m ((c : Thread nD τ).loc main_arg1) (ix2 p d) := by
  unfold iblk
  rw [View.read_apply]
  obtain ⟨e0, e1⟩ := idx1 t
  show m ((c : Thread nD τ).loc main_arg1) _ = _
  congr 1
  funext a
  apply Fin.ext
  match a with
  | ⟨0, _⟩ => show win0_1.index t (0 : Fin 2) * 1024 + 1 * x.val = p.val; rw [e0, hp]; omega
  | ⟨1, _⟩ => show win0_1.index t (1 : Fin 2) * 1024 + 1 * d.val = d.val; rw [e1]; omega

/-- The two arguments, as arrays of extended reals. -/
abbrev A (p : Fin 4096) (q : Fin 3072) : EReal := m ((c : Thread nD τ).loc main_arg0) (ix2 p q)
abbrev B (p : Fin 4096) (q : Fin 1024) : EReal := m ((c : Thread nD τ).loc main_arg1) (ix2 p q)
/-- Their blocks. -/
abbrev X (t : Fin cfg0.N) (x : Fin 1024) (r : Fin 1408) : EReal := X0_0 m c t (ix2 x r)
abbrev Y (t : Fin cfg0.N) (x d : Fin 1024) : EReal := iblk m c 1 t (ix2 x d)

/-! ## A run's sum -/

/-- The product of point `n`'s blocks. -/
def term (n : ℕ) (j : S1408x1024.Idx) : EReal :=
  if h : n < cfg0.N then k0_pay1 (F := Ideal) (X0_0 m c ⟨n, h⟩) (iblk m c 1 ⟨n, h⟩) j else 0

theorem term_eq (t : Fin cfg0.N) (j : S1408x1024.Idx) : term m c t.val j = k0_pay1 (F := Ideal) (X0_0 m c t) (iblk m c 1 t) j := dif_pos t.isLt

/-- What the scratch holds after point `t`. -/
theorem scratch_eq (t : Fin cfg0.N) (j : S1408x1024.Idx) :
    (outsAt0 m c t.val t.isLt).2 j = (0 + ∑ k ∈ Finset.range (t.val % 4 + 1), term m c (4 * (t.val / 4) + k) j : EReal) := by
  refine Pipeline.eq_sum_of_reset_step_apply (M := EReal) (fun n h => (outsAt0 m c n h).2) 4 (fun _ => 0) (term m c) (fun t h j => ?_) (fun t h j => ?_) t j
  · have hA := outsAt0_A m c t h (by omega) (by omega)
    show (outsAt0 m c t.val t.isLt).2 j = _
    rw [hA]
    dsimp only
    rw [sout_A, pay2_at, term_eq, zero_add]
  · show (outsAt0 m c t.val t.isLt).2 j = _
    by_cases h3 : t.val % 4 = 3
    · have hC := outsAt0_C m c t h (by omega) h3
      rw [hC]
      dsimp only
      rw [sout_C, pay3_at, term_eq]
    · have hB := outsAt0_B m c t h (by omega) h3
      rw [hB]
      dsimp only
      rw [sout_B, pay3_at, term_eq]

/-- What the output's buffer holds after a run's last point: the scratch. -/
theorem out_eq (t : Fin cfg0.N) (h3 : t.val % 4 = 3) (j : S1408x1024.Idx) : (outsAt0 m c t.val t.isLt).1 j = (outsAt0 m c t.val t.isLt).2 j := by
  have hC := outsAt0_C m c t (by omega) (by omega) h3
  rw [hC]
  dsimp only
  rw [sout_C, out_C, pay4_at]

/-- The result array at an index. -/
theorem G2_at (p : Fin 2816) (d : Fin 1024) :
    Value.G2 m c (ix2 p d) = (∑ r : Fin 4096, A m c r ⟨p.val, by omega⟩ * B m c r d : EReal) := by
  have hp : 4 * (p.val / 1408) + 3 < cfg0.N := by rw [show cfg0.N = 8 from N_0]; omega
  let t : Fin cfg0.N := ⟨4 * (p.val / 1408) + 3, hp⟩
  have ht : Value.pt2Of (ix2 p d) = t.val := by
    show 4 * (1 * (p.val / 1408 - 0) + 1 * (d.val / 1024 - 0)) + 3 = 4 * (p.val / 1408) + 3
    omega
  have hl : Value.loc2Of (ix2 p d) = ix2 ⟨p.val % 1408, Nat.mod_lt _ (by decide)⟩ d := by
    funext a; apply Fin.ext
    match a with
    | ⟨0, _⟩ => rfl
    | ⟨1, _⟩ => show d.val % 1024 = d.val; omega
  unfold Value.G2
  rw [dif_pos (by rw [ht]; exact t.isLt), hl, Value.fold0_congr m c _ _ _ (by omega) ht, ← Value.outsAt0_sweep m c t.val t.isLt, out_eq m c t (by show (4 * (p.val / 1408) + 3) % 4 = 3; omega), scratch_eq, zero_add]
  have e1 : t.val % 4 + 1 = 4 := by show (4 * (p.val / 1408) + 3) % 4 + 1 = 4; omega
  have e2 : t.val / 4 = p.val / 1408 := by show (4 * (p.val / 1408) + 3) / 4 = _; omega
  rw [e1, e2]
  rw [← Cert.Val.rows_sum (fun r => A m c r ⟨p.val, by omega⟩ * B m c r d) (fun k x => if h : 4 * (p.val / 1408) + k < cfg0.N then
      X m c ⟨4 * (p.val / 1408) + k, h⟩ x ⟨p.val % 1408, Nat.mod_lt _ (by decide)⟩ * Y m c ⟨4 * (p.val / 1408) + k, h⟩ x d else 0) ?_]
  · refine Finset.sum_congr (M := EReal) rfl fun k hk => ?_
    have hk4 := Finset.mem_range.mp hk
    have hn : 4 * (p.val / 1408) + k < cfg0.N := by rw [show cfg0.N = 8 from N_0]; omega
    rw [term_eq m c ⟨4 * (p.val / 1408) + k, hn⟩, pay1_at]
    exact Finset.sum_congr rfl fun x _ => by rw [dif_pos hn]
  · intro k x hk
    have hn : 4 * (p.val / 1408) + k < cfg0.N := by rw [show cfg0.N = 8 from N_0]; omega
    rw [dif_pos hn]
    dsimp only [X, Y]
    rw [X_at m c ⟨4 * (p.val / 1408) + k, hn⟩ x _ ⟨1024 * k + x.val, by omega⟩ ⟨p.val, by omega⟩
        (by show 1024 * k + x.val = 1024 * ((4 * (p.val / 1408) + k) % 4) + x.val; omega)
        (by show p.val = 1408 * ((4 * (p.val / 1408) + k) / 4) + p.val % 1408; omega),
      Y_at m c ⟨4 * (p.val / 1408) + k, hn⟩ x d ⟨1024 * k + x.val, by omega⟩ (by show 1024 * k + x.val = 1024 * ((4 * (p.val / 1408) + k) % 4) + x.val; omega)]

/-! ## The two programs -/

theorem ref_at (x0 : (⟨Cert.Reference2Ideal.S4096x3072, .bf16⟩ : BufTy).Contents (Elt Ideal)) (x1 : (⟨Cert.Reference2Ideal.S4096x1024, .bf16⟩ : BufTy).Contents (Elt Ideal)) (p : Fin 2816) (d : Fin 1024) :
    Cert.Reference2Ideal.Read.val_main_v8 (F := Ideal) x0 x1 (ix2 p d) = (∑ r : Fin 4096, x0 (ix2 r ⟨p.val, by omega⟩) * x1 (ix2 r d) : EReal) := by
  pointwise [Cert.Reference2Ideal.Read.val_main_v8, Cert.Reference2Ideal.Read.val_main_v7, Cert.Reference2Ideal.Read.val_main_v6, Cert.Reference2Ideal.Read.val_main_v5, Cert.Reference2Ideal.Read.val_main_v2, Cert.Reference2Ideal.Read.val_main_v1, Cert.Reference2Ideal.Read.val_main_v0]

/-- The kernel's result is the reference's. -/
theorem equal : Value.G2 m c = Cert.Reference2Ideal.Read.val_main_v8 (F := Ideal) (m ((c : Thread nD τ).loc main_arg0)) (m ((c : Thread nD τ).loc main_arg1)) := by
  funext i
  obtain ⟨p, d, rfl⟩ : ∃ (p : Fin 2816) (d : Fin 1024), i = ix2 p d := ⟨i 0, i 1, by funext a; match a with | ⟨0, _⟩ => rfl | ⟨1, _⟩ => rfl⟩
  rw [G2_at, ref_at]

end

end Cert.Kernel2Ideal.Dw

end
-- ==== Proof.Val.Dw3.lean ====
/- The weight gradient of a projection out of the hidden layer at the real arithmetic: the block products added over a run's
   four points are the product over all rows, as the reference has it. -/
module

public import proofs.«01_k».proof.Proof.Gen.Kernel3Ideal.Value
public import proofs.«01_k».proof.Proof.Gen.Reference3Ideal.Read
public import proofs.«01_k».proof.Proof.Val.Dw
public import Idealize.ShloMosaic.Lib.Pipeline.ValueKit
public import Idealize.ShloMosaic.Lib.Pointwise

@[expose] public section

set_option maxRecDepth 16384

noncomputable section

namespace Cert.Kernel3Ideal.Dw

open Cert.Kernel3Ideal Cert.Kernel3Ideal.Gen
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-! ## What the body leaves, case by case -/

section
variable {F : FTy → Type} [FloatOps F]
variable (c : Dev nD) (i : grid0.Coords) (a2 : Memref sig .tc .vmem S1024x1408 .bf16) (h2 : a2.IsWhole) (a3 : Memref sig .tc .vmem S1024x1024 .f32) (h3 : a3.IsWhole)
  (a4 : Memref sig .tc .vmem S1408x1024 .bf16) (h4 : a4.IsWhole) (a5 : Memref sig .tc .vmem S1408x1024 .f32) (h5 : a5.IsWhole)
  (x0 : Vec F S1024x1408 .bf16) (x1 : Vec F S1024x1024 .f32) (xs : Vec F S1408x1024 .f32)

/-- The first block of a run: its product. -/
theorem sout_A (hc0 : cond0_0 i) (hc1 : ¬cond0_1 i) (hc2 : ¬cond0_2 i) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  simp only [View.readAt_eq_ld, h2.read_unread, h3.read_unread, View.ld_unit_zero (S := S1024x1408) hz, View.ld_unit_zero (S := S1024x1024) hz]

/-- A middle block: its product added. -/
theorem sout_B (hc0 : ¬cond0_0 i) (hc1 : cond0_1 i) (hc2 : ¬cond0_2 i) :
    sout0_B_0 c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  simp only [View.readAt_eq_ld, h2.read_unread, h3.read_unread, h5.read_unread, View.ld_unit_zero (S := S1024x1408) hz, View.ld_unit_zero (S := S1024x1024) hz,
    View.ld_unit_zero (S := S1408x1024) hz]

/-- The last block: its product added … -/
theorem sout_C (hc0 : ¬cond0_0 i) (hc1 : cond0_1 i) (hc2 : cond0_2 i) :
    sout0_C_0 c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz]
  simp only [View.readAt_eq_ld, h2.read_unread, h3.read_unread, h5.read_unread, View.ld_unit_zero (S := S1024x1408) hz, View.ld_unit_zero (S := S1024x1024) hz,
    View.ld_unit_zero (S := S1408x1024) hz]

/-- … and the sum written out. -/
theorem out_C (hc0 : ¬cond0_0 i) (hc1 : cond0_1 i) (hc2 : cond0_2 i) :
    out0_C_2 c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S1408x1024) _ hz]
  simp only [View.readAt_eq_ld, h2.read_unread, h3.read_unread, h5.read_unread, View.ld_unit_zero (S := S1024x1408) hz, View.ld_unit_zero (S := S1024x1024) hz,
    View.ld_unit_zero (S := S1408x1024) hz]

end

/-! ## The payloads at an index -/

theorem pay1_at (x0 : Vec Ideal S1024x1408 .bf16) (x1 : Vec Ideal S1024x1024 .f32) (r : Fin 1408) (d : Fin 1024) :
    k0_pay1 (F := Ideal) x0 x1 (ix2 r d) = ((∑ x : Fin 1024, x0 (ix2 x r) * x1 (ix2 x d)) * FloatOps.ofBits (F := Ideal) .f32 0x3F000000#32 : EReal) := by
  pointwise [k0_pay1]

theorem pay2_at (x0 : Vec Ideal S1024x1408 .bf16) (x1 : Vec Ideal S1024x1024 .f32) (j : S1408x1024.Idx) :
    k0_pay2 (F := Ideal) x0 x1 j = k0_pay1 (F := Ideal) x0 x1 j := by
  unfold k0_pay2; rw [shapeCast_self]

theorem pay3_at (x0 : Vec Ideal S1024x1408 .bf16) (x1 : Vec Ideal S1024x1024 .f32) (xs : Vec Ideal S1408x1024 .f32) (j : S1408x1024.Idx) :
    k0_pay3 (F := Ideal) x0 x1 xs j = (xs j + k0_pay1 (F := Ideal) x0 x1 j : EReal) := by
  unfold k0_pay3; rw [shapeCast_self]; rfl

theorem pay4_at (xs : Vec Ideal S1408x1024 .f32) (j : S1408x1024.Idx) : k0_pay4 (F := Ideal) xs j = xs j := rfl

/-! ## The blocks -/

/-- The word of one half. -/
theorem half : FloatOps.ofBits (F := Ideal) .f32 0x3F000000#32 = ((1 / 2 : ℝ) : EReal) := by
  show Ideal.ofBits .f32 0x3F000000#32 = _
  simp [Ideal.ofBits, Ideal.ieee, -EReal.coe_mul]
  norm_num

section
variable (m : (ℓ : Loc nD τ sig) → Buf (Elt Ideal) ℓ) (c : Dev nD)

/-- The window's block numbers: the run's columns, the point's rows. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem X_at (t : Fin cfg0.N) (x : Fin 1024) (r : Fin 1408) (p : Fin 4096) (q : Fin 3072) (hp : p.val = 1024 * (t.val % 4) + x.val)
    (hq : q.val = 1408 * (t.val / 4) + r.val) :
    X0_0 m c t (ix2 x r) = m ((c : Thread nD τ).loc main_arg0) (ix2 p q) := by
  unfold X0_0 Pipeline.Window.fill
  rw [dif_pos (moved0_0 t _)]
  unfold iblk
  rw [View.read_apply]
  obtain ⟨e0, e1⟩ := idx0 t
  show m ((c : Thread nD τ).loc main_arg0) _ = _
  congr 1
  funext a
  apply Fin.ext
  match a with
  | ⟨0, _⟩ => show win0_0.index t (0 : Fin 2) * 1024 + 1 * x.val = p.val; rw [e0, hp]; omega
  | ⟨1, _⟩ => show win0_0.index t (1 : Fin 2) * 1408 + 1 * r.val = q.val; rw [e1, hq]; omega

theorem Y_at (t : Fin cfg0.N) (x d : Fin 1024) (p : Fin 4096) (hp : p.val = 1024 * (t.val % 4) + x.val) :
    iblk m c 1 t (ix2 x d) = m ((c : Thread nD τ).loc main_arg1) (ix2 p d) := by
  unfold iblk
  rw [View.read_apply]
  obtain ⟨e0, e1⟩ := idx1 t
  show m ((c : Thread nD τ).loc main_arg1) _ = _
  congr 1
  funext a
  apply Fin.ext
  match a with
  | ⟨0, _⟩ => show win0_1.index t (0 : Fin 2) * 1024 + 1 * x.val = p.val; rw [e0, hp]; omega
  | ⟨1, _⟩ => show win0_1.index t (1 : Fin 2) * 1024 + 1 * d.val = d.val; rw [e1]; omega

/-- The two arguments, as arrays of extended reals. -/
abbrev A (p : Fin 4096) (q : Fin 3072) : EReal := m ((c : Thread nD τ).loc main_arg0) (ix2 p q)
abbrev B (p : Fin 4096) (q : Fin 1024) : EReal := m ((c : Thread nD τ).loc main_arg1) (ix2 p q)
/-- Their blocks. -/
abbrev X (t : Fin cfg0.N) (x : Fin 1024) (r : Fin 1408) : EReal := X0_0 m c t (ix2 x r)
abbrev Y (t : Fin cfg0.N) (x d : Fin 1024) : EReal := iblk m c 1 t (ix2 x d)

/-! ## A run's sum -/

/-- The product of point `n`'s blocks. -/
def term (n : ℕ) (j : S1408x1024.Idx) : EReal :=
  if h : n < cfg0.N then k0_pay1 (F := Ideal) (X0_0 m c ⟨n, h⟩) (iblk m c 1 ⟨n, h⟩) j else 0

theorem term_eq (t : Fin cfg0.N) (j : S1408x1024.Idx) : term m c t.val j = k0_pay1 (F := Ideal) (X0_0 m c t) (iblk m c 1 t) j := dif_pos t.isLt

/-- What the scratch holds after point `t`. -/
theorem scratch_eq (t : Fin cfg0.N) (j : S1408x1024.Idx) :
    (outsAt0 m c t.val t.isLt).2 j = (0 + ∑ k ∈ Finset.range (t.val % 4 + 1), term m c (4 * (t.val / 4) + k) j : EReal) := by
  refine Pipeline.eq_sum_of_reset_step_apply (M := EReal) (fun n h => (outsAt0 m c n h).2) 4 (fun _ => 0) (term m c) (fun t h j => ?_) (fun t h j => ?_) t j
  · have hA := outsAt0_A m c t h (by omega) (by omega)
    show (outsAt0 m c t.val t.isLt).2 j = _
    rw [hA]
    dsimp only
    rw [sout_A, pay2_at, term_eq, zero_add]
  · show (outsAt0 m c t.val t.isLt).2 j = _
    by_cases h3 : t.val % 4 = 3
    · have hC := outsAt0_C m c t h (by omega) h3
      rw [hC]
      dsimp only
      rw [sout_C, pay3_at, term_eq]
    · have hB := outsAt0_B m c t h (by omega) h3
      rw [hB]
      dsimp only
      rw [sout_B, pay3_at, term_eq]

/-- What the output's buffer holds after a run's last point: the scratch. -/
theorem out_eq (t : Fin cfg0.N) (h3 : t.val % 4 = 3) (j : S1408x1024.Idx) : (outsAt0 m c t.val t.isLt).1 j = (outsAt0 m c t.val t.isLt).2 j := by
  have hC := outsAt0_C m c t (by omega) (by omega) h3
  rw [hC]
  dsimp only
  rw [sout_C, out_C, pay4_at]

/-- The result array at an index. -/
theorem G2_at (p : Fin 2816) (d : Fin 1024) :
    Value.G2 m c (ix2 p d) = ((∑ r : Fin 4096, A m c r ⟨p.val, by omega⟩ * B m c r d) * FloatOps.ofBits (F := Ideal) .f32 0x3F000000#32 : EReal) := by
  have hp : 4 * (p.val / 1408) + 3 < cfg0.N := by rw [show cfg0.N = 8 from N_0]; omega
  let t : Fin cfg0.N := ⟨4 * (p.val / 1408) + 3, hp⟩
  have ht : Value.pt2Of (ix2 p d) = t.val := by
    show 4 * (1 * (p.val / 1408 - 0) + 1 * (d.val / 1024 - 0)) + 3 = 4 * (p.val / 1408) + 3
    omega
  have hl : Value.loc2Of (ix2 p d) = ix2 ⟨p.val % 1408, Nat.mod_lt _ (by decide)⟩ d := by
    funext a; apply Fin.ext
    match a with
    | ⟨0, _⟩ => rfl
    | ⟨1, _⟩ => show d.val % 1024 = d.val; omega
  unfold Value.G2
  rw [dif_pos (by rw [ht]; exact t.isLt), hl, Value.fold0_congr m c _ _ _ (by omega) ht, ← Value.outsAt0_sweep m c t.val t.isLt, out_eq m c t (by show (4 * (p.val / 1408) + 3) % 4 = 3; omega), scratch_eq, zero_add]
  have e1 : t.val % 4 + 1 = 4 := by show (4 * (p.val / 1408) + 3) % 4 + 1 = 4; omega
  have e2 : t.val / 4 = p.val / 1408 := by show (4 * (p.val / 1408) + 3) / 4 = _; omega
  rw [e1, e2]
  rw [half]
  rw [← Cert.Val.rows_sum (fun r => A m c r ⟨p.val, by omega⟩ * B m c r d) (fun k x => if h : 4 * (p.val / 1408) + k < cfg0.N then
      X m c ⟨4 * (p.val / 1408) + k, h⟩ x ⟨p.val % 1408, Nat.mod_lt _ (by decide)⟩ * Y m c ⟨4 * (p.val / 1408) + k, h⟩ x d else 0) ?_]
  · rw [Cert.Val.sum_mul_pos _ _ _ (by norm_num : (0 : ℝ) < 1 / 2)]
    refine Finset.sum_congr (M := EReal) rfl fun k hk => ?_
    have hk4 := Finset.mem_range.mp hk
    have hn : 4 * (p.val / 1408) + k < cfg0.N := by rw [show cfg0.N = 8 from N_0]; omega
    rw [term_eq m c ⟨4 * (p.val / 1408) + k, hn⟩, pay1_at, half]
    congr 1
    exact Finset.sum_congr rfl fun x _ => by rw [dif_pos hn]
  · intro k x hk
    have hn : 4 * (p.val / 1408) + k < cfg0.N := by rw [show cfg0.N = 8 from N_0]; omega
    rw [dif_pos hn]
    dsimp only [X, Y]
    rw [X_at m c ⟨4 * (p.val / 1408) + k, hn⟩ x _ ⟨1024 * k + x.val, by omega⟩ ⟨p.val, by omega⟩
        (by show 1024 * k + x.val = 1024 * ((4 * (p.val / 1408) + k) % 4) + x.val; omega)
        (by show p.val = 1408 * ((4 * (p.val / 1408) + k) / 4) + p.val % 1408; omega),
      Y_at m c ⟨4 * (p.val / 1408) + k, hn⟩ x d ⟨1024 * k + x.val, by omega⟩ (by show 1024 * k + x.val = 1024 * ((4 * (p.val / 1408) + k) % 4) + x.val; omega)]

/-! ## The two programs -/

theorem ref_at (x0 : (⟨Cert.Reference3Ideal.S4096x3072, .bf16⟩ : BufTy).Contents (Elt Ideal)) (x1 : (⟨Cert.Reference3Ideal.S4096x1024, .f32⟩ : BufTy).Contents (Elt Ideal)) (p : Fin 2816) (d : Fin 1024) :
    Cert.Reference3Ideal.Read.val_main_v12 (F := Ideal) x0 x1 (ix2 p d) = (∑ r : Fin 4096, (FloatOps.ofBits (F := Ideal) .f32 0x3F000000#32 * x1 (ix2 r d)) * x0 (ix2 r ⟨p.val, by omega⟩) : EReal) := by
  pointwise [Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_cst_2, Cert.Reference3Ideal.Read.val_main_v1, Cert.Reference3Ideal.Read.val_main_v0]

/-- The kernel's result is the reference's. -/
theorem equal : Value.G2 m c = Cert.Reference3Ideal.Read.val_main_v12 (F := Ideal) (m ((c : Thread nD τ).loc main_arg0)) (m ((c : Thread nD τ).loc main_arg1)) := by
  funext i
  obtain ⟨p, d, rfl⟩ : ∃ (p : Fin 2816) (d : Fin 1024), i = ix2 p d := ⟨i 0, i 1, by funext a; match a with | ⟨0, _⟩ => rfl | ⟨1, _⟩ => rfl⟩
  rw [G2_at, ref_at]
  rw [half, Cert.Val.sum_mul_pos _ _ _ (by norm_num : (0 : ℝ) < 1 / 2)]
  refine Finset.sum_congr (M := EReal) rfl fun r _ => ?_
  rw [mul_comm (A m c r ⟨p.val, by omega⟩), mul_assoc, mul_comm, mul_assoc, mul_comm]

end

end Cert.Kernel3Ideal.Dw

end
-- ==== Proof.Val.Dw5.lean ====
/- The weight gradient of the projection out of the memory attention at the real arithmetic: the block products added over a run's
   four points are the product over all rows, as the reference has it. -/
module

public import proofs.«01_k».proof.Proof.Gen.Kernel5Ideal.Value
public import proofs.«01_k».proof.Proof.Gen.Reference5Ideal.Read
public import proofs.«01_k».proof.Proof.Val.Dw
public import Idealize.ShloMosaic.Lib.Pipeline.ValueKit
public import Idealize.ShloMosaic.Lib.Pointwise

@[expose] public section

set_option maxRecDepth 16384

noncomputable section

namespace Cert.Kernel5Ideal.Dw

open Cert.Kernel5Ideal Cert.Kernel5Ideal.Gen
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-! ## What the body leaves, case by case -/

section
variable {F : FTy → Type} [FloatOps F]
variable (c : Dev nD) (i : grid0.Coords) (a2 : Memref sig .tc .vmem S1024x1024 .bf16) (h2 : a2.IsWhole) (a3 : Memref sig .tc .vmem S1024x1024 .f32) (h3 : a3.IsWhole)
  (a4 : Memref sig .tc .vmem S1024x1024 .bf16) (h4 : a4.IsWhole) (a5 : Memref sig .tc .vmem S1024x1024 .f32) (h5 : a5.IsWhole)
  (x0 : Vec F S1024x1024 .bf16) (x1 : Vec F S1024x1024 .f32) (xs : Vec F S1024x1024 .f32)

/-- The first block of a run: its product. -/
theorem sout_A (hc0 : cond0_0 i) (hc1 : ¬cond0_1 i) (hc2 : ¬cond0_2 i) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  simp only [View.readAt_eq_ld, h2.read_unread, h3.read_unread, View.ld_unit_zero (S := S1024x1024) hz, View.ld_unit_zero (S := S1024x1024) hz]

/-- A middle block: its product added. -/
theorem sout_B (hc0 : ¬cond0_0 i) (hc1 : cond0_1 i) (hc2 : ¬cond0_2 i) :
    sout0_B_0 c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  simp only [View.readAt_eq_ld, h2.read_unread, h3.read_unread, h5.read_unread, View.ld_unit_zero (S := S1024x1024) hz, View.ld_unit_zero (S := S1024x1024) hz,
    View.ld_unit_zero (S := S1024x1024) hz]

/-- The last block: its product added … -/
theorem sout_C (hc0 : ¬cond0_0 i) (hc1 : cond0_1 i) (hc2 : cond0_2 i) :
    sout0_C_0 c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz]
  simp only [View.readAt_eq_ld, h2.read_unread, h3.read_unread, h5.read_unread, View.ld_unit_zero (S := S1024x1024) hz, View.ld_unit_zero (S := S1024x1024) hz,
    View.ld_unit_zero (S := S1024x1024) hz]

/-- … and the sum written out. -/
theorem out_C (hc0 : ¬cond0_0 i) (hc1 : cond0_1 i) (hc2 : cond0_2 i) :
    out0_C_2 c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S1024x1024) _ hz]
  simp only [View.readAt_eq_ld, h2.read_unread, h3.read_unread, h5.read_unread, View.ld_unit_zero (S := S1024x1024) hz, View.ld_unit_zero (S := S1024x1024) hz,
    View.ld_unit_zero (S := S1024x1024) hz]

end

/-! ## The payloads at an index -/

theorem pay1_at (x0 : Vec Ideal S1024x1024 .bf16) (x1 : Vec Ideal S1024x1024 .f32) (r : Fin 1024) (d : Fin 1024) :
    k0_pay1 (F := Ideal) x0 x1 (ix2 r d) = (∑ x : Fin 1024, x0 (ix2 x r) * x1 (ix2 x d) : EReal) := by
  pointwise [k0_pay1]

theorem pay2_at (x0 : Vec Ideal S1024x1024 .bf16) (x1 : Vec Ideal S1024x1024 .f32) (j : S1024x1024.Idx) :
    k0_pay2 (F := Ideal) x0 x1 j = k0_pay1 (F := Ideal) x0 x1 j := by
  unfold k0_pay2; rw [shapeCast_self]

theorem pay3_at (x0 : Vec Ideal S1024x1024 .bf16) (x1 : Vec Ideal S1024x1024 .f32) (xs : Vec Ideal S1024x1024 .f32) (j : S1024x1024.Idx) :
    k0_pay3 (F := Ideal) x0 x1 xs j = (xs j + k0_pay1 (F := Ideal) x0 x1 j : EReal) := by
  unfold k0_pay3; rw [shapeCast_self]; rfl

theorem pay4_at (xs : Vec Ideal S1024x1024 .f32) (j : S1024x1024.Idx) : k0_pay4 (F := Ideal) xs j = xs j := rfl

/-! ## The blocks -/

section
variable (m : (ℓ : Loc nD τ sig) → Buf (Elt Ideal) ℓ) (c : Dev nD)

/-- The window's block numbers: the run's columns, the point's rows. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem X_at (t : Fin cfg0.N) (x : Fin 1024) (r : Fin 1024) (p : Fin 4096) (q : Fin 1024) (hp : p.val = 1024 * (t.val % 4) + x.val)
    (hq : q.val = 1024 * (t.val / 4) + r.val) :
    iblk m c 0 t (ix2 x r) = m ((c : Thread nD τ).loc main_arg0) (ix2 p q) := by
  unfold iblk
  rw [View.read_apply]
  obtain ⟨e0, e1⟩ := idx0 t
  show m ((c : Thread nD τ).loc main_arg0) _ = _
  congr 1
  funext a
  apply Fin.ext
  match a with
  | ⟨0, _⟩ => show win0_0.index t (0 : Fin 2) * 1024 + 1 * x.val = p.val; rw [e0, hp]; omega
  | ⟨1, _⟩ => show win0_0.index t (1 : Fin 2) * 1024 + 1 * r.val = q.val; rw [e1, hq]; omega

theorem Y_at (t : Fin cfg0.N) (x d : Fin 1024) (p : Fin 4096) (hp : p.val = 1024 * (t.val % 4) + x.val) :
    iblk m c 1 t (ix2 x d) = m ((c : Thread nD τ).loc main_arg1) (ix2 p d) := by
  unfold iblk
  rw [View.read_apply]
  obtain ⟨e0, e1⟩ := idx1 t
  show m ((c : Thread nD τ).loc main_arg1) _ = _
  congr 1
  funext a
  apply Fin.ext
  match a with
  | ⟨0, _⟩ => show win0_1.index t (0 : Fin 2) * 1024 + 1 * x.val = p.val; rw [e0, hp]; omega
  | ⟨1, _⟩ => show win0_1.index t (1 : Fin 2) * 1024 + 1 * d.val = d.val; rw [e1]; omega

/-- The two arguments, as arrays of extended reals. -/
abbrev A (p : Fin 4096) (q : Fin 1024) : EReal := m ((c : Thread nD τ).loc main_arg0) (ix2 p q)
abbrev B (p : Fin 4096) (q : Fin 1024) : EReal := m ((c : Thread nD τ).loc main_arg1) (ix2 p q)
/-- Their blocks. -/
abbrev X (t : Fin cfg0.N) (x : Fin 1024) (r : Fin 1024) : EReal := iblk m c 0 t (ix2 x r)
abbrev Y (t : Fin cfg0.N) (x d : Fin 1024) : EReal := iblk m c 1 t (ix2 x d)

/-! ## A run's sum -/

/-- The product of point `n`'s blocks. -/
def term (n : ℕ) (j : S1024x1024.Idx) : EReal :=
  if h : n < cfg0.N then k0_pay1 (F := Ideal) (iblk m c 0 ⟨n, h⟩) (iblk m c 1 ⟨n, h⟩) j else 0

theorem term_eq (t : Fin cfg0.N) (j : S1024x1024.Idx) : term m c t.val j = k0_pay1 (F := Ideal) (iblk m c 0 t) (iblk m c 1 t) j := dif_pos t.isLt

/-- What the scratch holds after point `t`. -/
theorem scratch_eq (t : Fin cfg0.N) (j : S1024x1024.Idx) :
    (outsAt0 m c t.val t.isLt).2 j = (0 + ∑ k ∈ Finset.range (t.val % 4 + 1), term m c (4 * (t.val / 4) + k) j : EReal) := by
  refine Pipeline.eq_sum_of_reset_step_apply (M := EReal) (fun n h => (outsAt0 m c n h).2) 4 (fun _ => 0) (term m c) (fun t h j => ?_) (fun t h j => ?_) t j
  · have hN : t.val < 4 := lt_of_lt_of_eq t.isLt N_0
    have hA := outsAt0_A m c t h (by omega) (by omega)
    show (outsAt0 m c t.val t.isLt).2 j = _
    rw [hA]
    dsimp only
    rw [sout_A, pay2_at, term_eq, zero_add]
  · show (outsAt0 m c t.val t.isLt).2 j = _
    by_cases h3 : t.val % 4 = 3
    · have hC := outsAt0_C m c t h (by omega) h3
      rw [hC]
      dsimp only
      rw [sout_C, pay3_at, term_eq]
    · have hB := outsAt0_B m c t h (by omega) h3
      rw [hB]
      dsimp only
      rw [sout_B, pay3_at, term_eq]

/-- What the output's buffer holds after a run's last point: the scratch. -/
theorem out_eq (t : Fin cfg0.N) (h3 : t.val % 4 = 3) (j : S1024x1024.Idx) : (outsAt0 m c t.val t.isLt).1 j = (outsAt0 m c t.val t.isLt).2 j := by
  have hC := outsAt0_C m c t (by omega) (by omega) h3
  rw [hC]
  dsimp only
  rw [sout_C, out_C, pay4_at]

/-- The result array at an index. -/
theorem G2_at (p : Fin 1024) (d : Fin 1024) :
    Value.G2 m c (ix2 p d) = (∑ r : Fin 4096, A m c r ⟨p.val, by omega⟩ * B m c r d : EReal) := by
  have hp : 4 * (p.val / 1024) + 3 < cfg0.N := by rw [show cfg0.N = 4 from N_0]; omega
  let t : Fin cfg0.N := ⟨4 * (p.val / 1024) + 3, hp⟩
  have ht : Value.pt2Of (ix2 p d) = t.val := by
    show 4 * (1 * (p.val / 1024 - 0) + 1 * (d.val / 1024 - 0)) + 3 = 4 * (p.val / 1024) + 3
    omega
  have hl : Value.loc2Of (ix2 p d) = ix2 ⟨p.val % 1024, Nat.mod_lt _ (by decide)⟩ d := by
    funext a; apply Fin.ext
    match a with
    | ⟨0, _⟩ => rfl
    | ⟨1, _⟩ => show d.val % 1024 = d.val; omega
  unfold Value.G2
  rw [dif_pos (by rw [ht]; exact t.isLt), hl, Value.fold0_congr m c _ _ _ (by omega) ht, ← Value.outsAt0_sweep m c t.val t.isLt, out_eq m c t (by show (4 * (p.val / 1024) + 3) % 4 = 3; omega), scratch_eq, zero_add]
  have e1 : t.val % 4 + 1 = 4 := by show (4 * (p.val / 1024) + 3) % 4 + 1 = 4; omega
  have e2 : t.val / 4 = p.val / 1024 := by show (4 * (p.val / 1024) + 3) / 4 = _; omega
  rw [e1, e2]
  rw [← Cert.Val.rows_sum (fun r => A m c r ⟨p.val, by omega⟩ * B m c r d) (fun k x => if h : 4 * (p.val / 1024) + k < cfg0.N then
      X m c ⟨4 * (p.val / 1024) + k, h⟩ x ⟨p.val % 1024, Nat.mod_lt _ (by decide)⟩ * Y m c ⟨4 * (p.val / 1024) + k, h⟩ x d else 0) ?_]
  · refine Finset.sum_congr (M := EReal) rfl fun k hk => ?_
    have hk4 := Finset.mem_range.mp hk
    have hn : 4 * (p.val / 1024) + k < cfg0.N := by rw [show cfg0.N = 4 from N_0]; omega
    rw [term_eq m c ⟨4 * (p.val / 1024) + k, hn⟩, pay1_at]
    exact Finset.sum_congr rfl fun x _ => by rw [dif_pos hn]
  · intro k x hk
    have hn : 4 * (p.val / 1024) + k < cfg0.N := by rw [show cfg0.N = 4 from N_0]; omega
    rw [dif_pos hn]
    dsimp only [X, Y]
    rw [X_at m c ⟨4 * (p.val / 1024) + k, hn⟩ x _ ⟨1024 * k + x.val, by omega⟩ ⟨p.val, by omega⟩
        (by show 1024 * k + x.val = 1024 * ((4 * (p.val / 1024) + k) % 4) + x.val; omega)
        (by show p.val = 1024 * ((4 * (p.val / 1024) + k) / 4) + p.val % 1024; omega),
      Y_at m c ⟨4 * (p.val / 1024) + k, hn⟩ x d ⟨1024 * k + x.val, by omega⟩ (by show 1024 * k + x.val = 1024 * ((4 * (p.val / 1024) + k) % 4) + x.val; omega)]

/-! ## The two programs -/

theorem ref_at (x0 : (⟨Cert.Reference5Ideal.S4096x1024, .bf16⟩ : BufTy).Contents (Elt Ideal)) (x1 : (⟨Cert.Reference5Ideal.S4096x1024, .f32⟩ : BufTy).Contents (Elt Ideal)) (p : Fin 1024) (d : Fin 1024) :
    Cert.Reference5Ideal.Read.val_main_v5 (F := Ideal) x0 x1 (ix2 p d) = (∑ r : Fin 4096, x1 (ix2 r d) * x0 (ix2 r ⟨p.val, by omega⟩) : EReal) := by
  pointwise [Cert.Reference5Ideal.Read.val_main_v5, Cert.Reference5Ideal.Read.val_main_v4, Cert.Reference5Ideal.Read.val_main_v3, Cert.Reference5Ideal.Read.val_main_v0]

/-- The kernel's result is the reference's. -/
theorem equal : Value.G2 m c = Cert.Reference5Ideal.Read.val_main_v5 (F := Ideal) (m ((c : Thread nD τ).loc main_arg0)) (m ((c : Thread nD τ).loc main_arg1)) := by
  funext i
  obtain ⟨p, d, rfl⟩ : ∃ (p : Fin 1024) (d : Fin 1024), i = ix2 p d := ⟨i 0, i 1, by funext a; match a with | ⟨0, _⟩ => rfl | ⟨1, _⟩ => rfl⟩
  rw [G2_at, ref_at]
  exact Finset.sum_congr (M := EReal) rfl fun r _ => mul_comm (A m c r ⟨p.val, by omega⟩) (B m c r d)

end

end Cert.Kernel5Ideal.Dw

end
-- ==== Proof.Val.Dw6.lean ====
/- The weight gradient of a square projection at the real arithmetic: the block products added over a run's
   four points are the product over all rows, as the reference has it. -/
module

public import proofs.«01_k».proof.Proof.Gen.Kernel6Ideal.Value
public import proofs.«01_k».proof.Proof.Gen.Reference6Ideal.Read
public import proofs.«01_k».proof.Proof.Val.Dw
public import Idealize.ShloMosaic.Lib.Pipeline.ValueKit
public import Idealize.ShloMosaic.Lib.Pointwise

@[expose] public section

set_option maxRecDepth 16384

noncomputable section

namespace Cert.Kernel6Ideal.Dw

open Cert.Kernel6Ideal Cert.Kernel6Ideal.Gen
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-! ## What the body leaves, case by case -/

section
variable {F : FTy → Type} [FloatOps F]
variable (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (x0 : Vec F S1024x1024 .bf16) (x1 : Vec F S1024x1024 .bf16) (xs : Vec F S1024x1024 .f32)

/-- The first block of a run: its product. -/
theorem sout_A (hc0 : cond0_0 i) (hc1 : ¬cond0_1 i) (hc2 : ¬cond0_2 i) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  simp only [View.readAt_eq_ld, h2.read_unread, h3.read_unread, View.ld_unit_zero (S := S1024x1024) hz, View.ld_unit_zero (S := S1024x1024) hz]

/-- A middle block: its product added. -/
theorem sout_B (hc0 : ¬cond0_0 i) (hc1 : cond0_1 i) (hc2 : ¬cond0_2 i) :
    sout0_B_0 c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  simp only [View.readAt_eq_ld, h2.read_unread, h3.read_unread, h5.read_unread, View.ld_unit_zero (S := S1024x1024) hz, View.ld_unit_zero (S := S1024x1024) hz,
    View.ld_unit_zero (S := S1024x1024) hz]

/-- The last block: its product added … -/
theorem sout_C (hc0 : ¬cond0_0 i) (hc1 : cond0_1 i) (hc2 : cond0_2 i) :
    sout0_C_0 c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz]
  simp only [View.readAt_eq_ld, h2.read_unread, h3.read_unread, h5.read_unread, View.ld_unit_zero (S := S1024x1024) hz, View.ld_unit_zero (S := S1024x1024) hz,
    View.ld_unit_zero (S := S1024x1024) hz]

/-- … and the sum written out. -/
theorem out_C (hc0 : ¬cond0_0 i) (hc1 : cond0_1 i) (hc2 : cond0_2 i) :
    out0_C_2 c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S1024x1024) _ hz]
  simp only [View.readAt_eq_ld, h2.read_unread, h3.read_unread, h5.read_unread, View.ld_unit_zero (S := S1024x1024) hz, View.ld_unit_zero (S := S1024x1024) hz,
    View.ld_unit_zero (S := S1024x1024) hz]

end

/-! ## The payloads at an index -/

theorem pay1_at (x0 : Vec Ideal S1024x1024 .bf16) (x1 : Vec Ideal S1024x1024 .bf16) (r : Fin 1024) (d : Fin 1024) :
    k0_pay1 (F := Ideal) x0 x1 (ix2 r d) = (∑ x : Fin 1024, x0 (ix2 x r) * x1 (ix2 x d) : EReal) := by
  pointwise [k0_pay1]

theorem pay2_at (x0 : Vec Ideal S1024x1024 .bf16) (x1 : Vec Ideal S1024x1024 .bf16) (j : S1024x1024.Idx) :
    k0_pay2 (F := Ideal) x0 x1 j = k0_pay1 (F := Ideal) x0 x1 j := by
  unfold k0_pay2; rw [shapeCast_self]

theorem pay3_at (x0 : Vec Ideal S1024x1024 .bf16) (x1 : Vec Ideal S1024x1024 .bf16) (xs : Vec Ideal S1024x1024 .f32) (j : S1024x1024.Idx) :
    k0_pay3 (F := Ideal) x0 x1 xs j = (xs j + k0_pay1 (F := Ideal) x0 x1 j : EReal) := by
  unfold k0_pay3; rw [shapeCast_self]; rfl

theorem pay4_at (xs : Vec Ideal S1024x1024 .f32) (j : S1024x1024.Idx) : k0_pay4 (F := Ideal) xs j = xs j := rfl

/-! ## The blocks -/

section
variable (m : (ℓ : Loc nD τ sig) → Buf (Elt Ideal) ℓ) (c : Dev nD)

/-- The window's block numbers: the run's columns, the point's rows. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem X_at (t : Fin cfg0.N) (x : Fin 1024) (r : Fin 1024) (p : Fin 4096) (q : Fin 1024) (hp : p.val = 1024 * (t.val % 4) + x.val)
    (hq : q.val = 1024 * (t.val / 4) + r.val) :
    iblk m c 0 t (ix2 x r) = m ((c : Thread nD τ).loc main_arg0) (ix2 p q) := by
  unfold iblk
  rw [View.read_apply]
  obtain ⟨e0, e1⟩ := idx0 t
  show m ((c : Thread nD τ).loc main_arg0) _ = _
  congr 1
  funext a
  apply Fin.ext
  match a with
  | ⟨0, _⟩ => show win0_0.index t (0 : Fin 2) * 1024 + 1 * x.val = p.val; rw [e0, hp]; omega
  | ⟨1, _⟩ => show win0_0.index t (1 : Fin 2) * 1024 + 1 * r.val = q.val; rw [e1, hq]; omega

theorem Y_at (t : Fin cfg0.N) (x d : Fin 1024) (p : Fin 4096) (hp : p.val = 1024 * (t.val % 4) + x.val) :
    iblk m c 1 t (ix2 x d) = m ((c : Thread nD τ).loc main_arg1) (ix2 p d) := by
  unfold iblk
  rw [View.read_apply]
  obtain ⟨e0, e1⟩ := idx1 t
  show m ((c : Thread nD τ).loc main_arg1) _ = _
  congr 1
  funext a
  apply Fin.ext
  match a with
  | ⟨0, _⟩ => show win0_1.index t (0 : Fin 2) * 1024 + 1 * x.val = p.val; rw [e0, hp]; omega
  | ⟨1, _⟩ => show win0_1.index t (1 : Fin 2) * 1024 + 1 * d.val = d.val; rw [e1]; omega

/-- The two arguments, as arrays of extended reals. -/
abbrev A (p : Fin 4096) (q : Fin 1024) : EReal := m ((c : Thread nD τ).loc main_arg0) (ix2 p q)
abbrev B (p : Fin 4096) (q : Fin 1024) : EReal := m ((c : Thread nD τ).loc main_arg1) (ix2 p q)
/-- Their blocks. -/
abbrev X (t : Fin cfg0.N) (x : Fin 1024) (r : Fin 1024) : EReal := iblk m c 0 t (ix2 x r)
abbrev Y (t : Fin cfg0.N) (x d : Fin 1024) : EReal := iblk m c 1 t (ix2 x d)

/-! ## A run's sum -/

/-- The product of point `n`'s blocks. -/
def term (n : ℕ) (j : S1024x1024.Idx) : EReal :=
  if h : n < cfg0.N then k0_pay1 (F := Ideal) (iblk m c 0 ⟨n, h⟩) (iblk m c 1 ⟨n, h⟩) j else 0

theorem term_eq (t : Fin cfg0.N) (j : S1024x1024.Idx) : term m c t.val j = k0_pay1 (F := Ideal) (iblk m c 0 t) (iblk m c 1 t) j := dif_pos t.isLt

/-- What the scratch holds after point `t`. -/
theorem scratch_eq (t : Fin cfg0.N) (j : S1024x1024.Idx) :
    (outsAt0 m c t.val t.isLt).2 j = (0 + ∑ k ∈ Finset.range (t.val % 4 + 1), term m c (4 * (t.val / 4) + k) j : EReal) := by
  refine Pipeline.eq_sum_of_reset_step_apply (M := EReal) (fun n h => (outsAt0 m c n h).2) 4 (fun _ => 0) (term m c) (fun t h j => ?_) (fun t h j => ?_) t j
  · have hN : t.val < 4 := lt_of_lt_of_eq t.isLt N_0
    have hA := outsAt0_A m c t h (by omega) (by omega)
    show (outsAt0 m c t.val t.isLt).2 j = _
    rw [hA]
    dsimp only
    rw [sout_A, pay2_at, term_eq, zero_add]
  · show (outsAt0 m c t.val t.isLt).2 j = _
    by_cases h3 : t.val % 4 = 3
    · have hC := outsAt0_C m c t h (by omega) h3
      rw [hC]
      dsimp only
      rw [sout_C, pay3_at, term_eq]
    · have hB := outsAt0_B m c t h (by omega) h3
      rw [hB]
      dsimp only
      rw [sout_B, pay3_at, term_eq]

/-- What the output's buffer holds after a run's last point: the scratch. -/
theorem out_eq (t : Fin cfg0.N) (h3 : t.val % 4 = 3) (j : S1024x1024.Idx) : (outsAt0 m c t.val t.isLt).1 j = (outsAt0 m c t.val t.isLt).2 j := by
  have hC := outsAt0_C m c t (by omega) (by omega) h3
  rw [hC]
  dsimp only
  rw [sout_C, out_C, pay4_at]

/-- The result array at an index. -/
theorem G2_at (p : Fin 1024) (d : Fin 1024) :
    Value.G2 m c (ix2 p d) = (∑ r : Fin 4096, A m c r ⟨p.val, by omega⟩ * B m c r d : EReal) := by
  have hp : 4 * (p.val / 1024) + 3 < cfg0.N := by rw [show cfg0.N = 4 from N_0]; omega
  let t : Fin cfg0.N := ⟨4 * (p.val / 1024) + 3, hp⟩
  have ht : Value.pt2Of (ix2 p d) = t.val := by
    show 4 * (1 * (p.val / 1024 - 0) + 1 * (d.val / 1024 - 0)) + 3 = 4 * (p.val / 1024) + 3
    omega
  have hl : Value.loc2Of (ix2 p d) = ix2 ⟨p.val % 1024, Nat.mod_lt _ (by decide)⟩ d := by
    funext a; apply Fin.ext
    match a with
    | ⟨0, _⟩ => rfl
    | ⟨1, _⟩ => show d.val % 1024 = d.val; omega
  unfold Value.G2
  rw [dif_pos (by rw [ht]; exact t.isLt), hl, Value.fold0_congr m c _ _ _ (by omega) ht, ← Value.outsAt0_sweep m c t.val t.isLt, out_eq m c t (by show (4 * (p.val / 1024) + 3) % 4 = 3; omega), scratch_eq, zero_add]
  have e1 : t.val % 4 + 1 = 4 := by show (4 * (p.val / 1024) + 3) % 4 + 1 = 4; omega
  have e2 : t.val / 4 = p.val / 1024 := by show (4 * (p.val / 1024) + 3) / 4 = _; omega
  rw [e1, e2]
  rw [← Cert.Val.rows_sum (fun r => A m c r ⟨p.val, by omega⟩ * B m c r d) (fun k x => if h : 4 * (p.val / 1024) + k < cfg0.N then
      X m c ⟨4 * (p.val / 1024) + k, h⟩ x ⟨p.val % 1024, Nat.mod_lt _ (by decide)⟩ * Y m c ⟨4 * (p.val / 1024) + k, h⟩ x d else 0) ?_]
  · refine Finset.sum_congr (M := EReal) rfl fun k hk => ?_
    have hk4 := Finset.mem_range.mp hk
    have hn : 4 * (p.val / 1024) + k < cfg0.N := by rw [show cfg0.N = 4 from N_0]; omega
    rw [term_eq m c ⟨4 * (p.val / 1024) + k, hn⟩, pay1_at]
    exact Finset.sum_congr rfl fun x _ => by rw [dif_pos hn]
  · intro k x hk
    have hn : 4 * (p.val / 1024) + k < cfg0.N := by rw [show cfg0.N = 4 from N_0]; omega
    rw [dif_pos hn]
    dsimp only [X, Y]
    rw [X_at m c ⟨4 * (p.val / 1024) + k, hn⟩ x _ ⟨1024 * k + x.val, by omega⟩ ⟨p.val, by omega⟩
        (by show 1024 * k + x.val = 1024 * ((4 * (p.val / 1024) + k) % 4) + x.val; omega)
        (by show p.val = 1024 * ((4 * (p.val / 1024) + k) / 4) + p.val % 1024; omega),
      Y_at m c ⟨4 * (p.val / 1024) + k, hn⟩ x d ⟨1024 * k + x.val, by omega⟩ (by show 1024 * k + x.val = 1024 * ((4 * (p.val / 1024) + k) % 4) + x.val; omega)]

/-! ## The two programs -/

theorem ref_at (x0 : (⟨Cert.Reference6Ideal.S4096x1024, .bf16⟩ : BufTy).Contents (Elt Ideal)) (x1 : (⟨Cert.Reference6Ideal.S4096x1024, .bf16⟩ : BufTy).Contents (Elt Ideal)) (p : Fin 1024) (d : Fin 1024) :
    Cert.Reference6Ideal.Read.val_main_v6 (F := Ideal) x0 x1 (ix2 p d) = (∑ r : Fin 4096, x1 (ix2 r d) * x0 (ix2 r ⟨p.val, by omega⟩) : EReal) := by
  pointwise [Cert.Reference6Ideal.Read.val_main_v6, Cert.Reference6Ideal.Read.val_main_v5, Cert.Reference6Ideal.Read.val_main_v4, Cert.Reference6Ideal.Read.val_main_v3, Cert.Reference6Ideal.Read.val_main_v0]

/-- The kernel's result is the reference's. -/
theorem equal : Value.G2 m c = Cert.Reference6Ideal.Read.val_main_v6 (F := Ideal) (m ((c : Thread nD τ).loc main_arg0)) (m ((c : Thread nD τ).loc main_arg1)) := by
  funext i
  obtain ⟨p, d, rfl⟩ : ∃ (p : Fin 1024) (d : Fin 1024), i = ix2 p d := ⟨i 0, i 1, by funext a; match a with | ⟨0, _⟩ => rfl | ⟨1, _⟩ => rfl⟩
  rw [G2_at, ref_at]
  exact Finset.sum_congr (M := EReal) rfl fun r _ => mul_comm (A m c r ⟨p.val, by omega⟩) (B m c r d)

end

end Cert.Kernel6Ideal.Dw

end
-- ==== Proof.Val.Dw7.lean ====
/- The weight gradient of half the output projection at the real arithmetic: the block products added over a run's
   four points are the product over all rows, as the reference has it. -/
module

public import proofs.«01_k».proof.Proof.Gen.Kernel7Ideal.Value
public import proofs.«01_k».proof.Proof.Gen.Reference7Ideal.Read
public import proofs.«01_k».proof.Proof.Val.Dw
public import Idealize.ShloMosaic.Lib.Pipeline.ValueKit
public import Idealize.ShloMosaic.Lib.Pointwise

@[expose] public section

set_option maxRecDepth 16384

noncomputable section

namespace Cert.Kernel7Ideal.Dw

open Cert.Kernel7Ideal Cert.Kernel7Ideal.Gen
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-! ## What the body leaves, case by case -/

section
variable {F : FTy → Type} [FloatOps F]
variable (c : Dev nD) (i : grid0.Coords) (a2 : Memref sig .tc .vmem S1024x512 .bf16) (h2 : a2.IsWhole) (a3 : Memref sig .tc .vmem S1024x1024 .f32) (h3 : a3.IsWhole)
  (a4 : Memref sig .tc .vmem S512x1024 .bf16) (h4 : a4.IsWhole) (a5 : Memref sig .tc .vmem S512x1024 .f32) (h5 : a5.IsWhole)
  (x0 : Vec F S1024x512 .bf16) (x1 : Vec F S1024x1024 .f32) (xs : Vec F S512x1024 .f32)

/-- The first block of a run: its product. -/
theorem sout_A (hc0 : cond0_0 i) (hc1 : ¬cond0_1 i) (hc2 : ¬cond0_2 i) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz]
  simp only [View.readAt_eq_ld, h2.read_unread, h3.read_unread, View.ld_unit_zero (S := S1024x512) hz, View.ld_unit_zero (S := S1024x1024) hz]

/-- A middle block: its product added. -/
theorem sout_B (hc0 : ¬cond0_0 i) (hc1 : cond0_1 i) (hc2 : ¬cond0_2 i) :
    sout0_B_0 c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz]
  simp only [View.readAt_eq_ld, h2.read_unread, h3.read_unread, h5.read_unread, View.ld_unit_zero (S := S1024x512) hz, View.ld_unit_zero (S := S1024x1024) hz,
    View.ld_unit_zero (S := S512x1024) hz]

/-- The last block: its product added … -/
theorem sout_C (hc0 : ¬cond0_0 i) (hc1 : cond0_1 i) (hc2 : cond0_2 i) :
    sout0_C_0 c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz]
  simp only [View.readAt_eq_ld, h2.read_unread, h3.read_unread, h5.read_unread, View.ld_unit_zero (S := S1024x512) hz, View.ld_unit_zero (S := S1024x1024) hz,
    View.ld_unit_zero (S := S512x1024) hz]

/-- … and the sum written out. -/
theorem out_C (hc0 : ¬cond0_0 i) (hc1 : cond0_1 i) (hc2 : cond0_2 i) :
    out0_C_2 c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz, View.readCov_unit_zero (S := S512x1024) _ hz]
  simp only [View.readAt_eq_ld, h2.read_unread, h3.read_unread, h5.read_unread, View.ld_unit_zero (S := S1024x512) hz, View.ld_unit_zero (S := S1024x1024) hz,
    View.ld_unit_zero (S := S512x1024) hz]

end

/-! ## The payloads at an index -/

theorem pay1_at (x0 : Vec Ideal S1024x512 .bf16) (x1 : Vec Ideal S1024x1024 .f32) (r : Fin 512) (d : Fin 1024) :
    k0_pay1 (F := Ideal) x0 x1 (ix2 r d) = (∑ x : Fin 1024, x0 (ix2 x r) * x1 (ix2 x d) : EReal) := by
  pointwise [k0_pay1]

theorem pay2_at (x0 : Vec Ideal S1024x512 .bf16) (x1 : Vec Ideal S1024x1024 .f32) (j : S512x1024.Idx) :
    k0_pay2 (F := Ideal) x0 x1 j = k0_pay1 (F := Ideal) x0 x1 j := by
  unfold k0_pay2; rw [shapeCast_self]

theorem pay3_at (x0 : Vec Ideal S1024x512 .bf16) (x1 : Vec Ideal S1024x1024 .f32) (xs : Vec Ideal S512x1024 .f32) (j : S512x1024.Idx) :
    k0_pay3 (F := Ideal) x0 x1 xs j = (xs j + k0_pay1 (F := Ideal) x0 x1 j : EReal) := by
  unfold k0_pay3; rw [shapeCast_self]; rfl

theorem pay4_at (xs : Vec Ideal S512x1024 .f32) (j : S512x1024.Idx) : k0_pay4 (F := Ideal) xs j = xs j := rfl

/-! ## The blocks -/

section
variable (m : (ℓ : Loc nD τ sig) → Buf (Elt Ideal) ℓ) (c : Dev nD)

/-- The window's block numbers: the run's columns, the point's rows. -/
theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem X_at (t : Fin cfg0.N) (x : Fin 1024) (r : Fin 512) (p : Fin 4096) (q : Fin 512) (hp : p.val = 1024 * (t.val % 4) + x.val)
    (hq : q.val = 512 * (t.val / 4) + r.val) :
    iblk m c 0 t (ix2 x r) = m ((c : Thread nD τ).loc main_arg0) (ix2 p q) := by
  unfold iblk
  rw [View.read_apply]
  obtain ⟨e0, e1⟩ := idx0 t
  show m ((c : Thread nD τ).loc main_arg0) _ = _
  congr 1
  funext a
  apply Fin.ext
  match a with
  | ⟨0, _⟩ => show win0_0.index t (0 : Fin 2) * 1024 + 1 * x.val = p.val; rw [e0, hp]; omega
  | ⟨1, _⟩ => show win0_0.index t (1 : Fin 2) * 512 + 1 * r.val = q.val; rw [e1, hq]; omega

theorem Y_at (t : Fin cfg0.N) (x d : Fin 1024) (p : Fin 4096) (hp : p.val = 1024 * (t.val % 4) + x.val) :
    iblk m c 1 t (ix2 x d) = m ((c : Thread nD τ).loc main_arg1) (ix2 p d) := by
  unfold iblk
  rw [View.read_apply]
  obtain ⟨e0, e1⟩ := idx1 t
  show m ((c : Thread nD τ).loc main_arg1) _ = _
  congr 1
  funext a
  apply Fin.ext
  match a with
  | ⟨0, _⟩ => show win0_1.index t (0 : Fin 2) * 1024 + 1 * x.val = p.val; rw [e0, hp]; omega
  | ⟨1, _⟩ => show win0_1.index t (1 : Fin 2) * 1024 + 1 * d.val = d.val; rw [e1]; omega

/-- The two arguments, as arrays of extended reals. -/
abbrev A (p : Fin 4096) (q : Fin 512) : EReal := m ((c : Thread nD τ).loc main_arg0) (ix2 p q)
abbrev B (p : Fin 4096) (q : Fin 1024) : EReal := m ((c : Thread nD τ).loc main_arg1) (ix2 p q)
/-- Their blocks. -/
abbrev X (t : Fin cfg0.N) (x : Fin 1024) (r : Fin 512) : EReal := iblk m c 0 t (ix2 x r)
abbrev Y (t : Fin cfg0.N) (x d : Fin 1024) : EReal := iblk m c 1 t (ix2 x d)

/-! ## A run's sum -/

/-- The product of point `n`'s blocks. -/
def term (n : ℕ) (j : S512x1024.Idx) : EReal :=
  if h : n < cfg0.N then k0_pay1 (F := Ideal) (iblk m c 0 ⟨n, h⟩) (iblk m c 1 ⟨n, h⟩) j else 0

theorem term_eq (t : Fin cfg0.N) (j : S512x1024.Idx) : term m c t.val j = k0_pay1 (F := Ideal) (iblk m c 0 t) (iblk m c 1 t) j := dif_pos t.isLt

/-- What the scratch holds after point `t`. -/
theorem scratch_eq (t : Fin cfg0.N) (j : S512x1024.Idx) :
    (outsAt0 m c t.val t.isLt).2 j = (0 + ∑ k ∈ Finset.range (t.val % 4 + 1), term m c (4 * (t.val / 4) + k) j : EReal) := by
  refine Pipeline.eq_sum_of_reset_step_apply (M := EReal) (fun n h => (outsAt0 m c n h).2) 4 (fun _ => 0) (term m c) (fun t h j => ?_) (fun t h j => ?_) t j
  · have hN : t.val < 4 := lt_of_lt_of_eq t.isLt N_0
    have hA := outsAt0_A m c t h (by omega) (by omega)
    show (outsAt0 m c t.val t.isLt).2 j = _
    rw [hA]
    dsimp only
    rw [sout_A, pay2_at, term_eq, zero_add]
  · show (outsAt0 m c t.val t.isLt).2 j = _
    by_cases h3 : t.val % 4 = 3
    · have hC := outsAt0_C m c t h (by omega) h3
      rw [hC]
      dsimp only
      rw [sout_C, pay3_at, term_eq]
    · have hB := outsAt0_B m c t h (by omega) h3
      rw [hB]
      dsimp only
      rw [sout_B, pay3_at, term_eq]

/-- What the output's buffer holds after a run's last point: the scratch. -/
theorem out_eq (t : Fin cfg0.N) (h3 : t.val % 4 = 3) (j : S512x1024.Idx) : (outsAt0 m c t.val t.isLt).1 j = (outsAt0 m c t.val t.isLt).2 j := by
  have hC := outsAt0_C m c t (by omega) (by omega) h3
  rw [hC]
  dsimp only
  rw [sout_C, out_C, pay4_at]

/-- The result array at an index. -/
theorem G2_at (p : Fin 512) (d : Fin 1024) :
    Value.G2 m c (ix2 p d) = (∑ r : Fin 4096, A m c r ⟨p.val, by omega⟩ * B m c r d : EReal) := by
  have hp : 4 * (p.val / 512) + 3 < cfg0.N := by rw [show cfg0.N = 4 from N_0]; omega
  let t : Fin cfg0.N := ⟨4 * (p.val / 512) + 3, hp⟩
  have ht : Value.pt2Of (ix2 p d) = t.val := by
    show 4 * (1 * (p.val / 512 - 0) + 1 * (d.val / 1024 - 0)) + 3 = 4 * (p.val / 512) + 3
    omega
  have hl : Value.loc2Of (ix2 p d) = ix2 ⟨p.val % 512, Nat.mod_lt _ (by decide)⟩ d := by
    funext a; apply Fin.ext
    match a with
    | ⟨0, _⟩ => rfl
    | ⟨1, _⟩ => show d.val % 1024 = d.val; omega
  unfold Value.G2
  rw [dif_pos (by rw [ht]; exact t.isLt), hl, Value.fold0_congr m c _ _ _ (by omega) ht, ← Value.outsAt0_sweep m c t.val t.isLt, out_eq m c t (by show (4 * (p.val / 512) + 3) % 4 = 3; omega), scratch_eq, zero_add]
  have e1 : t.val % 4 + 1 = 4 := by show (4 * (p.val / 512) + 3) % 4 + 1 = 4; omega
  have e2 : t.val / 4 = p.val / 512 := by show (4 * (p.val / 512) + 3) / 4 = _; omega
  rw [e1, e2]
  rw [← Cert.Val.rows_sum (fun r => A m c r ⟨p.val, by omega⟩ * B m c r d) (fun k x => if h : 4 * (p.val / 512) + k < cfg0.N then
      X m c ⟨4 * (p.val / 512) + k, h⟩ x ⟨p.val % 512, Nat.mod_lt _ (by decide)⟩ * Y m c ⟨4 * (p.val / 512) + k, h⟩ x d else 0) ?_]
  · refine Finset.sum_congr (M := EReal) rfl fun k hk => ?_
    have hk4 := Finset.mem_range.mp hk
    have hn : 4 * (p.val / 512) + k < cfg0.N := by rw [show cfg0.N = 4 from N_0]; omega
    rw [term_eq m c ⟨4 * (p.val / 512) + k, hn⟩, pay1_at]
    exact Finset.sum_congr rfl fun x _ => by rw [dif_pos hn]
  · intro k x hk
    have hn : 4 * (p.val / 512) + k < cfg0.N := by rw [show cfg0.N = 4 from N_0]; omega
    rw [dif_pos hn]
    dsimp only [X, Y]
    rw [X_at m c ⟨4 * (p.val / 512) + k, hn⟩ x _ ⟨1024 * k + x.val, by omega⟩ ⟨p.val, by omega⟩
        (by show 1024 * k + x.val = 1024 * ((4 * (p.val / 512) + k) % 4) + x.val; omega)
        (by show p.val = 512 * ((4 * (p.val / 512) + k) / 4) + p.val % 512; omega),
      Y_at m c ⟨4 * (p.val / 512) + k, hn⟩ x d ⟨1024 * k + x.val, by omega⟩ (by show 1024 * k + x.val = 1024 * ((4 * (p.val / 512) + k) % 4) + x.val; omega)]

/-! ## The two programs -/

theorem ref_at (x0 : (⟨Cert.Reference7Ideal.S4096x512, .bf16⟩ : BufTy).Contents (Elt Ideal)) (x1 : (⟨Cert.Reference7Ideal.S4096x1024, .f32⟩ : BufTy).Contents (Elt Ideal)) (p : Fin 512) (d : Fin 1024) :
    Cert.Reference7Ideal.Read.val_main_v5 (F := Ideal) x0 x1 (ix2 p d) = (∑ r : Fin 4096, x1 (ix2 r d) * x0 (ix2 r ⟨p.val, by omega⟩) : EReal) := by
  pointwise [Cert.Reference7Ideal.Read.val_main_v5, Cert.Reference7Ideal.Read.val_main_v4, Cert.Reference7Ideal.Read.val_main_v3, Cert.Reference7Ideal.Read.val_main_v0]

/-- The kernel's result is the reference's. -/
theorem equal : Value.G2 m c = Cert.Reference7Ideal.Read.val_main_v5 (F := Ideal) (m ((c : Thread nD τ).loc main_arg0)) (m ((c : Thread nD τ).loc main_arg1)) := by
  funext i
  obtain ⟨p, d, rfl⟩ : ∃ (p : Fin 512) (d : Fin 1024), i = ix2 p d := ⟨i 0, i 1, by funext a; match a with | ⟨0, _⟩ => rfl | ⟨1, _⟩ => rfl⟩
  rw [G2_at, ref_at]
  exact Finset.sum_congr (M := EReal) rfl fun r _ => mul_comm (A m c r ⟨p.val, by omega⟩) (B m c r d)

end

end Cert.Kernel7Ideal.Dw

end
-- ==== Proof.Val.X8Pay.lean ====
/- The memory attention's body at the real arithmetic: what it stores, row by row. -/
module

public import proofs.«01_k».proof.Proof.Gen.Kernel8Ideal.Skeleton
public import Idealize.ShloMosaic.Lib.Pointwise

@[expose] public section

set_option maxRecDepth 16384

noncomputable section

namespace Cert.Kernel8Ideal.Mem

open Cert.Kernel8Ideal Cert.Kernel8Ideal.Gen
open Idealize.ShloMosaic Idealize.ShloMosaic.TcCoe

/-! ## One row over the extended reals -/

/-- The residual stream with the output projection of two halves added. -/
def res (h : Fin 1024 → EReal) (a b : Fin 512 → EReal) (w0 w1 : Fin 512 → Fin 1024 → EReal) (d : Fin 1024) : EReal :=
  h d + ∑ k, a k * w0 k d + ∑ k, b k * w1 k d
/-- The root-mean-square norm. -/
def nrm (x g : Fin 1024 → EReal) (d : Fin 1024) : EReal :=
  x d * Ideal.rsqrt (Ideal.div (∑ k, x k * x k) (Ideal.ofBits .f32 0x44800000#32) + Ideal.ofBits .f32 0x358637BD#32) * g d
/-- A row times a matrix. -/
def lin (x : Fin 1024 → EReal) (w : Fin 1024 → Fin 1024 → EReal) (d : Fin 1024) : EReal := ∑ k, x k * w k d
/-- The logits of one head. -/
def sco {n : ℕ} (q : Fin 256 → EReal) (k : Fin n → Fin 256 → EReal) (j : Fin n) : EReal := (∑ e, q e * k j e) * Ideal.ofBits .f32 0x3D800000#32
/-- Their softmax. -/
def top {n : ℕ} (s : Fin n → EReal) : EReal := Finset.univ.fold max (Ideal.ofBits .f32 0xFF800000#32) s
def soft {n : ℕ} (s : Fin n → EReal) (j : Fin n) : EReal := Ideal.div (Ideal.exp (s j - top s)) (∑ k, Ideal.exp (s k - top s))
/-- The head's output. -/
def att {n : ℕ} (q : Fin 256 → EReal) (k v : Fin n → Fin 256 → EReal) (d : Fin 256) : EReal := ∑ j, soft (sco q k) j * v j d

/-! ## The payloads -/

theorem pay3_at (v0 : Vec Ideal S512x1024 .f32) (v1 : Vec Ideal S512x512 .bf16) (v2 : Vec Ideal S512x1024 .bf16) (v5 : Vec Ideal S512x512 .bf16) (v6 : Vec Ideal S512x1024 .bf16)
    (r : Fin 512) (d : Fin 1024) :
    k0_pay3 (F := Ideal) v0 v1 v2 v5 v6 (ix2 r d)
      = res (fun d => v0 (ix2 r d)) (fun k => v1 (ix2 r k)) (fun k => v5 (ix2 r k)) (fun k d => v2 (ix2 k d)) (fun k d => v6 (ix2 k d)) d := by
  pointwise [k0_pay3, res]

theorem pay4_at (v0 : Vec Ideal S512x1024 .f32) (v1 : Vec Ideal S512x512 .bf16) (v2 : Vec Ideal S512x1024 .bf16) (v5 : Vec Ideal S512x512 .bf16) (v6 : Vec Ideal S512x1024 .bf16)
    (v10 : Vec Ideal S1x1024 .f32) (r : Fin 512) (d : Fin 1024) :
    k0_pay4 (F := Ideal) v0 v1 v2 v5 v6 v10 (ix2 r d) = nrm (fun d => k0_pay3 (F := Ideal) v0 v1 v2 v5 v6 (ix2 r d)) (fun d => v10 (ix2 0 d)) d := by
  unfold k0_pay4
  generalize k0_pay3 (F := Ideal) v0 v1 v2 v5 v6 = y
  pointwise [nrm]

theorem pay5_at (v0 : Vec Ideal S512x1024 .f32) (v1 : Vec Ideal S512x512 .bf16) (v2 : Vec Ideal S512x1024 .bf16) (v5 : Vec Ideal S512x512 .bf16) (v6 : Vec Ideal S512x1024 .bf16)
    (v10 : Vec Ideal S1x1024 .f32) (v25 : Vec Ideal S1024x1024 .bf16) (r : Fin 512) (d : Fin 1024) :
    k0_pay5 (F := Ideal) v0 v1 v2 v5 v6 v10 v25 (ix2 r d) = lin (fun d => k0_pay4 (F := Ideal) v0 v1 v2 v5 v6 v10 (ix2 r d)) (fun k d => v25 (ix2 k d)) d := by
  unfold k0_pay5
  generalize k0_pay4 (F := Ideal) v0 v1 v2 v5 v6 v10 = y
  pointwise [lin]

theorem pay2_at (v8 : FVec Ideal S512x1024 .f32) (v105 : FVec Ideal S512x1024 .f32) (v108 : Vec Ideal S1024x1024 .bf16) (r : Fin 512) (d : Fin 1024) :
    k0_pay2 (F := Ideal) v8 v105 v108 (ix2 r d) = (v8 (ix2 r d) + lin (fun d => v105 (ix2 r d)) (fun k d => v108 (ix2 k d)) d : EReal) := by
  pointwise [k0_pay2, k0_pay1, lin]

theorem pay7_at (v29 : FVec Ideal S512x256 .bf16) (v30 v45 : Vec Ideal S1x256x256 .bf16) (r : Fin 512) (d : Fin 256) :
    k0_pay7 (F := Ideal) v29 v30 v45 (ix2 r d) = att (fun e => v29 (ix2 r e)) (fun j e => v30 (ix3 0 j e)) (fun j e => v45 (ix3 0 j e)) d := by
  pointwise [k0_pay7, att, soft, top, sco]

theorem pay8_at (v27 : FVec Ideal S512x1024 .bf16) (v49 v64 : Vec Ideal S1x256x256 .bf16) (r : Fin 512) (d : Fin 256) :
    k0_pay8 (F := Ideal) v27 v49 v64 (ix2 r d) = att (fun e => v27 (ix2 r ⟨256 + e.val, by omega⟩)) (fun j e => v49 (ix3 0 j e)) (fun j e => v64 (ix3 0 j e)) d := by
  pointwise [k0_pay8, att, soft, top, sco]

/-- Four heads' outputs side by side. -/
theorem cat_at (y0 y1 y2 y3 : FVec Ideal S512x256 .f32) (r : Fin 512) (h : Fin 4) (d : Fin 256) :
    concatenate S512x1024 1 [⟨S512x256, y0⟩, ⟨S512x256, y1⟩, ⟨S512x256, y2⟩, ⟨S512x256, y3⟩] concatenates_S512x256_S512x256_S512x256_S512x256_S512x1024_d1 (ix2 r ⟨256 * h.val + d.val, by omega⟩)
      = (![y0, y1, y2, y3] h) (ix2 r d) := by
  fin_cases h
  · pointwise []
  · pointwise []
  · pointwise []
    rw [dif_neg (by omega), dif_neg (by omega), dif_pos (by omega)]
    congr 2
    apply Fin.ext
    show 512 + d.val - 256 - 256 = d.val
    omega
  · pointwise []
    rw [dif_neg (by omega), dif_neg (by omega), dif_neg (by omega)]
    congr 2
    apply Fin.ext
    show 768 + d.val - 256 - 256 - 256 = d.val
    omega

theorem pay10_at (v27 : FVec Ideal S512x1024 .bf16) (v47 v66 : FVec Ideal S512x256 .f32) (v67 : FVec Ideal S512x256 .bf16) (v68 v83 v87 v102 : Vec Ideal S1x256x256 .bf16) (r : Fin 512) (h : Fin 4) (d : Fin 256) :
    k0_pay10 (F := Ideal) v27 v47 v66 v67 v68 v83 v87 v102 (ix2 r ⟨256 * h.val + d.val, by omega⟩)
      = (![v47, v66, k0_pay7 (F := Ideal) v67 v68 v83,
          k0_pay7 (F := Ideal) (extractStridedSlice S512x256 ![0, 768] v27 slices_S512x1024_o0_768_S512x256) v87 v102] h) (ix2 r d) := by
  unfold k0_pay10 k0_pay7
  dsimp only
  exact cat_at v47 v66 _ _ r h d

theorem pay6_at (v0 : Vec Ideal S512x1024 .f32) (v1 : Vec Ideal S512x512 .bf16) (v2 : Vec Ideal S512x1024 .bf16) (v5 : Vec Ideal S512x512 .bf16) (v6 : Vec Ideal S512x1024 .bf16)
    (v10 : Vec Ideal S1x1024 .f32) (v25 : Vec Ideal S1024x1024 .bf16) (r : Fin 512) (e : Fin 256) :
    k0_pay6 (F := Ideal) v0 v1 v2 v5 v6 v10 v25 (ix2 r e) = k0_pay5 (F := Ideal) v0 v1 v2 v5 v6 v10 v25 (ix2 r ⟨256 * 0 + e.val, by omega⟩) := by
  unfold k0_pay6
  generalize k0_pay5 (F := Ideal) v0 v1 v2 v5 v6 v10 v25 = y
  pointwise []

theorem slice2_at (v27 : FVec Ideal S512x1024 .bf16) (r : Fin 512) (e : Fin 256) : k0_pay9 (F := Ideal) v27 (ix2 r e) = v27 (ix2 r ⟨256 * 2 + e.val, by omega⟩) := by
  pointwise [k0_pay9]

theorem slice3_at (v27 : FVec Ideal S512x1024 .bf16) (r : Fin 512) (e : Fin 256) :
    extractStridedSlice S512x256 ![0, 768] v27 slices_S512x1024_o0_768_S512x256 (ix2 r e) = v27 (ix2 r ⟨256 * 3 + e.val, by omega⟩) := by
  pointwise []

end Cert.Kernel8Ideal.Mem

end
-- ==== Proof.Val.X8Ref.lean ====
/- The memory attention's reference at the real arithmetic, row by row. -/
module

public import proofs.«01_k».proof.Proof.Val.X8Pay
public import proofs.«01_k».proof.Proof.Val.Soft
public import proofs.«01_k».proof.Proof.Gen.Reference8Ideal.Read

@[expose] public section

set_option maxRecDepth 16384

noncomputable section

namespace Cert.Kernel8Ideal.Mem

open Cert.Reference8Ideal Cert.Reference8Ideal.Gen Cert.Reference8Ideal.Read
open Idealize.ShloMosaic Idealize.ShloMosaic.TcCoe

section
variable (x0 : (⟨S4096x1024, .f32⟩ : BufTy).Contents (Elt Ideal)) (x1 x2 : (⟨S4096x512, .bf16⟩ : BufTy).Contents (Elt Ideal)) (x3 : (⟨S1024x1024, .bf16⟩ : BufTy).Contents (Elt Ideal))
  (x4 : (⟨S1x1024, .f32⟩ : BufTy).Contents (Elt Ideal)) (x5 : (⟨S1024x1024, .bf16⟩ : BufTy).Contents (Elt Ideal)) (x6 x7 : (⟨S4x256x256, .bf16⟩ : BufTy).Contents (Elt Ideal))
  (x8 : (⟨S1024x1024, .bf16⟩ : BufTy).Contents (Elt Ideal))

/-- A sum over the columns, by halves. -/
theorem halves (f : Fin 1024 → EReal) : ∑ k, f k = ∑ k : Fin 512, f ⟨k.val, by omega⟩ + ∑ k : Fin 512, f ⟨512 + k.val, by omega⟩ :=
  Fin.sum_univ_add (a := 512) (b := 512) f

theorem cat0 (p : Fin 4096) (k : Fin 512) : val_main_v7 (F := Ideal) x1 x2 (ix2 p ⟨k.val, by omega⟩) = x1 (ix2 p k) := by
  pointwise [val_main_v7, val_main_v0, val_main_v1]
theorem cat1 (p : Fin 4096) (k : Fin 512) : val_main_v7 (F := Ideal) x1 x2 (ix2 p ⟨512 + k.val, by omega⟩) = x2 (ix2 p k) := by
  pointwise [val_main_v7, val_main_v0, val_main_v1]

theorem v8_at (p : Fin 4096) (d : Fin 1024) :
    val_main_v8 (F := Ideal) x1 x2 x3 (ix2 p d) = (∑ k : Fin 1024, val_main_v7 (F := Ideal) x1 x2 (ix2 p k) * x3 (ix2 k d) : EReal) := by
  unfold val_main_v8
  generalize val_main_v7 (F := Ideal) x1 x2 = y
  pointwise [val_main_v2]

theorem v9_at (p : Fin 4096) (d : Fin 1024) :
    val_main_v9 (F := Ideal) x0 x1 x2 x3 (ix2 p d)
      = res (fun d => x0 (ix2 p d)) (fun k => x1 (ix2 p k)) (fun k => x2 (ix2 p k)) (fun k d => x3 (ix2 ⟨k.val, by omega⟩ d)) (fun k d => x3 (ix2 ⟨512 + k.val, by omega⟩ d)) d := by
  show (x0 (ix2 p d) + val_main_v8 (F := Ideal) x1 x2 x3 (ix2 p d) : EReal) = _
  rw [v8_at, halves]
  simp only [cat0, cat1]
  exact (add_assoc _ _ _).symm

theorem v23_at (p : Fin 4096) (d : Fin 1024) :
    val_main_v23 (F := Ideal) x0 x1 x2 x3 x4 (ix2 p d) = nrm (fun d => val_main_v9 (F := Ideal) x0 x1 x2 x3 (ix2 p d)) (fun d => x4 (ix2 0 d)) d := by
  unfold val_main_v23 val_main_v20 val_main_v19 val_main_v18 val_main_v17 val_main_v15 val_main_v13 val_main_v12 val_main_v11
  generalize val_main_v9 (F := Ideal) x0 x1 x2 x3 = y
  pointwise [val_main_v22, val_main_v21, val_main_v10, val_main_v16, val_main_v14, val_main_cst, val_main_cst_0, val_main_cst_1, nrm]

theorem v24_at (p : Fin 4096) (d : Fin 1024) :
    val_main_v24 (F := Ideal) x0 x1 x2 x3 x4 x5 (ix2 p d) = lin (fun d => val_main_v23 (F := Ideal) x0 x1 x2 x3 x4 (ix2 p d)) (fun k d => x5 (ix2 k d)) d := by
  unfold val_main_v24
  generalize val_main_v23 (F := Ideal) x0 x1 x2 x3 x4 = y
  pointwise [val_main_v3, lin]

theorem v25_at (p : Fin 4096) (h : Fin 4) (e : Fin 256) :
    val_main_v25 (F := Ideal) x0 x1 x2 x3 x4 x5 (ix3 p h e) = val_main_v24 (F := Ideal) x0 x1 x2 x3 x4 x5 (ix2 p ⟨256 * h.val + e.val, by omega⟩) := by
  rw [val_main_v25_apply]
  congr 1
  funext a; apply Fin.ext
  match a with
  | ⟨0, _⟩ => show ((p.val * 4 + h.val) * 256 + e.val) / 1024 = p.val; omega
  | ⟨1, _⟩ => show ((p.val * 4 + h.val) * 256 + e.val) % 1024 = 256 * h.val + e.val; omega

theorem v28_at (h : Fin 4) (p : Fin 4096) (j : Fin 256) :
    val_main_v28 (F := Ideal) x0 x1 x2 x3 x4 x5 x6 (ix3 h p j)
      = sco (fun e => val_main_v24 (F := Ideal) x0 x1 x2 x3 x4 x5 (ix2 p ⟨256 * h.val + e.val, by omega⟩)) (fun j e => x6 (ix3 h j e)) j := by
  simp only [← v25_at]
  unfold val_main_v28 val_main_v26
  generalize val_main_v25 (F := Ideal) x0 x1 x2 x3 x4 x5 = y
  pointwise [val_main_v27, val_main_v4, val_main_cst_2, sco]

theorem lit_bot : Ideal.ofBits .f32 0xFF800000#32 = ⊥ := by simp [Ideal.ofBits, Ideal.ieee]

theorem max_floor (a : EReal) : FloatOps.maximumf (F := Ideal) (φ := .f32) (FloatOps.ofBits (F := Ideal) .f32 0xFF800000#32) a = a := by
  show max (Ideal.ofBits .f32 0xFF800000#32) a = a
  rw [lit_bot, max_eq_right bot_le]

theorem v29_at (h : Fin 4) (p : Fin 4096) :
    val_main_v29 (F := Ideal) x0 x1 x2 x3 x4 x5 x6 (ix2 h p) = top (fun j => val_main_v28 (F := Ideal) x0 x1 x2 x3 x4 x5 x6 (ix3 h p j)) := by
  unfold val_main_v29 top
  generalize val_main_v28 (F := Ideal) x0 x1 x2 x3 x4 x5 x6 = y
  exact Cert.Val.reduce_max (n0 := 4) (n1 := 4096) (n2 := 256) y 0xFF800000#32 _ _ h p

theorem v31_at (h : Fin 4) (p : Fin 4096) :
    val_main_v31 (F := Ideal) x0 x1 x2 x3 x4 x5 x6 (ix2 h p) = top (fun j => val_main_v28 (F := Ideal) x0 x1 x2 x3 x4 x5 x6 (ix3 h p j)) := by
  rw [val_main_v31_apply, val_main_v30_apply, val_main_cst_4_apply, max_floor, v29_at]

theorem v39_at (h : Fin 4) (p : Fin 4096) (j : Fin 256) :
    val_main_v39 (F := Ideal) x0 x1 x2 x3 x4 x5 x6 (ix3 h p j) = soft (fun j => val_main_v28 (F := Ideal) x0 x1 x2 x3 x4 x5 x6 (ix3 h p j)) j := by
  unfold soft
  rw [← v31_at]
  unfold val_main_v39 val_main_v38 val_main_v37 val_main_v36 val_main_v35 val_main_v34 val_main_v33 val_main_v32
  generalize val_main_v31 (F := Ideal) x0 x1 x2 x3 x4 x5 x6 = z
  generalize val_main_v28 (F := Ideal) x0 x1 x2 x3 x4 x5 x6 = y
  pointwise [val_main_cst_5]

theorem v41_at (p : Fin 4096) (h : Fin 4) (d : Fin 256) :
    val_main_v41 (F := Ideal) x0 x1 x2 x3 x4 x5 x6 x7 (ix3 p h d) = (∑ j : Fin 256, x7 (ix3 h j d) * val_main_v39 (F := Ideal) x0 x1 x2 x3 x4 x5 x6 (ix3 h p j) : EReal) := by
  unfold val_main_v41 val_main_v40
  generalize val_main_v39 (F := Ideal) x0 x1 x2 x3 x4 x5 x6 = y
  pointwise [val_main_v5]

theorem v42_at (p : Fin 4096) (h : Fin 4) (d : Fin 256) :
    val_main_v42 (F := Ideal) x0 x1 x2 x3 x4 x5 x6 x7 (ix2 p ⟨256 * h.val + d.val, by omega⟩)
      = att (fun e => val_main_v24 (F := Ideal) x0 x1 x2 x3 x4 x5 (ix2 p ⟨256 * h.val + e.val, by omega⟩)) (fun j e => x6 (ix3 h j e)) (fun j e => x7 (ix3 h j e)) d := by
  have e : idx_main_v42 (ix2 p ⟨256 * h.val + d.val, by omega⟩) = ix3 p h d := by
    funext a; apply Fin.ext
    match a with
    | ⟨0, _⟩ => show (p.val * 1024 + (256 * h.val + d.val)) / 1024 = p.val; omega
    | ⟨1, _⟩ => show (p.val * 1024 + (256 * h.val + d.val)) / 256 % 4 = h.val; omega
    | ⟨2, _⟩ => show (p.val * 1024 + (256 * h.val + d.val)) % 256 = d.val; omega
  rw [val_main_v42_apply, e, v41_at]
  unfold att
  refine Finset.sum_congr (M := EReal) rfl fun j _ => ?_
  rw [v39_at, mul_comm]
  simp only [v28_at]

theorem v44_at (p : Fin 4096) (d : Fin 1024) :
    val_main_v44 (F := Ideal) x0 x1 x2 x3 x4 x5 x6 x7 x8 (ix2 p d)
      = (val_main_v9 (F := Ideal) x0 x1 x2 x3 (ix2 p d) + lin (fun d => val_main_v42 (F := Ideal) x0 x1 x2 x3 x4 x5 x6 x7 (ix2 p d)) (fun k d => x8 (ix2 k d)) d : EReal) := by
  unfold val_main_v44 val_main_v43
  generalize val_main_v42 (F := Ideal) x0 x1 x2 x3 x4 x5 x6 x7 = y
  generalize val_main_v9 (F := Ideal) x0 x1 x2 x3 = z
  pointwise [val_main_v6, lin]

end

end Cert.Kernel8Ideal.Mem

end
-- ==== Proof.Val.X8.lean ====
/- The memory attention at the real arithmetic: the arrays its blocks make are the reference's. -/
module

public import proofs.«01_k».proof.Proof.Gen.Kernel8Ideal.Value
public import proofs.«01_k».proof.Proof.Val.X8Ref
public import Idealize.ShloMosaic.Lib.Pipeline.ValueKit

@[expose] public section

set_option maxRecDepth 16384

noncomputable section

namespace Cert.Kernel8Ideal.Mem

open Cert.Kernel8Ideal Cert.Kernel8Ideal.Gen
open Idealize.ShloMosaic Idealize.ShloMosaic.TcCoe Idealize.ShloMosaic.Tactic Idealize.SL.Sem
open Idealize.ShloMosaic.Pipeline (Dat)
open Cert.Reference8Ideal.Read

theorem hz2 : (![0, 0] : Fin 2 → Nat) = fun _ => 0 := funext fun a => by fin_cases a <;> rfl

/-! ## The loads at an index -/

section
variable {e : EltTy}
theorem ld0 (X : Vec Ideal S512x1024 e) : View.ld X r0_0 = X := View.ld_unit_zero (S := S512x1024) hz2 _ X
theorem ld1 (X : Vec Ideal S512x512 e) : View.ld X r0_1 = X := View.ld_unit_zero (S := S512x512) hz2 _ X
theorem ld4 (X : Vec Ideal S1x1024 e) : View.ld X r0_4 = X := View.ld_unit_zero (S := S1x1024) hz2 _ X
theorem ld5 (X : Vec Ideal S1024x1024 e) : View.ld X r0_5 = X := View.ld_unit_zero (S := S1024x1024) hz2 _ X
theorem ld2 (X : Vec Ideal S1024x1024 e) (k : Fin 512) (d : Fin 1024) : View.ld X r0_2 (ix2 k d) = X (ix2 ⟨k.val, by omega⟩ d) := by
  show X _ = X _
  congr 1; funext a; apply Fin.ext
  match a with
  | ⟨0, _⟩ => show 0 + 1 * k.val = k.val; omega
  | ⟨1, _⟩ => show 0 + 1 * d.val = d.val; omega
theorem ld3 (X : Vec Ideal S1024x1024 e) (k : Fin 512) (d : Fin 1024) : View.ld X r0_3 (ix2 k d) = X (ix2 ⟨512 + k.val, by omega⟩ d) := by
  show X _ = X _
  congr 1; funext a; apply Fin.ext
  match a with
  | ⟨0, _⟩ => show 512 + 1 * k.val = 512 + k.val; omega
  | ⟨1, _⟩ => show 0 + 1 * d.val = d.val; omega
theorem ld6 (X : Vec Ideal S4x256x256 e) (j d : Fin 256) : View.ld X r0_6 (ix3 0 j d) = X (ix3 ⟨0, by omega⟩ j d) := by
  show X _ = X _
  congr 1; funext a; apply Fin.ext
  match a with
  | ⟨0, _⟩ => rfl
  | ⟨1, _⟩ => show 0 + 1 * j.val = j.val; omega
  | ⟨2, _⟩ => show 0 + 1 * d.val = d.val; omega
theorem ld7 (X : Vec Ideal S4x256x256 e) (j d : Fin 256) : View.ld X r0_7 (ix3 0 j d) = X (ix3 ⟨1, by omega⟩ j d) := by
  show X _ = X _
  congr 1; funext a; apply Fin.ext
  match a with
  | ⟨0, _⟩ => rfl
  | ⟨1, _⟩ => show 0 + 1 * j.val = j.val; omega
  | ⟨2, _⟩ => show 0 + 1 * d.val = d.val; omega
theorem ld8 (X : Vec Ideal S4x256x256 e) (j d : Fin 256) : View.ld X r0_8 (ix3 0 j d) = X (ix3 ⟨2, by omega⟩ j d) := by
  show X _ = X _
  congr 1; funext a; apply Fin.ext
  match a with
  | ⟨0, _⟩ => rfl
  | ⟨1, _⟩ => show 0 + 1 * j.val = j.val; omega
  | ⟨2, _⟩ => show 0 + 1 * d.val = d.val; omega
theorem ld9 (X : Vec Ideal S4x256x256 e) (j d : Fin 256) : View.ld X r0_9 (ix3 0 j d) = X (ix3 ⟨3, by omega⟩ j d) := by
  show X _ = X _
  congr 1; funext a; apply Fin.ext
  match a with
  | ⟨0, _⟩ => rfl
  | ⟨1, _⟩ => show 0 + 1 * j.val = j.val; omega
  | ⟨2, _⟩ => show 0 + 1 * d.val = d.val; omega
end

/-! ## The blocks -/

section
variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem B0 (t : Fin cfg0.N) (r : Fin 512) (d : Fin 1024) (p : Fin 4096) (hp : p.val = 512 * t.val + r.val) :
    iblk m c 0 t (ix2 r d) = m ((c : Thread nD τ).loc main_arg0) (ix2 p d) := by
  unfold iblk
  rw [View.read_apply]
  obtain ⟨e0, e1⟩ := idx0 t
  show m ((c : Thread nD τ).loc main_arg0) _ = _
  congr 1; funext a; apply Fin.ext
  match a with
  | ⟨0, _⟩ => show win0_0.index t (0 : Fin 2) * 512 + 1 * r.val = p.val; rw [e0, hp]; omega
  | ⟨1, _⟩ => show win0_0.index t (1 : Fin 2) * 1024 + 1 * d.val = d.val; rw [e1]; omega

theorem B1 (t : Fin cfg0.N) (r : Fin 512) (d : Fin 512) (p : Fin 4096) (hp : p.val = 512 * t.val + r.val) :
    iblk m c 1 t (ix2 r d) = m ((c : Thread nD τ).loc main_arg1) (ix2 p d) := by
  unfold iblk
  rw [View.read_apply]
  obtain ⟨e0, e1⟩ := idx1 t
  show m ((c : Thread nD τ).loc main_arg1) _ = _
  congr 1; funext a; apply Fin.ext
  match a with
  | ⟨0, _⟩ => show win0_1.index t (0 : Fin 2) * 512 + 1 * r.val = p.val; rw [e0, hp]; omega
  | ⟨1, _⟩ => show win0_1.index t (1 : Fin 2) * 512 + 1 * d.val = d.val; rw [e1]; omega

theorem B2 (t : Fin cfg0.N) (r : Fin 512) (d : Fin 512) (p : Fin 4096) (hp : p.val = 512 * t.val + r.val) :
    iblk m c 2 t (ix2 r d) = m ((c : Thread nD τ).loc main_arg2) (ix2 p d) := by
  unfold iblk
  rw [View.read_apply]
  obtain ⟨e0, e1⟩ := idx2 t
  show m ((c : Thread nD τ).loc main_arg2) _ = _
  congr 1; funext a; apply Fin.ext
  match a with
  | ⟨0, _⟩ => show win0_2.index t (0 : Fin 2) * 512 + 1 * r.val = p.val; rw [e0, hp]; omega
  | ⟨1, _⟩ => show win0_2.index t (1 : Fin 2) * 512 + 1 * d.val = d.val; rw [e1]; omega

theorem B3 (t : Fin cfg0.N) (r : Fin 1024) (d : Fin 1024) :
    iblk m c 3 t (ix2 r d) = m ((c : Thread nD τ).loc main_arg3) (ix2 r d) := by
  unfold iblk
  rw [View.read_apply]
  obtain ⟨e0, e1⟩ := idx3 t
  show m ((c : Thread nD τ).loc main_arg3) _ = _
  congr 1; funext a; apply Fin.ext
  match a with
  | ⟨0, _⟩ => show win0_3.index t (0 : Fin 2) * 1024 + 1 * r.val = r.val; rw [e0]; omega
  | ⟨1, _⟩ => show win0_3.index t (1 : Fin 2) * 1024 + 1 * d.val = d.val; rw [e1]; omega

theorem B4 (t : Fin cfg0.N) (r : Fin 1) (d : Fin 1024) :
    iblk m c 4 t (ix2 r d) = m ((c : Thread nD τ).loc main_arg4) (ix2 r d) := by
  unfold iblk
  rw [View.read_apply]
  obtain ⟨e0, e1⟩ := idx4 t
  show m ((c : Thread nD τ).loc main_arg4) _ = _
  congr 1; funext a; apply Fin.ext
  match a with
  | ⟨0, _⟩ => show win0_4.index t (0 : Fin 2) * 1 + 1 * r.val = r.val; rw [e0]; omega
  | ⟨1, _⟩ => show win0_4.index t (1 : Fin 2) * 1024 + 1 * d.val = d.val; rw [e1]; omega

theorem B5 (t : Fin cfg0.N) (r : Fin 1024) (d : Fin 1024) :
    iblk m c 5 t (ix2 r d) = m ((c : Thread nD τ).loc main_arg5) (ix2 r d) := by
  unfold iblk
  rw [View.read_apply]
  obtain ⟨e0, e1⟩ := idx5 t
  show m ((c : Thread nD τ).loc main_arg5) _ = _
  congr 1; funext a; apply Fin.ext
  match a with
  | ⟨0, _⟩ => show win0_5.index t (0 : Fin 2) * 1024 + 1 * r.val = r.val; rw [e0]; omega
  | ⟨1, _⟩ => show win0_5.index t (1 : Fin 2) * 1024 + 1 * d.val = d.val; rw [e1]; omega

theorem B8 (t : Fin cfg0.N) (r : Fin 1024) (d : Fin 1024) :
    iblk m c 8 t (ix2 r d) = m ((c : Thread nD τ).loc main_arg8) (ix2 r d) := by
  unfold iblk
  rw [View.read_apply]
  obtain ⟨e0, e1⟩ := idx8 t
  show m ((c : Thread nD τ).loc main_arg8) _ = _
  congr 1; funext a; apply Fin.ext
  match a with
  | ⟨0, _⟩ => show win0_8.index t (0 : Fin 2) * 1024 + 1 * r.val = r.val; rw [e0]; omega
  | ⟨1, _⟩ => show win0_8.index t (1 : Fin 2) * 1024 + 1 * d.val = d.val; rw [e1]; omega

theorem B6 (t : Fin cfg0.N) (h : Fin 4) (r d : Fin 256) :
    iblk m c 6 t (ix3 h r d) = m ((c : Thread nD τ).loc main_arg6) (ix3 h r d) := by
  unfold iblk
  rw [View.read_apply]
  obtain ⟨e0, e1, e2⟩ := idx6 t
  show m ((c : Thread nD τ).loc main_arg6) _ = _
  congr 1; funext a; apply Fin.ext
  match a with
  | ⟨0, _⟩ => show win0_6.index t (0 : Fin 3) * 4 + 1 * h.val = h.val; rw [e0]; omega
  | ⟨1, _⟩ => show win0_6.index t (1 : Fin 3) * 256 + 1 * r.val = r.val; rw [e1]; omega
  | ⟨2, _⟩ => show win0_6.index t (2 : Fin 3) * 256 + 1 * d.val = d.val; rw [e2]; omega

theorem B7 (t : Fin cfg0.N) (h : Fin 4) (r d : Fin 256) :
    iblk m c 7 t (ix3 h r d) = m ((c : Thread nD τ).loc main_arg7) (ix3 h r d) := by
  unfold iblk
  rw [View.read_apply]
  obtain ⟨e0, e1, e2⟩ := idx7 t
  show m ((c : Thread nD τ).loc main_arg7) _ = _
  congr 1; funext a; apply Fin.ext
  match a with
  | ⟨0, _⟩ => show win0_7.index t (0 : Fin 3) * 4 + 1 * h.val = h.val; rw [e0]; omega
  | ⟨1, _⟩ => show win0_7.index t (1 : Fin 3) * 256 + 1 * r.val = r.val; rw [e1]; omega
  | ⟨2, _⟩ => show win0_7.index t (2 : Fin 3) * 256 + 1 * d.val = d.val; rw [e2]; omega

/-! ## A row of a block is the reference's row -/

abbrev K3 (t : Fin cfg0.N) : FVec Ideal S512x1024 .f32 :=
  k0_pay3 (F := Ideal) (View.ld (iblk m c 0 t) r0_0) (View.ld (iblk m c 1 t) r0_1) (View.ld (iblk m c 3 t) r0_2) (View.ld (iblk m c 2 t) r0_1) (View.ld (iblk m c 3 t) r0_3)
abbrev K4 (t : Fin cfg0.N) : FVec Ideal S512x1024 .bf16 :=
  k0_pay4 (F := Ideal) (View.ld (iblk m c 0 t) r0_0) (View.ld (iblk m c 1 t) r0_1) (View.ld (iblk m c 3 t) r0_2) (View.ld (iblk m c 2 t) r0_1) (View.ld (iblk m c 3 t) r0_3) (View.ld (iblk m c 4 t) r0_4)
abbrev K12 (t : Fin cfg0.N) : FVec Ideal S512x1024 .f32 :=
  k0_pay12 (F := Ideal) (iblk m c 0 t) (iblk m c 1 t) (iblk m c 2 t) (iblk m c 3 t) (iblk m c 4 t) (iblk m c 5 t) (iblk m c 6 t) (iblk m c 7 t) (iblk m c 8 t)
abbrev K11 (t : Fin cfg0.N) : FVec Ideal S512x1024 .bf16 :=
  k0_pay11 (F := Ideal) (iblk m c 0 t) (iblk m c 1 t) (iblk m c 2 t) (iblk m c 3 t) (iblk m c 4 t) (iblk m c 5 t) (iblk m c 6 t) (iblk m c 7 t) (iblk m c 8 t)

section
variable (t : Fin cfg0.N) (r : Fin 512) (p : Fin 4096) (hp : p.val = 512 * t.val + r.val)
include hp

theorem K3_at (d : Fin 1024) : K3 m c t (ix2 r d) = val_main_v9 (F := Ideal) (m ((c : Thread nD τ).loc main_arg0)) (m ((c : Thread nD τ).loc main_arg1)) (m ((c : Thread nD τ).loc main_arg2)) (m ((c : Thread nD τ).loc main_arg3)) (ix2 p d) := by
  unfold K3
  rw [pay3_at, v9_at, ld0, ld1, ld1]
  simp only [fun d => B0 m c t r d p hp, fun d => B1 m c t r d p hp, fun d => B2 m c t r d p hp]
  exact congrArg₂ (fun w0 w1 => res _ _ _ w0 w1 d) (funext fun k => funext fun d => (ld2 _ k d).trans (B3 m c t _ d)) (funext fun k => funext fun d => (ld3 _ k d).trans (B3 m c t _ d))

theorem K4_at (d : Fin 1024) : K4 m c t (ix2 r d) = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p d) := by
  unfold K4
  rw [pay4_at, v23_at]
  rw [funext fun d => K3_at m c t r p hp d]
  exact congrArg (fun g => nrm _ g d) (funext fun d => (congrFun (ld4 _) _).trans (B4 m c t 0 d))

theorem K11_at (d : Fin 1024) : K11 m c t (ix2 r d) = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 p d) := by
  unfold K11 k0_pay11
  rw [pay5_at, v24_at]
  exact congrArg₂ (fun x w => lin x w d) (funext fun d => K4_at m c t r p hp d) (funext fun k => funext fun d => (congrFun (ld5 _) _).trans (B5 m c t k d))

omit hp in
theorem att_congr {q q' : Fin 256 → EReal} {k k' v v' : Fin 256 → Fin 256 → EReal} (hq : ∀ e, q e = q' e) (hk : ∀ j e, k j e = k' j e) (hv : ∀ j e, v j e = v' j e)
    (d : Fin 256) : att q k v d = att q' k' v' d := by
  rw [funext hq, funext fun j => funext (hk j), funext fun j => funext (hv j)]

theorem K12_col (h : Fin 4) (d : Fin 256) : K12 m c t (ix2 r ⟨256 * h.val + d.val, by omega⟩)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 p ⟨256 * h.val + d.val, by omega⟩) := by
  unfold K12 k0_pay12
  rw [pay10_at, v42_at]
  match h with
  | ⟨0, _⟩ => exact (pay7_at _ _ _ r d).trans (att_congr (fun e => (pay6_at _ _ _ _ _ _ _ r e).trans (K11_at m c t r p hp _)) (fun j e => (ld6 _ j e).trans (B6 m c t _ j e)) (fun j e => (ld6 _ j e).trans (B7 m c t _ j e)) d)
  | ⟨1, _⟩ => exact (pay8_at _ _ _ r d).trans (att_congr (fun e => K11_at m c t r p hp _) (fun j e => (ld7 _ j e).trans (B6 m c t _ j e)) (fun j e => (ld7 _ j e).trans (B7 m c t _ j e)) d)
  | ⟨2, _⟩ => exact (pay7_at _ _ _ r d).trans (att_congr (fun e => (slice2_at _ r e).trans (K11_at m c t r p hp _)) (fun j e => (ld8 _ j e).trans (B6 m c t _ j e)) (fun j e => (ld8 _ j e).trans (B7 m c t _ j e)) d)
  | ⟨3, _⟩ => exact (pay7_at _ _ _ r d).trans (att_congr (fun e => (slice3_at _ r e).trans (K11_at m c t r p hp _)) (fun j e => (ld9 _ j e).trans (B6 m c t _ j e)) (fun j e => (ld9 _ j e).trans (B7 m c t _ j e)) d)

theorem K12_at (d : Fin 1024) : K12 m c t (ix2 r d) = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 p d) := by
  have e : d = ⟨256 * (⟨d.val / 256, by omega⟩ : Fin 4).val + (⟨d.val % 256, by omega⟩ : Fin 256).val, by show 256 * (d.val / 256) + d.val % 256 < 1024; omega⟩ :=
    Fin.ext (show d.val = 256 * (d.val / 256) + d.val % 256 by omega)
  rw [e]
  exact K12_col m c t r p hp ⟨d.val / 256, by omega⟩ ⟨d.val % 256, by omega⟩

theorem O10_at (d : Fin 1024) : k0_pay2 (F := Ideal) (K3 m c t) (K12 m c t) (View.ld (iblk m c 8 t) r0_5) (ix2 r d)
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 p d) := by
  rw [pay2_at, v44_at, K3_at m c t r p hp]
  exact congrArg₂ (fun x w => val_main_v9 (F := Ideal) (m ((c : Thread nD τ).loc main_arg0)) (m ((c : Thread nD τ).loc main_arg1)) (m ((c : Thread nD τ).loc main_arg2)) (m ((c : Thread nD τ).loc main_arg3)) (ix2 p d) + lin x w d) (funext fun d => K12_at m c t r p hp d) (funext fun k => funext fun d => (congrFun (ld5 _) _).trans (B8 m c t k d))

end

/-! ## The arrays -/

theorem arr9 : (dats m 0 c).arrAt 9 cfg0.N = val_main_v9 (F := Ideal) (m ((c : Thread nD τ).loc main_arg0)) (m ((c : Thread nD τ).loc main_arg1)) (m ((c : Thread nD τ).loc main_arg2)) (m ((c : Thread nD τ).loc main_arg3)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  have b := congrFun (Value.blocks9 m c ⟨p.val / 512, ht⟩ (flush0_9 _)) (ix2 (⟨p.val % 512, Nat.mod_lt _ (by decide)⟩ : Fin 512) d)
  rw [View.read_apply, Value.flushed9] at b
  have e : ((cfg0.win 9).blk ⟨p.val / 512, ht⟩).view.emb (ix2 (⟨p.val % 512, Nat.mod_lt _ (by decide)⟩ : Fin 512) d) = ix2 p d := by
    obtain ⟨e0, e1⟩ := idx9 ⟨p.val / 512, ht⟩
    funext a; apply Fin.ext
    match a with
    | ⟨0, _⟩ => show win0_9.index ⟨p.val / 512, ht⟩ (0 : Fin 2) * 512 + 1 * (p.val % 512) = p.val; rw [e0]; show p.val / 512 * 512 + 1 * (p.val % 512) = p.val; omega
    | ⟨1, _⟩ => show win0_9.index ⟨p.val / 512, ht⟩ (1 : Fin 2) * 1024 + 1 * d.val = d.val; rw [e1]; omega
  rw [e] at b
  refine b.trans ?_
  show out0_9 _ _ _ _ _ _ _ _ _ (ix2 (⟨p.val % 512, Nat.mod_lt _ (by decide)⟩ : Fin 512) d) = _
  unfold out0_9
  rw [View.canon_unit_zero hz2]
  exact K3_at m c ⟨p.val / 512, ht⟩ ⟨p.val % 512, Nat.mod_lt _ (by decide)⟩ p (by show p.val = 512 * (p.val / 512) + p.val % 512; omega) d

theorem arr10 : (dats m 0 c).arrAt 10 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  have b := congrFun (Value.blocks10 m c ⟨p.val / 512, ht⟩ (flush0_10 _)) (ix2 (⟨p.val % 512, Nat.mod_lt _ (by decide)⟩ : Fin 512) d)
  rw [View.read_apply, Value.flushed10] at b
  have e : ((cfg0.win 10).blk ⟨p.val / 512, ht⟩).view.emb (ix2 (⟨p.val % 512, Nat.mod_lt _ (by decide)⟩ : Fin 512) d) = ix2 p d := by
    obtain ⟨e0, e1⟩ := idx10 ⟨p.val / 512, ht⟩
    funext a; apply Fin.ext
    match a with
    | ⟨0, _⟩ => show win0_10.index ⟨p.val / 512, ht⟩ (0 : Fin 2) * 512 + 1 * (p.val % 512) = p.val; rw [e0]; show p.val / 512 * 512 + 1 * (p.val % 512) = p.val; omega
    | ⟨1, _⟩ => show win0_10.index ⟨p.val / 512, ht⟩ (1 : Fin 2) * 1024 + 1 * d.val = d.val; rw [e1]; omega
  rw [e] at b
  refine b.trans ?_
  show out0_10 _ _ _ _ _ _ _ _ _ (ix2 (⟨p.val % 512, Nat.mod_lt _ (by decide)⟩ : Fin 512) d) = _
  unfold out0_10
  rw [View.canon_unit_zero hz2]
  exact O10_at m c ⟨p.val / 512, ht⟩ ⟨p.val % 512, Nat.mod_lt _ (by decide)⟩ p (by show p.val = 512 * (p.val / 512) + p.val % 512; omega) d

theorem arr11 : (dats m 0 c).arrAt 11 cfg0.N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  have b := congrFun (Value.blocks11 m c ⟨p.val / 512, ht⟩ (flush0_11 _)) (ix2 (⟨p.val % 512, Nat.mod_lt _ (by decide)⟩ : Fin 512) d)
  rw [View.read_apply, Value.flushed11] at b
  have e : ((cfg0.win 11).blk ⟨p.val / 512, ht⟩).view.emb (ix2 (⟨p.val % 512, Nat.mod_lt _ (by decide)⟩ : Fin 512) d) = ix2 p d := by
    obtain ⟨e0, e1⟩ := idx11 ⟨p.val / 512, ht⟩
    funext a; apply Fin.ext
    match a with
    | ⟨0, _⟩ => show win0_11.index ⟨p.val / 512, ht⟩ (0 : Fin 2) * 512 + 1 * (p.val % 512) = p.val; rw [e0]; show p.val / 512 * 512 + 1 * (p.val % 512) = p.val; omega
    | ⟨1, _⟩ => show win0_11.index ⟨p.val / 512, ht⟩ (1 : Fin 2) * 1024 + 1 * d.val = d.val; rw [e1]; omega
  rw [e] at b
  refine b.trans ?_
  show out0_11 _ _ _ _ _ _ _ _ _ (ix2 (⟨p.val % 512, Nat.mod_lt _ (by decide)⟩ : Fin 512) d) = _
  unfold out0_11
  rw [View.canon_unit_zero hz2]
  exact K4_at m c ⟨p.val / 512, ht⟩ ⟨p.val % 512, Nat.mod_lt _ (by decide)⟩ p (by show p.val = 512 * (p.val / 512) + p.val % 512; omega) d

theorem arr12 : (dats m 0 c).arrAt 12 cfg0.N = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  have b := congrFun (Value.blocks12 m c ⟨p.val / 512, ht⟩ (flush0_12 _)) (ix2 (⟨p.val % 512, Nat.mod_lt _ (by decide)⟩ : Fin 512) d)
  rw [View.read_apply, Value.flushed12] at b
  have e : ((cfg0.win 12).blk ⟨p.val / 512, ht⟩).view.emb (ix2 (⟨p.val % 512, Nat.mod_lt _ (by decide)⟩ : Fin 512) d) = ix2 p d := by
    obtain ⟨e0, e1⟩ := idx12 ⟨p.val / 512, ht⟩
    funext a; apply Fin.ext
    match a with
    | ⟨0, _⟩ => show win0_12.index ⟨p.val / 512, ht⟩ (0 : Fin 2) * 512 + 1 * (p.val % 512) = p.val; rw [e0]; show p.val / 512 * 512 + 1 * (p.val % 512) = p.val; omega
    | ⟨1, _⟩ => show win0_12.index ⟨p.val / 512, ht⟩ (1 : Fin 2) * 1024 + 1 * d.val = d.val; rw [e1]; omega
  rw [e] at b
  refine b.trans ?_
  show out0_12 _ _ _ _ _ _ _ _ _ (ix2 (⟨p.val % 512, Nat.mod_lt _ (by decide)⟩ : Fin 512) d) = _
  unfold out0_12
  rw [View.canon_unit_zero hz2]
  exact K11_at m c ⟨p.val / 512, ht⟩ ⟨p.val % 512, Nat.mod_lt _ (by decide)⟩ p (by show p.val = 512 * (p.val / 512) + p.val % 512; omega) d

theorem arr13 : (dats m 0 c).arrAt 13 cfg0.N = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  have b := congrFun (Value.blocks13 m c ⟨p.val / 512, ht⟩ (flush0_13 _)) (ix2 (⟨p.val % 512, Nat.mod_lt _ (by decide)⟩ : Fin 512) d)
  rw [View.read_apply, Value.flushed13] at b
  have e : ((cfg0.win 13).blk ⟨p.val / 512, ht⟩).view.emb (ix2 (⟨p.val % 512, Nat.mod_lt _ (by decide)⟩ : Fin 512) d) = ix2 p d := by
    obtain ⟨e0, e1⟩ := idx13 ⟨p.val / 512, ht⟩
    funext a; apply Fin.ext
    match a with
    | ⟨0, _⟩ => show win0_13.index ⟨p.val / 512, ht⟩ (0 : Fin 2) * 512 + 1 * (p.val % 512) = p.val; rw [e0]; show p.val / 512 * 512 + 1 * (p.val % 512) = p.val; omega
    | ⟨1, _⟩ => show win0_13.index ⟨p.val / 512, ht⟩ (1 : Fin 2) * 1024 + 1 * d.val = d.val; rw [e1]; omega
  rw [e] at b
  refine b.trans ?_
  show out0_13 _ _ _ _ _ _ _ _ _ (ix2 (⟨p.val % 512, Nat.mod_lt _ (by decide)⟩ : Fin 512) d) = _
  unfold out0_13
  rw [View.canon_unit_zero hz2]
  exact K12_at m c ⟨p.val / 512, ht⟩ ⟨p.val % 512, Nat.mod_lt _ (by decide)⟩ p (by show p.val = 512 * (p.val / 512) + p.val % 512; omega) d

end

end Cert.Kernel8Ideal.Mem

end
-- ==== Proof.F4.Run.lean ====
/- The body of the feed-forward kernel, run. -/
module

public import proofs.«01_k».proof.Proof.Gen.Kernel4Ideal.Skeleton
public import proofs.«01_k».proof.Proof.Gen.Kernel4Ideal.Launch
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384
set_option Elab.async false

noncomputable section

namespace Cert.Kernel4Ideal.Hand

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option backward.proofsInPublic true in
set_option maxHeartbeats 8000000 in
/-- The stores of the body into its four outputs, last first, and its run to them. -/
noncomputable def run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S11x512x256 .bf16) (harg6 : arg6.IsWhole) (arg7 : Memref sig .tc .vmem S11x512x256 .bf16) (harg7 : arg7.IsWhole) (arg8 : Memref sig .tc .vmem S512x1024 .bf16) (harg8 : arg8.IsWhole) (arg9 : Memref sig .tc .vmem S512x1024 .f32) (harg9 : arg9.IsWhole) (x0 : S512x1024.Idx → Elt F .f32) (x1 : S1x1024.Idx → Elt F .f32) (x2 : S3x2816x1024.Idx → Elt F .bf16) :
    Σ' (out3 : List (View.Piece (Elt F) S512x1024 .f32)) (out4 : List (View.Piece (Elt F) S512x1024 .bf16)) (out5 : List (View.Piece (Elt F) S11x512x256 .bf16)), { out6 : List (View.Piece (Elt F) S11x512x256 .bf16) //
      ∀ (K : PUnit → sProp 𝕄),
        iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (∃ f, (arg4.view.loc (c : Thread nD τ) ↦[arg4.view.set]{fullShare} f)) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (∃ f, (arg4.view.loc (c : Thread nD τ) ↦[arg4.view.set]{fullShare} arg4.view.writes (Elt F) f out3)) ∗ (∃ f, (arg5.view.loc (c : Thread nD τ) ↦[arg5.view.set]{fullShare} arg5.view.writes (Elt F) f out4)) ∗ (∃ f, (arg6.view.loc (c : Thread nD τ) ↦[arg6.view.set]{fullShare} arg6.view.writes (Elt F) f out5)) ∗ (∃ f, (arg7.view.loc (c : Thread nD τ) ↦[arg7.view.set]{fullShare} arg7.view.writes (Elt F) f out6)) ∗ (∃ f, (arg8.view.loc (c : Thread nD τ) ↦[arg8.view.set]{fullShare} f)) ∗ (∃ f, (arg9.view.loc (c : Thread nD τ) ↦[arg9.view.set]{fullShare} f))) -∗ K ⟨⟩))
          ⊢ wp frame (wpE (defs₀ (F := F)) Variants.none c none) Set.univ (cc0_ffn1_fwd i arg1 harg1 arg2 harg2 arg3 harg3 arg4 harg4 arg5 harg5 arg6 harg6 arg7 harg7 arg8 harg8 arg9 harg9) K } :=
  ⟨_, _, _, _, fun K => by
    rw [cc0_ffn1_fwd_eq_skeleton]; unfold cc0_ffn1_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H0, H1, H2, ⟨%f3, H3⟩, ⟨%f4, H4⟩, ⟨%f5, H5⟩, ⟨%f6, H6⟩, ⟨%f7, H7⟩, ⟨%f8, H8⟩, Hk⟩
    sl_exec!
    sl_step
    iapply Hk
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8⟩

end Cert.Kernel4Ideal.Hand

end
-- ==== Proof.F4.Outs.lean ====
/- What the body of the feed-forward kernel leaves in its four outputs, from its input blocks. -/
module

public import proofs.«01_k».proof.Proof.F4.Run

@[expose] public section

set_option maxRecDepth 16384

noncomputable section

namespace Cert.Kernel4Ideal.Hand

open Cert.Kernel4Ideal Cert.Kernel4Ideal.Gen
open Idealize.ShloMosaic
open Idealize.ShloMosaic.TcCoe

variable {F : FTy → Type} [FloatOps F]

/-- The normalised rows as the body keeps them for its products. -/
def nb (x0 : Vec F S512x1024 .f32) (x1 : Vec F S1x1024 .f32) : Vec F S512x1024 .bf16 := k0_pay3 x0 x1

theorem wd_inb (j o : ℕ) (hj : j < 3) (ho : o + 512 ≤ 2816) : ∀ a, (![j, o, 0] : Fin 3 → ℕ) a + S1x512x1024.size a ≤ S3x2816x1024.size a := by
  intro a; match a with
  | ⟨0, _⟩ => exact hj
  | ⟨1, _⟩ => exact ho
  | ⟨2, _⟩ => exact Nat.le_refl 1024

theorem wl_inb (j : ℕ) (hj : j < 3) : ∀ a, (![j, 2560, 0] : Fin 3 → ℕ) a + S1x256x1024.size a ≤ S3x2816x1024.size a := by
  intro a; match a with
  | ⟨0, _⟩ => exact hj
  | ⟨1, _⟩ => exact Nat.le_refl 2816
  | ⟨2, _⟩ => exact Nat.le_refl 1024

theorem slab_inb (s : ℕ) (hs : s < 11) : ∀ a, (![s, 0, 0] : Fin 3 → ℕ) a + S1x512x256.size a ≤ S11x512x256.size a := by
  intro a; match a with
  | ⟨0, _⟩ => exact hs
  | ⟨1, _⟩ => exact Nat.le_refl 512
  | ⟨2, _⟩ => exact Nat.le_refl 256

/-- The 512 rows of plane `j` of the weights from row `o`. -/
def wd (x2 : Vec F S3x2816x1024 .bf16) (j o : ℕ) (hj : j < 3) (ho : o + 512 ≤ 2816) : Vec F S1x512x1024 .bf16 :=
  View.ld x2 (Rect.unit (s := S3x2816x1024) ![j, o, 0] S1x512x1024.size (wd_inb j o hj ho))

/-- The last 256 rows of plane `j` of the weights. -/
def wl (x2 : Vec F S3x2816x1024 .bf16) (j : ℕ) (hj : j < 3) : Vec F S1x256x1024 .bf16 :=
  View.ld x2 (Rect.unit (s := S3x2816x1024) ![j, 2560, 0] S1x256x1024.size (wl_inb j hj))

/-- The sum after 1 tile. -/
def acc1 (x0 : Vec F S512x1024 .f32) (x1 : Vec F S1x1024 .f32) (x2 : Vec F S3x2816x1024 .bf16) : Vec F S512x1024 .f32 :=
  k0_pay13 k0_pay4 (k0_pay11 (nb x0 x1) (k0_pay5 (nb x0 x1) (wd x2 0 0 (by decide) (by decide))) (wd x2 1 0 (by decide) (by decide))) (k0_pay12 (wd x2 2 0 (by decide) (by decide)))

/-- The sum after 2 tiles. -/
def acc2 (x0 : Vec F S512x1024 .f32) (x1 : Vec F S1x1024 .f32) (x2 : Vec F S3x2816x1024 .bf16) : Vec F S512x1024 .f32 :=
  k0_pay21 (acc1 x0 x1 x2) (k0_pay14 (nb x0 x1) (wd x2 0 512 (by decide) (by decide))) (k0_pay15 (nb x0 x1) (wd x2 1 512 (by decide) (by decide))) (wd x2 2 512 (by decide) (by decide))

/-- The sum after 3 tiles. -/
def acc3 (x0 : Vec F S512x1024 .f32) (x1 : Vec F S1x1024 .f32) (x2 : Vec F S3x2816x1024 .bf16) : Vec F S512x1024 .f32 :=
  k0_pay29 (k0_pay28 (acc2 x0 x1 x2) (nb x0 x1) (k0_pay22 (nb x0 x1) (wd x2 0 1024 (by decide) (by decide))) (wd x2 1 1024 (by decide) (by decide)) (wd x2 2 1024 (by decide) (by decide)))

/-- The sum after 4 tiles. -/
def acc4 (x0 : Vec F S512x1024 .f32) (x1 : Vec F S1x1024 .f32) (x2 : Vec F S3x2816x1024 .bf16) : Vec F S512x1024 .f32 :=
  k0_pay37 (acc3 x0 x1 x2) (k0_pay30 (nb x0 x1) (wd x2 0 1536 (by decide) (by decide))) (k0_pay31 (nb x0 x1) (wd x2 1 1536 (by decide) (by decide))) (wd x2 2 1536 (by decide) (by decide))

/-- The sum after 5 tiles. -/
def acc5 (x0 : Vec F S512x1024 .f32) (x1 : Vec F S1x1024 .f32) (x2 : Vec F S3x2816x1024 .bf16) : Vec F S512x1024 .f32 :=
  k0_pay45 (acc4 x0 x1 x2) (k0_pay38 (nb x0 x1) (wd x2 0 2048 (by decide) (by decide))) (k0_pay39 (nb x0 x1) (wd x2 1 2048 (by decide) (by decide))) (wd x2 2 2048 (by decide) (by decide))

/-- The sum after 6 tiles. -/
def acc6 (x0 : Vec F S512x1024 .f32) (x1 : Vec F S1x1024 .f32) (x2 : Vec F S3x2816x1024 .bf16) : Vec F S512x1024 .f32 :=
  k0_pay50 (acc5 x0 x1 x2) (nb x0 x1) (wl x2 0 (by decide)) (wl x2 1 (by decide)) (wl x2 2 (by decide))

def out3 (x0 : Vec F S512x1024 .f32) (x1 : Vec F S1x1024 .f32) (x2 : Vec F S3x2816x1024 .bf16) : Vec F S512x1024 .f32 := k0_pay1 x0 (acc6 x0 x1 x2)

def out4 (x0 : Vec F S512x1024 .f32) (x1 : Vec F S1x1024 .f32) : Vec F S512x1024 .bf16 := k0_pay2 x0 x1

/-- The gate's slabs, last first. -/
def gates (x0 : Vec F S512x1024 .f32) (x1 : Vec F S1x1024 .f32) (x2 : Vec F S3x2816x1024 .bf16) : List (View.Piece (Elt F) S11x512x256 .bf16) :=
  [⟨Rect.unit (s := S11x512x256) ![10, 0, 0] S1x512x256.size (slab_inb 10 (by decide)), k0_pay48 (nb x0 x1) (wl x2 0 (by decide))⟩,
   ⟨Rect.unit (s := S11x512x256) ![9, 0, 0] S1x512x256.size (slab_inb 9 (by decide)), k0_pay43 (k0_pay38 (nb x0 x1) (wd x2 0 2048 (by decide) (by decide)))⟩,
   ⟨Rect.unit (s := S11x512x256) ![8, 0, 0] S1x512x256.size (slab_inb 8 (by decide)), k0_pay41 (k0_pay40 (nb x0 x1) (wd x2 0 2048 (by decide) (by decide)))⟩,
   ⟨Rect.unit (s := S11x512x256) ![7, 0, 0] S1x512x256.size (slab_inb 7 (by decide)), k0_pay35 (k0_pay34 (nb x0 x1) (wd x2 0 1536 (by decide) (by decide)))⟩,
   ⟨Rect.unit (s := S11x512x256) ![6, 0, 0] S1x512x256.size (slab_inb 6 (by decide)), k0_pay32 (nb x0 x1) (wd x2 0 1536 (by decide) (by decide))⟩,
   ⟨Rect.unit (s := S11x512x256) ![5, 0, 0] S1x512x256.size (slab_inb 5 (by decide)), k0_pay26 (k0_pay22 (nb x0 x1) (wd x2 0 1024 (by decide) (by decide)))⟩,
   ⟨Rect.unit (s := S11x512x256) ![4, 0, 0] S1x512x256.size (slab_inb 4 (by decide)), k0_pay24 (k0_pay22 (nb x0 x1) (wd x2 0 1024 (by decide) (by decide)))⟩,
   ⟨Rect.unit (s := S11x512x256) ![3, 0, 0] S1x512x256.size (slab_inb 3 (by decide)), k0_pay19 (k0_pay18 (nb x0 x1) (wd x2 0 512 (by decide) (by decide)))⟩,
   ⟨Rect.unit (s := S11x512x256) ![2, 0, 0] S1x512x256.size (slab_inb 2 (by decide)), k0_pay16 (nb x0 x1) (wd x2 0 512 (by decide) (by decide))⟩,
   ⟨Rect.unit (s := S11x512x256) ![1, 0, 0] S1x512x256.size (slab_inb 1 (by decide)), k0_pay9 (k0_pay5 (nb x0 x1) (wd x2 0 0 (by decide) (by decide)))⟩,
   ⟨Rect.unit (s := S11x512x256) ![0, 0, 0] S1x512x256.size (slab_inb 0 (by decide)), k0_pay7 (k0_pay5 (nb x0 x1) (wd x2 0 0 (by decide) (by decide)))⟩]

/-- The up projection's slabs, last first. -/
def ups (x0 : Vec F S512x1024 .f32) (x1 : Vec F S1x1024 .f32) (x2 : Vec F S3x2816x1024 .bf16) : List (View.Piece (Elt F) S11x512x256 .bf16) :=
  [⟨Rect.unit (s := S11x512x256) ![10, 0, 0] S1x512x256.size (slab_inb 10 (by decide)), k0_pay49 (nb x0 x1) (wl x2 1 (by decide))⟩,
   ⟨Rect.unit (s := S11x512x256) ![9, 0, 0] S1x512x256.size (slab_inb 9 (by decide)), k0_pay44 (k0_pay39 (nb x0 x1) (wd x2 1 2048 (by decide) (by decide)))⟩,
   ⟨Rect.unit (s := S11x512x256) ![8, 0, 0] S1x512x256.size (slab_inb 8 (by decide)), k0_pay42 (k0_pay39 (nb x0 x1) (wd x2 1 2048 (by decide) (by decide)))⟩,
   ⟨Rect.unit (s := S11x512x256) ![7, 0, 0] S1x512x256.size (slab_inb 7 (by decide)), k0_pay36 (k0_pay31 (nb x0 x1) (wd x2 1 1536 (by decide) (by decide)))⟩,
   ⟨Rect.unit (s := S11x512x256) ![6, 0, 0] S1x512x256.size (slab_inb 6 (by decide)), k0_pay33 (nb x0 x1) (wd x2 1 1536 (by decide) (by decide))⟩,
   ⟨Rect.unit (s := S11x512x256) ![5, 0, 0] S1x512x256.size (slab_inb 5 (by decide)), k0_pay27 (nb x0 x1) (wd x2 1 1024 (by decide) (by decide))⟩,
   ⟨Rect.unit (s := S11x512x256) ![4, 0, 0] S1x512x256.size (slab_inb 4 (by decide)), k0_pay25 (nb x0 x1) (wd x2 1 1024 (by decide) (by decide))⟩,
   ⟨Rect.unit (s := S11x512x256) ![3, 0, 0] S1x512x256.size (slab_inb 3 (by decide)), k0_pay20 (k0_pay15 (nb x0 x1) (wd x2 1 512 (by decide) (by decide)))⟩,
   ⟨Rect.unit (s := S11x512x256) ![2, 0, 0] S1x512x256.size (slab_inb 2 (by decide)), k0_pay17 (nb x0 x1) (wd x2 1 512 (by decide) (by decide))⟩,
   ⟨Rect.unit (s := S11x512x256) ![1, 0, 0] S1x512x256.size (slab_inb 1 (by decide)), k0_pay10 (nb x0 x1) (wd x2 1 0 (by decide) (by decide))⟩,
   ⟨Rect.unit (s := S11x512x256) ![0, 0, 0] S1x512x256.size (slab_inb 0 (by decide)), k0_pay8 (nb x0 x1) (wd x2 1 0 (by decide) (by decide))⟩]

theorem slab_cover (p0 p1 p2 p3 p4 p5 p6 p7 p8 p9 p10 : Vec F S1x512x256 .bf16) (y : S11x512x256.Idx) :
    ∃ pc ∈ ([⟨Rect.unit (s := S11x512x256) ![10, 0, 0] S1x512x256.size (slab_inb 10 (by decide)), p0⟩, ⟨Rect.unit (s := S11x512x256) ![9, 0, 0] S1x512x256.size (slab_inb 9 (by decide)), p1⟩, ⟨Rect.unit (s := S11x512x256) ![8, 0, 0] S1x512x256.size (slab_inb 8 (by decide)), p2⟩, ⟨Rect.unit (s := S11x512x256) ![7, 0, 0] S1x512x256.size (slab_inb 7 (by decide)), p3⟩, ⟨Rect.unit (s := S11x512x256) ![6, 0, 0] S1x512x256.size (slab_inb 6 (by decide)), p4⟩, ⟨Rect.unit (s := S11x512x256) ![5, 0, 0] S1x512x256.size (slab_inb 5 (by decide)), p5⟩, ⟨Rect.unit (s := S11x512x256) ![4, 0, 0] S1x512x256.size (slab_inb 4 (by decide)), p6⟩, ⟨Rect.unit (s := S11x512x256) ![3, 0, 0] S1x512x256.size (slab_inb 3 (by decide)), p7⟩, ⟨Rect.unit (s := S11x512x256) ![2, 0, 0] S1x512x256.size (slab_inb 2 (by decide)), p8⟩, ⟨Rect.unit (s := S11x512x256) ![1, 0, 0] S1x512x256.size (slab_inb 1 (by decide)), p9⟩, ⟨Rect.unit (s := S11x512x256) ![0, 0, 0] S1x512x256.size (slab_inb 0 (by decide)), p10⟩] : List (View.Piece (Elt F) S11x512x256 .bf16)), y ∈ pc.1.set :=
  View.cover_of_tiled [⟨Rect.unit (s := S11x512x256) ![10, 0, 0] S1x512x256.size (slab_inb 10 (by decide)), p0⟩, ⟨Rect.unit (s := S11x512x256) ![9, 0, 0] S1x512x256.size (slab_inb 9 (by decide)), p1⟩, ⟨Rect.unit (s := S11x512x256) ![8, 0, 0] S1x512x256.size (slab_inb 8 (by decide)), p2⟩, ⟨Rect.unit (s := S11x512x256) ![7, 0, 0] S1x512x256.size (slab_inb 7 (by decide)), p3⟩, ⟨Rect.unit (s := S11x512x256) ![6, 0, 0] S1x512x256.size (slab_inb 6 (by decide)), p4⟩, ⟨Rect.unit (s := S11x512x256) ![5, 0, 0] S1x512x256.size (slab_inb 5 (by decide)), p5⟩, ⟨Rect.unit (s := S11x512x256) ![4, 0, 0] S1x512x256.size (slab_inb 4 (by decide)), p6⟩, ⟨Rect.unit (s := S11x512x256) ![3, 0, 0] S1x512x256.size (slab_inb 3 (by decide)), p7⟩, ⟨Rect.unit (s := S11x512x256) ![2, 0, 0] S1x512x256.size (slab_inb 2 (by decide)), p8⟩, ⟨Rect.unit (s := S11x512x256) ![1, 0, 0] S1x512x256.size (slab_inb 1 (by decide)), p9⟩, ⟨Rect.unit (s := S11x512x256) ![0, 0, 0] S1x512x256.size (slab_inb 0 (by decide)), p10⟩] S1x512x256.size (by rfl) y

/-! ## The loads -/

theorem rd {sp : Space} {s : Shape} {e : EltTy} (v : View sig .tc sp s e) (r : Rect s) (x : s.Idx → Elt F e) :
    v.readAt (Elt F) r.toLoadRect (v.rep x) = View.ld x r := (View.readAt_rep v _ x).trans rfl

theorem rd1 (arg1 : Memref sig .tc .vmem S512x1024 .f32) (x0 : S512x1024.Idx → Elt F .f32) :
    arg1.view.readAt (Elt F) (Rect.unit (s := S512x1024) ![0, 0] S512x1024.size inb_S512x1024_S512x1024_0_0).toLoadRect (arg1.view.rep x0) = x0 :=
  View.readAt_rep_full arg1.view x0 _

theorem rd2 (arg2 : Memref sig .tc .vmem S1x1024 .f32) (x1 : S1x1024.Idx → Elt F .f32) :
    arg2.view.readAt (Elt F) (Rect.unit (s := S1x1024) ![0, 0] S1x1024.size inb_S1x1024_S1x1024_0_0).toLoadRect (arg2.view.rep x1) = x1 :=
  View.readAt_rep_full arg2.view x1 _

/-- A load of 512 rows of the weights. -/
def qw (arg3 : Memref sig .tc .vmem S3x2816x1024 .bf16) (x2 : Vec F S3x2816x1024 .bf16) (j o : ℕ) (hj : j < 3) (ho : o + 512 ≤ 2816) : Vec F S1x512x1024 .bf16 :=
  arg3.view.readAt (Elt F) (Rect.unit (s := S3x2816x1024) ![j, o, 0] S1x512x1024.size (wd_inb j o hj ho)).toLoadRect (arg3.view.rep x2)

/-- A load of the last 256 rows of the weights. -/
def ql (arg3 : Memref sig .tc .vmem S3x2816x1024 .bf16) (x2 : Vec F S3x2816x1024 .bf16) (j : ℕ) (hj : j < 3) : Vec F S1x256x1024 .bf16 :=
  arg3.view.readAt (Elt F) (Rect.unit (s := S3x2816x1024) ![j, 2560, 0] S1x256x1024.size (wl_inb j hj)).toLoadRect (arg3.view.rep x2)

theorem qw_eq (arg3 : Memref sig .tc .vmem S3x2816x1024 .bf16) (x2 : Vec F S3x2816x1024 .bf16) (j o : ℕ) (hj : j < 3) (ho : o + 512 ≤ 2816) :
    qw arg3 x2 j o hj ho = wd x2 j o hj ho := rd _ _ _

theorem ql_eq (arg3 : Memref sig .tc .vmem S3x2816x1024 .bf16) (x2 : Vec F S3x2816x1024 .bf16) (j : ℕ) (hj : j < 3) :
    ql arg3 x2 j hj = wl x2 j hj := rd _ _ _

variable {arg1 : Memref sig .tc .vmem S512x1024 .f32} {arg2 : Memref sig .tc .vmem S1x1024 .f32} {arg3 : Memref sig .tc .vmem S3x2816x1024 .bf16} {arg8 : Memref sig .tc .vmem S512x1024 .bf16} {arg9 : Memref sig .tc .vmem S512x1024 .f32} {x0 : Vec F S512x1024 .f32} {x1 : Vec F S1x1024 .f32} {x2 : Vec F S3x2816x1024 .bf16}

theorem v27_eq : run.sl.v27 arg1 arg2 arg8 x0 x1 = nb x0 x1 :=
  (View.readCov_full arg8.view _ _ _ _).trans (congrArg₂ k0_pay3 (rd1 arg1 x0) (rd2 arg2 x1))

theorem v23_eq : run.sl.v23 (F := F) arg9 = k0_pay4 := View.readCov_full arg9.view _ _ _ _

theorem v76_eq : run.sl.v76 arg1 arg2 arg3 arg8 arg9 x0 x1 x2 = acc1 x0 x1 x2 := by
  refine (View.readCov_full arg9.view _ _ _ _).trans ?_
  show k0_pay13 (run.sl.v23 arg9) (k0_pay11 (run.sl.v27 arg1 arg2 arg8 x0 x1) (k0_pay5 (run.sl.v27 arg1 arg2 arg8 x0 x1) (qw arg3 x2 0 0 (by decide) (by decide))) (qw arg3 x2 1 0 (by decide) (by decide))) (k0_pay12 (qw arg3 x2 2 0 (by decide) (by decide))) = _
  simp only [v27_eq, v23_eq, qw_eq, ql_eq]
  rfl

theorem v129_eq : run.sl.v129 arg1 arg2 arg3 arg8 arg9 x0 x1 x2 = acc2 x0 x1 x2 := by
  refine (View.readCov_full arg9.view _ _ _ _).trans ?_
  show k0_pay21 (run.sl.v76 arg1 arg2 arg3 arg8 arg9 x0 x1 x2) (k0_pay14 (run.sl.v27 arg1 arg2 arg8 x0 x1) (qw arg3 x2 0 512 (by decide) (by decide))) (k0_pay15 (run.sl.v27 arg1 arg2 arg8 x0 x1) (qw arg3 x2 1 512 (by decide) (by decide))) (qw arg3 x2 2 512 (by decide) (by decide)) = _
  simp only [v27_eq, v76_eq, qw_eq, ql_eq]
  rfl

theorem v182_eq : run.sl.v182 arg1 arg2 arg3 arg8 arg9 x0 x1 x2 = acc3 x0 x1 x2 := by
  refine (View.readCov_full arg9.view _ _ _ _).trans ?_
  show k0_pay29 (k0_pay28 (run.sl.v129 arg1 arg2 arg3 arg8 arg9 x0 x1 x2) (run.sl.v27 arg1 arg2 arg8 x0 x1) (k0_pay22 (run.sl.v27 arg1 arg2 arg8 x0 x1) (qw arg3 x2 0 1024 (by decide) (by decide))) (qw arg3 x2 1 1024 (by decide) (by decide)) (qw arg3 x2 2 1024 (by decide) (by decide))) = _
  simp only [v27_eq, v129_eq, qw_eq, ql_eq]
  rfl

theorem v235_eq : run.sl.v235 arg1 arg2 arg3 arg8 arg9 x0 x1 x2 = acc4 x0 x1 x2 := by
  refine (View.readCov_full arg9.view _ _ _ _).trans ?_
  show k0_pay37 (run.sl.v182 arg1 arg2 arg3 arg8 arg9 x0 x1 x2) (k0_pay30 (run.sl.v27 arg1 arg2 arg8 x0 x1) (qw arg3 x2 0 1536 (by decide) (by decide))) (k0_pay31 (run.sl.v27 arg1 arg2 arg8 x0 x1) (qw arg3 x2 1 1536 (by decide) (by decide))) (qw arg3 x2 2 1536 (by decide) (by decide)) = _
  simp only [v27_eq, v182_eq, qw_eq, ql_eq]
  rfl

theorem v288_eq : run.sl.v288 arg1 arg2 arg3 arg8 arg9 x0 x1 x2 = acc5 x0 x1 x2 := by
  refine (View.readCov_full arg9.view _ _ _ _).trans ?_
  show k0_pay45 (run.sl.v235 arg1 arg2 arg3 arg8 arg9 x0 x1 x2) (k0_pay38 (run.sl.v27 arg1 arg2 arg8 x0 x1) (qw arg3 x2 0 2048 (by decide) (by decide))) (k0_pay39 (run.sl.v27 arg1 arg2 arg8 x0 x1) (qw arg3 x2 1 2048 (by decide) (by decide))) (qw arg3 x2 2 2048 (by decide) (by decide)) = _
  simp only [v27_eq, v235_eq, qw_eq, ql_eq]
  rfl

theorem v320_eq : run.sl.v320 arg1 arg2 arg3 arg8 arg9 x0 x1 x2 = acc6 x0 x1 x2 := by
  refine (View.readCov_full arg9.view _ _ _ _).trans ?_
  show k0_pay50 (run.sl.v288 arg1 arg2 arg3 arg8 arg9 x0 x1 x2) (run.sl.v27 arg1 arg2 arg8 x0 x1) (ql arg3 x2 0 (by decide)) (ql arg3 x2 1 (by decide)) (ql arg3 x2 2 (by decide)) = _
  simp only [v27_eq, v288_eq, qw_eq, ql_eq]
  rfl

theorem run_3 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S11x512x256 .bf16) (harg6 : arg6.IsWhole) (arg7 : Memref sig .tc .vmem S11x512x256 .bf16) (harg7 : arg7.IsWhole) (arg8 : Memref sig .tc .vmem S512x1024 .bf16) (harg8 : arg8.IsWhole) (arg9 : Memref sig .tc .vmem S512x1024 .f32) (harg9 : arg9.IsWhole) (x0 : Vec F S512x1024 .f32) (x1 : Vec F S1x1024 .f32) (x2 : Vec F S3x2816x1024 .bf16) (f : arg4.view.ty.Contents (Elt F)) :
    arg4.view.read (Elt F) (arg4.view.writes (Elt F) f (run c i arg1 harg1 arg2 harg2 arg3 harg3 arg4 harg4 arg5 harg5 arg6 harg6 arg7 harg7 arg8 harg8 arg9 harg9 x0 x1 x2).1) = out3 x0 x1 x2 :=
  (View.read_writes_full arg4.view f _ _ []).trans (congrArg₂ k0_pay1 (rd1 arg1 x0) v320_eq)

theorem run_4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S11x512x256 .bf16) (harg6 : arg6.IsWhole) (arg7 : Memref sig .tc .vmem S11x512x256 .bf16) (harg7 : arg7.IsWhole) (arg8 : Memref sig .tc .vmem S512x1024 .bf16) (harg8 : arg8.IsWhole) (arg9 : Memref sig .tc .vmem S512x1024 .f32) (harg9 : arg9.IsWhole) (x0 : Vec F S512x1024 .f32) (x1 : Vec F S1x1024 .f32) (x2 : Vec F S3x2816x1024 .bf16) (f : arg5.view.ty.Contents (Elt F)) :
    arg5.view.read (Elt F) (arg5.view.writes (Elt F) f (run c i arg1 harg1 arg2 harg2 arg3 harg3 arg4 harg4 arg5 harg5 arg6 harg6 arg7 harg7 arg8 harg8 arg9 harg9 x0 x1 x2).2.1) = out4 x0 x1 :=
  (View.read_writes_full arg5.view f _ _ []).trans (congrArg₂ k0_pay2 (rd1 arg1 x0) (rd2 arg2 x1))

theorem gates_eq : run.sl.H5_11 arg1 arg2 arg3 arg8 x0 x1 x2 = gates x0 x1 x2 := by
  show ([⟨Rect.unit (s := S11x512x256) ![10, 0, 0] S1x512x256.size (slab_inb 10 (by decide)), k0_pay48 (run.sl.v27 arg1 arg2 arg8 x0 x1) (ql arg3 x2 0 (by decide))⟩,
   ⟨Rect.unit (s := S11x512x256) ![9, 0, 0] S1x512x256.size (slab_inb 9 (by decide)), k0_pay43 (k0_pay38 (run.sl.v27 arg1 arg2 arg8 x0 x1) (qw arg3 x2 0 2048 (by decide) (by decide)))⟩,
   ⟨Rect.unit (s := S11x512x256) ![8, 0, 0] S1x512x256.size (slab_inb 8 (by decide)), k0_pay41 (k0_pay40 (run.sl.v27 arg1 arg2 arg8 x0 x1) (qw arg3 x2 0 2048 (by decide) (by decide)))⟩,
   ⟨Rect.unit (s := S11x512x256) ![7, 0, 0] S1x512x256.size (slab_inb 7 (by decide)), k0_pay35 (k0_pay34 (run.sl.v27 arg1 arg2 arg8 x0 x1) (qw arg3 x2 0 1536 (by decide) (by decide)))⟩,
   ⟨Rect.unit (s := S11x512x256) ![6, 0, 0] S1x512x256.size (slab_inb 6 (by decide)), k0_pay32 (run.sl.v27 arg1 arg2 arg8 x0 x1) (qw arg3 x2 0 1536 (by decide) (by decide))⟩,
   ⟨Rect.unit (s := S11x512x256) ![5, 0, 0] S1x512x256.size (slab_inb 5 (by decide)), k0_pay26 (k0_pay22 (run.sl.v27 arg1 arg2 arg8 x0 x1) (qw arg3 x2 0 1024 (by decide) (by decide)))⟩,
   ⟨Rect.unit (s := S11x512x256) ![4, 0, 0] S1x512x256.size (slab_inb 4 (by decide)), k0_pay24 (k0_pay22 (run.sl.v27 arg1 arg2 arg8 x0 x1) (qw arg3 x2 0 1024 (by decide) (by decide)))⟩,
   ⟨Rect.unit (s := S11x512x256) ![3, 0, 0] S1x512x256.size (slab_inb 3 (by decide)), k0_pay19 (k0_pay18 (run.sl.v27 arg1 arg2 arg8 x0 x1) (qw arg3 x2 0 512 (by decide) (by decide)))⟩,
   ⟨Rect.unit (s := S11x512x256) ![2, 0, 0] S1x512x256.size (slab_inb 2 (by decide)), k0_pay16 (run.sl.v27 arg1 arg2 arg8 x0 x1) (qw arg3 x2 0 512 (by decide) (by decide))⟩,
   ⟨Rect.unit (s := S11x512x256) ![1, 0, 0] S1x512x256.size (slab_inb 1 (by decide)), k0_pay9 (k0_pay5 (run.sl.v27 arg1 arg2 arg8 x0 x1) (qw arg3 x2 0 0 (by decide) (by decide)))⟩,
   ⟨Rect.unit (s := S11x512x256) ![0, 0, 0] S1x512x256.size (slab_inb 0 (by decide)), k0_pay7 (k0_pay5 (run.sl.v27 arg1 arg2 arg8 x0 x1) (qw arg3 x2 0 0 (by decide) (by decide)))⟩] : List (View.Piece (Elt F) S11x512x256 .bf16)) = _
  simp only [v27_eq, qw_eq, ql_eq]
  rfl

theorem ups_eq : run.sl.H6_11 arg1 arg2 arg3 arg8 x0 x1 x2 = ups x0 x1 x2 := by
  show ([⟨Rect.unit (s := S11x512x256) ![10, 0, 0] S1x512x256.size (slab_inb 10 (by decide)), k0_pay49 (run.sl.v27 arg1 arg2 arg8 x0 x1) (ql arg3 x2 1 (by decide))⟩,
   ⟨Rect.unit (s := S11x512x256) ![9, 0, 0] S1x512x256.size (slab_inb 9 (by decide)), k0_pay44 (k0_pay39 (run.sl.v27 arg1 arg2 arg8 x0 x1) (qw arg3 x2 1 2048 (by decide) (by decide)))⟩,
   ⟨Rect.unit (s := S11x512x256) ![8, 0, 0] S1x512x256.size (slab_inb 8 (by decide)), k0_pay42 (k0_pay39 (run.sl.v27 arg1 arg2 arg8 x0 x1) (qw arg3 x2 1 2048 (by decide) (by decide)))⟩,
   ⟨Rect.unit (s := S11x512x256) ![7, 0, 0] S1x512x256.size (slab_inb 7 (by decide)), k0_pay36 (k0_pay31 (run.sl.v27 arg1 arg2 arg8 x0 x1) (qw arg3 x2 1 1536 (by decide) (by decide)))⟩,
   ⟨Rect.unit (s := S11x512x256) ![6, 0, 0] S1x512x256.size (slab_inb 6 (by decide)), k0_pay33 (run.sl.v27 arg1 arg2 arg8 x0 x1) (qw arg3 x2 1 1536 (by decide) (by decide))⟩,
   ⟨Rect.unit (s := S11x512x256) ![5, 0, 0] S1x512x256.size (slab_inb 5 (by decide)), k0_pay27 (run.sl.v27 arg1 arg2 arg8 x0 x1) (qw arg3 x2 1 1024 (by decide) (by decide))⟩,
   ⟨Rect.unit (s := S11x512x256) ![4, 0, 0] S1x512x256.size (slab_inb 4 (by decide)), k0_pay25 (run.sl.v27 arg1 arg2 arg8 x0 x1) (qw arg3 x2 1 1024 (by decide) (by decide))⟩,
   ⟨Rect.unit (s := S11x512x256) ![3, 0, 0] S1x512x256.size (slab_inb 3 (by decide)), k0_pay20 (k0_pay15 (run.sl.v27 arg1 arg2 arg8 x0 x1) (qw arg3 x2 1 512 (by decide) (by decide)))⟩,
   ⟨Rect.unit (s := S11x512x256) ![2, 0, 0] S1x512x256.size (slab_inb 2 (by decide)), k0_pay17 (run.sl.v27 arg1 arg2 arg8 x0 x1) (qw arg3 x2 1 512 (by decide) (by decide))⟩,
   ⟨Rect.unit (s := S11x512x256) ![1, 0, 0] S1x512x256.size (slab_inb 1 (by decide)), k0_pay10 (run.sl.v27 arg1 arg2 arg8 x0 x1) (qw arg3 x2 1 0 (by decide) (by decide))⟩,
   ⟨Rect.unit (s := S11x512x256) ![0, 0, 0] S1x512x256.size (slab_inb 0 (by decide)), k0_pay8 (run.sl.v27 arg1 arg2 arg8 x0 x1) (qw arg3 x2 1 0 (by decide) (by decide))⟩] : List (View.Piece (Elt F) S11x512x256 .bf16)) = _
  simp only [v27_eq, qw_eq, ql_eq]
  rfl

theorem run_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S11x512x256 .bf16) (harg6 : arg6.IsWhole) (arg7 : Memref sig .tc .vmem S11x512x256 .bf16) (harg7 : arg7.IsWhole) (arg8 : Memref sig .tc .vmem S512x1024 .bf16) (harg8 : arg8.IsWhole) (arg9 : Memref sig .tc .vmem S512x1024 .f32) (harg9 : arg9.IsWhole) (x0 : Vec F S512x1024 .f32) (x1 : Vec F S1x1024 .f32) (x2 : Vec F S3x2816x1024 .bf16) (f : arg6.view.ty.Contents (Elt F)) :
    arg6.view.read (Elt F) (arg6.view.writes (Elt F) f (run c i arg1 harg1 arg2 harg2 arg3 harg3 arg4 harg4 arg5 harg5 arg6 harg6 arg7 harg7 arg8 harg8 arg9 harg9 x0 x1 x2).2.2.1) = View.canon (gates x0 x1 x2) :=
  (congrArg (fun l => arg6.view.read (Elt F) (arg6.view.writes (Elt F) f l)) (gates_eq (arg1 := arg1) (arg2 := arg2) (arg3 := arg3) (arg8 := arg8))).trans (View.read_writes_eq_canon _ _ _ (slab_cover _ _ _ _ _ _ _ _ _ _ _))

theorem run_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S11x512x256 .bf16) (harg6 : arg6.IsWhole) (arg7 : Memref sig .tc .vmem S11x512x256 .bf16) (harg7 : arg7.IsWhole) (arg8 : Memref sig .tc .vmem S512x1024 .bf16) (harg8 : arg8.IsWhole) (arg9 : Memref sig .tc .vmem S512x1024 .f32) (harg9 : arg9.IsWhole) (x0 : Vec F S512x1024 .f32) (x1 : Vec F S1x1024 .f32) (x2 : Vec F S3x2816x1024 .bf16) (f : arg7.view.ty.Contents (Elt F)) :
    arg7.view.read (Elt F) (arg7.view.writes (Elt F) f (run c i arg1 harg1 arg2 harg2 arg3 harg3 arg4 harg4 arg5 harg5 arg6 harg6 arg7 harg7 arg8 harg8 arg9 harg9 x0 x1 x2).2.2.2.1) = View.canon (ups x0 x1 x2) :=
  (congrArg (fun l => arg7.view.read (Elt F) (arg7.view.writes (Elt F) f l)) (ups_eq (arg1 := arg1) (arg2 := arg2) (arg3 := arg3) (arg8 := arg8))).trans (View.read_writes_eq_canon _ _ _ (slab_cover _ _ _ _ _ _ _ _ _ _ _))

end Cert.Kernel4Ideal.Hand

end
-- ==== Proof.F4.Frame.lean ====
/- The feed-forward kernel's run from launch to end: its body at every grid point, and what its arrays end at. -/
module

public import proofs.«01_k».proof.Proof.F4.Outs
public import Idealize.ShloMosaic.Lib.Pipeline.TableIdle

@[expose] public section

set_option maxRecDepth 16384

noncomputable section

namespace Cert.Kernel4Ideal.Hand

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- Core `c`'s buffers at launch. -/
abbrev V (c : Dev nD) (b : Ref sig .tc) : Buf (Elt F) ((c : Thread nD τ).loc b) := m ((c : Thread nD τ).loc b)

set_option maxHeartbeats 800000 in
theorem enters : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The arrays as launched; after the body the inputs' buffers at their blocks and the outputs' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t)
    | ⟨5, _⟩ => View.canon (gates (iblk m c 0 t) (iblk m c 1 t) (iblk m c 2 t))
    | ⟨6, _⟩ => View.canon (ups (iblk m c 0 t) (iblk m c 1 t) (iblk m c 2 t))
  Φ _ := Pipeline.ΦA spec0 c
  q _ := fullShare
  owed _ := 0

theorem arrays (c : Dev nD) (w : Fin cfg0.W) : (dats m 0 c).A w = V m c (Pipeline.arrRef spec0 w) := by
  dsimp only [dats]

theorem post_0 (c : Dev nD) (t : Fin cfg0.N) : (dats m 0 c).after 0 t = iblk m c 0 t := by dsimp only [dats]
theorem post_1 (c : Dev nD) (t : Fin cfg0.N) : (dats m 0 c).after 1 t = iblk m c 1 t := by dsimp only [dats]
theorem post_2 (c : Dev nD) (t : Fin cfg0.N) : (dats m 0 c).after 2 t = iblk m c 2 t := by dsimp only [dats]
theorem post_3 (c : Dev nD) (t : Fin cfg0.N) : (dats m 0 c).after 3 t = out3 (iblk m c 0 t) (iblk m c 1 t) (iblk m c 2 t) := by dsimp only [dats]
theorem post_4 (c : Dev nD) (t : Fin cfg0.N) : (dats m 0 c).after 4 t = out4 (iblk m c 0 t) (iblk m c 1 t) := by dsimp only [dats]
theorem post_5 (c : Dev nD) (t : Fin cfg0.N) : (dats m 0 c).after 5 t = View.canon (gates (iblk m c 0 t) (iblk m c 1 t) (iblk m c 2 t)) := by dsimp only [dats]
theorem post_6 (c : Dev nD) (t : Fin cfg0.N) : (dats m 0 c).after 6 t = View.canon (ups (iblk m c 0 t) (iblk m c 1 t) (iblk m c 2 t)) := by dsimp only [dats]

theorem pre_0 (c : Dev nD) (t : Fin cfg0.N) (d) : (dats m 0 c).before 0 t d = iblk m c 0 t :=
  ((dats m 0 c).before_in_eq_fetched 0 rfl (fun _ => rfl) (fun _ _ _ => rfl) (fun t => by rw [post_0]; unfold Dat.blockOf iblk; rw [arrays]; try rfl) t d).trans
    (by unfold Dat.fetched Dat.blockOf iblk; rw [arrays]; try rfl)

theorem pre_1 (c : Dev nD) (t : Fin cfg0.N) (d) : (dats m 0 c).before 1 t d = iblk m c 1 t :=
  ((dats m 0 c).before_in_eq_fetched 1 rfl (fun _ => rfl) (fun _ _ _ => rfl) (fun t => by rw [post_1]; unfold Dat.blockOf iblk; rw [arrays]; try rfl) t d).trans
    (by unfold Dat.fetched Dat.blockOf iblk; rw [arrays]; try rfl)

theorem pre_2 (c : Dev nD) (t : Fin cfg0.N) (d) : (dats m 0 c).before 2 t d = iblk m c 2 t :=
  ((dats m 0 c).before_in_eq_fetched 2 rfl (fun _ => rfl) (fun _ _ _ => rfl) (fun t => by rw [post_2]; unfold Dat.blockOf iblk; rw [arrays]; try rfl) t d).trans
    (by unfold Dat.fetched Dat.blockOf iblk; rw [arrays]; try rfl)

/-- Some contents of a memref, from contents named. -/
theorem some_of_owns {sp : Space} {b : Shape} {e : EltTy} (c : Dev nD) (M : Memref sig .tc sp b e) (x : b.Idx → Elt F e) :
    owns (c : Thread nD τ) M fullShare x ⊢ (iprop(∃ f, M.view.loc (c : Thread nD τ) ↦[M.view.set]{fullShare} f) : sProp 𝕄) := by
  unfold owns
  iintro ⟨%f, -, H⟩
  iexists f; iexact H

/-- What is kept between points: the two scratch buffers at some contents, and the generator's register. -/
theorem keeps (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)) ∗ ∃ r, prngReg c r) := by
  unfold Pipeline.ΦA; rw [scopedRest0_eq]; simp only [owns_whole]; try rfl

/-- The body at point `t`. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
      ⊢ wp frame (wpE (defs₀ (F := F)) Variants.none c none) Set.univ (bodyAt0 t) fun _ =>
        iprop((dats m 0 c).Φ t.succ ∗ (dats m 0 c).owesAt () t.succ
          ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)) := by
  unfold bodyAt0
  simp only [pre_0, pre_1, pre_2]
  rw [show (dats m 0 c).Φ t.succ = Pipeline.ΦA spec0 c from rfl, show (dats m 0 c).Φ t.castSucc = Pipeline.ΦA spec0 c from rfl, keeps,
    show (dats m 0 c).owesAt () t.succ = (dats m 0 c).owesAt () t.castSucc from rfl,
    post_0, post_1, post_2, post_3, post_4, post_5, post_6]
  iintro ⟨⟨⟨⟨%s0, HS0⟩, ⟨%s1, HS1⟩⟩, HR⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (iblk m c 0 t) (iblk m c 1 t) (iblk m c 2 t)).2.2.2.2 _)
  isplitl [H0]; · iapply rep_of_owns; iexact H0
  isplitl [H1]; · iapply rep_of_owns; iexact H1
  isplitl [H2]; · iapply rep_of_owns; iexact H2
  isplitl [H3]; · iapply (some_of_owns c (st0_3 t) _); iexact H3
  isplitl [H4]; · iapply (some_of_owns c (st0_4 t) _); iexact H4
  isplitl [H5]; · iapply (some_of_owns c (st0_5 t) _); iexact H5
  isplitl [H6]; · iapply (some_of_owns c (st0_6 t) _); iexact H6
  isplitl [HS0]; · iapply (some_of_owns c (Memref.whole cc0_scratch0) _); iexact HS0
  isplitl [HS1]; · iapply (some_of_owns c (Memref.whole cc0_scratch1) _); iexact HS1
  iintro ⟨H0, H1, H2, ⟨%e3, H3⟩, ⟨%e4, H4⟩, ⟨%e5, H5⟩, ⟨%e6, H6⟩, ⟨%e7, HS0⟩, ⟨%e8, HS1⟩⟩
  isplitl [HR HS0 HS1]
  · isplitl [HS0 HS1]
    · isplitl [HS0]
      · iexists _; unfold owns; iexists e7; isplitr; swap
        · iexact HS0
        · ipureintro; rfl
      · iexists _; unfold owns; iexists e8; isplitr; swap
        · iexact HS1
        · ipureintro; rfl
    · iexact HR
  isplitl [Ho]; · iexact Ho
  isplitl [H0]; · iapply owns_of_rep; iexact H0
  isplitl [H1]; · iapply owns_of_rep; iexact H1
  isplitl [H2]; · iapply owns_of_rep; iexact H2
  isplitl [H3]
  · unfold owns; iexists _; isplitr; swap
    · iexact H3
    · ipureintro; exact run_3 _ _ _ _ _ _ _ _ _ _ _ _ _ _ _ _ _ _ _ _ _ _ _ e3
  isplitl [H4]
  · unfold owns; iexists _; isplitr; swap
    · iexact H4
    · ipureintro; exact run_4 _ _ _ _ _ _ _ _ _ _ _ _ _ _ _ _ _ _ _ _ _ _ _ e4
  isplitl [H5]
  · unfold owns; iexists _; isplitr; swap
    · iexact H5
    · ipureintro; exact run_5 _ _ _ _ _ _ _ _ _ _ _ _ _ _ _ _ _ _ _ _ _ _ _ e5
  unfold owns; iexists _; isplitr; swap
  · iexact H6
  · ipureintro; exact run_6 _ _ _ _ _ _ _ _ _ _ _ _ _ _ _ _ _ _ _ _ _ _ _ e6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
set_option maxHeartbeats 800000 in
/-- Every run ends, the arrays at what the proof data says, every counter at zero. -/
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := enters m) (hA := arrays m) (hΦ := fun _ _ => rfl)

theorem ends_arrays : θ_run defs (onTc (τ := τ) (main (F := F))) (s₀ m ρ) (Pipeline.FramePost cfgs (dats m) 0 (V m)) :=
  (θ_run defs _ _).mono (fun _ h => h.1) (ends m ρ)

/-- Every run ends with its argument arrays as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans (arrays m c 0)),
      ((h.1 c).1 1).trans (((dats m 0 c).arrAt_in 1 rfl _).trans (arrays m c 1)),
      ((h.1 c).1 2).trans (((dats m 0 c).arrAt_in 2 rfl _).trans (arrays m c 2))⟩, h.2⟩) (ends m ρ)

end Cert.Kernel4Ideal.Hand

end
-- ==== Proof.Val.X4.lean ====
/- The feed-forward kernel at the real arithmetic: the arrays its blocks make are the reference's. -/
module

public import proofs.«01_k».proof.Proof.F4.Frame
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.SL.Sem
open Idealize.ShloMosaic.Pipeline (Dat)
open Cert.Reference4Ideal.Read

/-! ## One row over the extended reals -/

/-- The root-mean-square norm. -/
def nrm (x g : Fin 1024 → EReal) (d : Fin 1024) : EReal :=
  x d * Ideal.rsqrt (Ideal.div (∑ k, x k * x k) (Ideal.ofBits .f32 0x44800000#32) + Ideal.ofBits .f32 0x358637BD#32) * g d
/-- One column of a projection. -/
def col (x w : Fin 1024 → EReal) : EReal := ∑ k, x k * w k
/-- The gated product. -/
def act (g u : EReal) : EReal := g * Ideal.logistic g * u

/-! ## The payloads -/

section
variable (i : Fin 512)

theorem norm_at (x0 : Vec Ideal S512x1024 .f32) (x1 : Vec Ideal S1x1024 .f32) (d : Fin 1024) :
    k0_pay2 (F := Ideal) x0 x1 (ix2 i d) = nrm (fun d => x0 (ix2 i d)) (fun d => x1 (ix2 0 d)) d := by
  pointwise [k0_pay2, nrm]

theorem nb_at (x0 : Vec Ideal S512x1024 .f32) (x1 : Vec Ideal S1x1024 .f32) (d : Fin 1024) :
    nb (F := Ideal) x0 x1 (ix2 i d) = nrm (fun d => x0 (ix2 i d)) (fun d => x1 (ix2 0 d)) d := by
  rw [← norm_at]
  unfold nb k0_pay3
  generalize k0_pay2 (F := Ideal) x0 x1 = y
  pointwise []

theorem proj_at (n : Vec Ideal S512x1024 .bf16) (w : Vec Ideal S1x512x1024 .bf16) (r : Fin 512) :
    k0_pay5 (F := Ideal) n w (ix2 i r) = col (fun k => n (ix2 i k)) (fun k => w (ix3 0 r k)) := by
  pointwise [k0_pay5, col]

theorem projl_at (n : Vec Ideal S512x1024 .bf16) (w : Vec Ideal S1x256x1024 .bf16) (r : Fin 256) :
    k0_pay46 (F := Ideal) n w (ix2 i r) = col (fun k => n (ix2 i k)) (fun k => w (ix3 0 r k)) := by
  pointwise [k0_pay46, col]

theorem step_at (a : Vec Ideal S512x1024 .f32) (g u : FVec Ideal S512x512 .f32) (w : Vec Ideal S1x512x1024 .bf16) (d : Fin 1024) :
    k0_pay21 (F := Ideal) a g u w (ix2 i d) = (a (ix2 i d) + ∑ r : Fin 512, act (g (ix2 i r)) (u (ix2 i r)) * w (ix3 0 r d) : EReal) := by
  pointwise [k0_pay21, act]

theorem last_at (a : Vec Ideal S512x1024 .f32) (n : Vec Ideal S512x1024 .bf16) (w0 w1 w2 : Vec Ideal S1x256x1024 .bf16) (d : Fin 1024) :
    k0_pay50 (F := Ideal) a n w0 w1 w2 (ix2 i d)
      = (a (ix2 i d) + ∑ r : Fin 256, act (k0_pay46 (F := Ideal) n w0 (ix2 i r)) (k0_pay46 (F := Ideal) n w1 (ix2 i r)) * w2 (ix3 0 r d) : EReal) := by
  unfold k0_pay50
  rw [show k0_pay47 (F := Ideal) n w1 = k0_pay46 (F := Ideal) n w1 from rfl]
  generalize k0_pay46 (F := Ideal) n w0 = g
  generalize k0_pay46 (F := Ideal) n w1 = u
  pointwise [act]

theorem zero_at (d : Fin 1024) : (k0_pay4 (F := Ideal) (ix2 i d) : EReal) = 0 := by
  pointwise [k0_pay4]

theorem end_at (h a : Vec Ideal S512x1024 .f32) (d : Fin 1024) :
    k0_pay1 (F := Ideal) h a (ix2 i d) = (h (ix2 i d) + Ideal.ofBits .f32 0x3F000000#32 * a (ix2 i d) : EReal) := by
  pointwise [k0_pay1]

theorem lo_at (g : FVec Ideal S512x512 .f32) (q : Fin 256) : k0_pay7 (F := Ideal) g (ix3 0 i q) = g (ix2 i ⟨q.val, by omega⟩) := by
  pointwise [k0_pay7]
theorem hi_at (g : FVec Ideal S512x512 .f32) (q : Fin 256) : k0_pay9 (F := Ideal) g (ix3 0 i q) = g (ix2 i ⟨256 + q.val, by omega⟩) := by
  pointwise [k0_pay9]
theorem sl_at (n : Vec Ideal S512x1024 .bf16) (w : Vec Ideal S1x256x1024 .bf16) (q : Fin 256) :
    k0_pay48 (F := Ideal) n w (ix3 0 i q) = k0_pay46 (F := Ideal) n w (ix2 i q) := by
  unfold k0_pay48
  generalize k0_pay46 (F := Ideal) n w = g
  pointwise []

/-! ## The weights' loads -/

theorem wd_at (x2 : Vec Ideal S3x2816x1024 .bf16) (j o : ℕ) (hj : j < 3) (ho : o + 512 ≤ 2816) (r : Fin 512) (k : Fin 1024) :
    wd x2 j o hj ho (ix3 0 r k) = x2 (ix3 ⟨j, hj⟩ ⟨o + r.val, by omega⟩ k) := by
  show x2 _ = x2 _
  congr 1; funext a; apply Fin.ext
  match a with
  | ⟨0, _⟩ => show j + 1 * 0 = j; omega
  | ⟨1, _⟩ => show o + 1 * r.val = o + r.val; omega
  | ⟨2, _⟩ => show 0 + 1 * k.val = k.val; omega

theorem wl_at (x2 : Vec Ideal S3x2816x1024 .bf16) (j : ℕ) (hj : j < 3) (r : Fin 256) (k : Fin 1024) :
    wl x2 j hj (ix3 0 r k) = x2 (ix3 ⟨j, hj⟩ ⟨2560 + r.val, by omega⟩ k) := by
  show x2 _ = x2 _
  congr 1; funext a; apply Fin.ext
  match a with
  | ⟨0, _⟩ => show j + 1 * 0 = j; omega
  | ⟨1, _⟩ => show 2560 + 1 * r.val = 2560 + r.val; omega
  | ⟨2, _⟩ => show 0 + 1 * k.val = k.val; omega

/-! ## The body's results at an index -/

variable (x0 : Vec Ideal S512x1024 .f32) (x1 : Vec Ideal S1x1024 .f32) (x2 : Vec Ideal S3x2816x1024 .bf16)

/-- Column `k` of the gate or of the up projection. -/
def pc (j : Fin 3) (k : Fin 2816) : EReal := col (nrm (fun d => x0 (ix2 i d)) (fun d => x1 (ix2 0 d))) (fun e => x2 (ix3 j k e))
/-- One term of the down projection. -/
def term (d : Fin 1024) (k : Fin 2816) : EReal := act (pc i x0 x1 x2 0 k) (pc i x0 x1 x2 1 k) * x2 (ix3 2 k d)

theorem tile_at (j o : ℕ) (hj : j < 3) (ho : o + 512 ≤ 2816) (r : Fin 512) :
    k0_pay5 (F := Ideal) (nb x0 x1) (wd x2 j o hj ho) (ix2 i r) = pc i x0 x1 x2 ⟨j, hj⟩ ⟨o + r.val, by omega⟩ :=
  (proj_at i _ _ r).trans (congrArg₂ col (funext fun d => nb_at i x0 x1 d) (funext fun e => wd_at x2 j o hj ho r e))

theorem tilel_at (j : ℕ) (hj : j < 3) (r : Fin 256) :
    k0_pay46 (F := Ideal) (nb x0 x1) (wl x2 j hj) (ix2 i r) = pc i x0 x1 x2 ⟨j, hj⟩ ⟨2560 + r.val, by omega⟩ :=
  (projl_at i _ _ r).trans (congrArg₂ col (funext fun d => nb_at i x0 x1 d) (funext fun e => wl_at x2 j hj r e))

theorem add_tile (a : Vec Ideal S512x1024 .f32) (o : ℕ) (ho : o + 512 ≤ 2816) (d : Fin 1024) :
    k0_pay21 (F := Ideal) a (k0_pay5 (nb x0 x1) (wd x2 0 o (by decide) ho)) (k0_pay5 (nb x0 x1) (wd x2 1 o (by decide) ho)) (wd x2 2 o (by decide) ho) (ix2 i d)
      = (a (ix2 i d) + ∑ r : Fin 512, term i x0 x1 x2 d ⟨o + r.val, by omega⟩ : EReal) := by
  rw [step_at]
  refine congrArg (fun z : EReal => (a (ix2 i d) + z : EReal)) (Finset.sum_congr (M := EReal) rfl fun r _ => ?_)
  rw [tile_at, tile_at, wd_at]
  rfl

/-- A sum over the 2816 columns, by the body's tiles. -/
theorem tiles (f : Fin 2816 → EReal) :
    (((((0 + ∑ r : Fin 512, f ⟨0 + r.val, by omega⟩) + ∑ r : Fin 512, f ⟨512 + r.val, by omega⟩) + ∑ r : Fin 512, f ⟨1024 + r.val, by omega⟩)
      + ∑ r : Fin 512, f ⟨1536 + r.val, by omega⟩) + ∑ r : Fin 512, f ⟨2048 + r.val, by omega⟩) + ∑ r : Fin 256, f ⟨2560 + r.val, by omega⟩ = ∑ k, f k := by
  have e1 := Fin.sum_univ_add (a := 2560) (b := 256) f
  have e2 := Fin.sum_univ_add (a := 2048) (b := 512) (fun k : Fin 2560 => f (Fin.castAdd 256 k))
  have e3 := Fin.sum_univ_add (a := 1536) (b := 512) (fun k : Fin 2048 => f (Fin.castAdd 256 (Fin.castAdd 512 k)))
  have e4 := Fin.sum_univ_add (a := 1024) (b := 512) (fun k : Fin 1536 => f (Fin.castAdd 256 (Fin.castAdd 512 (Fin.castAdd 512 k))))
  have e5 := Fin.sum_univ_add (a := 512) (b := 512) (fun k : Fin 1024 => f (Fin.castAdd 256 (Fin.castAdd 512 (Fin.castAdd 512 (Fin.castAdd 512 k)))))
  refine Eq.symm ((e1.trans (congrArg (· + _) (e2.trans (congrArg (· + _) (e3.trans (congrArg (· + _) (e4.trans (congrArg (· + _) e5)))))))).trans ?_)
  rw [zero_add]
  refine congrArg (· + _) (congrArg (· + _) (congrArg (· + _) (congrArg (· + _) (congrArg (· + _) (Finset.sum_congr rfl fun r _ => congrArg f (Fin.ext ?_))))))
  show r.val = 0 + r.val
  omega

theorem acc1_at (d : Fin 1024) : acc1 (F := Ideal) x0 x1 x2 (ix2 i d) = (0 + ∑ r : Fin 512, term i x0 x1 x2 d ⟨0 + r.val, by omega⟩ : EReal) :=
  (add_tile i x0 x1 x2 (k0_pay4 (F := Ideal)) 0 (by decide) d).trans (congrArg (fun z : EReal => (z + ∑ r : Fin 512, term i x0 x1 x2 d ⟨0 + r.val, by omega⟩ : EReal)) (zero_at i d))
theorem acc2_at (d : Fin 1024) : acc2 (F := Ideal) x0 x1 x2 (ix2 i d) = (acc1 (F := Ideal) x0 x1 x2 (ix2 i d) + ∑ r : Fin 512, term i x0 x1 x2 d ⟨512 + r.val, by omega⟩ : EReal) :=
  add_tile i x0 x1 x2 _ 512 (by decide) d
theorem acc3_at (d : Fin 1024) : acc3 (F := Ideal) x0 x1 x2 (ix2 i d) = (acc2 (F := Ideal) x0 x1 x2 (ix2 i d) + ∑ r : Fin 512, term i x0 x1 x2 d ⟨1024 + r.val, by omega⟩ : EReal) :=
  add_tile i x0 x1 x2 _ 1024 (by decide) d
theorem acc4_at (d : Fin 1024) : acc4 (F := Ideal) x0 x1 x2 (ix2 i d) = (acc3 (F := Ideal) x0 x1 x2 (ix2 i d) + ∑ r : Fin 512, term i x0 x1 x2 d ⟨1536 + r.val, by omega⟩ : EReal) :=
  add_tile i x0 x1 x2 _ 1536 (by decide) d
theorem acc5_at (d : Fin 1024) : acc5 (F := Ideal) x0 x1 x2 (ix2 i d) = (acc4 (F := Ideal) x0 x1 x2 (ix2 i d) + ∑ r : Fin 512, term i x0 x1 x2 d ⟨2048 + r.val, by omega⟩ : EReal) :=
  add_tile i x0 x1 x2 _ 2048 (by decide) d
theorem acc6_at (d : Fin 1024) : acc6 (F := Ideal) x0 x1 x2 (ix2 i d) = (acc5 (F := Ideal) x0 x1 x2 (ix2 i d) + ∑ r : Fin 256, term i x0 x1 x2 d ⟨2560 + r.val, by omega⟩ : EReal) := by
  unfold acc6
  rw [last_at]
  refine congrArg (fun z : EReal => (acc5 (F := Ideal) x0 x1 x2 (ix2 i d) + z : EReal)) (Finset.sum_congr (M := EReal) rfl fun r _ => ?_)
  rw [tilel_at, tilel_at, wl_at]
  rfl

theorem out3_at (d : Fin 1024) : out3 (F := Ideal) x0 x1 x2 (ix2 i d) = (x0 (ix2 i d) + Ideal.ofBits .f32 0x3F000000#32 * ∑ k : Fin 2816, term i x0 x1 x2 d k : EReal) := by
  unfold out3
  rw [end_at, acc6_at, acc5_at, acc4_at, acc3_at, acc2_at, acc1_at]
  exact congrArg (fun z : EReal => (x0 (ix2 i d) + Ideal.ofBits .f32 0x3F000000#32 * z : EReal)) (tiles (term i x0 x1 x2 d))

/-! ## The slabs -/

/-- One slab at its index. -/
theorem slab_of (s : Fin 11) (q : Fin 256) (o : ℕ) (w : Vec Ideal S1x512x256 .bf16) (v : EReal) (h : s.val = o → w (ix3 0 i q) = v) :
    View.TileAt (Val := Elt Ideal) (S := S11x512x256) (e := .bf16) (ix3 s i q) ![o, 0, 0] S1x512x256.size w v := by
  intro x hx
  have e : x = ix3 0 i q := by
    funext a; apply Fin.ext
    match a with
    | ⟨0, _⟩ => show (x 0).val = 0; have := (x 0).isLt; have h : (x 0).val < 1 := this; omega
    | ⟨1, _⟩ => have h : i.val = 0 + (x 1).val := hx 1; show (x 1).val = i.val; omega
    | ⟨2, _⟩ => have h : q.val = 0 + (x 2).val := hx 2; show (x 2).val = q.val; omega
  subst e
  refine h ?_
  have h0 : s.val = o + 0 := hx 0
  exact h0

theorem lo_slab (j o : ℕ) (hj : j < 3) (ho : o + 512 ≤ 2816) (s : Fin 11) (q : Fin 256) (hs : 256 * s.val = o) :
    k0_pay7 (F := Ideal) (k0_pay5 (nb x0 x1) (wd x2 j o hj ho)) (ix3 0 i q) = pc i x0 x1 x2 ⟨j, hj⟩ ⟨256 * s.val + q.val, by omega⟩ := by
  rw [lo_at, tile_at]
  exact congrArg (pc i x0 x1 x2 ⟨j, hj⟩) (Fin.ext (show o + q.val = 256 * s.val + q.val by omega))

theorem hi_slab (j o : ℕ) (hj : j < 3) (ho : o + 512 ≤ 2816) (s : Fin 11) (q : Fin 256) (hs : 256 * s.val = o + 256) :
    k0_pay9 (F := Ideal) (k0_pay5 (nb x0 x1) (wd x2 j o hj ho)) (ix3 0 i q) = pc i x0 x1 x2 ⟨j, hj⟩ ⟨256 * s.val + q.val, by omega⟩ := by
  rw [hi_at, tile_at]
  exact congrArg (pc i x0 x1 x2 ⟨j, hj⟩) (Fin.ext (show o + (256 + q.val) = 256 * s.val + q.val by omega))

theorem end_slab (j : ℕ) (hj : j < 3) (s : Fin 11) (q : Fin 256) (hs : 256 * s.val = 2560) :
    k0_pay48 (F := Ideal) (nb x0 x1) (wl x2 j hj) (ix3 0 i q) = pc i x0 x1 x2 ⟨j, hj⟩ ⟨256 * s.val + q.val, by omega⟩ := by
  rw [sl_at, tilel_at]
  exact congrArg (pc i x0 x1 x2 ⟨j, hj⟩) (Fin.ext (show 2560 + q.val = 256 * s.val + q.val by omega))

theorem gates_at (s : Fin 11) (q : Fin 256) :
    View.canon (gates (F := Ideal) x0 x1 x2) (ix3 s i q) = pc i x0 x1 x2 0 ⟨256 * s.val + q.val, by omega⟩ := by
  refine View.canon_eq_of_allAt _ _ _ (slab_cover _ _ _ _ _ _ _ _ _ _ _ _) ?_
  unfold gates
  refine View.allAt_cons_unit _ _ _ _ _ (slab_of i s q 10 _ _ fun h => end_slab i x0 x1 x2 0 (by decide) s q (by omega)) ?_
  refine View.allAt_cons_unit _ _ _ _ _ (slab_of i s q 9 _ _ fun h => hi_slab i x0 x1 x2 0 2048 (by decide) (by decide) s q (by omega)) ?_
  refine View.allAt_cons_unit _ _ _ _ _ (slab_of i s q 8 _ _ fun h => lo_slab i x0 x1 x2 0 2048 (by decide) (by decide) s q (by omega)) ?_
  refine View.allAt_cons_unit _ _ _ _ _ (slab_of i s q 7 _ _ fun h => hi_slab i x0 x1 x2 0 1536 (by decide) (by decide) s q (by omega)) ?_
  refine View.allAt_cons_unit _ _ _ _ _ (slab_of i s q 6 _ _ fun h => lo_slab i x0 x1 x2 0 1536 (by decide) (by decide) s q (by omega)) ?_
  refine View.allAt_cons_unit _ _ _ _ _ (slab_of i s q 5 _ _ fun h => hi_slab i x0 x1 x2 0 1024 (by decide) (by decide) s q (by omega)) ?_
  refine View.allAt_cons_unit _ _ _ _ _ (slab_of i s q 4 _ _ fun h => lo_slab i x0 x1 x2 0 1024 (by decide) (by decide) s q (by omega)) ?_
  refine View.allAt_cons_unit _ _ _ _ _ (slab_of i s q 3 _ _ fun h => hi_slab i x0 x1 x2 0 512 (by decide) (by decide) s q (by omega)) ?_
  refine View.allAt_cons_unit _ _ _ _ _ (slab_of i s q 2 _ _ fun h => lo_slab i x0 x1 x2 0 512 (by decide) (by decide) s q (by omega)) ?_
  refine View.allAt_cons_unit _ _ _ _ _ (slab_of i s q 1 _ _ fun h => hi_slab i x0 x1 x2 0 0 (by decide) (by decide) s q (by omega)) ?_
  refine View.allAt_cons_unit _ _ _ _ _ (slab_of i s q 0 _ _ fun h => lo_slab i x0 x1 x2 0 0 (by decide) (by decide) s q (by omega)) ?_
  exact View.allAt_nil _ _

theorem ups_at (s : Fin 11) (q : Fin 256) :
    View.canon (ups (F := Ideal) x0 x1 x2) (ix3 s i q) = pc i x0 x1 x2 1 ⟨256 * s.val + q.val, by omega⟩ := by
  refine View.canon_eq_of_allAt _ _ _ (slab_cover _ _ _ _ _ _ _ _ _ _ _ _) ?_
  unfold ups
  refine View.allAt_cons_unit _ _ _ _ _ (slab_of i s q 10 _ _ fun h => end_slab i x0 x1 x2 1 (by decide) s q (by omega)) ?_
  refine View.allAt_cons_unit _ _ _ _ _ (slab_of i s q 9 _ _ fun h => hi_slab i x0 x1 x2 1 2048 (by decide) (by decide) s q (by omega)) ?_
  refine View.allAt_cons_unit _ _ _ _ _ (slab_of i s q 8 _ _ fun h => lo_slab i x0 x1 x2 1 2048 (by decide) (by decide) s q (by omega)) ?_
  refine View.allAt_cons_unit _ _ _ _ _ (slab_of i s q 7 _ _ fun h => hi_slab i x0 x1 x2 1 1536 (by decide) (by decide) s q (by omega)) ?_
  refine View.allAt_cons_unit _ _ _ _ _ (slab_of i s q 6 _ _ fun h => lo_slab i x0 x1 x2 1 1536 (by decide) (by decide) s q (by omega)) ?_
  refine View.allAt_cons_unit _ _ _ _ _ (slab_of i s q 5 _ _ fun h => hi_slab i x0 x1 x2 1 1024 (by decide) (by decide) s q (by omega)) ?_
  refine View.allAt_cons_unit _ _ _ _ _ (slab_of i s q 4 _ _ fun h => lo_slab i x0 x1 x2 1 1024 (by decide) (by decide) s q (by omega)) ?_
  refine View.allAt_cons_unit _ _ _ _ _ (slab_of i s q 3 _ _ fun h => hi_slab i x0 x1 x2 1 512 (by decide) (by decide) s q (by omega)) ?_
  refine View.allAt_cons_unit _ _ _ _ _ (slab_of i s q 2 _ _ fun h => lo_slab i x0 x1 x2 1 512 (by decide) (by decide) s q (by omega)) ?_
  refine View.allAt_cons_unit _ _ _ _ _ (slab_of i s q 1 _ _ fun h => hi_slab i x0 x1 x2 1 0 (by decide) (by decide) s q (by omega)) ?_
  refine View.allAt_cons_unit _ _ _ _ _ (slab_of i s q 0 _ _ fun h => lo_slab i x0 x1 x2 1 0 (by decide) (by decide) s q (by omega)) ?_
  exact View.allAt_nil _ _

end

/-! ## The reference's stages -/

section
variable (y0 : (⟨S4096x1024, .f32⟩ : BufTy).Contents (Elt Ideal)) (y1 : (⟨S1x1024, .f32⟩ : BufTy).Contents (Elt Ideal)) (y2 : (⟨S3x2816x1024, .bf16⟩ : BufTy).Contents (Elt Ideal))

theorem v24_at (p : Fin 4096) (d : Fin 1024) :
    val_main_v24 (F := Ideal) y0 y1 (ix2 p d) = nrm (fun d => y0 (ix2 p d)) (fun d => y1 (ix2 0 d)) d := by
  pointwise [val_main_v24, val_main_v21, val_main_v20, val_main_v19, val_main_v18, val_main_v16, val_main_v14, val_main_v13, val_main_v12,
    val_main_v23, val_main_v22, val_main_v11, val_main_v17, val_main_v15, val_main_cst, val_main_cst_0, val_main_cst_1, nrm]

theorem v25_at (p : Fin 4096) (c : Fin 2816) :
    val_main_v25 (F := Ideal) y0 y1 y2 (ix2 p c) = col (nrm (fun d => y0 (ix2 p d)) (fun d => y1 (ix2 0 d))) (fun k => y2 (ix3 0 c k)) := by
  rw [← funext (fun d => v24_at y0 y1 p d)]
  unfold val_main_v25
  generalize val_main_v24 (F := Ideal) y0 y1 = y
  pointwise [val_main_v3, val_main_v2, val_main_v1, val_main_v0, col]

theorem v26_at (p : Fin 4096) (c : Fin 2816) :
    val_main_v26 (F := Ideal) y0 y1 y2 (ix2 p c) = col (nrm (fun d => y0 (ix2 p d)) (fun d => y1 (ix2 0 d))) (fun k => y2 (ix3 1 c k)) := by
  rw [← funext (fun d => v24_at y0 y1 p d)]
  unfold val_main_v26
  generalize val_main_v24 (F := Ideal) y0 y1 = y
  pointwise [val_main_v7, val_main_v6, val_main_v5, val_main_v4, col]

theorem lit_one : Ideal.ofBits .f32 0x3F800000#32 = 1 := by
  simp [Ideal.ofBits, Ideal.ieee]
  rw [← EReal.coe_mul, ← EReal.coe_one]
  congr 1
  norm_num

theorem v28_at (p : Fin 4096) (c : Fin 2816) :
    val_main_v28 (F := Ideal) y0 y1 y2 (ix2 p c) = act (val_main_v25 (F := Ideal) y0 y1 y2 (ix2 p c)) (val_main_v26 (F := Ideal) y0 y1 y2 (ix2 p c)) := by
  unfold val_main_v28 val_main_v27 val_main_call0_v5 val_main_call0_v3 val_main_call0_v1 val_main_call0_v0
  generalize val_main_v25 (F := Ideal) y0 y1 y2 = g
  generalize val_main_v26 (F := Ideal) y0 y1 y2 = u
  unfold act Ideal.logistic
  rw [← lit_one]
  pointwise [val_main_call0_v2, val_main_call0_v4, val_main_call0_cst, val_main_call0_cst_0]

theorem v32_at (p : Fin 4096) (d : Fin 1024) :
    val_main_v32 (F := Ideal) y0 y1 y2 (ix2 p d)
      = (y0 (ix2 p d) + Ideal.ofBits .f32 0x3F000000#32 * ∑ k : Fin 2816, val_main_v28 (F := Ideal) y0 y1 y2 (ix2 p k) * y2 (ix3 2 k d) : EReal) := by
  unfold val_main_v32 val_main_v31 val_main_v29
  generalize val_main_v28 (F := Ideal) y0 y1 y2 = y
  pointwise [val_main_v30, val_main_cst_2, val_main_v10, val_main_v9, val_main_v8]

theorem v33_at (p : Fin 4096) (d : Fin 1024) :
    val_main_v33 (F := Ideal) y0 y1 (ix2 p d) = nrm (fun d => y0 (ix2 p d)) (fun d => y1 (ix2 0 d)) d := v24_at y0 y1 p d

theorem v36_at (s : Fin 11) (p : Fin 4096) (q : Fin 256) :
    val_main_v36 (F := Ideal) y0 y1 y2 (ix3 s p q) = val_main_v25 (F := Ideal) y0 y1 y2 (ix2 p ⟨256 * s.val + q.val, by omega⟩) := by
  rw [val_main_v36_apply]
  show val_main_v35 (F := Ideal) y0 y1 y2 (ix3 s p q) = _
  rw [val_main_v35_apply, val_main_v34_apply]
  congr 1
  funext a; apply Fin.ext
  match a with
  | ⟨0, _⟩ => show ((p.val * 11 + s.val) * 256 + q.val) / 2816 = p.val; omega
  | ⟨1, _⟩ => show ((p.val * 11 + s.val) * 256 + q.val) % 2816 = 256 * s.val + q.val; omega

theorem v39_at (s : Fin 11) (p : Fin 4096) (q : Fin 256) :
    val_main_v39 (F := Ideal) y0 y1 y2 (ix3 s p q) = val_main_v26 (F := Ideal) y0 y1 y2 (ix2 p ⟨256 * s.val + q.val, by omega⟩) := by
  rw [val_main_v39_apply]
  show val_main_v38 (F := Ideal) y0 y1 y2 (ix3 s p q) = _
  rw [val_main_v38_apply, val_main_v37_apply]
  congr 1
  funext a; apply Fin.ext
  match a with
  | ⟨0, _⟩ => show ((p.val * 11 + s.val) * 256 + q.val) / 2816 = p.val; omega
  | ⟨1, _⟩ => show ((p.val * 11 + s.val) * 256 + q.val) % 2816 = 256 * s.val + q.val; omega

end

/-! ## The blocks -/

section
variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)

theorem B0 (t : Fin cfg0.N) (r : Fin 512) (d : Fin 1024) (p : Fin 4096) (hp : p.val = 512 * t.val + r.val) :
    iblk m c 0 t (ix2 r d) = (m ((c : Thread nD τ).loc main_arg0)) (ix2 p d) := by
  unfold iblk
  rw [View.read_apply]
  obtain ⟨e0, e1⟩ := idx0 t
  show (m ((c : Thread nD τ).loc main_arg0)) _ = _
  congr 1; funext a; apply Fin.ext
  match a with
  | ⟨0, _⟩ => show win0_0.index t (0 : Fin 2) * 512 + 1 * r.val = p.val; rw [e0, hp]; omega
  | ⟨1, _⟩ => show win0_0.index t (1 : Fin 2) * 1024 + 1 * d.val = d.val; rw [e1]; omega

theorem B1 (t : Fin cfg0.N) (r : Fin 1) (d : Fin 1024) : iblk m c 1 t (ix2 r d) = (m ((c : Thread nD τ).loc main_arg1)) (ix2 r d) := by
  unfold iblk
  rw [View.read_apply]
  obtain ⟨e0, e1⟩ := idx1 t
  show (m ((c : Thread nD τ).loc main_arg1)) _ = _
  congr 1; funext a; apply Fin.ext
  match a with
  | ⟨0, _⟩ => show win0_1.index t (0 : Fin 2) * 1 + 1 * r.val = r.val; rw [e0]; omega
  | ⟨1, _⟩ => show win0_1.index t (1 : Fin 2) * 1024 + 1 * d.val = d.val; rw [e1]; omega

theorem B2 (t : Fin cfg0.N) (j : Fin 3) (r : Fin 2816) (d : Fin 1024) : iblk m c 2 t (ix3 j r d) = (m ((c : Thread nD τ).loc main_arg2)) (ix3 j r d) := by
  unfold iblk
  rw [View.read_apply]
  obtain ⟨e0, e1, e2⟩ := idx2 t
  show (m ((c : Thread nD τ).loc main_arg2)) _ = _
  congr 1; funext a; apply Fin.ext
  match a with
  | ⟨0, _⟩ => show win0_2.index t (0 : Fin 3) * 3 + 1 * j.val = j.val; rw [e0]; omega
  | ⟨1, _⟩ => show win0_2.index t (1 : Fin 3) * 2816 + 1 * r.val = r.val; rw [e1]; omega
  | ⟨2, _⟩ => show win0_2.index t (2 : Fin 3) * 1024 + 1 * d.val = d.val; rw [e2]; omega

/-! ## A row of a block is the reference's row -/

section
variable (t : Fin cfg0.N) (r : Fin 512) (p : Fin 4096) (hp : p.val = 512 * t.val + r.val)
include hp

theorem nrm_row : nrm (fun d => iblk m c 0 t (ix2 r d)) (fun d => iblk m c 1 t (ix2 0 d)) = nrm (fun d => (m ((c : Thread nD τ).loc main_arg0)) (ix2 p d)) (fun d => (m ((c : Thread nD τ).loc main_arg1)) (ix2 0 d)) :=
  congrArg₂ nrm (funext fun d => B0 m c t r d p hp) (funext fun d => B1 m c t 0 d)

theorem pc_row (j : Fin 3) (k : Fin 2816) : pc r (iblk m c 0 t) (iblk m c 1 t) (iblk m c 2 t) j k
    = col (nrm (fun d => (m ((c : Thread nD τ).loc main_arg0)) (ix2 p d)) (fun d => (m ((c : Thread nD τ).loc main_arg1)) (ix2 0 d))) (fun e => (m ((c : Thread nD τ).loc main_arg2)) (ix3 j k e)) :=
  congrArg₂ col (nrm_row m c t r p hp) (funext fun e => B2 m c t j k e)

theorem out4_row (d : Fin 1024) : out4 (F := Ideal) (iblk m c 0 t) (iblk m c 1 t) (ix2 r d) = val_main_v33 (F := Ideal) (m ((c : Thread nD τ).loc main_arg0)) (m ((c : Thread nD τ).loc main_arg1)) (ix2 p d) :=
  (norm_at r _ _ d).trans ((congrFun (nrm_row m c t r p hp) d).trans (v33_at _ _ p d).symm)

theorem out3_row (d : Fin 1024) : out3 (F := Ideal) (iblk m c 0 t) (iblk m c 1 t) (iblk m c 2 t) (ix2 r d) = val_main_v32 (F := Ideal) (m ((c : Thread nD τ).loc main_arg0)) (m ((c : Thread nD τ).loc main_arg1)) (m ((c : Thread nD τ).loc main_arg2)) (ix2 p d) := by
  rw [out3_at, v32_at]
  refine congrArg₂ (fun x y : EReal => (x + Ideal.ofBits .f32 0x3F000000#32 * y : EReal)) (B0 m c t r d p hp) (Finset.sum_congr (M := EReal) rfl fun k _ => ?_)
  rw [v28_at, v25_at, v26_at]
  exact congrArg₂ (fun x y : EReal => x * y) (congrArg₂ act (pc_row m c t r p hp 0 k) (pc_row m c t r p hp 1 k)) (B2 m c t 2 k d)

theorem gates_row (s : Fin 11) (q : Fin 256) : View.canon (gates (F := Ideal) (iblk m c 0 t) (iblk m c 1 t) (iblk m c 2 t)) (ix3 s r q) = val_main_v36 (F := Ideal) (m ((c : Thread nD τ).loc main_arg0)) (m ((c : Thread nD τ).loc main_arg1)) (m ((c : Thread nD τ).loc main_arg2)) (ix3 s p q) := by
  rw [v36_at, v25_at]
  exact (gates_at r _ _ _ s q).trans (pc_row m c t r p hp 0 _)

theorem ups_row (s : Fin 11) (q : Fin 256) : View.canon (ups (F := Ideal) (iblk m c 0 t) (iblk m c 1 t) (iblk m c 2 t)) (ix3 s r q) = val_main_v39 (F := Ideal) (m ((c : Thread nD τ).loc main_arg0)) (m ((c : Thread nD τ).loc main_arg1)) (m ((c : Thread nD τ).loc main_arg2)) (ix3 s p q) := by
  rw [v39_at, v26_at]
  exact (ups_at r _ _ _ s q).trans (pc_row m c t r p hp 1 _)

end

/-! ## The arrays -/

theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne
    ((by decide +kernel : ∀ t t' : Fin grid0.N, win0_3.index t = win0_3.index t' → t = t') t t' h)

theorem apart4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne
    ((by decide +kernel : ∀ t t' : Fin grid0.N, win0_4.index t = win0_4.index t' → t = t') t t' h)

theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne
    ((by decide +kernel : ∀ t t' : Fin grid0.N, win0_6.index t = win0_6.index t' → t = t') t t' h)

theorem arr3 : (dats m 0 c).arrAt 3 cfg0.N = val_main_v32 (F := Ideal) (m ((c : Thread nD τ).loc main_arg0)) (m ((c : Thread nD τ).loc main_arg1)) (m ((c : Thread nD τ).loc main_arg2)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 3 apart3 cfg0.N t t.isLt (flush0_3 _)) (ix2 r d)
  rw [View.read_apply] at b
  have e : ((cfg0.win 3).blk t).view.emb (ix2 r d) = ix2 p d := by
    obtain ⟨e0, e1⟩ := idx3 t
    funext a; apply Fin.ext
    match a with
    | ⟨0, _⟩ => show win0_3.index t (0 : Fin 2) * 512 + 1 * r.val = p.val; rw [e0, et, er]; omega
    | ⟨1, _⟩ => show win0_3.index t (1 : Fin 2) * 1024 + 1 * d.val = d.val; rw [e1]; omega
  rw [e] at b
  refine b.trans ?_
  show (dats m 0 c).after 3 t (ix2 r d) = _
  rw [post_3]
  exact out3_row m c t r p (by rw [et, er]; omega) d

theorem arr4 : (dats m 0 c).arrAt 4 cfg0.N = val_main_v33 (F := Ideal) (m ((c : Thread nD τ).loc main_arg0)) (m ((c : Thread nD τ).loc main_arg1)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 4 apart4 cfg0.N t t.isLt (flush0_4 _)) (ix2 r d)
  rw [View.read_apply] at b
  have e : ((cfg0.win 4).blk t).view.emb (ix2 r d) = ix2 p d := by
    obtain ⟨e0, e1⟩ := idx4 t
    funext a; apply Fin.ext
    match a with
    | ⟨0, _⟩ => show win0_4.index t (0 : Fin 2) * 512 + 1 * r.val = p.val; rw [e0, et, er]; omega
    | ⟨1, _⟩ => show win0_4.index t (1 : Fin 2) * 1024 + 1 * d.val = d.val; rw [e1]; omega
  rw [e] at b
  refine b.trans ?_
  show (dats m 0 c).after 4 t (ix2 r d) = _
  rw [post_4]
  exact out4_row m c t r p (by rw [et, er]; omega) d

theorem arr5 : (dats m 0 c).arrAt 5 cfg0.N = val_main_v36 (F := Ideal) (m ((c : Thread nD τ).loc main_arg0)) (m ((c : Thread nD τ).loc main_arg1)) (m ((c : Thread nD τ).loc main_arg2)) := by
  funext i
  obtain ⟨s, p, q, rfl⟩ : ∃ (s : Fin 11) (p : Fin 4096) (q : Fin 256), i = ix3 s p q := ⟨i 0, i 1, i 2, by funext a; match a with | ⟨0, _⟩ => rfl | ⟨1, _⟩ => rfl | ⟨2, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 5 apart5 cfg0.N t t.isLt (flush0_5 _)) (ix3 s r q)
  rw [View.read_apply] at b
  have e : ((cfg0.win 5).blk t).view.emb (ix3 s r q) = ix3 s p q := by
    obtain ⟨e0, e1, e2⟩ := idx5 t
    funext a; apply Fin.ext
    match a with
    | ⟨0, _⟩ => show win0_5.index t (0 : Fin 3) * 11 + 1 * s.val = s.val; rw [e0]; omega
    | ⟨1, _⟩ => show win0_5.index t (1 : Fin 3) * 512 + 1 * r.val = p.val; rw [e1, et, er]; omega
    | ⟨2, _⟩ => show win0_5.index t (2 : Fin 3) * 256 + 1 * q.val = q.val; rw [e2]; omega
  rw [e] at b
  refine b.trans ?_
  show (dats m 0 c).after 5 t (ix3 s r q) = _
  rw [post_5]
  exact gates_row m c t r p (by rw [et, er]; omega) s q

theorem arr6 : (dats m 0 c).arrAt 6 cfg0.N = val_main_v39 (F := Ideal) (m ((c : Thread nD τ).loc main_arg0)) (m ((c : Thread nD τ).loc main_arg1)) (m ((c : Thread nD τ).loc main_arg2)) := by
  funext i
  obtain ⟨s, p, q, rfl⟩ : ∃ (s : Fin 11) (p : Fin 4096) (q : Fin 256), i = ix3 s p q := ⟨i 0, i 1, i 2, by funext a; match a with | ⟨0, _⟩ => rfl | ⟨1, _⟩ => rfl | ⟨2, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 6 apart6 cfg0.N t t.isLt (flush0_6 _)) (ix3 s r q)
  rw [View.read_apply] at b
  have e : ((cfg0.win 6).blk t).view.emb (ix3 s r q) = ix3 s p q := by
    obtain ⟨e0, e1, e2⟩ := idx6 t
    funext a; apply Fin.ext
    match a with
    | ⟨0, _⟩ => show win0_6.index t (0 : Fin 3) * 11 + 1 * s.val = s.val; rw [e0]; omega
    | ⟨1, _⟩ => show win0_6.index t (1 : Fin 3) * 512 + 1 * r.val = p.val; rw [e1, et, er]; omega
    | ⟨2, _⟩ => show win0_6.index t (2 : Fin 3) * 256 + 1 * q.val = q.val; rw [e2]; omega
  rw [e] at b
  refine b.trans ?_
  show (dats m 0 c).after 6 t (ix3 s r q) = _
  rw [post_6]
  exact ups_row m c t r p (by rw [et, er]; omega) s q

end

end Cert.Kernel4Ideal.Hand

end
-- ==== Proof.F9.Run.lean ====
/- The body of the feed-forward kernel with the loss, run. -/
module

public import proofs.«01_k».proof.Proof.Gen.Kernel9Ideal.Skeleton
public import proofs.«01_k».proof.Proof.Gen.Kernel9Ideal.Launch
public import proofs.«01_k».proof.Proof.Gen.Kernel9Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384
set_option Elab.async false

noncomputable section

namespace Cert.Kernel9Ideal.Hand

open Cert.Kernel9Ideal Cert.Kernel9Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

set_option backward.proofsInPublic true in
set_option maxHeartbeats 16000000 in
/-- The stores of the body into its outputs, last first, what it puts into the two sums, and its run to them, at the first point. -/
noncomputable def runA (c : Dev nD) (i : grid0.Coords) (h1 : k0_cond1 i = 1#1) (h2 : ¬ k0_cond2 i = 1#1) (h3 : k0_cond3 i = 1#1) (h4 : ¬ k0_cond4 i = 1#1) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S11x512x256 .bf16) (harg8 : arg8.IsWhole) (arg9 : Memref sig .tc .vmem S11x512x256 .bf16) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .f32) (harg13 : arg13.IsWhole) (x0 : Vec F S512x1024 .f32) (x1 : Vec F S1x1024 .f32) (x2 : Vec F S3x2816x1024 .bf16) (x3 : Vec F S512x1024 .f32) (x4 : Vec F S1x1024 .f32) (y0 : Vec F S8x128 .f32) (y1 : Vec F S1x1024 .f32) :
    Σ' (p : FVec F S1x1 .f32) (a b : FVec F S512x1024 .f32) (out5 : List (View.Piece (Elt F) S512x1024 .f32)) (out6 : List (View.Piece (Elt F) S512x1024 .bf16)) (out7 : List (View.Piece (Elt F) S11x512x256 .bf16)), { out8 : List (View.Piece (Elt F) S11x512x256 .bf16) //
      ∀ (K : PUnit → sProp 𝕄),
        iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} arg10.view.rep y0) ∗ (arg11.view.loc (c : Thread nD τ) ↦[arg11.view.set]{fullShare} arg11.view.rep y1) ∗ (∃ f, (arg12.view.loc (c : Thread nD τ) ↦[arg12.view.set]{fullShare} f)) ∗ (∃ f, (arg13.view.loc (c : Thread nD τ) ↦[arg13.view.set]{fullShare} f)) ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (∃ f, (arg6.view.loc (c : Thread nD τ) ↦[arg6.view.set]{fullShare} arg6.view.writes (Elt F) f out5)) ∗ (∃ f, (arg7.view.loc (c : Thread nD τ) ↦[arg7.view.set]{fullShare} arg7.view.writes (Elt F) f out6)) ∗ (∃ f, (arg8.view.loc (c : Thread nD τ) ↦[arg8.view.set]{fullShare} arg8.view.writes (Elt F) f out7)) ∗ (∃ f, (arg9.view.loc (c : Thread nD τ) ↦[arg9.view.set]{fullShare} arg9.view.writes (Elt F) f out8)) ∗ (∃ f, (arg10.view.loc (c : Thread nD τ) ↦[arg10.view.set]{fullShare} arg10.view.writes (Elt F) f [⟨Rect.unit (s := S8x128) ![0, 0] S8x128.size inb_S8x128_S8x128_0_0, k0_pay3 p⟩])) ∗ (∃ f, (arg11.view.loc (c : Thread nD τ) ↦[arg11.view.set]{fullShare} arg11.view.writes (Elt F) f [⟨Rect.unit (s := S1x1024) ![0, 0] S1x1024.size inb_S1x1024_S1x1024_0_0, k0_pay2 a b⟩])) ∗ (∃ f, (arg12.view.loc (c : Thread nD τ) ↦[arg12.view.set]{fullShare} f)) ∗ (∃ f, (arg13.view.loc (c : Thread nD τ) ↦[arg13.view.set]{fullShare} f))) -∗ K ⟨⟩))
          ⊢ wp frame (wpE (defs₀ (F := F)) Variants.none c none) Set.univ (cc0_ffn2_fwd i arg1 harg1 arg2 harg2 arg3 harg3 arg4 harg4 arg5 harg5 arg6 harg6 arg7 harg7 arg8 harg8 arg9 harg9 arg10 harg10 arg11 harg11 arg12 harg12 arg13 harg13) K } :=
  ⟨_, _, _, _, _, _, _, fun K => by
    rw [cc0_ffn2_fwd_eq_skeleton]; unfold cc0_ffn2_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨H0, H1, H2, H3, H4, ⟨%f5, H5⟩, ⟨%f6, H6⟩, ⟨%f7, H7⟩, ⟨%f8, H8⟩, H9, H10, ⟨%f11, H11⟩, ⟨%f12, H12⟩, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12⟩

set_option backward.proofsInPublic true in
set_option maxHeartbeats 16000000 in
/-- The stores of the body into its outputs, last first, what it puts into the two sums, and its run to them, at a later point. -/
noncomputable def runB (c : Dev nD) (i : grid0.Coords) (h1 : ¬ k0_cond1 i = 1#1) (h2 : k0_cond2 i = 1#1) (h3 : ¬ k0_cond3 i = 1#1) (h4 : k0_cond4 i = 1#1) (arg1 : Memref sig .tc .vmem S512x1024 .f32) (harg1 : arg1.IsWhole) (arg2 : Memref sig .tc .vmem S1x1024 .f32) (harg2 : arg2.IsWhole) (arg3 : Memref sig .tc .vmem S3x2816x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S11x512x256 .bf16) (harg8 : arg8.IsWhole) (arg9 : Memref sig .tc .vmem S11x512x256 .bf16) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .f32) (harg13 : arg13.IsWhole) (x0 : Vec F S512x1024 .f32) (x1 : Vec F S1x1024 .f32) (x2 : Vec F S3x2816x1024 .bf16) (x3 : Vec F S512x1024 .f32) (x4 : Vec F S1x1024 .f32) (y0 : Vec F S8x128 .f32) (y1 : Vec F S1x1024 .f32) :
    Σ' (p : FVec F S1x1 .f32) (a b : FVec F S512x1024 .f32) (out5 : List (View.Piece (Elt F) S512x1024 .f32)) (out6 : List (View.Piece (Elt F) S512x1024 .bf16)) (out7 : List (View.Piece (Elt F) S11x512x256 .bf16)), { out8 : List (View.Piece (Elt F) S11x512x256 .bf16) //
      ∀ (K : PUnit → sProp 𝕄),
        iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} arg10.view.rep y0) ∗ (arg11.view.loc (c : Thread nD τ) ↦[arg11.view.set]{fullShare} arg11.view.rep y1) ∗ (∃ f, (arg12.view.loc (c : Thread nD τ) ↦[arg12.view.set]{fullShare} f)) ∗ (∃ f, (arg13.view.loc (c : Thread nD τ) ↦[arg13.view.set]{fullShare} f)) ∗ (iprop((arg1.view.loc (c : Thread nD τ) ↦[arg1.view.set]{fullShare} arg1.view.rep x0) ∗ (arg2.view.loc (c : Thread nD τ) ↦[arg2.view.set]{fullShare} arg2.view.rep x1) ∗ (arg3.view.loc (c : Thread nD τ) ↦[arg3.view.set]{fullShare} arg3.view.rep x2) ∗ (arg4.view.loc (c : Thread nD τ) ↦[arg4.view.set]{fullShare} arg4.view.rep x3) ∗ (arg5.view.loc (c : Thread nD τ) ↦[arg5.view.set]{fullShare} arg5.view.rep x4) ∗ (∃ f, (arg6.view.loc (c : Thread nD τ) ↦[arg6.view.set]{fullShare} arg6.view.writes (Elt F) f out5)) ∗ (∃ f, (arg7.view.loc (c : Thread nD τ) ↦[arg7.view.set]{fullShare} arg7.view.writes (Elt F) f out6)) ∗ (∃ f, (arg8.view.loc (c : Thread nD τ) ↦[arg8.view.set]{fullShare} arg8.view.writes (Elt F) f out7)) ∗ (∃ f, (arg9.view.loc (c : Thread nD τ) ↦[arg9.view.set]{fullShare} arg9.view.writes (Elt F) f out8)) ∗ (∃ f, (arg10.view.loc (c : Thread nD τ) ↦[arg10.view.set]{fullShare} arg10.view.writes (Elt F) f [⟨Rect.unit (s := S8x128) ![0, 0] S8x128.size inb_S8x128_S8x128_0_0, k0_pay4 p (arg10.view.readAt (Elt F) (Rect.unit (s := S8x128) ![0, 0] S8x128.size inb_S8x128_S8x128_0_0).toLoadRect (arg10.view.rep y0))⟩])) ∗ (∃ f, (arg11.view.loc (c : Thread nD τ) ↦[arg11.view.set]{fullShare} arg11.view.writes (Elt F) f [⟨Rect.unit (s := S1x1024) ![0, 0] S1x1024.size inb_S1x1024_S1x1024_0_0, k0_pay5 a b (arg11.view.readAt (Elt F) (Rect.unit (s := S1x1024) ![0, 0] S1x1024.size inb_S1x1024_S1x1024_0_0).toLoadRect (arg11.view.rep y1))⟩])) ∗ (∃ f, (arg12.view.loc (c : Thread nD τ) ↦[arg12.view.set]{fullShare} f)) ∗ (∃ f, (arg13.view.loc (c : Thread nD τ) ↦[arg13.view.set]{fullShare} f))) -∗ K ⟨⟩))
          ⊢ wp frame (wpE (defs₀ (F := F)) Variants.none c none) Set.univ (cc0_ffn2_fwd i arg1 harg1 arg2 harg2 arg3 harg3 arg4 harg4 arg5 harg5 arg6 harg6 arg7 harg7 arg8 harg8 arg9 harg9 arg10 harg10 arg11 harg11 arg12 harg12 arg13 harg13) K } :=
  ⟨_, _, _, _, _, _, _, fun K => by
    rw [cc0_ffn2_fwd_eq_skeleton]; unfold cc0_ffn2_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨H0, H1, H2, H3, H4, ⟨%f5, H5⟩, ⟨%f6, H6⟩, ⟨%f7, H7⟩, ⟨%f8, H8⟩, H9, H10, ⟨%f11, H11⟩, ⟨%f12, H12⟩, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12⟩

end Cert.Kernel9Ideal.Hand

end
-- ==== Proof.F9.Outs.lean ====
/- What the body of the feed-forward kernel with the loss leaves in its outputs, from its input blocks. -/
module

public import proofs.«01_k».proof.Proof.F9.Run

@[expose] public section

set_option maxRecDepth 16384

noncomputable section

namespace Cert.Kernel9Ideal.Hand

open Cert.Kernel9Ideal Cert.Kernel9Ideal.Gen
open Idealize.ShloMosaic
open Idealize.ShloMosaic.TcCoe

variable {F : FTy → Type} [FloatOps F]

/-- The normalised rows as the body keeps them for its products. -/
def nb (x0 : Vec F S512x1024 .f32) (x1 : Vec F S1x1024 .f32) : Vec F S512x1024 .bf16 := k0_pay7 x0 x1

theorem wd_inb (j o : ℕ) (hj : j < 3) (ho : o + 512 ≤ 2816) : ∀ a, (![j, o, 0] : Fin 3 → ℕ) a + S1x512x1024.size a ≤ S3x2816x1024.size a := by
  intro a; match a with
  | ⟨0, _⟩ => exact hj
  | ⟨1, _⟩ => exact ho
  | ⟨2, _⟩ => exact Nat.le_refl 1024

theorem wl_inb (j : ℕ) (hj : j < 3) : ∀ a, (![j, 2560, 0] : Fin 3 → ℕ) a + S1x256x1024.size a ≤ S3x2816x1024.size a := by
  intro a; match a with
  | ⟨0, _⟩ => exact hj
  | ⟨1, _⟩ => exact Nat.le_refl 2816
  | ⟨2, _⟩ => exact Nat.le_refl 1024

theorem slab_inb (s : ℕ) (hs : s < 11) : ∀ a, (![s, 0, 0] : Fin 3 → ℕ) a + S1x512x256.size a ≤ S11x512x256.size a := by
  intro a; match a with
  | ⟨0, _⟩ => exact hs
  | ⟨1, _⟩ => exact Nat.le_refl 512
  | ⟨2, _⟩ => exact Nat.le_refl 256

/-- The 512 rows of plane `j` of the weights from row `o`. -/
def wd (x2 : Vec F S3x2816x1024 .bf16) (j o : ℕ) (hj : j < 3) (ho : o + 512 ≤ 2816) : Vec F S1x512x1024 .bf16 :=
  View.ld x2 (Rect.unit (s := S3x2816x1024) ![j, o, 0] S1x512x1024.size (wd_inb j o hj ho))

/-- The last 256 rows of plane `j` of the weights. -/
def wl (x2 : Vec F S3x2816x1024 .bf16) (j : ℕ) (hj : j < 3) : Vec F S1x256x1024 .bf16 :=
  View.ld x2 (Rect.unit (s := S3x2816x1024) ![j, 2560, 0] S1x256x1024.size (wl_inb j hj))

/-- The sum after 1 tile. -/
def acc1 (x0 : Vec F S512x1024 .f32) (x1 : Vec F S1x1024 .f32) (x2 : Vec F S3x2816x1024 .bf16) : Vec F S512x1024 .f32 :=
  k0_pay17 k0_pay8 (k0_pay15 (nb x0 x1) (k0_pay9 (nb x0 x1) (wd x2 0 0 (by decide) (by decide))) (wd x2 1 0 (by decide) (by decide))) (k0_pay16 (wd x2 2 0 (by decide) (by decide)))

/-- The sum after 2 tiles. -/
def acc2 (x0 : Vec F S512x1024 .f32) (x1 : Vec F S1x1024 .f32) (x2 : Vec F S3x2816x1024 .bf16) : Vec F S512x1024 .f32 :=
  k0_pay25 (acc1 x0 x1 x2) (k0_pay18 (nb x0 x1) (wd x2 0 512 (by decide) (by decide))) (k0_pay19 (nb x0 x1) (wd x2 1 512 (by decide) (by decide))) (wd x2 2 512 (by decide) (by decide))

/-- The sum after 3 tiles. -/
def acc3 (x0 : Vec F S512x1024 .f32) (x1 : Vec F S1x1024 .f32) (x2 : Vec F S3x2816x1024 .bf16) : Vec F S512x1024 .f32 :=
  k0_pay33 (k0_pay32 (acc2 x0 x1 x2) (nb x0 x1) (k0_pay26 (nb x0 x1) (wd x2 0 1024 (by decide) (by decide))) (wd x2 1 1024 (by decide) (by decide)) (wd x2 2 1024 (by decide) (by decide)))

/-- The sum after 4 tiles. -/
def acc4 (x0 : Vec F S512x1024 .f32) (x1 : Vec F S1x1024 .f32) (x2 : Vec F S3x2816x1024 .bf16) : Vec F S512x1024 .f32 :=
  k0_pay41 (acc3 x0 x1 x2) (k0_pay34 (nb x0 x1) (wd x2 0 1536 (by decide) (by decide))) (k0_pay35 (nb x0 x1) (wd x2 1 1536 (by decide) (by decide))) (wd x2 2 1536 (by decide) (by decide))

/-- The sum after 5 tiles. -/
def acc5 (x0 : Vec F S512x1024 .f32) (x1 : Vec F S1x1024 .f32) (x2 : Vec F S3x2816x1024 .bf16) : Vec F S512x1024 .f32 :=
  k0_pay49 (acc4 x0 x1 x2) (k0_pay42 (nb x0 x1) (wd x2 0 2048 (by decide) (by decide))) (k0_pay43 (nb x0 x1) (wd x2 1 2048 (by decide) (by decide))) (wd x2 2 2048 (by decide) (by decide))

/-- The sum after 6 tiles. -/
def acc6 (x0 : Vec F S512x1024 .f32) (x1 : Vec F S1x1024 .f32) (x2 : Vec F S3x2816x1024 .bf16) : Vec F S512x1024 .f32 :=
  k0_pay54 (acc5 x0 x1 x2) (nb x0 x1) (wl x2 0 (by decide)) (wl x2 1 (by decide)) (wl x2 2 (by decide))

/-- Half the sum of the rows' mean squared errors. -/
def outP (x0 : Vec F S512x1024 .f32) (x1 : Vec F S1x1024 .f32) (x2 : Vec F S3x2816x1024 .bf16) (x3 : Vec F S512x1024 .f32) (x4 : Vec F S1x1024 .f32) : FVec F S1x1 .f32 := k0_pay58 x0 (acc6 x0 x1 x2) x4 x3

/-- The errors over the number of columns. -/
def outE (x0 : Vec F S512x1024 .f32) (x1 : Vec F S1x1024 .f32) (x2 : Vec F S3x2816x1024 .bf16) (x3 : Vec F S512x1024 .f32) (x4 : Vec F S1x1024 .f32) : FVec F S512x1024 .f32 := k0_pay59 x0 (acc6 x0 x1 x2) x4 x3

/-- The normalised rows of the block's result. -/
def outN (x0 : Vec F S512x1024 .f32) (x1 : Vec F S1x1024 .f32) (x2 : Vec F S3x2816x1024 .bf16) : FVec F S512x1024 .f32 := k0_pay60 x0 (acc6 x0 x1 x2)

def out5 (x0 : Vec F S512x1024 .f32) (x1 : Vec F S1x1024 .f32) (x2 : Vec F S3x2816x1024 .bf16) (x3 : Vec F S512x1024 .f32) (x4 : Vec F S1x1024 .f32) : Vec F S512x1024 .f32 := k0_pay1 (k0_pay56 x0 (acc6 x0 x1 x2)) (k0_pay61 x0 (acc6 x0 x1 x2) x4 x3)

def out6 (x0 : Vec F S512x1024 .f32) (x1 : Vec F S1x1024 .f32) : Vec F S512x1024 .bf16 := k0_pay6 x0 x1

/-- The gate's slabs, last first. -/
def gates (x0 : Vec F S512x1024 .f32) (x1 : Vec F S1x1024 .f32) (x2 : Vec F S3x2816x1024 .bf16) : List (View.Piece (Elt F) S11x512x256 .bf16) :=
  [⟨Rect.unit (s := S11x512x256) ![10, 0, 0] S1x512x256.size (slab_inb 10 (by decide)), k0_pay52 (nb x0 x1) (wl x2 0 (by decide))⟩,
   ⟨Rect.unit (s := S11x512x256) ![9, 0, 0] S1x512x256.size (slab_inb 9 (by decide)), k0_pay47 (k0_pay42 (nb x0 x1) (wd x2 0 2048 (by decide) (by decide)))⟩,
   ⟨Rect.unit (s := S11x512x256) ![8, 0, 0] S1x512x256.size (slab_inb 8 (by decide)), k0_pay45 (k0_pay44 (nb x0 x1) (wd x2 0 2048 (by decide) (by decide)))⟩,
   ⟨Rect.unit (s := S11x512x256) ![7, 0, 0] S1x512x256.size (slab_inb 7 (by decide)), k0_pay39 (k0_pay38 (nb x0 x1) (wd x2 0 1536 (by decide) (by decide)))⟩,
   ⟨Rect.unit (s := S11x512x256) ![6, 0, 0] S1x512x256.size (slab_inb 6 (by decide)), k0_pay36 (nb x0 x1) (wd x2 0 1536 (by decide) (by decide))⟩,
   ⟨Rect.unit (s := S11x512x256) ![5, 0, 0] S1x512x256.size (slab_inb 5 (by decide)), k0_pay30 (k0_pay26 (nb x0 x1) (wd x2 0 1024 (by decide) (by decide)))⟩,
   ⟨Rect.unit (s := S11x512x256) ![4, 0, 0] S1x512x256.size (slab_inb 4 (by decide)), k0_pay28 (k0_pay26 (nb x0 x1) (wd x2 0 1024 (by decide) (by decide)))⟩,
   ⟨Rect.unit (s := S11x512x256) ![3, 0, 0] S1x512x256.size (slab_inb 3 (by decide)), k0_pay23 (k0_pay22 (nb x0 x1) (wd x2 0 512 (by decide) (by decide)))⟩,
   ⟨Rect.unit (s := S11x512x256) ![2, 0, 0] S1x512x256.size (slab_inb 2 (by decide)), k0_pay20 (nb x0 x1) (wd x2 0 512 (by decide) (by decide))⟩,
   ⟨Rect.unit (s := S11x512x256) ![1, 0, 0] S1x512x256.size (slab_inb 1 (by decide)), k0_pay13 (k0_pay9 (nb x0 x1) (wd x2 0 0 (by decide) (by decide)))⟩,
   ⟨Rect.unit (s := S11x512x256) ![0, 0, 0] S1x512x256.size (slab_inb 0 (by decide)), k0_pay11 (k0_pay9 (nb x0 x1) (wd x2 0 0 (by decide) (by decide)))⟩]

/-- The up projection's slabs, last first. -/
def ups (x0 : Vec F S512x1024 .f32) (x1 : Vec F S1x1024 .f32) (x2 : Vec F S3x2816x1024 .bf16) : List (View.Piece (Elt F) S11x512x256 .bf16) :=
  [⟨Rect.unit (s := S11x512x256) ![10, 0, 0] S1x512x256.size (slab_inb 10 (by decide)), k0_pay53 (nb x0 x1) (wl x2 1 (by decide))⟩,
   ⟨Rect.unit (s := S11x512x256) ![9, 0, 0] S1x512x256.size (slab_inb 9 (by decide)), k0_pay48 (k0_pay43 (nb x0 x1) (wd x2 1 2048 (by decide) (by decide)))⟩,
   ⟨Rect.unit (s := S11x512x256) ![8, 0, 0] S1x512x256.size (slab_inb 8 (by decide)), k0_pay46 (k0_pay43 (nb x0 x1) (wd x2 1 2048 (by decide) (by decide)))⟩,
   ⟨Rect.unit (s := S11x512x256) ![7, 0, 0] S1x512x256.size (slab_inb 7 (by decide)), k0_pay40 (k0_pay35 (nb x0 x1) (wd x2 1 1536 (by decide) (by decide)))⟩,
   ⟨Rect.unit (s := S11x512x256) ![6, 0, 0] S1x512x256.size (slab_inb 6 (by decide)), k0_pay37 (nb x0 x1) (wd x2 1 1536 (by decide) (by decide))⟩,
   ⟨Rect.unit (s := S11x512x256) ![5, 0, 0] S1x512x256.size (slab_inb 5 (by decide)), k0_pay31 (nb x0 x1) (wd x2 1 1024 (by decide) (by decide))⟩,
   ⟨Rect.unit (s := S11x512x256) ![4, 0, 0] S1x512x256.size (slab_inb 4 (by decide)), k0_pay29 (nb x0 x1) (wd x2 1 1024 (by decide) (by decide))⟩,
   ⟨Rect.unit (s := S11x512x256) ![3, 0, 0] S1x512x256.size (slab_inb 3 (by decide)), k0_pay24 (k0_pay19 (nb x0 x1) (wd x2 1 512 (by decide) (by decide)))⟩,
   ⟨Rect.unit (s := S11x512x256) ![2, 0, 0] S1x512x256.size (slab_inb 2 (by decide)), k0_pay21 (nb x0 x1) (wd x2 1 512 (by decide) (by decide))⟩,
   ⟨Rect.unit (s := S11x512x256) ![1, 0, 0] S1x512x256.size (slab_inb 1 (by decide)), k0_pay14 (nb x0 x1) (wd x2 1 0 (by decide) (by decide))⟩,
   ⟨Rect.unit (s := S11x512x256) ![0, 0, 0] S1x512x256.size (slab_inb 0 (by decide)), k0_pay12 (nb x0 x1) (wd x2 1 0 (by decide) (by decide))⟩]

theorem slab_cover (p0 p1 p2 p3 p4 p5 p6 p7 p8 p9 p10 : Vec F S1x512x256 .bf16) (y : S11x512x256.Idx) :
    ∃ pc ∈ ([⟨Rect.unit (s := S11x512x256) ![10, 0, 0] S1x512x256.size (slab_inb 10 (by decide)), p0⟩, ⟨Rect.unit (s := S11x512x256) ![9, 0, 0] S1x512x256.size (slab_inb 9 (by decide)), p1⟩, ⟨Rect.unit (s := S11x512x256) ![8, 0, 0] S1x512x256.size (slab_inb 8 (by decide)), p2⟩, ⟨Rect.unit (s := S11x512x256) ![7, 0, 0] S1x512x256.size (slab_inb 7 (by decide)), p3⟩, ⟨Rect.unit (s := S11x512x256) ![6, 0, 0] S1x512x256.size (slab_inb 6 (by decide)), p4⟩, ⟨Rect.unit (s := S11x512x256) ![5, 0, 0] S1x512x256.size (slab_inb 5 (by decide)), p5⟩, ⟨Rect.unit (s := S11x512x256) ![4, 0, 0] S1x512x256.size (slab_inb 4 (by decide)), p6⟩, ⟨Rect.unit (s := S11x512x256) ![3, 0, 0] S1x512x256.size (slab_inb 3 (by decide)), p7⟩, ⟨Rect.unit (s := S11x512x256) ![2, 0, 0] S1x512x256.size (slab_inb 2 (by decide)), p8⟩, ⟨Rect.unit (s := S11x512x256) ![1, 0, 0] S1x512x256.size (slab_inb 1 (by decide)), p9⟩, ⟨Rect.unit (s := S11x512x256) ![0, 0, 0] S1x512x256.size (slab_inb 0 (by decide)), p10⟩] : List (View.Piece (Elt F) S11x512x256 .bf16)), y ∈ pc.1.set :=
  View.cover_of_tiled [⟨Rect.unit (s := S11x512x256) ![10, 0, 0] S1x512x256.size (slab_inb 10 (by decide)), p0⟩, ⟨Rect.unit (s := S11x512x256) ![9, 0, 0] S1x512x256.size (slab_inb 9 (by decide)), p1⟩, ⟨Rect.unit (s := S11x512x256) ![8, 0, 0] S1x512x256.size (slab_inb 8 (by decide)), p2⟩, ⟨Rect.unit (s := S11x512x256) ![7, 0, 0] S1x512x256.size (slab_inb 7 (by decide)), p3⟩, ⟨Rect.unit (s := S11x512x256) ![6, 0, 0] S1x512x256.size (slab_inb 6 (by decide)), p4⟩, ⟨Rect.unit (s := S11x512x256) ![5, 0, 0] S1x512x256.size (slab_inb 5 (by decide)), p5⟩, ⟨Rect.unit (s := S11x512x256) ![4, 0, 0] S1x512x256.size (slab_inb 4 (by decide)), p6⟩, ⟨Rect.unit (s := S11x512x256) ![3, 0, 0] S1x512x256.size (slab_inb 3 (by decide)), p7⟩, ⟨Rect.unit (s := S11x512x256) ![2, 0, 0] S1x512x256.size (slab_inb 2 (by decide)), p8⟩, ⟨Rect.unit (s := S11x512x256) ![1, 0, 0] S1x512x256.size (slab_inb 1 (by decide)), p9⟩, ⟨Rect.unit (s := S11x512x256) ![0, 0, 0] S1x512x256.size (slab_inb 0 (by decide)), p10⟩] S1x512x256.size (by rfl) y

/-! ## The loads -/

theorem rd {sp : Space} {s : Shape} {e : EltTy} (v : View sig .tc sp s e) (r : Rect s) (x : s.Idx → Elt F e) :
    v.readAt (Elt F) r.toLoadRect (v.rep x) = View.ld x r := (View.readAt_rep v _ x).trans rfl

theorem rd1 (arg1 : Memref sig .tc .vmem S512x1024 .f32) (x0 : S512x1024.Idx → Elt F .f32) :
    arg1.view.readAt (Elt F) (Rect.unit (s := S512x1024) ![0, 0] S512x1024.size inb_S512x1024_S512x1024_0_0).toLoadRect (arg1.view.rep x0) = x0 :=
  View.readAt_rep_full arg1.view x0 _

theorem rd2 (arg2 : Memref sig .tc .vmem S1x1024 .f32) (x1 : S1x1024.Idx → Elt F .f32) :
    arg2.view.readAt (Elt F) (Rect.unit (s := S1x1024) ![0, 0] S1x1024.size inb_S1x1024_S1x1024_0_0).toLoadRect (arg2.view.rep x1) = x1 :=
  View.readAt_rep_full arg2.view x1 _

/-- A load of 512 rows of the weights. -/
def qw (arg3 : Memref sig .tc .vmem S3x2816x1024 .bf16) (x2 : Vec F S3x2816x1024 .bf16) (j o : ℕ) (hj : j < 3) (ho : o + 512 ≤ 2816) : Vec F S1x512x1024 .bf16 :=
  arg3.view.readAt (Elt F) (Rect.unit (s := S3x2816x1024) ![j, o, 0] S1x512x1024.size (wd_inb j o hj ho)).toLoadRect (arg3.view.rep x2)

/-- A load of the last 256 rows of the weights. -/
def ql (arg3 : Memref sig .tc .vmem S3x2816x1024 .bf16) (x2 : Vec F S3x2816x1024 .bf16) (j : ℕ) (hj : j < 3) : Vec F S1x256x1024 .bf16 :=
  arg3.view.readAt (Elt F) (Rect.unit (s := S3x2816x1024) ![j, 2560, 0] S1x256x1024.size (wl_inb j hj)).toLoadRect (arg3.view.rep x2)

theorem qw_eq (arg3 : Memref sig .tc .vmem S3x2816x1024 .bf16) (x2 : Vec F S3x2816x1024 .bf16) (j o : ℕ) (hj : j < 3) (ho : o + 512 ≤ 2816) :
    qw arg3 x2 j o hj ho = wd x2 j o hj ho := rd _ _ _

theorem ql_eq (arg3 : Memref sig .tc .vmem S3x2816x1024 .bf16) (x2 : Vec F S3x2816x1024 .bf16) (j : ℕ) (hj : j < 3) :
    ql arg3 x2 j hj = wl x2 j hj := rd _ _ _

variable {arg1 : Memref sig .tc .vmem S512x1024 .f32} {arg2 : Memref sig .tc .vmem S1x1024 .f32} {arg3 : Memref sig .tc .vmem S3x2816x1024 .bf16} {arg12 : Memref sig .tc .vmem S512x1024 .bf16} {arg13 : Memref sig .tc .vmem S512x1024 .f32} {x0 : Vec F S512x1024 .f32} {x1 : Vec F S1x1024 .f32} {x2 : Vec F S3x2816x1024 .bf16}

theorem v27_eq : runA.sl.v27 arg1 arg2 arg12 x0 x1 = nb x0 x1 :=
  (View.readCov_full arg12.view _ _ _ _).trans (congrArg₂ k0_pay7 (rd1 arg1 x0) (rd2 arg2 x1))

theorem v23_eq : runA.sl.v23 (F := F) arg13 = k0_pay8 := View.readCov_full arg13.view _ _ _ _

theorem v76_eq : runA.sl.v76 arg1 arg2 arg3 arg12 arg13 x0 x1 x2 = acc1 x0 x1 x2 := by
  refine (View.readCov_full arg13.view _ _ _ _).trans ?_
  show k0_pay17 (runA.sl.v23 arg13) (k0_pay15 (runA.sl.v27 arg1 arg2 arg12 x0 x1) (k0_pay9 (runA.sl.v27 arg1 arg2 arg12 x0 x1) (qw arg3 x2 0 0 (by decide) (by decide))) (qw arg3 x2 1 0 (by decide) (by decide))) (k0_pay16 (qw arg3 x2 2 0 (by decide) (by decide))) = _
  simp only [v27_eq, v23_eq, qw_eq, ql_eq]
  rfl

theorem v129_eq : runA.sl.v129 arg1 arg2 arg3 arg12 arg13 x0 x1 x2 = acc2 x0 x1 x2 := by
  refine (View.readCov_full arg13.view _ _ _ _).trans ?_
  show k0_pay25 (runA.sl.v76 arg1 arg2 arg3 arg12 arg13 x0 x1 x2) (k0_pay18 (runA.sl.v27 arg1 arg2 arg12 x0 x1) (qw arg3 x2 0 512 (by decide) (by decide))) (k0_pay19 (runA.sl.v27 arg1 arg2 arg12 x0 x1) (qw arg3 x2 1 512 (by decide) (by decide))) (qw arg3 x2 2 512 (by decide) (by decide)) = _
  simp only [v27_eq, v76_eq, qw_eq, ql_eq]
  rfl

theorem v182_eq : runA.sl.v182 arg1 arg2 arg3 arg12 arg13 x0 x1 x2 = acc3 x0 x1 x2 := by
  refine (View.readCov_full arg13.view _ _ _ _).trans ?_
  show k0_pay33 (k0_pay32 (runA.sl.v129 arg1 arg2 arg3 arg12 arg13 x0 x1 x2) (runA.sl.v27 arg1 arg2 arg12 x0 x1) (k0_pay26 (runA.sl.v27 arg1 arg2 arg12 x0 x1) (qw arg3 x2 0 1024 (by decide) (by decide))) (qw arg3 x2 1 1024 (by decide) (by decide)) (qw arg3 x2 2 1024 (by decide) (by decide))) = _
  simp only [v27_eq, v129_eq, qw_eq, ql_eq]
  rfl

theorem v235_eq : runA.sl.v235 arg1 arg2 arg3 arg12 arg13 x0 x1 x2 = acc4 x0 x1 x2 := by
  refine (View.readCov_full arg13.view _ _ _ _).trans ?_
  show k0_pay41 (runA.sl.v182 arg1 arg2 arg3 arg12 arg13 x0 x1 x2) (k0_pay34 (runA.sl.v27 arg1 arg2 arg12 x0 x1) (qw arg3 x2 0 1536 (by decide) (by decide))) (k0_pay35 (runA.sl.v27 arg1 arg2 arg12 x0 x1) (qw arg3 x2 1 1536 (by decide) (by decide))) (qw arg3 x2 2 1536 (by decide) (by decide)) = _
  simp only [v27_eq, v182_eq, qw_eq, ql_eq]
  rfl

theorem v288_eq : runA.sl.v288 arg1 arg2 arg3 arg12 arg13 x0 x1 x2 = acc5 x0 x1 x2 := by
  refine (View.readCov_full arg13.view _ _ _ _).trans ?_
  show k0_pay49 (runA.sl.v235 arg1 arg2 arg3 arg12 arg13 x0 x1 x2) (k0_pay42 (runA.sl.v27 arg1 arg2 arg12 x0 x1) (qw arg3 x2 0 2048 (by decide) (by decide))) (k0_pay43 (runA.sl.v27 arg1 arg2 arg12 x0 x1) (qw arg3 x2 1 2048 (by decide) (by decide))) (qw arg3 x2 2 2048 (by decide) (by decide)) = _
  simp only [v27_eq, v235_eq, qw_eq, ql_eq]
  rfl

theorem v320_eq : runA.sl.v320 arg1 arg2 arg3 arg12 arg13 x0 x1 x2 = acc6 x0 x1 x2 := by
  refine (View.readCov_full arg13.view _ _ _ _).trans ?_
  show k0_pay54 (runA.sl.v288 arg1 arg2 arg3 arg12 arg13 x0 x1 x2) (runA.sl.v27 arg1 arg2 arg12 x0 x1) (ql arg3 x2 0 (by decide)) (ql arg3 x2 1 (by decide)) (ql arg3 x2 2 (by decide)) = _
  simp only [v27_eq, v288_eq, qw_eq, ql_eq]
  rfl

theorem gates_eq : runA.sl.H7_11 arg1 arg2 arg3 arg12 x0 x1 x2 = gates x0 x1 x2 := by
  show ([⟨Rect.unit (s := S11x512x256) ![10, 0, 0] S1x512x256.size (slab_inb 10 (by decide)), k0_pay52 (runA.sl.v27 arg1 arg2 arg12 x0 x1) (ql arg3 x2 0 (by decide))⟩,
   ⟨Rect.unit (s := S11x512x256) ![9, 0, 0] S1x512x256.size (slab_inb 9 (by decide)), k0_pay47 (k0_pay42 (runA.sl.v27 arg1 arg2 arg12 x0 x1) (qw arg3 x2 0 2048 (by decide) (by decide)))⟩,
   ⟨Rect.unit (s := S11x512x256) ![8, 0, 0] S1x512x256.size (slab_inb 8 (by decide)), k0_pay45 (k0_pay44 (runA.sl.v27 arg1 arg2 arg12 x0 x1) (qw arg3 x2 0 2048 (by decide) (by decide)))⟩,
   ⟨Rect.unit (s := S11x512x256) ![7, 0, 0] S1x512x256.size (slab_inb 7 (by decide)), k0_pay39 (k0_pay38 (runA.sl.v27 arg1 arg2 arg12 x0 x1) (qw arg3 x2 0 1536 (by decide) (by decide)))⟩,
   ⟨Rect.unit (s := S11x512x256) ![6, 0, 0] S1x512x256.size (slab_inb 6 (by decide)), k0_pay36 (runA.sl.v27 arg1 arg2 arg12 x0 x1) (qw arg3 x2 0 1536 (by decide) (by decide))⟩,
   ⟨Rect.unit (s := S11x512x256) ![5, 0, 0] S1x512x256.size (slab_inb 5 (by decide)), k0_pay30 (k0_pay26 (runA.sl.v27 arg1 arg2 arg12 x0 x1) (qw arg3 x2 0 1024 (by decide) (by decide)))⟩,
   ⟨Rect.unit (s := S11x512x256) ![4, 0, 0] S1x512x256.size (slab_inb 4 (by decide)), k0_pay28 (k0_pay26 (runA.sl.v27 arg1 arg2 arg12 x0 x1) (qw arg3 x2 0 1024 (by decide) (by decide)))⟩,
   ⟨Rect.unit (s := S11x512x256) ![3, 0, 0] S1x512x256.size (slab_inb 3 (by decide)), k0_pay23 (k0_pay22 (runA.sl.v27 arg1 arg2 arg12 x0 x1) (qw arg3 x2 0 512 (by decide) (by decide)))⟩,
   ⟨Rect.unit (s := S11x512x256) ![2, 0, 0] S1x512x256.size (slab_inb 2 (by decide)), k0_pay20 (runA.sl.v27 arg1 arg2 arg12 x0 x1) (qw arg3 x2 0 512 (by decide) (by decide))⟩,
   ⟨Rect.unit (s := S11x512x256) ![1, 0, 0] S1x512x256.size (slab_inb 1 (by decide)), k0_pay13 (k0_pay9 (runA.sl.v27 arg1 arg2 arg12 x0 x1) (qw arg3 x2 0 0 (by decide) (by decide)))⟩,
   ⟨Rect.unit (s := S11x512x256) ![0, 0, 0] S1x512x256.size (slab_inb 0 (by decide)), k0_pay11 (k0_pay9 (runA.sl.v27 arg1 arg2 arg12 x0 x1) (qw arg3 x2 0 0 (by decide) (by decide)))⟩] : List (View.Piece (Elt F) S11x512x256 .bf16)) = _
  simp only [v27_eq, qw_eq, ql_eq]
  rfl

theorem ups_eq : runA.sl.H8_11 arg1 arg2 arg3 arg12 x0 x1 x2 = ups x0 x1 x2 := by
  show ([⟨Rect.unit (s := S11x512x256) ![10, 0, 0] S1x512x256.size (slab_inb 10 (by decide)), k0_pay53 (runA.sl.v27 arg1 arg2 arg12 x0 x1) (ql arg3 x2 1 (by decide))⟩,
   ⟨Rect.unit (s := S11x512x256) ![9, 0, 0] S1x512x256.size (slab_inb 9 (by decide)), k0_pay48 (k0_pay43 (runA.sl.v27 arg1 arg2 arg12 x0 x1) (qw arg3 x2 1 2048 (by decide) (by decide)))⟩,
   ⟨Rect.unit (s := S11x512x256) ![8, 0, 0] S1x512x256.size (slab_inb 8 (by decide)), k0_pay46 (k0_pay43 (runA.sl.v27 arg1 arg2 arg12 x0 x1) (qw arg3 x2 1 2048 (by decide) (by decide)))⟩,
   ⟨Rect.unit (s := S11x512x256) ![7, 0, 0] S1x512x256.size (slab_inb 7 (by decide)), k0_pay40 (k0_pay35 (runA.sl.v27 arg1 arg2 arg12 x0 x1) (qw arg3 x2 1 1536 (by decide) (by decide)))⟩,
   ⟨Rect.unit (s := S11x512x256) ![6, 0, 0] S1x512x256.size (slab_inb 6 (by decide)), k0_pay37 (runA.sl.v27 arg1 arg2 arg12 x0 x1) (qw arg3 x2 1 1536 (by decide) (by decide))⟩,
   ⟨Rect.unit (s := S11x512x256) ![5, 0, 0] S1x512x256.size (slab_inb 5 (by decide)), k0_pay31 (runA.sl.v27 arg1 arg2 arg12 x0 x1) (qw arg3 x2 1 1024 (by decide) (by decide))⟩,
   ⟨Rect.unit (s := S11x512x256) ![4, 0, 0] S1x512x256.size (slab_inb 4 (by decide)), k0_pay29 (runA.sl.v27 arg1 arg2 arg12 x0 x1) (qw arg3 x2 1 1024 (by decide) (by decide))⟩,
   ⟨Rect.unit (s := S11x512x256) ![3, 0, 0] S1x512x256.size (slab_inb 3 (by decide)), k0_pay24 (k0_pay19 (runA.sl.v27 arg1 arg2 arg12 x0 x1) (qw arg3 x2 1 512 (by decide) (by decide)))⟩,
   ⟨Rect.unit (s := S11x512x256) ![2, 0, 0] S1x512x256.size (slab_inb 2 (by decide)), k0_pay21 (runA.sl.v27 arg1 arg2 arg12 x0 x1) (qw arg3 x2 1 512 (by decide) (by decide))⟩,
   ⟨Rect.unit (s := S11x512x256) ![1, 0, 0] S1x512x256.size (slab_inb 1 (by decide)), k0_pay14 (runA.sl.v27 arg1 arg2 arg12 x0 x1) (qw arg3 x2 1 0 (by decide) (by decide))⟩,
   ⟨Rect.unit (s := S11x512x256) ![0, 0, 0] S1x512x256.size (slab_inb 0 (by decide)), k0_pay12 (runA.sl.v27 arg1 arg2 arg12 x0 x1) (qw arg3 x2 1 0 (by decide) (by decide))⟩] : List (View.Piece (Elt F) S11x512x256 .bf16)) = _
  simp only [v27_eq, qw_eq, ql_eq]
  rfl

theorem v320B : runB.sl.v320 arg1 arg2 arg3 arg12 arg13 x0 x1 x2 = acc6 x0 x1 x2 := v320_eq

theorem gatesB : runB.sl.H7_11 arg1 arg2 arg3 arg12 x0 x1 x2 = gates x0 x1 x2 := gates_eq

theorem upsB : runB.sl.H8_11 arg1 arg2 arg3 arg12 x0 x1 x2 = ups x0 x1 x2 := ups_eq

theorem congr4 {A B C D E : Sort _} (f : A → B → C → D → E) {a a' : A} {b b' : B} {c c' : C} {d d' : D} (ha : a = a') (hb : b = b') (hc : c = c') (hd : d = d') :
    f a b c d = f a' b' c' d' := by subst ha hb hc hd; rfl

variable {c : Dev nD} {i : grid0.Coords} {arg4 : Memref sig .tc .vmem S512x1024 .f32} {arg5 : Memref sig .tc .vmem S1x1024 .f32} {arg6 : Memref sig .tc .vmem S512x1024 .f32} {arg7 : Memref sig .tc .vmem S512x1024 .bf16} {arg8 : Memref sig .tc .vmem S11x512x256 .bf16} {arg9 : Memref sig .tc .vmem S11x512x256 .bf16} {arg10 : Memref sig .tc .vmem S8x128 .f32} {arg11 : Memref sig .tc .vmem S1x1024 .f32} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole}
variable {x3 : Vec F S512x1024 .f32} {x4 : Vec F S1x1024 .f32} {y0 : Vec F S8x128 .f32} {y1 : Vec F S1x1024 .f32}

theorem runA_p {h1 : k0_cond1 i = 1#1} {h2 : ¬ k0_cond2 i = 1#1} {h3 : k0_cond3 i = 1#1} {h4 : ¬ k0_cond4 i = 1#1} : (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).1 = outP x0 x1 x2 x3 x4 :=
  congr4 k0_pay58 (rd1 arg1 x0) v320_eq (rd2 arg5 x4) (rd1 arg4 x3)

theorem runA_a {h1 : k0_cond1 i = 1#1} {h2 : ¬ k0_cond2 i = 1#1} {h3 : k0_cond3 i = 1#1} {h4 : ¬ k0_cond4 i = 1#1} : (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.1 = outE x0 x1 x2 x3 x4 :=
  congr4 k0_pay59 (rd1 arg1 x0) v320_eq (rd2 arg5 x4) (rd1 arg4 x3)

theorem runA_b {h1 : k0_cond1 i = 1#1} {h2 : ¬ k0_cond2 i = 1#1} {h3 : k0_cond3 i = 1#1} {h4 : ¬ k0_cond4 i = 1#1} : (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.1 = outN x0 x1 x2 :=
  congrArg₂ k0_pay60 (rd1 arg1 x0) v320_eq

theorem runA_5 {h1 : k0_cond1 i = 1#1} {h2 : ¬ k0_cond2 i = 1#1} {h3 : k0_cond3 i = 1#1} {h4 : ¬ k0_cond4 i = 1#1} (f : arg6.view.ty.Contents (Elt F)) : arg6.view.read (Elt F) (arg6.view.writes (Elt F) f (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.1) = out5 x0 x1 x2 x3 x4 :=
  (View.read_writes_full arg6.view f _ _ []).trans (congrArg₂ k0_pay1 (congrArg₂ k0_pay56 (rd1 arg1 x0) v320_eq) (congr4 k0_pay61 (rd1 arg1 x0) v320_eq (rd2 arg5 x4) (rd1 arg4 x3)))

theorem runA_6 {h1 : k0_cond1 i = 1#1} {h2 : ¬ k0_cond2 i = 1#1} {h3 : k0_cond3 i = 1#1} {h4 : ¬ k0_cond4 i = 1#1} (f : arg7.view.ty.Contents (Elt F)) : arg7.view.read (Elt F) (arg7.view.writes (Elt F) f (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.2.1) = out6 x0 x1 :=
  (View.read_writes_full arg7.view f _ _ []).trans (congrArg₂ k0_pay6 (rd1 arg1 x0) (rd2 arg2 x1))

theorem runA_7 {h1 : k0_cond1 i = 1#1} {h2 : ¬ k0_cond2 i = 1#1} {h3 : k0_cond3 i = 1#1} {h4 : ¬ k0_cond4 i = 1#1} (f : arg8.view.ty.Contents (Elt F)) : arg8.view.read (Elt F) (arg8.view.writes (Elt F) f (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.2.2.1) = View.canon (gates x0 x1 x2) :=
  (congrArg (fun l => arg8.view.read (Elt F) (arg8.view.writes (Elt F) f l)) (gates_eq (arg1 := arg1) (arg2 := arg2) (arg3 := arg3) (arg12 := arg12))).trans (View.read_writes_eq_canon _ _ _ (slab_cover _ _ _ _ _ _ _ _ _ _ _))

theorem runA_8 {h1 : k0_cond1 i = 1#1} {h2 : ¬ k0_cond2 i = 1#1} {h3 : k0_cond3 i = 1#1} {h4 : ¬ k0_cond4 i = 1#1} (f : arg9.view.ty.Contents (Elt F)) : arg9.view.read (Elt F) (arg9.view.writes (Elt F) f (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.2.2.2.1) = View.canon (ups x0 x1 x2) :=
  (congrArg (fun l => arg9.view.read (Elt F) (arg9.view.writes (Elt F) f l)) (ups_eq (arg1 := arg1) (arg2 := arg2) (arg3 := arg3) (arg12 := arg12))).trans (View.read_writes_eq_canon _ _ _ (slab_cover _ _ _ _ _ _ _ _ _ _ _))

theorem runA_9 {h1 : k0_cond1 i = 1#1} {h2 : ¬ k0_cond2 i = 1#1} {h3 : k0_cond3 i = 1#1} {h4 : ¬ k0_cond4 i = 1#1} (f : arg10.view.ty.Contents (Elt F)) : arg10.view.read (Elt F) (arg10.view.writes (Elt F) f [⟨Rect.unit (s := S8x128) ![0, 0] S8x128.size inb_S8x128_S8x128_0_0, k0_pay3 (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).1⟩]) = k0_pay3 (outP x0 x1 x2 x3 x4) :=
  (View.read_writes_full arg10.view f _ _ []).trans (congrArg k0_pay3 runA_p)

theorem runA_10 {h1 : k0_cond1 i = 1#1} {h2 : ¬ k0_cond2 i = 1#1} {h3 : k0_cond3 i = 1#1} {h4 : ¬ k0_cond4 i = 1#1} (f : arg11.view.ty.Contents (Elt F)) : arg11.view.read (Elt F) (arg11.view.writes (Elt F) f [⟨Rect.unit (s := S1x1024) ![0, 0] S1x1024.size inb_S1x1024_S1x1024_0_0, k0_pay2 (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.1 (runA c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.1⟩]) = k0_pay2 (outE x0 x1 x2 x3 x4) (outN x0 x1 x2) :=
  (View.read_writes_full arg11.view f _ _ []).trans (congrArg₂ k0_pay2 runA_a runA_b)

theorem runB_p {h1 : ¬ k0_cond1 i = 1#1} {h2 : k0_cond2 i = 1#1} {h3 : ¬ k0_cond3 i = 1#1} {h4 : k0_cond4 i = 1#1} : (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).1 = outP x0 x1 x2 x3 x4 :=
  congr4 k0_pay58 (rd1 arg1 x0) v320B (rd2 arg5 x4) (rd1 arg4 x3)

theorem runB_a {h1 : ¬ k0_cond1 i = 1#1} {h2 : k0_cond2 i = 1#1} {h3 : ¬ k0_cond3 i = 1#1} {h4 : k0_cond4 i = 1#1} : (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.1 = outE x0 x1 x2 x3 x4 :=
  congr4 k0_pay59 (rd1 arg1 x0) v320B (rd2 arg5 x4) (rd1 arg4 x3)

theorem runB_b {h1 : ¬ k0_cond1 i = 1#1} {h2 : k0_cond2 i = 1#1} {h3 : ¬ k0_cond3 i = 1#1} {h4 : k0_cond4 i = 1#1} : (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.1 = outN x0 x1 x2 :=
  congrArg₂ k0_pay60 (rd1 arg1 x0) v320B

theorem runB_5 {h1 : ¬ k0_cond1 i = 1#1} {h2 : k0_cond2 i = 1#1} {h3 : ¬ k0_cond3 i = 1#1} {h4 : k0_cond4 i = 1#1} (f : arg6.view.ty.Contents (Elt F)) : arg6.view.read (Elt F) (arg6.view.writes (Elt F) f (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.1) = out5 x0 x1 x2 x3 x4 :=
  (View.read_writes_full arg6.view f _ _ []).trans (congrArg₂ k0_pay1 (congrArg₂ k0_pay56 (rd1 arg1 x0) v320B) (congr4 k0_pay61 (rd1 arg1 x0) v320B (rd2 arg5 x4) (rd1 arg4 x3)))

theorem runB_6 {h1 : ¬ k0_cond1 i = 1#1} {h2 : k0_cond2 i = 1#1} {h3 : ¬ k0_cond3 i = 1#1} {h4 : k0_cond4 i = 1#1} (f : arg7.view.ty.Contents (Elt F)) : arg7.view.read (Elt F) (arg7.view.writes (Elt F) f (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.2.1) = out6 x0 x1 :=
  (View.read_writes_full arg7.view f _ _ []).trans (congrArg₂ k0_pay6 (rd1 arg1 x0) (rd2 arg2 x1))

theorem runB_7 {h1 : ¬ k0_cond1 i = 1#1} {h2 : k0_cond2 i = 1#1} {h3 : ¬ k0_cond3 i = 1#1} {h4 : k0_cond4 i = 1#1} (f : arg8.view.ty.Contents (Elt F)) : arg8.view.read (Elt F) (arg8.view.writes (Elt F) f (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.2.2.1) = View.canon (gates x0 x1 x2) :=
  (congrArg (fun l => arg8.view.read (Elt F) (arg8.view.writes (Elt F) f l)) (gatesB (arg1 := arg1) (arg2 := arg2) (arg3 := arg3) (arg12 := arg12))).trans (View.read_writes_eq_canon _ _ _ (slab_cover _ _ _ _ _ _ _ _ _ _ _))

theorem runB_8 {h1 : ¬ k0_cond1 i = 1#1} {h2 : k0_cond2 i = 1#1} {h3 : ¬ k0_cond3 i = 1#1} {h4 : k0_cond4 i = 1#1} (f : arg9.view.ty.Contents (Elt F)) : arg9.view.read (Elt F) (arg9.view.writes (Elt F) f (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.2.2.2.2.1) = View.canon (ups x0 x1 x2) :=
  (congrArg (fun l => arg9.view.read (Elt F) (arg9.view.writes (Elt F) f l)) (upsB (arg1 := arg1) (arg2 := arg2) (arg3 := arg3) (arg12 := arg12))).trans (View.read_writes_eq_canon _ _ _ (slab_cover _ _ _ _ _ _ _ _ _ _ _))

theorem runB_9 {h1 : ¬ k0_cond1 i = 1#1} {h2 : k0_cond2 i = 1#1} {h3 : ¬ k0_cond3 i = 1#1} {h4 : k0_cond4 i = 1#1} (f : arg10.view.ty.Contents (Elt F)) : arg10.view.read (Elt F) (arg10.view.writes (Elt F) f [⟨Rect.unit (s := S8x128) ![0, 0] S8x128.size inb_S8x128_S8x128_0_0, k0_pay4 (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).1 (arg10.view.readAt (Elt F) (Rect.unit (s := S8x128) ![0, 0] S8x128.size inb_S8x128_S8x128_0_0).toLoadRect (arg10.view.rep y0))⟩]) = k0_pay4 (outP x0 x1 x2 x3 x4) y0 :=
  (View.read_writes_full arg10.view f _ _ []).trans (congrArg₂ k0_pay4 runB_p (View.readAt_rep_full arg10.view y0 _))

theorem runB_10 {h1 : ¬ k0_cond1 i = 1#1} {h2 : k0_cond2 i = 1#1} {h3 : ¬ k0_cond3 i = 1#1} {h4 : k0_cond4 i = 1#1} (f : arg11.view.ty.Contents (Elt F)) : arg11.view.read (Elt F) (arg11.view.writes (Elt F) f [⟨Rect.unit (s := S1x1024) ![0, 0] S1x1024.size inb_S1x1024_S1x1024_0_0, k0_pay5 (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.1 (runB c i h1 h2 h3 h4 arg1 harg1 arg2 harg2 arg3 harg3 arg4 harg4 arg5 harg5 arg6 harg6 arg7 harg7 arg8 harg8 arg9 harg9 arg10 harg10 arg11 harg11 arg12 harg12 arg13 harg13 x0 x1 x2 x3 x4 y0 y1).2.2.1 (arg11.view.readAt (Elt F) (Rect.unit (s := S1x1024) ![0, 0] S1x1024.size inb_S1x1024_S1x1024_0_0).toLoadRect (arg11.view.rep y1))⟩]) = k0_pay5 (outE x0 x1 x2 x3 x4) (outN x0 x1 x2) y1 :=
  (View.read_writes_full arg11.view f _ _ []).trans ((congrArg₂ (fun a b => k0_pay5 a b _) runB_a runB_b).trans (congrArg (k0_pay5 _ _) (View.readAt_rep_full arg11.view y1 _)))

end Cert.Kernel9Ideal.Hand

end
-- ==== Proof.F9.Frame.lean ====
/- The run of the feed-forward kernel with the loss from launch to end: its body at every grid point, and what its arrays end at. -/
module

public import proofs.«01_k».proof.Proof.F9.Outs
public import Idealize.ShloMosaic.Lib.Pipeline.TableIdle

@[expose] public section

set_option maxRecDepth 16384

noncomputable section

namespace Cert.Kernel9Ideal.Hand

open Cert.Kernel9Ideal Cert.Kernel9Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- Core `c`'s buffers at launch. -/
abbrev V (c : Dev nD) (b : Ref sig .tc) : Buf (Elt F) ((c : Thread nD τ).loc b) := m ((c : Thread nD τ).loc b)

set_option maxHeartbeats 800000 in
theorem enters : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The loss after point `n`. -/
def lossAt (c : Dev nD) : (n : ℕ) → n < cfg0.N → Vec F S8x128 .f32
  | 0, h => k0_pay3 (outP (iblk m c 0 ⟨0, h⟩) (iblk m c 1 ⟨0, h⟩) (iblk m c 2 ⟨0, h⟩) (iblk m c 3 ⟨0, h⟩) (iblk m c 4 ⟨0, h⟩))
  | n + 1, h => k0_pay4 (outP (iblk m c 0 ⟨n + 1, h⟩) (iblk m c 1 ⟨n + 1, h⟩) (iblk m c 2 ⟨n + 1, h⟩) (iblk m c 3 ⟨n + 1, h⟩) (iblk m c 4 ⟨n + 1, h⟩)) (lossAt c n (Nat.lt_of_succ_lt h))

/-- The gain's gradient after point `n`. -/
def gainAt (c : Dev nD) : (n : ℕ) → n < cfg0.N → Vec F S1x1024 .f32
  | 0, h => k0_pay2 (outE (iblk m c 0 ⟨0, h⟩) (iblk m c 1 ⟨0, h⟩) (iblk m c 2 ⟨0, h⟩) (iblk m c 3 ⟨0, h⟩) (iblk m c 4 ⟨0, h⟩)) (outN (iblk m c 0 ⟨0, h⟩) (iblk m c 1 ⟨0, h⟩) (iblk m c 2 ⟨0, h⟩))
  | n + 1, h => k0_pay5 (outE (iblk m c 0 ⟨n + 1, h⟩) (iblk m c 1 ⟨n + 1, h⟩) (iblk m c 2 ⟨n + 1, h⟩) (iblk m c 3 ⟨n + 1, h⟩) (iblk m c 4 ⟨n + 1, h⟩)) (outN (iblk m c 0 ⟨n + 1, h⟩) (iblk m c 1 ⟨n + 1, h⟩) (iblk m c 2 ⟨n + 1, h⟩)) (gainAt c n (Nat.lt_of_succ_lt h))

theorem lossAt_first (c : Dev nD) (t : Fin cfg0.N) (h : t.val = 0) : k0_pay3 (outP (iblk m c 0 t) (iblk m c 1 t) (iblk m c 2 t) (iblk m c 3 t) (iblk m c 4 t)) = lossAt m c t.val t.isLt := by
  obtain ⟨n, hn⟩ := t
  have h' : n = 0 := h
  subst h'
  rfl

theorem lossAt_later (c : Dev nD) (t : Fin cfg0.N) (h : t.val ≠ 0) :
    k0_pay4 (outP (iblk m c 0 t) (iblk m c 1 t) (iblk m c 2 t) (iblk m c 3 t) (iblk m c 4 t)) (lossAt m c (t.val - 1) (Nat.lt_of_le_of_lt (Nat.sub_le _ _) t.isLt)) = lossAt m c t.val t.isLt := by
  obtain ⟨n, hn⟩ := t
  cases n with
  | zero => exact absurd rfl h
  | succ n => rfl

theorem gainAt_first (c : Dev nD) (t : Fin cfg0.N) (h : t.val = 0) : k0_pay2 (outE (iblk m c 0 t) (iblk m c 1 t) (iblk m c 2 t) (iblk m c 3 t) (iblk m c 4 t)) (outN (iblk m c 0 t) (iblk m c 1 t) (iblk m c 2 t)) = gainAt m c t.val t.isLt := by
  obtain ⟨n, hn⟩ := t
  have h' : n = 0 := h
  subst h'
  rfl

theorem gainAt_later (c : Dev nD) (t : Fin cfg0.N) (h : t.val ≠ 0) :
    k0_pay5 (outE (iblk m c 0 t) (iblk m c 1 t) (iblk m c 2 t) (iblk m c 3 t) (iblk m c 4 t)) (outN (iblk m c 0 t) (iblk m c 1 t) (iblk m c 2 t)) (gainAt m c (t.val - 1) (Nat.lt_of_le_of_lt (Nat.sub_le _ _) t.isLt)) = gainAt m c t.val t.isLt := by
  obtain ⟨n, hn⟩ := t
  cases n with
  | zero => exact absurd rfl h
  | succ n => rfl

theorem cases_at : ∀ t : Fin grid0.N, (t.val = 0 → k0_cond1 (grid0.coords t) = 1#1 ∧ ¬ k0_cond2 (grid0.coords t) = 1#1 ∧ k0_cond3 (grid0.coords t) = 1#1 ∧ ¬ k0_cond4 (grid0.coords t) = 1#1)
    ∧ (t.val ≠ 0 → ¬ k0_cond1 (grid0.coords t) = 1#1 ∧ k0_cond2 (grid0.coords t) = 1#1 ∧ ¬ k0_cond3 (grid0.coords t) = 1#1 ∧ k0_cond4 (grid0.coords t) = 1#1) := by decide

/-- The arrays as launched; after the body the inputs' buffers at their blocks and the outputs' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t)
    | ⟨7, _⟩ => View.canon (gates (iblk m c 0 t) (iblk m c 1 t) (iblk m c 2 t))
    | ⟨8, _⟩ => View.canon (ups (iblk m c 0 t) (iblk m c 1 t) (iblk m c 2 t))
    | ⟨9, _⟩ => lossAt m c t.val t.isLt
    | ⟨10, _⟩ => gainAt m c t.val t.isLt
  Φ _ := Pipeline.ΦA spec0 c
  q _ := fullShare
  owed _ := 0

theorem arrays (c : Dev nD) (w : Fin cfg0.W) : (dats m 0 c).A w = V m c (Pipeline.arrRef spec0 w) := by
  dsimp only [dats]

theorem post_0 (c : Dev nD) (t : Fin cfg0.N) : (dats m 0 c).after 0 t = iblk m c 0 t := by dsimp only [dats]
theorem post_1 (c : Dev nD) (t : Fin cfg0.N) : (dats m 0 c).after 1 t = iblk m c 1 t := by dsimp only [dats]
theorem post_2 (c : Dev nD) (t : Fin cfg0.N) : (dats m 0 c).after 2 t = iblk m c 2 t := by dsimp only [dats]
theorem post_3 (c : Dev nD) (t : Fin cfg0.N) : (dats m 0 c).after 3 t = iblk m c 3 t := by dsimp only [dats]
theorem post_4 (c : Dev nD) (t : Fin cfg0.N) : (dats m 0 c).after 4 t = iblk m c 4 t := by dsimp only [dats]
theorem post_5 (c : Dev nD) (t : Fin cfg0.N) : (dats m 0 c).after 5 t = out5 (iblk m c 0 t) (iblk m c 1 t) (iblk m c 2 t) (iblk m c 3 t) (iblk m c 4 t) := by dsimp only [dats]
theorem post_6 (c : Dev nD) (t : Fin cfg0.N) : (dats m 0 c).after 6 t = out6 (iblk m c 0 t) (iblk m c 1 t) := by dsimp only [dats]
theorem post_7 (c : Dev nD) (t : Fin cfg0.N) : (dats m 0 c).after 7 t = View.canon (gates (iblk m c 0 t) (iblk m c 1 t) (iblk m c 2 t)) := by dsimp only [dats]
theorem post_8 (c : Dev nD) (t : Fin cfg0.N) : (dats m 0 c).after 8 t = View.canon (ups (iblk m c 0 t) (iblk m c 1 t) (iblk m c 2 t)) := by dsimp only [dats]
theorem post_9 (c : Dev nD) (t : Fin cfg0.N) : (dats m 0 c).after 9 t = lossAt m c t.val t.isLt := by dsimp only [dats]
theorem post_10 (c : Dev nD) (t : Fin cfg0.N) : (dats m 0 c).after 10 t = gainAt m c t.val t.isLt := by dsimp only [dats]

theorem pre_0 (c : Dev nD) (t : Fin cfg0.N) (d) : (dats m 0 c).before 0 t d = iblk m c 0 t :=
  ((dats m 0 c).before_in_eq_fetched 0 rfl (fun _ => rfl) (fun _ _ _ => rfl) (fun t => by rw [post_0]; unfold Dat.blockOf iblk; rw [arrays]; try rfl) t d).trans
    (by unfold Dat.fetched Dat.blockOf iblk; rw [arrays]; try rfl)

theorem pre_1 (c : Dev nD) (t : Fin cfg0.N) (d) : (dats m 0 c).before 1 t d = iblk m c 1 t :=
  ((dats m 0 c).before_in_eq_fetched 1 rfl (fun _ => rfl) (fun _ _ _ => rfl) (fun t => by rw [post_1]; unfold Dat.blockOf iblk; rw [arrays]; try rfl) t d).trans
    (by unfold Dat.fetched Dat.blockOf iblk; rw [arrays]; try rfl)

theorem pre_2 (c : Dev nD) (t : Fin cfg0.N) (d) : (dats m 0 c).before 2 t d = iblk m c 2 t :=
  ((dats m 0 c).before_in_eq_fetched 2 rfl (fun _ => rfl) (fun _ _ _ => rfl) (fun t => by rw [post_2]; unfold Dat.blockOf iblk; rw [arrays]; try rfl) t d).trans
    (by unfold Dat.fetched Dat.blockOf iblk; rw [arrays]; try rfl)

theorem pre_3 (c : Dev nD) (t : Fin cfg0.N) (d) : (dats m 0 c).before 3 t d = iblk m c 3 t :=
  ((dats m 0 c).before_in_eq_fetched 3 rfl (fun _ => rfl) (fun _ _ _ => rfl) (fun t => by rw [post_3]; unfold Dat.blockOf iblk; rw [arrays]; try rfl) t d).trans
    (by unfold Dat.fetched Dat.blockOf iblk; rw [arrays]; try rfl)

theorem pre_4 (c : Dev nD) (t : Fin cfg0.N) (d) : (dats m 0 c).before 4 t d = iblk m c 4 t :=
  ((dats m 0 c).before_in_eq_fetched 4 rfl (fun _ => rfl) (fun _ _ _ => rfl) (fun t => by rw [post_4]; unfold Dat.blockOf iblk; rw [arrays]; try rfl) t d).trans
    (by unfold Dat.fetched Dat.blockOf iblk; rw [arrays]; try rfl)

theorem live_9 : ∀ t : Fin cfg0.N, cfg0.idle 9 (cfg0.grid.coords t) = false :=
  (by decide : ∀ t : Fin grid0.N, (!(k0_cond1 (grid0.coords t) == 1#1) && !(k0_cond2 (grid0.coords t) == 1#1)) = false)

theorem live_10 : ∀ t : Fin cfg0.N, cfg0.idle 10 (cfg0.grid.coords t) = false :=
  (by decide : ∀ t : Fin grid0.N, (!(k0_cond3 (grid0.coords t) == 1#1) && !(k0_cond4 (grid0.coords t) == 1#1)) = false)

/-- After the first point the body finds what it left at the point before. -/
theorem pre_9 (c : Dev nD) (t : Fin cfg0.N) (h : t.val ≠ 0) (d) :
    (dats m 0 c).before 9 t d = lossAt m c (t.val - 1) (Nat.lt_of_le_of_lt (Nat.sub_le _ _) t.isLt) := by
  have hN : t.val < 8 := t.isLt.trans_eq N_0
  have hf : (cfg0.win 9).flush ⟨t.val - 1, Nat.lt_of_le_of_lt (Nat.sub_le _ _) t.isLt⟩ = false := by
    rw [← Bool.not_eq_true, flush0_9]
    show ¬ (t.val - 1) % 8 = 7
    omega
  rw [(dats m 0 c).before_of_pos 9 t h ((cfg0.win 9).fetch_out rfl t) d, hf, if_neg Bool.false_ne_true]
  unfold Dat.left
  rewrite [live_9]
  exact post_9 m c ⟨t.val - 1, Nat.lt_of_le_of_lt (Nat.sub_le _ _) t.isLt⟩

/-- After the first point the body finds what it left at the point before. -/
theorem pre_10 (c : Dev nD) (t : Fin cfg0.N) (h : t.val ≠ 0) (d) :
    (dats m 0 c).before 10 t d = gainAt m c (t.val - 1) (Nat.lt_of_le_of_lt (Nat.sub_le _ _) t.isLt) := by
  have hN : t.val < 8 := t.isLt.trans_eq N_0
  have hf : (cfg0.win 10).flush ⟨t.val - 1, Nat.lt_of_le_of_lt (Nat.sub_le _ _) t.isLt⟩ = false := by
    rw [← Bool.not_eq_true, flush0_10]
    show ¬ (t.val - 1) % 8 = 7
    omega
  rw [(dats m 0 c).before_of_pos 10 t h ((cfg0.win 10).fetch_out rfl t) d, hf, if_neg Bool.false_ne_true]
  unfold Dat.left
  rewrite [live_10]
  exact post_10 m c ⟨t.val - 1, Nat.lt_of_le_of_lt (Nat.sub_le _ _) t.isLt⟩

/-- Some contents of a memref, from contents named. -/
theorem some_of_owns {sp : Space} {b : Shape} {e : EltTy} (c : Dev nD) (M : Memref sig .tc sp b e) (x : b.Idx → Elt F e) :
    owns (c : Thread nD τ) M fullShare x ⊢ (iprop(∃ f, M.view.loc (c : Thread nD τ) ↦[M.view.set]{fullShare} f) : sProp 𝕄) := by
  unfold owns
  iintro ⟨%f, -, H⟩
  iexists f; iexact H

/-- What is kept between points: the two scratch buffers at some contents, and the generator's register. -/
theorem keeps (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)) ∗ ∃ r, prngReg c r) := by
  unfold Pipeline.ΦA; rw [scopedRest0_eq]; simp only [owns_whole]; try rfl

/-- The body at point `t`. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
      ⊢ wp frame (wpE (defs₀ (F := F)) Variants.none c none) Set.univ (bodyAt0 t) fun _ =>
        iprop((dats m 0 c).Φ t.succ ∗ (dats m 0 c).owesAt () t.succ
          ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t)) := by
  unfold bodyAt0
  simp only [pre_0, pre_1, pre_2, pre_3, pre_4]
  rw [show (dats m 0 c).Φ t.succ = Pipeline.ΦA spec0 c from rfl, show (dats m 0 c).Φ t.castSucc = Pipeline.ΦA spec0 c from rfl, keeps,
    show (dats m 0 c).owesAt () t.succ = (dats m 0 c).owesAt () t.castSucc from rfl,
    post_0, post_1, post_2, post_3, post_4, post_5, post_6, post_7, post_8, post_9, post_10]
  iintro ⟨⟨⟨⟨%s0, HS0⟩, ⟨%s1, HS1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h : t.val = 0
  · obtain ⟨h1, h2, h3, h4⟩ := (cases_at t).1 h
    iapply ((runA c (grid0.coords t) h1 h2 h3 h4 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (iblk m c 0 t) (iblk m c 1 t) (iblk m c 2 t) (iblk m c 3 t) (iblk m c 4 t) _ _).2.2.2.2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply (some_of_owns c (st0_5 t) _); iexact H5
    isplitl [H6]; · iapply (some_of_owns c (st0_6 t) _); iexact H6
    isplitl [H7]; · iapply (some_of_owns c (st0_7 t) _); iexact H7
    isplitl [H8]; · iapply (some_of_owns c (st0_8 t) _); iexact H8
    isplitl [H9]; · iapply rep_of_owns; iexact H9
    isplitl [H10]; · iapply rep_of_owns; iexact H10
    isplitl [HS0]; · iapply (some_of_owns c (Memref.whole cc0_scratch0) _); iexact HS0
    isplitl [HS1]; · iapply (some_of_owns c (Memref.whole cc0_scratch1) _); iexact HS1
    iintro ⟨H0, H1, H2, H3, H4, ⟨%e5, H5⟩, ⟨%e6, H6⟩, ⟨%e7, H7⟩, ⟨%e8, H8⟩, ⟨%e9, H9⟩, ⟨%e10, H10⟩, ⟨%e11, HS0⟩, ⟨%e12, HS1⟩⟩
    isplitl [HR HS0 HS1]
    · isplitl [HS0 HS1]
      · isplitl [HS0]
        · iexists _; unfold owns; iexists e11; isplitr; swap
          · iexact HS0
          · ipureintro; rfl
        · iexists _; unfold owns; iexists e12; isplitr; swap
          · iexact HS1
          · ipureintro; rfl
      · iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]
    · unfold owns; iexists _; isplitr; swap
      · iexact H5
      · ipureintro; exact runA_5 e5
    isplitl [H6]
    · unfold owns; iexists _; isplitr; swap
      · iexact H6
      · ipureintro; exact runA_6 e6
    isplitl [H7]
    · unfold owns; iexists _; isplitr; swap
      · iexact H7
      · ipureintro; exact runA_7 e7
    isplitl [H8]
    · unfold owns; iexists _; isplitr; swap
      · iexact H8
      · ipureintro; exact runA_8 e8
    isplitl [H9]
    · unfold owns; iexists _; isplitr; swap
      · iexact H9
      · ipureintro; exact (runA_9 e9).trans (lossAt_first m c t h)
    unfold owns; iexists _; isplitr; swap
    · iexact H10
    · ipureintro; exact (runA_10 e10).trans (gainAt_first m c t h)
  · obtain ⟨h1, h2, h3, h4⟩ := (cases_at t).2 h
    rw [pre_9 m c t h, pre_10 m c t h]
    iapply ((runB c (grid0.coords t) h1 h2 h3 h4 (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (iblk m c 0 t) (iblk m c 1 t) (iblk m c 2 t) (iblk m c 3 t) (iblk m c 4 t) (lossAt m c (t.val - 1) (Nat.lt_of_le_of_lt (Nat.sub_le _ _) t.isLt)) (gainAt m c (t.val - 1) (Nat.lt_of_le_of_lt (Nat.sub_le _ _) t.isLt))).2.2.2.2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply (some_of_owns c (st0_5 t) _); iexact H5
    isplitl [H6]; · iapply (some_of_owns c (st0_6 t) _); iexact H6
    isplitl [H7]; · iapply (some_of_owns c (st0_7 t) _); iexact H7
    isplitl [H8]; · iapply (some_of_owns c (st0_8 t) _); iexact H8
    isplitl [H9]; · iapply rep_of_owns; iexact H9
    isplitl [H10]; · iapply rep_of_owns; iexact H10
    isplitl [HS0]; · iapply (some_of_owns c (Memref.whole cc0_scratch0) _); iexact HS0
    isplitl [HS1]; · iapply (some_of_owns c (Memref.whole cc0_scratch1) _); iexact HS1
    iintro ⟨H0, H1, H2, H3, H4, ⟨%e5, H5⟩, ⟨%e6, H6⟩, ⟨%e7, H7⟩, ⟨%e8, H8⟩, ⟨%e9, H9⟩, ⟨%e10, H10⟩, ⟨%e11, HS0⟩, ⟨%e12, HS1⟩⟩
    isplitl [HR HS0 HS1]
    · isplitl [HS0 HS1]
      · isplitl [HS0]
        · iexists _; unfold owns; iexists e11; isplitr; swap
          · iexact HS0
          · ipureintro; rfl
        · iexists _; unfold owns; iexists e12; isplitr; swap
          · iexact HS1
          · ipureintro; rfl
      · iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]
    · unfold owns; iexists _; isplitr; swap
      · iexact H5
      · ipureintro; exact runB_5 e5
    isplitl [H6]
    · unfold owns; iexists _; isplitr; swap
      · iexact H6
      · ipureintro; exact runB_6 e6
    isplitl [H7]
    · unfold owns; iexists _; isplitr; swap
      · iexact H7
      · ipureintro; exact runB_7 e7
    isplitl [H8]
    · unfold owns; iexists _; isplitr; swap
      · iexact H8
      · ipureintro; exact runB_8 e8
    isplitl [H9]
    · unfold owns; iexists _; isplitr; swap
      · iexact H9
      · ipureintro; exact (runB_9 e9).trans (lossAt_later m c t h)
    unfold owns; iexists _; isplitr; swap
    · iexact H10
    · ipureintro; exact (runB_10 e10).trans (gainAt_later m c t h)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  rewrite [live_9 t, live_10 t]
  exact triple_restated (body_at m c t) rfl .rfl fun _ => .rfl

set_option backward.isDefEq.respectTransparency.types false in
set_option maxHeartbeats 800000 in
/-- Every run ends, the arrays at what the proof data says, every counter at zero. -/
theorem ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := enters m) (hA := arrays m) (hΦ := fun _ _ => rfl)

theorem ends_arrays : θ_run defs (onTc (τ := τ) (main (F := F))) (s₀ m ρ) (Pipeline.FramePost cfgs (dats m) 0 (V m)) :=
  (θ_run defs _ _).mono (fun _ h => h.1) (ends m ρ)

/-- Every run ends with its argument arrays as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (arrays m c 0)),
      ((h.1 c).1 1).trans (((dats m 0 c).arrAt_in 1 rfl _).trans (arrays m c 1)),
      ((h.1 c).1 2).trans (((dats m 0 c).arrAt_in 2 rfl _).trans (arrays m c 2)),
      ((h.1 c).1 3).trans (((dats m 0 c).arrAt_in 3 rfl _).trans (arrays m c 3)),
      ((h.1 c).1 4).trans (((dats m 0 c).arrAt_in 4 rfl _).trans (arrays m c 4))⟩, h.2⟩) (ends m ρ)

end Cert.Kernel9Ideal.Hand

end
-- ==== Proof.Val.Head.lean ====
/- The loss's head over the extended reals: one row of the kernel's gradient is the reference's, and sums by blocks. -/
module

public import Idealize.ShloMosaic.Lib.Pointwise

@[expose] public section

noncomputable section

namespace Cert.Head

open Idealize.ShloMosaic

/-! ## The literals -/

theorem lit_half : Ideal.ofBits .f32 0x3F000000#32 = ((1 / 2 : ℝ) : EReal) := by
  simp [Ideal.ofBits, Ideal.ieee]
  rw [← EReal.coe_mul]
  congr 1
  norm_num
theorem lit_neg : Ideal.ofBits .f32 0xBF000000#32 = ((-(1 / 2) : ℝ) : EReal) := by
  simp [Ideal.ofBits, Ideal.ieee]
  rw [← EReal.coe_mul]
  congr 1
  norm_num
theorem lit_one : Ideal.ofBits .f32 0x3F800000#32 = ((1 : ℝ) : EReal) := by
  simp [Ideal.ofBits, Ideal.ieee]
  rw [← EReal.coe_mul, ← EReal.coe_one]
  congr 1
  norm_num
theorem lit_two : Ideal.ofBits .f32 0x40000000#32 = ((2 : ℝ) : EReal) := by
  simp [Ideal.ofBits, Ideal.ieee]
  rw [← EReal.coe_mul]
  congr 1
  norm_num
theorem lit_n : Ideal.ofBits .f32 0x44800000#32 = ((1024 : ℝ) : EReal) := by
  simp [Ideal.ofBits, Ideal.ieee]
  rw [← EReal.coe_mul]
  congr 1
  norm_num
theorem lit_tiny : Ideal.ofBits .f32 0x3A800000#32 = ((1 / 1024 : ℝ) : EReal) := by
  simp [Ideal.ofBits, Ideal.ieee]
  rw [← EReal.coe_mul]
  congr 1
  norm_num
theorem lit_eps : ∃ e : ℝ, 0 < e ∧ Ideal.ofBits .f32 0x358637BD#32 = (e : EReal) := by
  refine ⟨(2 : ℝ) ^ (-43 : ℤ) * 8796093, by positivity, ?_⟩
  simp [Ideal.ofBits, Ideal.ieee]
  rw [← EReal.coe_mul]
  congr 1
  norm_num

theorem div_n (x : EReal) : Ideal.div x (Ideal.ofBits .f32 0x44800000#32) = x * ((1 / 1024 : ℝ) : EReal) := by
  rw [lit_n, Ideal.div, if_neg (by exact_mod_cast (by norm_num : (1024 : ℝ) ≠ 0)), ← EReal.coe_inv]
  norm_num

/-! ## A nonnegative real across a sum -/

theorem mul_sum {ι : Type} (s : Finset ι) (f : ι → EReal) (c : ℝ) (hc : 0 ≤ c) : (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-! ## The row -/

/-- The mean square and its shift. -/
def ms (x : Fin 1024 → EReal) : EReal := Ideal.div (∑ k, x k * x k) (Ideal.ofBits .f32 0x44800000#32) + Ideal.ofBits .f32 0x358637BD#32
/-- The row's scale. -/
def rr (x : Fin 1024 → EReal) : EReal := Ideal.rsqrt (ms x)
/-- The error. -/
def er (x g t : Fin 1024 → EReal) (d : Fin 1024) : EReal := x d * rr x * g d - t d
/-- The row's mean of the error's square. -/
def lo (x g t : Fin 1024 → EReal) : EReal := Ideal.div (∑ d, er x g t d * er x g t d) (Ideal.ofBits .f32 0x44800000#32)
/-- The error's share, as the kernel takes it. -/
def ee (x g t : Fin 1024 → EReal) (d : Fin 1024) : EReal := er x g t d * Ideal.ofBits .f32 0x3A800000#32
/-- The error's share, as the reference takes it. -/
def ef (x g t : Fin 1024 → EReal) (d : Fin 1024) : EReal :=
  Ideal.div (Ideal.ofBits .f32 0x3F000000#32 * Ideal.ofBits .f32 0x3F800000#32) (Ideal.ofBits .f32 0x44800000#32) * (Ideal.ofBits .f32 0x40000000#32 * er x g t d)
/-- The gradient, as the kernel takes it. -/
def dk (x g t : Fin 1024 → EReal) (d : Fin 1024) : EReal :=
  rr x * (ee x g t d * g d - x d * rr x * Ideal.div (∑ k, ee x g t k * g k * (x k * rr x)) (Ideal.ofBits .f32 0x44800000#32))
/-- The scale's share of the gradient. -/
def cf (x g t : Fin 1024 → EReal) : EReal :=
  Ideal.div ((∑ k, x k * (ef x g t k * g k)) * (Ideal.ofBits .f32 0xBF000000#32 * Ideal.div (rr x) (ms x))) (Ideal.ofBits .f32 0x44800000#32)
/-- The gradient, as the reference takes it. -/
def dr (x g t : Fin 1024 → EReal) (d : Fin 1024) : EReal := ef x g t d * g d * rr x + cf x g t * (Ideal.ofBits .f32 0x40000000#32 * x d)

variable (x g t : Fin 1024 → EReal)

theorem ee_eq (d : Fin 1024) : ee x g t d = ef x g t d := by
  unfold ee ef
  rw [div_n, lit_half, lit_one, lit_two, lit_tiny]
  generalize er x g t d = e
  rw [← mul_assoc, mul_comm e, ← EReal.coe_mul, ← EReal.coe_mul, ← EReal.coe_mul]
  congr 2
  norm_num

theorem sq_nonneg' (y : EReal) : 0 ≤ y * y := by
  rcases le_total 0 y with h | h
  · exact mul_nonneg h h
  · rw [← neg_mul_neg]
    have h' : 0 ≤ -y := by rw [← neg_zero]; exact EReal.neg_le_neg_iff.mpr h
    exact mul_nonneg h' h'

theorem ms_cases : ms x = ⊤ ∨ ∃ w : ℝ, 0 < w ∧ ms x = (w : EReal) := by
  obtain ⟨e, he, h⟩ := lit_eps
  unfold ms
  rw [div_n, h]
  have hs : 0 ≤ ∑ k, x k * x k := Finset.sum_nonneg fun k _ => sq_nonneg' (x k)
  generalize ∑ k, x k * x k = s at hs ⊢
  induction s using EReal.rec with
  | bot => exact absurd hs (by simp)
  | top =>
    left
    rw [EReal.top_mul_coe_of_pos (by norm_num)]
    rfl
  | coe s =>
    right
    have hs' : 0 ≤ s := by exact_mod_cast hs
    exact ⟨s * (1 / 1024) + e, by positivity, by rw [EReal.coe_add, EReal.coe_mul]⟩

theorem grad_eq (d : Fin 1024) : dk x g t d = dr x g t d := by
  unfold dk dr cf
  rw [show ee x g t = ef x g t from funext (ee_eq x g t), div_n, div_n]
  generalize ef x g t = a
  rcases ms_cases x with h | ⟨w, hw, h⟩
  · have hr : rr x = 0 := by unfold rr; rw [h]; rfl
    rw [hr, h]
    have hd : Ideal.div 0 ⊤ = 0 := by rw [Ideal.div, if_neg (by simp), zero_mul]
    rw [hd]
    simp
  · have hr : rr x = (((Real.sqrt w)⁻¹ : ℝ) : EReal) := by
      unfold rr; rw [h]
      show (if w < 0 then (⊥ : EReal) else if w = 0 then ⊤ else (((Real.sqrt w)⁻¹ : ℝ) : EReal)) = _
      rw [if_neg (by linarith), if_neg (by linarith)]
    have hq : 0 < Real.sqrt w := Real.sqrt_pos.mpr hw
    have hqq : Real.sqrt w * Real.sqrt w = w := Real.mul_self_sqrt hw.le
    rw [hr, h, lit_neg, lit_two]
    have hd : Ideal.div (((Real.sqrt w)⁻¹ : ℝ) : EReal) (w : EReal) = (((Real.sqrt w)⁻¹ * w⁻¹ : ℝ) : EReal) := by
      rw [Ideal.div, if_neg (by exact_mod_cast hw.ne'), ← EReal.coe_inv, ← EReal.coe_mul]
    rw [hd]
    have hs : ∑ k, a k * g k * (x k * (((Real.sqrt w)⁻¹ : ℝ) : EReal)) = (((Real.sqrt w)⁻¹ : ℝ) : EReal) * ∑ k, x k * (a k * g k) := by
      rw [mul_sum _ _ _ (by positivity)]
      exact Finset.sum_congr rfl fun k _ => by ac_rfl
    rw [hs]
    generalize ∑ k, x k * (a k * g k) = S
    generalize x d = X
    rw [sub_eq_add_neg, EReal.left_distrib_of_nonneg_of_ne_top (by exact_mod_cast (by positivity : (0 : ℝ) ≤ (Real.sqrt w)⁻¹)) (EReal.coe_ne_top _)]
    refine congrArg₂ (fun y z : EReal => y + z) (mul_comm _ _) ?_
    have e1 : (((Real.sqrt w)⁻¹ : ℝ) : EReal) * -(X * (((Real.sqrt w)⁻¹ : ℝ) : EReal) * ((((Real.sqrt w)⁻¹ : ℝ) : EReal) * S * ((1 / 1024 : ℝ) : EReal)))
        = ((-((Real.sqrt w)⁻¹ * (Real.sqrt w)⁻¹ * (Real.sqrt w)⁻¹ * (1 / 1024)) : ℝ) : EReal) * (X * S) := by
      rw [EReal.coe_neg, EReal.coe_mul, EReal.coe_mul, EReal.coe_mul, mul_neg, neg_mul]
      congr 1
      ac_rfl
    have e2 : S * (((-(1 / 2) : ℝ) : EReal) * (((Real.sqrt w)⁻¹ * w⁻¹ : ℝ) : EReal)) * ((1 / 1024 : ℝ) : EReal) * (((2 : ℝ) : EReal) * X)
        = ((2 * (-(1 / 2)) * ((Real.sqrt w)⁻¹ * w⁻¹) * (1 / 1024) : ℝ) : EReal) * (X * S) := by
      rw [EReal.coe_mul (_ * _) (1 / 1024), EReal.coe_mul (_ * _) ((Real.sqrt w)⁻¹ * w⁻¹), EReal.coe_mul 2]
      ac_rfl
    rw [e1, e2]
    congr 2
    have hw' : w⁻¹ = (Real.sqrt w)⁻¹ * (Real.sqrt w)⁻¹ := by rw [← mul_inv, hqq]
    rw [hw']
    ring

/-! ## Sums by blocks of rows -/

theorem blocks (F : ℕ → EReal) (A : (n : ℕ) → n < 8 → EReal) (h0 : A 0 (by decide) = ∑ r : Fin 512, F r.val)
    (hs : ∀ (n : ℕ) (h : n + 1 < 8), A (n + 1) h = A n (Nat.lt_of_succ_lt h) + ∑ r : Fin 512, F (512 * (n + 1) + r.val)) :
    A 7 (by decide) = ∑ p : Fin 4096, F p.val := by
  have step : ∀ (n : ℕ) (h : n < 8), A n h = ∑ k ∈ Finset.range (512 * (n + 1)), F k := by
    intro n
    induction n with
    | zero => intro h; rw [h0, ← Finset.sum_range]
    | succ n ih =>
      intro h
      rw [hs n h, ih, show 512 * (n + 1 + 1) = 512 * (n + 1) + 512 by ring, Finset.sum_range_add, ← Finset.sum_range (fun r => F (512 * (n + 1) + r))]
  rw [step 7 (by decide), ← Finset.sum_range]

end Cert.Head

end
-- ==== Proof.Val.X9.lean ====
/- The feed-forward kernel with the loss, at the real arithmetic: the arrays its blocks make are the reference's. -/
module

public import proofs.«01_k».proof.Proof.F9.Frame
public import proofs.«01_k».proof.Proof.Gen.Reference9Ideal.Read
public import proofs.«01_k».proof.Proof.Val.Head
public import proofs.«01_k».proof.Proof.Val.X4
public import Idealize.ShloMosaic.Lib.Pointwise
public import Idealize.ShloMosaic.Lib.Pipeline.ValueKit

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic Idealize.SL.Sem
open Idealize.ShloMosaic.Pipeline (Dat)
open Cert.Reference9Ideal.Read
open Cert.Kernel4Ideal.Hand (nrm col act pc term)

/-! ## The body up to the head: the first block's lemmas -/

section
variable (i : Fin 512) (x0 : Vec Ideal S512x1024 .f32) (x1 : Vec Ideal S1x1024 .f32) (x2 : Vec Ideal S3x2816x1024 .bf16)

theorem ho_at (d : Fin 1024) : k0_pay55 (F := Ideal) x0 (acc6 x0 x1 x2) (ix2 i d) = (x0 (ix2 i d) + Ideal.ofBits .f32 0x3F000000#32 * ∑ k : Fin 2816, term i x0 x1 x2 d k : EReal) :=
  Cert.Kernel4Ideal.Hand.out3_at i x0 x1 x2 d

theorem out6_at (d : Fin 1024) : out6 (F := Ideal) x0 x1 (ix2 i d) = nrm (fun d => x0 (ix2 i d)) (fun d => x1 (ix2 0 d)) d :=
  Cert.Kernel4Ideal.Hand.norm_at i x0 x1 d

theorem gates_at (s : Fin 11) (q : Fin 256) : View.canon (gates (F := Ideal) x0 x1 x2) (ix3 s i q) = pc i x0 x1 x2 0 ⟨256 * s.val + q.val, by omega⟩ :=
  Cert.Kernel4Ideal.Hand.gates_at i x0 x1 x2 s q

theorem ups_at (s : Fin 11) (q : Fin 256) : View.canon (ups (F := Ideal) x0 x1 x2) (ix3 s i q) = pc i x0 x1 x2 1 ⟨256 * s.val + q.val, by omega⟩ :=
  Cert.Kernel4Ideal.Hand.ups_at i x0 x1 x2 s q

end

/-! ## The head's payloads -/

section
variable (x0 a t : Vec Ideal S512x1024 .f32) (g : Vec Ideal S1x1024 .f32)

/-- A row of the block's result. -/
abbrev hr (i : Fin 512) (d : Fin 1024) : EReal := k0_pay55 (F := Ideal) x0 a (ix2 i d)

theorem r_at (i : Fin 512) : k0_pay56 (F := Ideal) x0 a (ix2 i 0) = Head.rr (hr x0 a i) := by
  unfold k0_pay56 hr
  generalize k0_pay55 (F := Ideal) x0 a = y
  pointwise [Head.rr, Head.ms]

theorem e_at (i : Fin 512) (d : Fin 1024) : k0_pay57 (F := Ideal) x0 a g t (ix2 i d) = Head.er (hr x0 a i) (fun d => g (ix2 0 d)) (fun d => t (ix2 i d)) d := by
  unfold Head.er
  rw [← r_at]
  unfold k0_pay57 hr
  generalize k0_pay56 (F := Ideal) x0 a = s
  generalize k0_pay55 (F := Ideal) x0 a = y
  pointwise []

theorem n_at (i : Fin 512) (d : Fin 1024) : k0_pay60 (F := Ideal) x0 a (ix2 i d) = (hr x0 a i d * Head.rr (hr x0 a i) : EReal) := by
  rw [← r_at]
  unfold k0_pay60 hr
  generalize k0_pay56 (F := Ideal) x0 a = s
  generalize k0_pay55 (F := Ideal) x0 a = y
  pointwise []

theorem ee_at (i : Fin 512) (d : Fin 1024) : k0_pay59 (F := Ideal) x0 a g t (ix2 i d) = Head.ee (hr x0 a i) (fun d => g (ix2 0 d)) (fun d => t (ix2 i d)) d := by
  unfold Head.ee
  rw [← e_at]
  unfold k0_pay59
  generalize k0_pay57 (F := Ideal) x0 a g t = y
  pointwise []

theorem p_at : k0_pay58 (F := Ideal) x0 a g t (ix2 0 0)
    = (Ideal.ofBits .f32 0x3F000000#32 * ∑ i : Fin 512, Head.lo (hr x0 a i) (fun d => g (ix2 0 d)) (fun d => t (ix2 i d)) : EReal) := by
  have h : ∀ i : Fin 512, Head.lo (hr x0 a i) (fun d => g (ix2 0 d)) (fun d => t (ix2 i d))
      = Ideal.div (∑ d : Fin 1024, (k0_pay57 (F := Ideal) x0 a g t (ix2 i d) * k0_pay57 (F := Ideal) x0 a g t (ix2 i d) : EReal)) (Ideal.ofBits .f32 0x44800000#32) := fun i => by
    unfold Head.lo
    exact congrArg (fun z : EReal => Ideal.div z _) (Finset.sum_congr (M := EReal) rfl fun d _ => by rw [e_at])
  rw [Finset.sum_congr (M := EReal) rfl fun i _ => h i]
  unfold k0_pay58
  generalize k0_pay57 (F := Ideal) x0 a g t = y
  pointwise []

theorem dk_at (i : Fin 512) (d : Fin 1024) : k0_pay1 (F := Ideal) (k0_pay56 x0 a) (k0_pay61 x0 a g t) (ix2 i d)
    = Head.dk (hr x0 a i) (fun d => g (ix2 0 d)) (fun d => t (ix2 i d)) d := by
  have h : Head.dk (hr x0 a i) (fun d => g (ix2 0 d)) (fun d => t (ix2 i d)) d
      = (k0_pay56 (F := Ideal) x0 a (ix2 i 0) * (k0_pay59 (F := Ideal) x0 a g t (ix2 i d) * g (ix2 0 d)
        - k0_pay60 (F := Ideal) x0 a (ix2 i d) * Ideal.div (∑ k : Fin 1024, (k0_pay59 (F := Ideal) x0 a g t (ix2 i k) * g (ix2 0 k) * k0_pay60 (F := Ideal) x0 a (ix2 i k) : EReal)) (Ideal.ofBits .f32 0x44800000#32)) : EReal) := by
    unfold Head.dk
    rw [ee_at, n_at, r_at]
    exact congrArg (fun z : EReal => (Head.rr (hr x0 a i) * (Head.ee (hr x0 a i) (fun d => g (ix2 0 d)) (fun d => t (ix2 i d)) d * g (ix2 0 d)
      - hr x0 a i d * Head.rr (hr x0 a i) * Ideal.div z (Ideal.ofBits .f32 0x44800000#32)) : EReal)) (Finset.sum_congr (M := EReal) rfl fun k _ => by rw [ee_at, n_at])
  rw [h]
  unfold k0_pay1 k0_pay61
  generalize k0_pay59 (F := Ideal) x0 a g t = y
  generalize k0_pay60 (F := Ideal) x0 a = n
  generalize k0_pay56 (F := Ideal) x0 a = s
  pointwise []

theorem gain0_at (y n : FVec Ideal S512x1024 .f32) (d : Fin 1024) : k0_pay2 (F := Ideal) y n (ix2 0 d) = (∑ i : Fin 512, y (ix2 i d) * n (ix2 i d) : EReal) := by
  pointwise [k0_pay2]
theorem gains_at (y n : FVec Ideal S512x1024 .f32) (z : Vec Ideal S1x1024 .f32) (d : Fin 1024) :
    k0_pay5 (F := Ideal) y n z (ix2 0 d) = (z (ix2 0 d) + k0_pay2 (F := Ideal) y n (ix2 0 d) : EReal) := by
  unfold k0_pay5
  generalize k0_pay2 (F := Ideal) y n = w
  pointwise []
theorem loss0_at (p : FVec Ideal S1x1 .f32) (u : Fin 8) (v : Fin 128) : k0_pay3 (F := Ideal) p (ix2 u v) = p (ix2 0 0) := by
  pointwise [k0_pay3]
theorem losss_at (p : FVec Ideal S1x1 .f32) (z : Vec Ideal S8x128 .f32) (u : Fin 8) (v : Fin 128) :
    k0_pay4 (F := Ideal) p z (ix2 u v) = (z (ix2 u v) + k0_pay3 (F := Ideal) p (ix2 u v) : EReal) := by
  unfold k0_pay4
  generalize k0_pay3 (F := Ideal) p = w
  pointwise []

end

/-! ## The reference's stages -/

section
variable (y0 : (⟨S4096x1024, .f32⟩ : BufTy).Contents (Elt Ideal)) (y1 : (⟨S1x1024, .f32⟩ : BufTy).Contents (Elt Ideal)) (y2 : (⟨S3x2816x1024, .bf16⟩ : BufTy).Contents (Elt Ideal))
  (y3 : (⟨S4096x1024, .f32⟩ : BufTy).Contents (Elt Ideal)) (y4 : (⟨S1x1024, .f32⟩ : BufTy).Contents (Elt Ideal))

theorem v25_at (p : Fin 4096) (c : Fin 2816) :
    val_main_v25 (F := Ideal) y0 y1 y2 (ix2 p c) = col (nrm (fun d => y0 (ix2 p d)) (fun d => y1 (ix2 0 d))) (fun k => y2 (ix3 0 c k)) :=
  Cert.Kernel4Ideal.Hand.v25_at y0 y1 y2 p c
theorem v26_at (p : Fin 4096) (c : Fin 2816) :
    val_main_v26 (F := Ideal) y0 y1 y2 (ix2 p c) = col (nrm (fun d => y0 (ix2 p d)) (fun d => y1 (ix2 0 d))) (fun k => y2 (ix3 1 c k)) :=
  Cert.Kernel4Ideal.Hand.v26_at y0 y1 y2 p c
theorem v28_at (p : Fin 4096) (c : Fin 2816) :
    val_main_v28 (F := Ideal) y0 y1 y2 (ix2 p c) = act (val_main_v25 (F := Ideal) y0 y1 y2 (ix2 p c)) (val_main_v26 (F := Ideal) y0 y1 y2 (ix2 p c)) :=
  Cert.Kernel4Ideal.Hand.v28_at y0 y1 y2 p c
theorem v32_at (p : Fin 4096) (d : Fin 1024) :
    val_main_v32 (F := Ideal) y0 y1 y2 (ix2 p d)
      = (y0 (ix2 p d) + Ideal.ofBits .f32 0x3F000000#32 * ∑ k : Fin 2816, val_main_v28 (F := Ideal) y0 y1 y2 (ix2 p k) * y2 (ix3 2 k d) : EReal) :=
  Cert.Kernel4Ideal.Hand.v32_at y0 y1 y2 p d
theorem v85_at (p : Fin 4096) (d : Fin 1024) :
    val_main_v85 (F := Ideal) y0 y1 (ix2 p d) = nrm (fun d => y0 (ix2 p d)) (fun d => y1 (ix2 0 d)) d := Cert.Kernel4Ideal.Hand.v33_at y0 y1 p d
theorem v88_at (s : Fin 11) (p : Fin 4096) (q : Fin 256) :
    val_main_v88 (F := Ideal) y0 y1 y2 (ix3 s p q) = val_main_v25 (F := Ideal) y0 y1 y2 (ix2 p ⟨256 * s.val + q.val, by omega⟩) := Cert.Kernel4Ideal.Hand.v36_at y0 y1 y2 s p q
theorem v91_at (s : Fin 11) (p : Fin 4096) (q : Fin 256) :
    val_main_v91 (F := Ideal) y0 y1 y2 (ix3 s p q) = val_main_v26 (F := Ideal) y0 y1 y2 (ix2 p ⟨256 * s.val + q.val, by omega⟩) := Cert.Kernel4Ideal.Hand.v39_at y0 y1 y2 s p q

/-- A row of the reference's result. -/
abbrev hf (p : Fin 4096) (d : Fin 1024) : EReal := val_main_v32 (F := Ideal) y0 y1 y2 (ix2 p d)

theorem v42_at (p : Fin 4096) : val_main_v42 (F := Ideal) y0 y1 y2 (ix2 p 0) = Head.ms (hf y0 y1 y2 p) := by
  unfold val_main_v42 val_main_v40 val_main_v38 val_main_v37 val_main_v34 hf
  generalize val_main_v32 (F := Ideal) y0 y1 y2 = y
  pointwise [val_main_v41, val_main_v39, val_main_cst_4, val_main_cst_5, val_main_cst_6, Head.ms]

theorem v43_at (p : Fin 4096) : val_main_v43 (F := Ideal) y0 y1 y2 (ix2 p 0) = Head.rr (hf y0 y1 y2 p) := by
  unfold Head.rr
  rw [← v42_at]
  unfold val_main_v43
  generalize val_main_v42 (F := Ideal) y0 y1 y2 = y
  pointwise []

theorem v46_at (p : Fin 4096) : val_main_v46 (F := Ideal) y0 y1 y2 (ix2 p 0) = (Ideal.ofBits .f32 0xBF000000#32 * Ideal.div (Head.rr (hf y0 y1 y2 p)) (Head.ms (hf y0 y1 y2 p)) : EReal) := by
  rw [← v42_at, ← v43_at]
  unfold val_main_v46 val_main_v44
  generalize val_main_v43 (F := Ideal) y0 y1 y2 = y
  generalize val_main_v42 (F := Ideal) y0 y1 y2 = z
  pointwise [val_main_v45, val_main_cst_7]

theorem v48_at (p : Fin 4096) (d : Fin 1024) : val_main_v48 (F := Ideal) y0 y1 y2 (ix2 p d) = (hf y0 y1 y2 p d * Head.rr (hf y0 y1 y2 p) : EReal) := by
  rw [← v43_at]
  unfold val_main_v48 val_main_v47 hf
  generalize val_main_v43 (F := Ideal) y0 y1 y2 = y
  generalize val_main_v32 (F := Ideal) y0 y1 y2 = z
  pointwise []

theorem v49_at (d : Fin 1024) : val_main_v49 (F := Ideal) y4 (ix2 0 d) = y4 (ix2 0 d) := by
  pointwise [val_main_v49, val_main_v33]

theorem v52_at (p : Fin 4096) (d : Fin 1024) : val_main_v52 (F := Ideal) y0 y1 y2 y3 y4 (ix2 p d) = Head.er (hf y0 y1 y2 p) (fun d => y4 (ix2 0 d)) (fun d => y3 (ix2 p d)) d := by
  unfold Head.er
  beta_reduce
  rw [← v48_at, ← v49_at y4 d]
  unfold val_main_v52 val_main_v51 val_main_v50
  generalize val_main_v48 (F := Ideal) y0 y1 y2 = y
  generalize val_main_v49 (F := Ideal) y4 = z
  pointwise []

theorem v66_at (p : Fin 4096) (d : Fin 1024) : val_main_v66 (F := Ideal) y0 y1 y2 y3 y4 (ix2 p d) = Head.ef (hf y0 y1 y2 p) (fun d => y4 (ix2 0 d)) (fun d => y3 (ix2 p d)) d := by
  unfold Head.ef
  rw [← v52_at]
  unfold val_main_v66 val_main_v55
  generalize val_main_v52 (F := Ideal) y0 y1 y2 y3 y4 = y
  pointwise [val_main_v65, val_main_v64, val_main_v63, val_main_v62, val_main_v61, val_main_v54, val_main_cst_8, val_main_cst_13, val_main_cst_14, val_main_cst_15]

theorem v71_at (p : Fin 4096) (d : Fin 1024) : val_main_v71 (F := Ideal) y0 y1 y2 y3 y4 (ix2 p d) = (Head.ef (hf y0 y1 y2 p) (fun d => y4 (ix2 0 d)) (fun d => y3 (ix2 p d)) d * y4 (ix2 0 d) : EReal) := by
  rw [← v66_at, ← v49_at y4 d]
  unfold val_main_v71 val_main_v70
  generalize val_main_v66 (F := Ideal) y0 y1 y2 y3 y4 = y
  generalize val_main_v49 (F := Ideal) y4 = z
  pointwise []

theorem v80_at (p : Fin 4096) : val_main_v80 (F := Ideal) y0 y1 y2 y3 y4 (ix2 p 0) = Head.cf (hf y0 y1 y2 p) (fun d => y4 (ix2 0 d)) (fun d => y3 (ix2 p d)) := by
  unfold Head.cf
  rw [← v46_at, Finset.sum_congr (M := EReal) rfl fun k _ => by rw [← v71_at y0 y1 y2 y3 y4 p k]]
  unfold val_main_v80 val_main_v78 val_main_v75 val_main_v74 val_main_v73 hf
  generalize val_main_v71 (F := Ideal) y0 y1 y2 y3 y4 = y
  generalize val_main_v46 (F := Ideal) y0 y1 y2 = z
  generalize val_main_v32 (F := Ideal) y0 y1 y2 = w
  pointwise [val_main_v79, val_main_cst_18, val_main_cst_19]

theorem v82_at (p : Fin 4096) (d : Fin 1024) : val_main_v82 (F := Ideal) y0 y1 y2 y3 y4 (ix2 p d) = val_main_v80 (F := Ideal) y0 y1 y2 y3 y4 (ix2 p 0) := by
  unfold val_main_v82 val_main_v81
  generalize val_main_v80 (F := Ideal) y0 y1 y2 y3 y4 = y
  pointwise [val_main_cst_20]
  exact Fin.sum_univ_one (M := EReal) _

theorem v84_at (p : Fin 4096) (d : Fin 1024) : val_main_v84 (F := Ideal) y0 y1 y2 y3 y4 (ix2 p d) = Head.dr (hf y0 y1 y2 p) (fun d => y4 (ix2 0 d)) (fun d => y3 (ix2 p d)) d := by
  unfold Head.dr
  rw [← v71_at, ← v80_at, ← v82_at y0 y1 y2 y3 y4 p d, ← v43_at]
  unfold val_main_v84 val_main_v83 val_main_v36 val_main_v77 val_main_v76 hf
  generalize val_main_v71 (F := Ideal) y0 y1 y2 y3 y4 = y
  generalize val_main_v82 (F := Ideal) y0 y1 y2 y3 y4 = z
  generalize val_main_v43 (F := Ideal) y0 y1 y2 = s
  generalize val_main_v32 (F := Ideal) y0 y1 y2 = w
  pointwise [val_main_v35, val_main_cst_3]

theorem v92_at (u : Fin 8) (v : Fin 128) : val_main_v92 (F := Ideal) y0 y1 y2 y3 y4 (ix2 u v)
    = (Ideal.ofBits .f32 0x3F000000#32 * ∑ p : Fin 4096, Head.lo (hf y0 y1 y2 p) (fun d => y4 (ix2 0 d)) (fun d => y3 (ix2 p d)) : EReal) := by
  have h : ∀ p : Fin 4096, Head.lo (hf y0 y1 y2 p) (fun d => y4 (ix2 0 d)) (fun d => y3 (ix2 p d))
      = Ideal.div (∑ d : Fin 1024, (val_main_v52 (F := Ideal) y0 y1 y2 y3 y4 (ix2 p d) * val_main_v52 (F := Ideal) y0 y1 y2 y3 y4 (ix2 p d) : EReal)) (Ideal.ofBits .f32 0x44800000#32) := fun p => by
    unfold Head.lo
    exact congrArg (fun z : EReal => Ideal.div z _) (Finset.sum_congr (M := EReal) rfl fun d _ => by rw [v52_at])
  rw [Finset.sum_congr (M := EReal) rfl fun p _ => h p]
  unfold val_main_v92 val_main_v60 val_main_v59 val_main_v58 val_main_v56 val_main_v53
  generalize val_main_v52 (F := Ideal) y0 y1 y2 y3 y4 = y
  pointwise [val_main_v57, val_main_cst_9, val_main_cst_10, val_main_cst_11, val_main_cst_12]

theorem v93_at (d : Fin 1024) : val_main_v93 (F := Ideal) y0 y1 y2 y3 y4 (ix2 0 d)
    = (∑ p : Fin 4096, hf y0 y1 y2 p d * Head.rr (hf y0 y1 y2 p) * Head.ef (hf y0 y1 y2 p) (fun d => y4 (ix2 0 d)) (fun d => y3 (ix2 p d)) d : EReal) := by
  rw [Finset.sum_congr (M := EReal) rfl fun p _ => by rw [← v48_at, ← v66_at]]
  unfold val_main_v93 val_main_v72 val_main_v69 val_main_v68 val_main_v67
  generalize val_main_v66 (F := Ideal) y0 y1 y2 y3 y4 = y
  generalize val_main_v48 (F := Ideal) y0 y1 y2 = z
  pointwise [val_main_cst_16, val_main_cst_17]
  exact Fin.sum_univ_one (M := EReal) _

end

/-! ## The blocks -/

section
variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 3) = 0 ∧ win0_7.index t (1 : Fin 3) = t.val ∧ win0_7.index t (2 : Fin 3) = 0 :=
  (by decide +kernel : ∀ t : Fin grid0.N, _)
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem B0 (t : Fin cfg0.N) (r : Fin 512) (d : Fin 1024) (p : Fin 4096) (hp : p.val = 512 * t.val + r.val) :
    iblk m c 0 t (ix2 r d) = (m ((c : Thread nD τ).loc main_arg0)) (ix2 p d) := by
  unfold iblk
  rw [View.read_apply]
  obtain ⟨e0, e1⟩ := idx0 t
  show (m ((c : Thread nD τ).loc main_arg0)) _ = _
  congr 1; funext a; apply Fin.ext
  match a with
  | ⟨0, _⟩ => show win0_0.index t (0 : Fin 2) * 512 + 1 * r.val = p.val; rw [e0, hp]; omega
  | ⟨1, _⟩ => show win0_0.index t (1 : Fin 2) * 1024 + 1 * d.val = d.val; rw [e1]; omega

theorem B3 (t : Fin cfg0.N) (r : Fin 512) (d : Fin 1024) (p : Fin 4096) (hp : p.val = 512 * t.val + r.val) :
    iblk m c 3 t (ix2 r d) = (m ((c : Thread nD τ).loc main_arg3)) (ix2 p d) := by
  unfold iblk
  rw [View.read_apply]
  obtain ⟨e0, e1⟩ := idx3 t
  show (m ((c : Thread nD τ).loc main_arg3)) _ = _
  congr 1; funext a; apply Fin.ext
  match a with
  | ⟨0, _⟩ => show win0_3.index t (0 : Fin 2) * 512 + 1 * r.val = p.val; rw [e0, hp]; omega
  | ⟨1, _⟩ => show win0_3.index t (1 : Fin 2) * 1024 + 1 * d.val = d.val; rw [e1]; omega

theorem B1 (t : Fin cfg0.N) (r : Fin 1) (d : Fin 1024) : iblk m c 1 t (ix2 r d) = (m ((c : Thread nD τ).loc main_arg1)) (ix2 r d) := by
  unfold iblk
  rw [View.read_apply]
  obtain ⟨e0, e1⟩ := idx1 t
  show (m ((c : Thread nD τ).loc main_arg1)) _ = _
  congr 1; funext a; apply Fin.ext
  match a with
  | ⟨0, _⟩ => show win0_1.index t (0 : Fin 2) * 1 + 1 * r.val = r.val; rw [e0]; omega
  | ⟨1, _⟩ => show win0_1.index t (1 : Fin 2) * 1024 + 1 * d.val = d.val; rw [e1]; omega

theorem B4 (t : Fin cfg0.N) (r : Fin 1) (d : Fin 1024) : iblk m c 4 t (ix2 r d) = (m ((c : Thread nD τ).loc main_arg4)) (ix2 r d) := by
  unfold iblk
  rw [View.read_apply]
  obtain ⟨e0, e1⟩ := idx4 t
  show (m ((c : Thread nD τ).loc main_arg4)) _ = _
  congr 1; funext a; apply Fin.ext
  match a with
  | ⟨0, _⟩ => show win0_4.index t (0 : Fin 2) * 1 + 1 * r.val = r.val; rw [e0]; omega
  | ⟨1, _⟩ => show win0_4.index t (1 : Fin 2) * 1024 + 1 * d.val = d.val; rw [e1]; omega

theorem B2 (t : Fin cfg0.N) (j : Fin 3) (r : Fin 2816) (d : Fin 1024) : iblk m c 2 t (ix3 j r d) = (m ((c : Thread nD τ).loc main_arg2)) (ix3 j r d) := by
  unfold iblk
  rw [View.read_apply]
  obtain ⟨e0, e1, e2⟩ := idx2 t
  show (m ((c : Thread nD τ).loc main_arg2)) _ = _
  congr 1; funext a; apply Fin.ext
  match a with
  | ⟨0, _⟩ => show win0_2.index t (0 : Fin 3) * 3 + 1 * j.val = j.val; rw [e0]; omega
  | ⟨1, _⟩ => show win0_2.index t (1 : Fin 3) * 2816 + 1 * r.val = r.val; rw [e1]; omega
  | ⟨2, _⟩ => show win0_2.index t (2 : Fin 3) * 1024 + 1 * d.val = d.val; rw [e2]; omega

/-! ## A row of a block is the reference's row -/

section
variable (t : Fin cfg0.N) (r : Fin 512) (p : Fin 4096) (hp : p.val = 512 * t.val + r.val)
include hp

theorem nrm_row : nrm (fun d => iblk m c 0 t (ix2 r d)) (fun d => iblk m c 1 t (ix2 0 d)) = nrm (fun d => (m ((c : Thread nD τ).loc main_arg0)) (ix2 p d)) (fun d => (m ((c : Thread nD τ).loc main_arg1)) (ix2 0 d)) :=
  congrArg₂ nrm (funext fun d => B0 m c t r d p hp) (funext fun d => B1 m c t 0 d)

theorem pc_row (j : Fin 3) (k : Fin 2816) : pc r (iblk m c 0 t) (iblk m c 1 t) (iblk m c 2 t) j k
    = col (nrm (fun d => (m ((c : Thread nD τ).loc main_arg0)) (ix2 p d)) (fun d => (m ((c : Thread nD τ).loc main_arg1)) (ix2 0 d))) (fun e => (m ((c : Thread nD τ).loc main_arg2)) (ix3 j k e)) :=
  congrArg₂ col (nrm_row m c t r p hp) (funext fun e => B2 m c t j k e)

theorem out6_row (d : Fin 1024) : out6 (F := Ideal) (iblk m c 0 t) (iblk m c 1 t) (ix2 r d) = val_main_v85 (F := Ideal) (m ((c : Thread nD τ).loc main_arg0)) (m ((c : Thread nD τ).loc main_arg1)) (ix2 p d) :=
  (out6_at r _ _ d).trans ((congrFun (nrm_row m c t r p hp) d).trans (v85_at _ _ p d).symm)

theorem ho_row : hr (iblk m c 0 t) (acc6 (F := Ideal) (iblk m c 0 t) (iblk m c 1 t) (iblk m c 2 t)) r = hf (m ((c : Thread nD τ).loc main_arg0)) (m ((c : Thread nD τ).loc main_arg1)) (m ((c : Thread nD τ).loc main_arg2)) p := by
  funext d
  refine (ho_at r _ _ _ d).trans (Eq.trans ?_ (v32_at _ _ _ p d).symm)
  refine congrArg₂ (fun x y : EReal => (x + Ideal.ofBits .f32 0x3F000000#32 * y : EReal)) (B0 m c t r d p hp) (Finset.sum_congr (M := EReal) rfl fun k _ => ?_)
  rw [v28_at, v25_at, v26_at]
  exact congrArg₂ (fun x y : EReal => x * y) (congrArg₂ act (pc_row m c t r p hp 0 k) (pc_row m c t r p hp 1 k)) (B2 m c t 2 k d)

theorem gates_row (s : Fin 11) (q : Fin 256) : View.canon (gates (F := Ideal) (iblk m c 0 t) (iblk m c 1 t) (iblk m c 2 t)) (ix3 s r q) = val_main_v88 (F := Ideal) (m ((c : Thread nD τ).loc main_arg0)) (m ((c : Thread nD τ).loc main_arg1)) (m ((c : Thread nD τ).loc main_arg2)) (ix3 s p q) := by
  rw [v88_at, v25_at]
  exact (gates_at r _ _ _ s q).trans (pc_row m c t r p hp 0 _)

theorem ups_row (s : Fin 11) (q : Fin 256) : View.canon (ups (F := Ideal) (iblk m c 0 t) (iblk m c 1 t) (iblk m c 2 t)) (ix3 s r q) = val_main_v91 (F := Ideal) (m ((c : Thread nD τ).loc main_arg0)) (m ((c : Thread nD τ).loc main_arg1)) (m ((c : Thread nD τ).loc main_arg2)) (ix3 s p q) := by
  rw [v91_at, v26_at]
  exact (ups_at r _ _ _ s q).trans (pc_row m c t r p hp 1 _)

theorem tgt_row : (fun d => iblk m c 3 t (ix2 r d)) = fun d => (m ((c : Thread nD τ).loc main_arg3)) (ix2 p d) := funext fun d => B3 m c t r d p hp

theorem out5_row (d : Fin 1024) : out5 (F := Ideal) (iblk m c 0 t) (iblk m c 1 t) (iblk m c 2 t) (iblk m c 3 t) (iblk m c 4 t) (ix2 r d) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 p d) := by
  unfold out5
  rw [dk_at, v84_at, Head.grad_eq, ho_row m c t r p hp, tgt_row m c t r p hp]
  exact congrArg (fun g => Head.dr _ g _ d) (funext fun d => B4 m c t 0 d)

theorem lo_row : Head.lo (hr (iblk m c 0 t) (acc6 (F := Ideal) (iblk m c 0 t) (iblk m c 1 t) (iblk m c 2 t)) r) (fun d => iblk m c 4 t (ix2 0 d)) (fun d => iblk m c 3 t (ix2 r d))
    = Head.lo (hf (m ((c : Thread nD τ).loc main_arg0)) (m ((c : Thread nD τ).loc main_arg1)) (m ((c : Thread nD τ).loc main_arg2)) p) (fun d => (m ((c : Thread nD τ).loc main_arg4)) (ix2 0 d)) (fun d => (m ((c : Thread nD τ).loc main_arg3)) (ix2 p d)) := by
  rw [ho_row m c t r p hp, tgt_row m c t r p hp]
  exact congrArg (fun g => Head.lo _ g _) (funext fun d => B4 m c t 0 d)

theorem gain_row (d : Fin 1024) : (outE (F := Ideal) (iblk m c 0 t) (iblk m c 1 t) (iblk m c 2 t) (iblk m c 3 t) (iblk m c 4 t) (ix2 r d) * outN (F := Ideal) (iblk m c 0 t) (iblk m c 1 t) (iblk m c 2 t) (ix2 r d) : EReal)
    = (hf (m ((c : Thread nD τ).loc main_arg0)) (m ((c : Thread nD τ).loc main_arg1)) (m ((c : Thread nD τ).loc main_arg2)) p d * Head.rr (hf (m ((c : Thread nD τ).loc main_arg0)) (m ((c : Thread nD τ).loc main_arg1)) (m ((c : Thread nD τ).loc main_arg2)) p) * Head.ef (hf (m ((c : Thread nD τ).loc main_arg0)) (m ((c : Thread nD τ).loc main_arg1)) (m ((c : Thread nD τ).loc main_arg2)) p) (fun d => (m ((c : Thread nD τ).loc main_arg4)) (ix2 0 d)) (fun d => (m ((c : Thread nD τ).loc main_arg3)) (ix2 p d)) d : EReal) := by
  unfold outE outN
  rw [ee_at, n_at, Head.ee_eq, ho_row m c t r p hp, tgt_row m c t r p hp, mul_comm]
  exact congrArg (fun g => (hf (m ((c : Thread nD τ).loc main_arg0)) (m ((c : Thread nD τ).loc main_arg1)) (m ((c : Thread nD τ).loc main_arg2)) p d * Head.rr (hf (m ((c : Thread nD τ).loc main_arg0)) (m ((c : Thread nD τ).loc main_arg1)) (m ((c : Thread nD τ).loc main_arg2)) p) * Head.ef (hf (m ((c : Thread nD τ).loc main_arg0)) (m ((c : Thread nD τ).loc main_arg1)) (m ((c : Thread nD τ).loc main_arg2)) p) g (fun d => (m ((c : Thread nD τ).loc main_arg3)) (ix2 p d)) d : EReal)) (funext fun d => B4 m c t 0 d)

end

/-! ## The sums over the blocks -/

/-- Half a row's loss, by the row's number. -/
def lossRow (n : ℕ) : EReal :=
  if h : n < 4096 then ((1 / 2 : ℝ) : EReal) * Head.lo (hf (m ((c : Thread nD τ).loc main_arg0)) (m ((c : Thread nD τ).loc main_arg1)) (m ((c : Thread nD τ).loc main_arg2)) ⟨n, h⟩) (fun d => (m ((c : Thread nD τ).loc main_arg4)) (ix2 0 d)) (fun d => (m ((c : Thread nD τ).loc main_arg3)) (ix2 ⟨n, h⟩ d)) else 0
/-- A row's share of the gain's gradient, by the row's number. -/
def gainRow (d : Fin 1024) (n : ℕ) : EReal :=
  if h : n < 4096 then hf (m ((c : Thread nD τ).loc main_arg0)) (m ((c : Thread nD τ).loc main_arg1)) (m ((c : Thread nD τ).loc main_arg2)) ⟨n, h⟩ d * Head.rr (hf (m ((c : Thread nD τ).loc main_arg0)) (m ((c : Thread nD τ).loc main_arg1)) (m ((c : Thread nD τ).loc main_arg2)) ⟨n, h⟩) * Head.ef (hf (m ((c : Thread nD τ).loc main_arg0)) (m ((c : Thread nD τ).loc main_arg1)) (m ((c : Thread nD τ).loc main_arg2)) ⟨n, h⟩) (fun d => (m ((c : Thread nD τ).loc main_arg4)) (ix2 0 d)) (fun d => (m ((c : Thread nD τ).loc main_arg3)) (ix2 ⟨n, h⟩ d)) d else 0

theorem loss_block (t : Fin cfg0.N) : outP (F := Ideal) (iblk m c 0 t) (iblk m c 1 t) (iblk m c 2 t) (iblk m c 3 t) (iblk m c 4 t) (ix2 0 0) = (∑ r : Fin 512, lossRow m c (512 * t.val + r.val) : EReal) := by
  have ht : t.val < 8 := t.isLt.trans_eq N_0
  unfold outP
  rw [p_at, Head.lit_half, Head.mul_sum _ _ _ (by norm_num)]
  refine Finset.sum_congr (M := EReal) rfl fun r _ => ?_
  have h : 512 * t.val + r.val < 4096 := by omega
  rw [lossRow, dif_pos h]
  exact congrArg (fun z : EReal => ((1 / 2 : ℝ) : EReal) * z) (lo_row m c t r ⟨_, h⟩ rfl)

theorem gain_block (t : Fin cfg0.N) (d : Fin 1024) :
    k0_pay2 (F := Ideal) (outE (iblk m c 0 t) (iblk m c 1 t) (iblk m c 2 t) (iblk m c 3 t) (iblk m c 4 t)) (outN (iblk m c 0 t) (iblk m c 1 t) (iblk m c 2 t)) (ix2 0 d) = (∑ r : Fin 512, gainRow m c d (512 * t.val + r.val) : EReal) := by
  have ht : t.val < 8 := t.isLt.trans_eq N_0
  rw [gain0_at]
  refine Finset.sum_congr (M := EReal) rfl fun r _ => ?_
  have h : 512 * t.val + r.val < 4096 := by omega
  rw [gainRow, dif_pos h]
  exact gain_row m c t r ⟨_, h⟩ rfl d

theorem loss_end (t : Fin cfg0.N) (ht : t.val = 7) (u : Fin 8) (v : Fin 128) : lossAt (F := Ideal) m c t.val t.isLt (ix2 u v) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 u v) := by
  have hN : ∀ n, n < 8 → n < cfg0.N := fun n h => h.trans_eq N_0.symm
  have e := Head.blocks (lossRow m c) (fun n h => lossAt (F := Ideal) m c n (hN n h) (ix2 u v))
    ((loss0_at _ u v).trans ((loss_block m c ⟨0, hN 0 (by decide)⟩).trans (Finset.sum_congr (M := EReal) rfl fun r _ => congrArg (lossRow m c) (show 512 * 0 + r.val = r.val by omega))))
    fun n h => (losss_at _ _ u v).trans (congrArg (fun z : EReal => (lossAt (F := Ideal) m c n (hN n (Nat.lt_of_succ_lt h)) (ix2 u v) + z : EReal)) ((loss0_at _ u v).trans (loss_block m c ⟨n + 1, hN _ h⟩)))
  have e' : lossAt (F := Ideal) m c t.val t.isLt (ix2 u v) = (∑ p : Fin 4096, lossRow m c p.val : EReal) := by
    obtain ⟨n, h⟩ := t
    subst ht
    exact e
  rw [e', v92_at, Head.lit_half, Head.mul_sum _ _ _ (by norm_num)]
  exact Finset.sum_congr (M := EReal) rfl fun p _ => dif_pos p.isLt

theorem gain_end (t : Fin cfg0.N) (ht : t.val = 7) (d : Fin 1024) : gainAt (F := Ideal) m c t.val t.isLt (ix2 0 d) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 0 d) := by
  have hN : ∀ n, n < 8 → n < cfg0.N := fun n h => h.trans_eq N_0.symm
  have e := Head.blocks (gainRow m c d) (fun n h => gainAt (F := Ideal) m c n (hN n h) (ix2 0 d))
    ((gain_block m c ⟨0, hN 0 (by decide)⟩ d).trans (Finset.sum_congr (M := EReal) rfl fun r _ => congrArg (gainRow m c d) (show 512 * 0 + r.val = r.val by omega)))
    fun n h => (gains_at _ _ _ d).trans (congrArg (fun z : EReal => (gainAt (F := Ideal) m c n (hN n (Nat.lt_of_succ_lt h)) (ix2 0 d) + z : EReal)) (gain_block m c ⟨n + 1, hN _ h⟩ d))
  have e' : gainAt (F := Ideal) m c t.val t.isLt (ix2 0 d) = (∑ p : Fin 4096, gainRow m c d p.val : EReal) := by
    obtain ⟨n, h⟩ := t
    subst ht
    exact e
  rw [e', v93_at]
  exact Finset.sum_congr (M := EReal) rfl fun p _ => dif_pos p.isLt

/-! ## The arrays -/

theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne
    ((by decide +kernel : ∀ t t' : Fin grid0.N, win0_6.index t = win0_6.index t' → t = t') t t' h)

theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne
    ((by decide +kernel : ∀ t t' : Fin grid0.N, win0_7.index t = win0_7.index t' → t = t') t t' h)

theorem apart8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne
    ((by decide +kernel : ∀ t t' : Fin grid0.N, win0_8.index t = win0_8.index t' → t = t') t t' h)

theorem apart9 : ∀ t t' : Fin cfg0.N, (cfg0.win 9).flush t = true → (cfg0.win 9).flush t' = true → t ≠ t' →
    Disjoint ((cfg0.win 9).blk t).view.set ((cfg0.win 9).blk t').view.set := fun t t' h h' hne => by
  have a := (flush0_9 t).mp h
  have b := (flush0_9 t').mp h'
  have ht : t.val < 8 := t.isLt.trans_eq N_0
  have ht' : t'.val < 8 := t'.isLt.trans_eq N_0
  exact absurd (Fin.ext (by omega)) hne

theorem apart10 : ∀ t t' : Fin cfg0.N, (cfg0.win 10).flush t = true → (cfg0.win 10).flush t' = true → t ≠ t' →
    Disjoint ((cfg0.win 10).blk t).view.set ((cfg0.win 10).blk t').view.set := fun t t' h h' hne => by
  have a := (flush0_10 t).mp h
  have b := (flush0_10 t').mp h'
  have ht : t.val < 8 := t.isLt.trans_eq N_0
  have ht' : t'.val < 8 := t'.isLt.trans_eq N_0
  exact absurd (Fin.ext (by omega)) hne

theorem arr5 : (dats m 0 c).arrAt 5 cfg0.N = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 5 apart5 cfg0.N t t.isLt (flush0_5 _)) (ix2 r d)
  rw [View.read_apply] at b
  have e : ((cfg0.win 5).blk t).view.emb (ix2 r d) = ix2 p d := by
    obtain ⟨e0, e1⟩ := idx5 t
    funext a; apply Fin.ext
    match a with
    | ⟨0, _⟩ => show win0_5.index t (0 : Fin 2) * 512 + 1 * r.val = p.val; rw [e0, et, er]; omega
    | ⟨1, _⟩ => show win0_5.index t (1 : Fin 2) * 1024 + 1 * d.val = d.val; rw [e1]; omega
  rw [e] at b
  refine b.trans ?_
  show (dats m 0 c).after 5 t (ix2 r d) = _
  rw [post_5]
  exact out5_row m c t r p (by rw [et, er]; omega) d

theorem arr6 : (dats m 0 c).arrAt 6 cfg0.N = val_main_v85 (F := Ideal) (m ((c : Thread nD τ).loc main_arg0)) (m ((c : Thread nD τ).loc main_arg1)) := by
  funext i
  obtain ⟨p, d, rfl⟩ : ∃ (p : Fin 4096) (d : Fin 1024), i = ix2 p d := ⟨i 0, i 1, by funext a; match a with | ⟨0, _⟩ => rfl | ⟨1, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 6 apart6 cfg0.N t t.isLt (flush0_6 _)) (ix2 r d)
  rw [View.read_apply] at b
  have e : ((cfg0.win 6).blk t).view.emb (ix2 r d) = ix2 p d := by
    obtain ⟨e0, e1⟩ := idx6 t
    funext a; apply Fin.ext
    match a with
    | ⟨0, _⟩ => show win0_6.index t (0 : Fin 2) * 512 + 1 * r.val = p.val; rw [e0, et, er]; omega
    | ⟨1, _⟩ => show win0_6.index t (1 : Fin 2) * 1024 + 1 * d.val = d.val; rw [e1]; omega
  rw [e] at b
  refine b.trans ?_
  show (dats m 0 c).after 6 t (ix2 r d) = _
  rw [post_6]
  exact out6_row m c t r p (by rw [et, er]; omega) d

theorem arr7 : (dats m 0 c).arrAt 7 cfg0.N = val_main_v88 (F := Ideal) (m ((c : Thread nD τ).loc main_arg0)) (m ((c : Thread nD τ).loc main_arg1)) (m ((c : Thread nD τ).loc main_arg2)) := by
  funext i
  obtain ⟨s, p, q, rfl⟩ : ∃ (s : Fin 11) (p : Fin 4096) (q : Fin 256), i = ix3 s p q := ⟨i 0, i 1, i 2, by funext a; match a with | ⟨0, _⟩ => rfl | ⟨1, _⟩ => rfl | ⟨2, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 7 apart7 cfg0.N t t.isLt (flush0_7 _)) (ix3 s r q)
  rw [View.read_apply] at b
  have e : ((cfg0.win 7).blk t).view.emb (ix3 s r q) = ix3 s p q := by
    obtain ⟨e0, e1, e2⟩ := idx7 t
    funext a; apply Fin.ext
    match a with
    | ⟨0, _⟩ => show win0_7.index t (0 : Fin 3) * 11 + 1 * s.val = s.val; rw [e0]; omega
    | ⟨1, _⟩ => show win0_7.index t (1 : Fin 3) * 512 + 1 * r.val = p.val; rw [e1, et, er]; omega
    | ⟨2, _⟩ => show win0_7.index t (2 : Fin 3) * 256 + 1 * q.val = q.val; rw [e2]; omega
  rw [e] at b
  refine b.trans ?_
  show (dats m 0 c).after 7 t (ix3 s r q) = _
  rw [post_7]
  exact gates_row m c t r p (by rw [et, er]; omega) s q

theorem arr8 : (dats m 0 c).arrAt 8 cfg0.N = val_main_v91 (F := Ideal) (m ((c : Thread nD τ).loc main_arg0)) (m ((c : Thread nD τ).loc main_arg1)) (m ((c : Thread nD τ).loc main_arg2)) := by
  funext i
  obtain ⟨s, p, q, rfl⟩ : ∃ (s : Fin 11) (p : Fin 4096) (q : Fin 256), i = ix3 s p q := ⟨i 0, i 1, i 2, by funext a; match a with | ⟨0, _⟩ => rfl | ⟨1, _⟩ => rfl | ⟨2, _⟩ => rfl⟩
  have ht : p.val / 512 < cfg0.N := by rw [show cfg0.N = 8 from N_0]; omega
  obtain ⟨t, et⟩ : ∃ t : Fin cfg0.N, t.val = p.val / 512 := ⟨⟨_, ht⟩, rfl⟩
  obtain ⟨r, er⟩ : ∃ r : Fin 512, r.val = p.val % 512 := ⟨⟨_, Nat.mod_lt _ (by decide)⟩, rfl⟩
  have b := congrFun ((dats m 0 c).read_blk_arrAt_eq_flushed 8 apart8 cfg0.N t t.isLt (flush0_8 _)) (ix3 s r q)
  rw [View.read_apply] at b
  have e : ((cfg0.win 8).blk t).view.emb (ix3 s r q) = ix3 s p q := by
    obtain ⟨e0, e1, e2⟩ := idx8 t
    funext a; apply Fin.ext
    match a with
    | ⟨0, _⟩ => show win0_8.index t (0 : Fin 3) * 11 + 1 * s.val = s.val; rw [e0]; omega
    | ⟨1, _⟩ => show win0_8.index t (1 : Fin 3) * 512 + 1 * r.val = p.val; rw [e1, et, er]; omega
    | ⟨2, _⟩ => show win0_8.index t (2 : Fin 3) * 256 + 1 * q.val = q.val; rw [e2]; omega
  rw [e] at b
  refine b.trans ?_
  show (dats m 0 c).after 8 t (ix3 s r q) = _
  rw [post_8]
  exact ups_row m c t r p (by rw [et, er]; omega) s q

theorem arr9 : (dats m 0 c).arrAt 9 cfg0.N = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨u, v, rfl⟩ : ∃ (u : Fin 8) (v : Fin 128), i = ix2 u v := ⟨i 0, i 1, by funext a; match a with | ⟨0, _⟩ => rfl | ⟨1, _⟩ => rfl⟩
  obtain ⟨t, et⟩ : ∃ t : Fin cfg0.N, t.val = 7 := ⟨⟨7, (by decide : 7 < 8).trans_eq N_0.symm⟩, rfl⟩
  have k := congrFun ((dats m 0 c).read_blk_arrAt_eq_flushed 9 apart9 cfg0.N t t.isLt ((flush0_9 t).mpr (by rw [et]))) (ix2 u v)
  rw [View.read_apply] at k
  have e : ((cfg0.win 9).blk t).view.emb (ix2 u v) = ix2 u v := by
    obtain ⟨e0, e1⟩ := idx9 t
    funext z; apply Fin.ext
    match z with
    | ⟨0, _⟩ => show win0_9.index t (0 : Fin 2) * 8 + 1 * u.val = u.val; rw [e0]; omega
    | ⟨1, _⟩ => show win0_9.index t (1 : Fin 2) * 128 + 1 * v.val = v.val; rw [e1]; omega
  rw [e] at k
  refine k.trans ?_
  show (dats m 0 c).after 9 t (ix2 u v) = _
  rw [post_9]
  exact loss_end m c t et u v

theorem arr10 : (dats m 0 c).arrAt 10 cfg0.N = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨u, d, rfl⟩ : ∃ (u : Fin 1) (d : Fin 1024), i = ix2 u d := ⟨i 0, i 1, by funext a; match a with | ⟨0, _⟩ => rfl | ⟨1, _⟩ => rfl⟩
  obtain ⟨t, et⟩ : ∃ t : Fin cfg0.N, t.val = 7 := ⟨⟨7, (by decide : 7 < 8).trans_eq N_0.symm⟩, rfl⟩
  have k := congrFun ((dats m 0 c).read_blk_arrAt_eq_flushed 10 apart10 cfg0.N t t.isLt ((flush0_10 t).mpr (by rw [et]))) (ix2 u d)
  rw [View.read_apply] at k
  have e : ((cfg0.win 10).blk t).view.emb (ix2 u d) = ix2 u d := by
    obtain ⟨e0, e1⟩ := idx10 t
    funext z; apply Fin.ext
    match z with
    | ⟨0, _⟩ => show win0_10.index t (0 : Fin 2) * 1 + 1 * u.val = u.val; rw [e0]; omega
    | ⟨1, _⟩ => show win0_10.index t (1 : Fin 2) * 1024 + 1 * d.val = d.val; rw [e1]; omega
  rw [e] at k
  refine k.trans ?_
  show (dats m 0 c).after 10 t (ix2 u d) = _
  rw [post_10]
  exact by rw [show u = 0 from Fin.ext (by omega)]; exact gain_end m c t et d

end

end Cert.Kernel9Ideal.Hand

end
-- ==== Proof.Printed.lean ====
/- The programs run by hand, as printed, are their idealizations at the bits: in the feed-forward programs no operation is replaced, and in the
   attention's gradient the named constant is read as the number it stands for. The idealizations' runs, which hold at any
   arithmetic, are therefore the printed programs'. -/
module

public import proofs.«01_k».proof.Proof.KI.Args
public import proofs.«01_k».proof.Proof.Gen.Kernel
public import proofs.«01_k».proof.Proof.F4.Frame
public import proofs.«01_k».proof.Proof.Gen.Kernel4
public import proofs.«01_k».proof.Proof.F9.Frame
public import proofs.«01_k».proof.Proof.Gen.Kernel9
public import proofs.«01_k».proof.Defs

@[expose] public section

set_option maxRecDepth 16384

noncomputable section

namespace Cert.Printed

open Idealize.ShloMosaic

variable {F : FTy → Type} [FloatOps F]

/-- At the bits a named constant is the number printed in its place. -/
instance atBits : Named Bits where
  named _ _ {φ} bits := Scalar.ofBits φ bits

theorem bodies : Kernel.defs₀ (F := Bits) = KernelIdeal.defs₀ := by
  funext p l a
  cases p with
  | tc => match l, a with
    | ⟨0, _⟩, _ => rfl
    | ⟨n + 1, h⟩, _ => exact absurd h (Nat.not_lt.2 (Nat.le_add_left _ _))
  | scScalar _ => rfl
  | scVector _ _ => rfl

set_option maxHeartbeats 4000000 in
theorem defs : Kernel.defs (F := Bits) = KernelIdeal.defs := congrArg (Pipeline.defs KernelIdeal.pcfgs) bodies

set_option maxHeartbeats 4000000 in
theorem quiet : Cert.quiescent_Kernel (hKernel := Cert.Kernel.Gen.facts) := fun m g _ => by
  rw [defs]
  exact KernelIdeal.Hand.quiet (F := Bits) m g

theorem bodies4 : Kernel4.defs₀ (F := F) = Kernel4Ideal.defs₀ := by
  funext p l a
  cases p with
  | tc => match l, a with
    | ⟨0, _⟩, _ => rfl
    | ⟨n + 1, h⟩, _ => exact absurd h (Nat.not_lt.2 (Nat.le_add_left _ _))
  | scScalar _ => rfl
  | scVector _ _ => rfl

theorem defs4 : Kernel4.defs (F := F) = Kernel4Ideal.defs := congrArg (Pipeline.defs Kernel4Ideal.pcfgs) bodies4

theorem quiet4 : Cert.quiescent_Kernel4 (hKernel4 := Cert.Kernel4.Gen.facts) := fun m g _ => by
  rw [defs4]
  exact Kernel4Ideal.Hand.quiet (F := Bits) m g

theorem bodies9 : Kernel9.defs₀ (F := F) = Kernel9Ideal.defs₀ := by
  funext p l a
  cases p with
  | tc => match l, a with
    | ⟨0, _⟩, _ => rfl
    | ⟨n + 1, h⟩, _ => exact absurd h (Nat.not_lt.2 (Nat.le_add_left _ _))
  | scScalar _ => rfl
  | scVector _ _ => rfl

theorem defs9 : Kernel9.defs (F := F) = Kernel9Ideal.defs := congrArg (Pipeline.defs Kernel9Ideal.pcfgs) bodies9

theorem quiet9 : Cert.quiescent_Kernel9 (hKernel9 := Cert.Kernel9.Gen.facts) := fun m g _ => by
  rw [defs9]
  exact Kernel9Ideal.Hand.quiet (F := Bits) m g

end Cert.Printed

end
-- ==== Proof.lean ====
/- The proof of the claim. -/
module

public import proofs.«01_k».proof.Defs
public import proofs.«01_k».proof.Proof.KI.Args
public import proofs.«01_k».proof.Proof.Val.Equal
public import proofs.«01_k».proof.Proof.Val.Pre
public import proofs.«01_k».proof.Proof.Val.Dw2
public import proofs.«01_k».proof.Proof.Val.Dw3
public import proofs.«01_k».proof.Proof.Val.Dw5
public import proofs.«01_k».proof.Proof.Val.Dw6
public import proofs.«01_k».proof.Proof.Val.Dw7
public import proofs.«01_k».proof.Proof.Val.X8
public import proofs.«01_k».proof.Proof.Val.X4
public import proofs.«01_k».proof.Proof.Val.X9
public import proofs.«01_k».proof.Proof.Printed
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Points
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Points
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel9
public import proofs.«01_k».proof.Proof.Gen.Kernel9.Skeleton
public import proofs.«01_k».proof.Proof.Gen.Kernel9.Points
public import proofs.«01_k».proof.Proof.Gen.Kernel9.Launch
public import proofs.«01_k».proof.Proof.Gen.Kernel9Ideal
public import proofs.«01_k».proof.Proof.Gen.Kernel9Ideal.Skeleton
public import proofs.«01_k».proof.Proof.Gen.Kernel9Ideal.Points
public import proofs.«01_k».proof.Proof.Gen.Kernel9Ideal.Launch
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem

theorem kernel_quiet : Cert.quiescent_Kernel (hKernel := Cert.Kernel.Gen.facts) := Cert.Printed.quiet

theorem kernelIdeal_quiet : Cert.quiescent_KernelIdeal (hKernelIdeal := Cert.KernelIdeal.Gen.facts) := fun m g _ => Cert.KernelIdeal.Hand.quiet m g

theorem referenceIdeal_quiet : Cert.quiescent_ReferenceIdeal (hReferenceIdeal := Cert.ReferenceIdeal.Gen.facts) := fun m g _ =>
  (θ_run (Cert.ReferenceIdeal.defs (F := Ideal)) _ _).mono
    (fun r h => ⟨fun c => (h c).2.2.2, Idealize.ShloMosaic.sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xF149F2CA#32 ⊥ rfl

theorem kernelIdeal_quiet_finite : Cert.quiescent_KernelIdeal_pre_finite (hKernelIdeal := Cert.KernelIdeal.Gen.facts) (hPre_finite := Cert.Val.pre_facts) :=
  fun m g _ => Cert.KernelIdeal.Hand.quiet m g

theorem referenceIdeal_quiet_finite : Cert.quiescent_ReferenceIdeal_pre_finite (hReferenceIdeal := Cert.ReferenceIdeal.Gen.facts) (hPre_finite := Cert.Val.pre_facts) :=
  fun m g _ => referenceIdeal_quiet m g trivial

/-- The pipeline and the reference leave the same three gradients. -/
theorem algebraic : Cert.algebraic_KernelIdeal_ReferenceIdeal_pre_finite (hKernelIdeal := Cert.KernelIdeal.Gen.facts) (hReferenceIdeal := Cert.ReferenceIdeal.Gen.facts)
    (hPre_finite := Cert.Val.pre_facts) := by
  intro m g m' g' hpre hm
  have key := fun c => Cert.Val.equal m c _ _ _ _ rfl rfl rfl rfl
    (@Cert.Val.pre_real Cert.Val.pre_facts _ _ _ _ (hpre c)).1 (@Cert.Val.pre_real Cert.Val.pre_facts _ _ _ _ (hpre c)).2.1
    (@Cert.Val.pre_real Cert.Val.pre_facts _ _ _ _ (hpre c)).2.2.1 (@Cert.Val.pre_real Cert.Val.pre_facts _ _ _ _ (hpre c)).2.2.2
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  rotate_left
  · refine (θ_run (Cert.ReferenceIdeal.defs (F := Ideal)) _ _).mono (fun r h c => ?_) (Cert.ReferenceIdeal.Value.run (F := Ideal) m' g')
    obtain ⟨h0, h1, h2, ha⟩ := h c
    obtain ⟨e0, e1, e2, e3⟩ := hm c
    obtain ⟨f0, f1, f2⟩ := Cert.Val.ref_results m' c _ _ _ _ e0 e1 e2 e3
    exact ⟨h0.trans f0, h1.trans f1, h2.trans f2, ha⟩
  · refine (θ_run (Cert.KernelIdeal.defs (F := Ideal)) _ _).mono (fun r h c => ?_) (Cert.KernelIdeal.Hand.run m g)
    exact ⟨((h.1 c).1 (6 : Fin 9)).trans (key c).1, ((h.1 c).1 (7 : Fin 9)).trans (key c).2.1, ((h.1 c).1 (8 : Fin 9)).trans (key c).2.2, Cert.KernelIdeal.Hand.args m r h.1 c⟩

/-! ## Program 2: a weight gradient of the feed-forward layers -/

theorem kernel2_quiet : Cert.quiescent_Kernel2 (hKernel2 := Cert.Kernel2.Gen.facts) := fun m g _ => Cert.Kernel2.Gen.frame (F := Bits) m g

theorem kernel2Ideal_quiet : Cert.quiescent_Kernel2Ideal (hKernel2Ideal := Cert.Kernel2Ideal.Gen.facts) := fun m g _ => Cert.Kernel2Ideal.Gen.frame m g

theorem reference2Ideal_quiet : Cert.quiescent_Reference2Ideal (hReference2Ideal := Cert.Reference2Ideal.Gen.facts) := fun m g _ =>
  (θ_run (Cert.Reference2Ideal.defs (F := Ideal)) _ _).mono
    (fun r h => ⟨fun c => (h c).2, Idealize.ShloMosaic.sem_eq_zero_of_no_sems (by decide) r.2⟩)
    (Cert.Reference2Ideal.Value.run (F := Ideal) m g)

theorem algebraic2 : Cert.algebraic_Kernel2Ideal_Reference2Ideal (hKernel2Ideal := Cert.Kernel2Ideal.Gen.facts) (hReference2Ideal := Cert.Reference2Ideal.Gen.facts) := by
  intro m g m' g' _ hm
  refine ⟨fun c => Cert.Kernel2Ideal.Value.G2 m c, Cert.Kernel2Ideal.Value.run m g, ?_⟩
  refine (θ_run (Cert.Reference2Ideal.defs (F := Ideal)) _ _).mono (fun r h c => ?_) (Cert.Reference2Ideal.Value.run (F := Ideal) m' g')
  obtain ⟨h0, ha⟩ := h c
  obtain ⟨e0, e1⟩ := hm c
  refine ⟨?_, ha⟩
  refine (h0.trans (Cert.Reference2Ideal.Read.val_main_v8_eq _ _)).trans ?_
  rw [e0, e1]
  exact (Cert.Kernel2Ideal.Dw.equal m c).symm

/-! ## Program 3: a weight gradient of the feed-forward layers -/

theorem kernel3_quiet : Cert.quiescent_Kernel3 (hKernel3 := Cert.Kernel3.Gen.facts) := fun m g _ => Cert.Kernel3.Gen.frame (F := Bits) m g

theorem kernel3Ideal_quiet : Cert.quiescent_Kernel3Ideal (hKernel3Ideal := Cert.Kernel3Ideal.Gen.facts) := fun m g _ => Cert.Kernel3Ideal.Gen.frame m g

theorem reference3Ideal_quiet : Cert.quiescent_Reference3Ideal (hReference3Ideal := Cert.Reference3Ideal.Gen.facts) := fun m g _ =>
  (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m g)

theorem algebraic3 : Cert.algebraic_Kernel3Ideal_Reference3Ideal (hKernel3Ideal := Cert.Kernel3Ideal.Gen.facts) (hReference3Ideal := Cert.Reference3Ideal.Gen.facts) := by
  intro m g m' g' _ hm
  refine ⟨fun c => Cert.Kernel3Ideal.Value.G2 m c, Cert.Kernel3Ideal.Value.run m g, ?_⟩
  refine (θ_run (Cert.Reference3Ideal.defs (F := Ideal)) _ _).mono (fun r h c => ?_) (Cert.Reference3Ideal.Value.run (F := Ideal) m' g')
  obtain ⟨h0, ha⟩ := h c
  obtain ⟨e0, e1⟩ := hm c
  refine ⟨?_, ha⟩
  refine (h0.trans (Cert.Reference3Ideal.Read.val_main_v12_eq _ _)).trans ?_
  rw [e0, e1]
  exact (Cert.Kernel3Ideal.Dw.equal m c).symm

/-! ## Program 5: the weight gradient of the memory's output projection -/

theorem kernel5_quiet : Cert.quiescent_Kernel5 (hKernel5 := Cert.Kernel5.Gen.facts) := fun m g _ => Cert.Kernel5.Gen.frame (F := Bits) m g

theorem kernel5Ideal_quiet : Cert.quiescent_Kernel5Ideal (hKernel5Ideal := Cert.Kernel5Ideal.Gen.facts) := fun m g _ => Cert.Kernel5Ideal.Gen.frame m g

theorem reference5Ideal_quiet : Cert.quiescent_Reference5Ideal (hReference5Ideal := Cert.Reference5Ideal.Gen.facts) := fun m g _ =>
  (θ_run (Cert.Reference5Ideal.defs (F := Ideal)) _ _).mono
    (fun r h => ⟨fun c => (h c).2, Idealize.ShloMosaic.sem_eq_zero_of_no_sems (by decide) r.2⟩)
    (Cert.Reference5Ideal.Value.run (F := Ideal) m g)

theorem algebraic5 : Cert.algebraic_Kernel5Ideal_Reference5Ideal (hKernel5Ideal := Cert.Kernel5Ideal.Gen.facts) (hReference5Ideal := Cert.Reference5Ideal.Gen.facts) := by
  intro m g m' g' _ hm
  refine ⟨fun c => Cert.Kernel5Ideal.Value.G2 m c, Cert.Kernel5Ideal.Value.run m g, ?_⟩
  refine (θ_run (Cert.Reference5Ideal.defs (F := Ideal)) _ _).mono (fun r h c => ?_) (Cert.Reference5Ideal.Value.run (F := Ideal) m' g')
  obtain ⟨h0, ha⟩ := h c
  obtain ⟨e0, e1⟩ := hm c
  refine ⟨?_, ha⟩
  refine (h0.trans (Cert.Reference5Ideal.Read.val_main_v5_eq _ _)).trans ?_
  rw [e0, e1]
  exact (Cert.Kernel5Ideal.Dw.equal m c).symm

/-! ## Program 6: the weight gradient of the memory's query projection -/

theorem kernel6_quiet : Cert.quiescent_Kernel6 (hKernel6 := Cert.Kernel6.Gen.facts) := fun m g _ => Cert.Kernel6.Gen.frame (F := Bits) m g

theorem kernel6Ideal_quiet : Cert.quiescent_Kernel6Ideal (hKernel6Ideal := Cert.Kernel6Ideal.Gen.facts) := fun m g _ => Cert.Kernel6Ideal.Gen.frame m g

theorem reference6Ideal_quiet : Cert.quiescent_Reference6Ideal (hReference6Ideal := Cert.Reference6Ideal.Gen.facts) := fun m g _ =>
  (θ_run (Cert.Reference6Ideal.defs (F := Ideal)) _ _).mono
    (fun r h => ⟨fun c => (h c).2, Idealize.ShloMosaic.sem_eq_zero_of_no_sems (by decide) r.2⟩)
    (Cert.Reference6Ideal.Value.run (F := Ideal) m g)

theorem algebraic6 : Cert.algebraic_Kernel6Ideal_Reference6Ideal (hKernel6Ideal := Cert.Kernel6Ideal.Gen.facts) (hReference6Ideal := Cert.Reference6Ideal.Gen.facts) := by
  intro m g m' g' _ hm
  refine ⟨fun c => Cert.Kernel6Ideal.Value.G2 m c, Cert.Kernel6Ideal.Value.run m g, ?_⟩
  refine (θ_run (Cert.Reference6Ideal.defs (F := Ideal)) _ _).mono (fun r h c => ?_) (Cert.Reference6Ideal.Value.run (F := Ideal) m' g')
  obtain ⟨h0, ha⟩ := h c
  obtain ⟨e0, e1⟩ := hm c
  refine ⟨?_, ha⟩
  refine (h0.trans (Cert.Reference6Ideal.Read.val_main_v6_eq _ _)).trans ?_
  rw [e0, e1]
  exact (Cert.Kernel6Ideal.Dw.equal m c).symm

/-! ## Program 7: the weight gradient of half the mixing's output projection -/

theorem kernel7_quiet : Cert.quiescent_Kernel7 (hKernel7 := Cert.Kernel7.Gen.facts) := fun m g _ => Cert.Kernel7.Gen.frame (F := Bits) m g

theorem kernel7Ideal_quiet : Cert.quiescent_Kernel7Ideal (hKernel7Ideal := Cert.Kernel7Ideal.Gen.facts) := fun m g _ => Cert.Kernel7Ideal.Gen.frame m g

theorem reference7Ideal_quiet : Cert.quiescent_Reference7Ideal (hReference7Ideal := Cert.Reference7Ideal.Gen.facts) := fun m g _ =>
  (θ_run (Cert.Reference7Ideal.defs (F := Ideal)) _ _).mono
    (fun r h => ⟨fun c => (h c).2, Idealize.ShloMosaic.sem_eq_zero_of_no_sems (by decide) r.2⟩)
    (Cert.Reference7Ideal.Value.run (F := Ideal) m g)

theorem algebraic7 : Cert.algebraic_Kernel7Ideal_Reference7Ideal (hKernel7Ideal := Cert.Kernel7Ideal.Gen.facts) (hReference7Ideal := Cert.Reference7Ideal.Gen.facts) := by
  intro m g m' g' _ hm
  refine ⟨fun c => Cert.Kernel7Ideal.Value.G2 m c, Cert.Kernel7Ideal.Value.run m g, ?_⟩
  refine (θ_run (Cert.Reference7Ideal.defs (F := Ideal)) _ _).mono (fun r h c => ?_) (Cert.Reference7Ideal.Value.run (F := Ideal) m' g')
  obtain ⟨h0, ha⟩ := h c
  obtain ⟨e0, e1⟩ := hm c
  refine ⟨?_, ha⟩
  refine (h0.trans (Cert.Reference7Ideal.Read.val_main_v5_eq _ _)).trans ?_
  rw [e0, e1]
  exact (Cert.Kernel7Ideal.Dw.equal m c).symm

/-! ## Program 8: the attention to the memory -/

theorem kernel8_quiet : Cert.quiescent_Kernel8 (hKernel8 := Cert.Kernel8.Gen.facts) := fun m g _ => Cert.Kernel8.Gen.frame (F := Bits) m g

theorem kernel8Ideal_quiet : Cert.quiescent_Kernel8Ideal (hKernel8Ideal := Cert.Kernel8Ideal.Gen.facts) := fun m g _ => Cert.Kernel8Ideal.Gen.frame m g

theorem reference8Ideal_quiet : Cert.quiescent_Reference8Ideal (hReference8Ideal := Cert.Reference8Ideal.Gen.facts) := fun m g _ =>
  (θ_run (Cert.Reference8Ideal.defs (F := Ideal)) _ _).mono
    (fun r h => ⟨fun c => (h c).2.2.2.2.2, Idealize.ShloMosaic.sem_eq_zero_of_no_sems (by decide) r.2⟩)
    (Cert.Reference8Ideal.Value.run (F := Ideal) m g)

theorem algebraic8 : Cert.algebraic_Kernel8Ideal_Reference8Ideal (hKernel8Ideal := Cert.Kernel8Ideal.Gen.facts) (hReference8Ideal := Cert.Reference8Ideal.Gen.facts) := by
  intro m g m' g' _ hm
  refine ⟨fun c => Cert.Reference8Ideal.Read.val_main_v9 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    fun c => Cert.Reference8Ideal.Read.val_main_v44 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)),
    fun c => Cert.Reference8Ideal.Read.val_main_v45 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    fun c => Cert.Reference8Ideal.Read.val_main_v46 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)),
    fun c => Cert.Reference8Ideal.Read.val_main_v47 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)), ?_, ?_⟩
  rotate_left
  · refine (θ_run (Cert.Reference8Ideal.defs (F := Ideal)) _ _).mono (fun r h c => ?_) (Cert.Reference8Ideal.Value.run (F := Ideal) m' g')
    obtain ⟨h0, h1, h2, h3, h4, ha⟩ := h c
    obtain ⟨e0, e1, e2, e3, e4, e5, e6, e7, e8⟩ := hm c
    refine ⟨(h0.trans (Cert.Reference8Ideal.Read.val_main_v9_eq _ _ _ _)).trans ?_, (h1.trans (Cert.Reference8Ideal.Read.val_main_v44_eq m' c)).trans ?_,
      (h2.trans (Cert.Reference8Ideal.Read.val_main_v45_eq _ _ _ _ _)).trans ?_, (h3.trans (Cert.Reference8Ideal.Read.val_main_v46_eq _ _ _ _ _ _)).trans ?_,
      (h4.trans (Cert.Reference8Ideal.Read.val_main_v47_eq m' c)).trans ?_, ha⟩
    · rw [e0, e1, e2, e3]
    · rw [e0, e1, e2, e3, e4, e5, e6, e7, e8]
    · rw [e0, e1, e2, e3, e4]
    · rw [e0, e1, e2, e3, e4, e5]
    · rw [e0, e1, e2, e3, e4, e5, e6, e7]
  · refine (θ_run (Cert.Kernel8Ideal.defs (F := Ideal)) _ _).mono (fun r h c => ?_) (Cert.Kernel8Ideal.Value.run_blocks (F := Ideal) m g)
    obtain ⟨h0, h1, h2, h3, h4, ha⟩ := h c
    exact ⟨h0.trans (Cert.Kernel8Ideal.Mem.arr9 m c), h1.trans (Cert.Kernel8Ideal.Mem.arr10 m c), h2.trans (Cert.Kernel8Ideal.Mem.arr11 m c),
      h3.trans (Cert.Kernel8Ideal.Mem.arr12 m c), h4.trans (Cert.Kernel8Ideal.Mem.arr13 m c), ha⟩

/-! ## Program 4: the forward pass of the first feed-forward block -/

theorem kernel4_quiet : Cert.quiescent_Kernel4 (hKernel4 := Cert.Kernel4.Gen.facts) := Cert.Printed.quiet4

theorem kernel4Ideal_quiet : Cert.quiescent_Kernel4Ideal (hKernel4Ideal := Cert.Kernel4Ideal.Gen.facts) := fun m g _ => Cert.Kernel4Ideal.Hand.quiet m g

theorem reference4Ideal_quiet : Cert.quiescent_Reference4Ideal (hReference4Ideal := Cert.Reference4Ideal.Gen.facts) := fun m g _ =>
  (θ_run (Cert.Reference4Ideal.defs (F := Ideal)) _ _).mono
    (fun r h => ⟨fun c => (h c).2.2.2.2, Idealize.ShloMosaic.sem_eq_zero_of_no_sems (by decide) r.2⟩)
    (Cert.Reference4Ideal.Value.run (F := Ideal) m g)

theorem algebraic4 : Cert.algebraic_Kernel4Ideal_Reference4Ideal (hKernel4Ideal := Cert.Kernel4Ideal.Gen.facts) (hReference4Ideal := Cert.Reference4Ideal.Gen.facts) := by
  intro m g m' g' _ hm
  refine ⟨fun c => Cert.Reference4Ideal.Read.val_main_v32 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v33 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => Cert.Reference4Ideal.Read.val_main_v36 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v39 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  rotate_left
  · refine (θ_run (Cert.Reference4Ideal.defs (F := Ideal)) _ _).mono (fun r h c => ?_) (Cert.Reference4Ideal.Value.run (F := Ideal) m' g')
    obtain ⟨h0, h1, h2, h3, ha⟩ := h c
    obtain ⟨e0, e1, e2⟩ := hm c
    refine ⟨(h0.trans (Cert.Reference4Ideal.Read.val_main_v32_eq _ _ _)).trans ?_, (h1.trans (Cert.Reference4Ideal.Read.val_main_v33_eq _ _)).trans ?_,
      (h2.trans (Cert.Reference4Ideal.Read.val_main_v36_eq _ _ _)).trans ?_, (h3.trans (Cert.Reference4Ideal.Read.val_main_v39_eq _ _ _)).trans ?_, ha⟩
    · rw [e0, e1, e2]
    · rw [e0, e1]
    · rw [e0, e1, e2]
    · rw [e0, e1, e2]
  · refine (θ_run (Cert.Kernel4Ideal.defs (F := Ideal)) _ _).mono (fun r h c => ?_) (Cert.Kernel4Ideal.Hand.ends (F := Ideal) m g)
    exact ⟨((h.1 c).1 3).trans (Cert.Kernel4Ideal.Hand.arr3 m c), ((h.1 c).1 4).trans (Cert.Kernel4Ideal.Hand.arr4 m c), ((h.1 c).1 5).trans (Cert.Kernel4Ideal.Hand.arr5 m c),
      ((h.1 c).1 6).trans (Cert.Kernel4Ideal.Hand.arr6 m c),
      ((h.1 c).1 0).trans (((Cert.Kernel4Ideal.Hand.dats m 0 c).arrAt_in 0 rfl _).trans (Cert.Kernel4Ideal.Hand.arrays m c 0)),
      ((h.1 c).1 1).trans (((Cert.Kernel4Ideal.Hand.dats m 0 c).arrAt_in 1 rfl _).trans (Cert.Kernel4Ideal.Hand.arrays m c 1)),
      ((h.1 c).1 2).trans (((Cert.Kernel4Ideal.Hand.dats m 0 c).arrAt_in 2 rfl _).trans (Cert.Kernel4Ideal.Hand.arrays m c 2))⟩

/-! ## Program 9: the forward pass of the second feed-forward block, with the loss -/

theorem kernel9_quiet : Cert.quiescent_Kernel9 (hKernel9 := Cert.Kernel9.Gen.facts) := Cert.Printed.quiet9

theorem kernel9Ideal_quiet : Cert.quiescent_Kernel9Ideal (hKernel9Ideal := Cert.Kernel9Ideal.Gen.facts) := fun m g _ => Cert.Kernel9Ideal.Hand.quiet m g

theorem reference9Ideal_quiet : Cert.quiescent_Reference9Ideal (hReference9Ideal := Cert.Reference9Ideal.Gen.facts) := fun m g _ =>
  (θ_run (Cert.Reference9Ideal.defs (F := Ideal)) _ _).mono
    (fun r h => ⟨fun c => (h c).2.2.2.2.2.2, Idealize.ShloMosaic.sem_eq_zero_of_no_sems (by decide) r.2⟩)
    (Cert.Reference9Ideal.Value.run (F := Ideal) m g)

theorem algebraic9 : Cert.algebraic_Kernel9Ideal_Reference9Ideal (hKernel9Ideal := Cert.Kernel9Ideal.Gen.facts) (hReference9Ideal := Cert.Reference9Ideal.Gen.facts) := by
  intro m g m' g' _ hm
  refine ⟨fun c => Cert.Reference9Ideal.Read.val_main_v84 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Reference9Ideal.Read.val_main_v85 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    fun c => Cert.Reference9Ideal.Read.val_main_v88 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    fun c => Cert.Reference9Ideal.Read.val_main_v91 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    fun c => Cert.Reference9Ideal.Read.val_main_v92 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)),
    fun c => Cert.Reference9Ideal.Read.val_main_v93 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)), ?_, ?_⟩
  rotate_left
  · refine (θ_run (Cert.Reference9Ideal.defs (F := Ideal)) _ _).mono (fun r h c => ?_) (Cert.Reference9Ideal.Value.run (F := Ideal) m' g')
    obtain ⟨h0, h1, h2, h3, h4, h5, ha⟩ := h c
    obtain ⟨e0, e1, e2, e3, e4⟩ := hm c
    refine ⟨(h0.trans (Cert.Reference9Ideal.Read.val_main_v84_eq _ _)).trans ?_,
      (h1.trans (Cert.Reference9Ideal.Read.val_main_v85_eq _ _)).trans ?_,
      (h2.trans (Cert.Reference9Ideal.Read.val_main_v88_eq _ _ _)).trans ?_,
      (h3.trans (Cert.Reference9Ideal.Read.val_main_v91_eq _ _ _)).trans ?_,
      (h4.trans (Cert.Reference9Ideal.Read.val_main_v92_eq _ _)).trans ?_,
      (h5.trans (Cert.Reference9Ideal.Read.val_main_v93_eq _ _)).trans ?_, ha⟩
    · rw [e0, e1, e2, e3, e4]
    · rw [e0, e1]
    · rw [e0, e1, e2]
    · rw [e0, e1, e2]
    · rw [e0, e1, e2, e3, e4]
    · rw [e0, e1, e2, e3, e4]
  · refine (θ_run (Cert.Kernel9Ideal.defs (F := Ideal)) _ _).mono (fun r h c => ?_) (Cert.Kernel9Ideal.Hand.ends (F := Ideal) m g)
    exact ⟨((h.1 c).1 5).trans (Cert.Kernel9Ideal.Hand.arr5 m c),
      ((h.1 c).1 6).trans (Cert.Kernel9Ideal.Hand.arr6 m c),
      ((h.1 c).1 7).trans (Cert.Kernel9Ideal.Hand.arr7 m c),
      ((h.1 c).1 8).trans (Cert.Kernel9Ideal.Hand.arr8 m c),
      ((h.1 c).1 9).trans (Cert.Kernel9Ideal.Hand.arr9 m c),
      ((h.1 c).1 10).trans (Cert.Kernel9Ideal.Hand.arr10 m c),
      ((h.1 c).1 0).trans (((Cert.Kernel9Ideal.Hand.dats m 0 c).arrAt_in 0 rfl _).trans (Cert.Kernel9Ideal.Hand.arrays m c 0)),
      ((h.1 c).1 1).trans (((Cert.Kernel9Ideal.Hand.dats m 0 c).arrAt_in 1 rfl _).trans (Cert.Kernel9Ideal.Hand.arrays m c 1)),
      ((h.1 c).1 2).trans (((Cert.Kernel9Ideal.Hand.dats m 0 c).arrAt_in 2 rfl _).trans (Cert.Kernel9Ideal.Hand.arrays m c 2)),
      ((h.1 c).1 3).trans (((Cert.Kernel9Ideal.Hand.dats m 0 c).arrAt_in 3 rfl _).trans (Cert.Kernel9Ideal.Hand.arrays m c 3)),
      ((h.1 c).1 4).trans (((Cert.Kernel9Ideal.Hand.dats m 0 c).arrAt_in 4 rfl _).trans (Cert.Kernel9Ideal.Hand.arrays m c 4))⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Val.pre_facts,
  kernel_quiet, kernelIdeal_quiet, kernelIdeal_quiet_finite, referenceIdeal_quiet, referenceIdeal_quiet_finite,
  kernel2_quiet, kernel2Ideal_quiet, reference2Ideal_quiet,
  kernel3_quiet, kernel3Ideal_quiet, reference3Ideal_quiet,
  kernel4_quiet, kernel4Ideal_quiet, reference4Ideal_quiet,
  kernel5_quiet, kernel5Ideal_quiet, reference5Ideal_quiet,
  kernel6_quiet, kernel6Ideal_quiet, reference6Ideal_quiet,
  kernel7_quiet, kernel7Ideal_quiet, reference7Ideal_quiet,
  kernel8_quiet, kernel8Ideal_quiet, reference8Ideal_quiet,
  kernel9_quiet, kernel9Ideal_quiet, reference9Ideal_quiet,
  preserves, algebraic, trivial, algebraic2, trivial, algebraic3, trivial, algebraic4, trivial, algebraic5, trivial, algebraic6, trivial, algebraic7, trivial, algebraic8, trivial, algebraic9⟩

end Cert.Proof

end
